-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![64, 1]⟩ ⟨2, ![2048, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![64, 1024]⟩ ⟨2, ![2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x128 : Shape := ⟨2, ![512, 128]⟩
abbrev S64x1 : Shape := ⟨2, ![64, 1]⟩
abbrev S4x512x1024 : Shape := ⟨3, ![4, 512, 1024]⟩
abbrev S2048x1 : Shape := ⟨2, ![2048, 1]⟩
abbrev S1x2048 : Shape := ⟨2, ![1, 2048]⟩
abbrev S64x1024 : Shape := ⟨2, ![64, 1024]⟩
abbrev S48x512 : Shape := ⟨2, ![48, 512]⟩
abbrev S48x1024 : Shape := ⟨2, ![48, 1024]⟩
abbrev S49x1 : Shape := ⟨2, ![49, 1]⟩
abbrev S48 : Shape := ⟨1, ![48]⟩
abbrev S_ : Shape := ⟨0, ![]⟩
abbrev S4x1 : Shape := ⟨2, ![4, 1]⟩
abbrev S4x2048 : Shape := ⟨2, ![4, 2048]⟩
abbrev S4x2047 : Shape := ⟨2, ![4, 2047]⟩
abbrev S4x2 : Shape := ⟨2, ![4, 2]⟩
abbrev S4x2046 : Shape := ⟨2, ![4, 2046]⟩
abbrev S4x4 : Shape := ⟨2, ![4, 4]⟩
abbrev S4x2044 : Shape := ⟨2, ![4, 2044]⟩
abbrev S4x8 : Shape := ⟨2, ![4, 8]⟩
abbrev S4x2040 : Shape := ⟨2, ![4, 2040]⟩
abbrev S4x16 : Shape := ⟨2, ![4, 16]⟩
abbrev S4x2032 : Shape := ⟨2, ![4, 2032]⟩
abbrev S4x32 : Shape := ⟨2, ![4, 32]⟩
abbrev S4x2016 : Shape := ⟨2, ![4, 2016]⟩
abbrev S4x64 : Shape := ⟨2, ![4, 64]⟩
abbrev S4x1984 : Shape := ⟨2, ![4, 1984]⟩
abbrev S4x128 : Shape := ⟨2, ![4, 128]⟩
abbrev S4x1920 : Shape := ⟨2, ![4, 1920]⟩
abbrev S4x256 : Shape := ⟨2, ![4, 256]⟩
abbrev S4x1792 : Shape := ⟨2, ![4, 1792]⟩
abbrev S4x512 : Shape := ⟨2, ![4, 512]⟩
abbrev S4x1536 : Shape := ⟨2, ![4, 1536]⟩
abbrev S4x1024 : Shape := ⟨2, ![4, 1024]⟩
abbrev S48x1 : Shape := ⟨2, ![48, 1]⟩
abbrev S4x1x2048 : Shape := ⟨3, ![4, 1, 2048]⟩
abbrev S4x12x2048 : Shape := ⟨3, ![4, 12, 2048]⟩
abbrev S48x2048 : Shape := ⟨2, ![48, 2048]⟩
abbrev S128x1 : Shape := ⟨2, ![128, 1]⟩
abbrev S128x2048 : Shape := ⟨2, ![128, 2048]⟩
abbrev S128 : Shape := ⟨1, ![128]⟩
abbrev S1 : Shape := ⟨1, ![1]⟩
abbrev S1x1 : Shape := ⟨2, ![1, 1]⟩
abbrev S1x512 : Shape := ⟨2, ![1, 512]⟩
abbrev S12x512 : Shape := ⟨2, ![12, 512]⟩
abbrev S1x512x1024 : Shape := ⟨3, ![1, 512, 1024]⟩
abbrev S512x1024 : Shape := ⟨2, ![512, 1024]⟩
abbrev S12x1024 : Shape := ⟨2, ![12, 1024]⟩
abbrev S1x1024 : Shape := ⟨2, ![1, 1024]⟩

abbrev nBuf : Space → Nat
  | .hbm => 7
  | .vmem => 7
  | .smem => 1
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S64x1, .i32⟩
  | .hbm, ⟨3, _⟩ => ⟨S4x512x1024, .f32⟩
  | .hbm, ⟨4, _⟩ => ⟨S2048x1, .i32⟩
  | .hbm, ⟨5, _⟩ => ⟨S1x2048, .i32⟩
  | .hbm, ⟨6, _⟩ => ⟨S64x1024, .f32⟩
  | .local _ .vmem, ⟨0, _⟩ => ⟨S2048x512, .f32⟩
  | .local _ .vmem, ⟨1, _⟩ => ⟨S4x512x1024, .f32⟩
  | .local _ .vmem, ⟨2, _⟩ => ⟨S1x2048, .i32⟩
  | .local _ .vmem, ⟨3, _⟩ => ⟨S64x1024, .f32⟩
  | .local _ .vmem, ⟨4, _⟩ => ⟨S48x512, .f32⟩
  | .local _ .vmem, ⟨5, _⟩ => ⟨S48x1024, .f32⟩
  | .local _ .vmem, ⟨6, _⟩ => ⟨S49x1, .i32⟩
  | .local _ .smem, ⟨0, _⟩ => ⟨S49x1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 2 → Bool
  | ⟨0, _⟩ => false
  | ⟨1, _⟩ => false
  | _ => false

abbrev dmaSemScoped : Fin 64 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 2 64 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.smem, 0, rfl⟩
abbrev ag0_recv_cw_0_ring : DmaSem sig := 0
abbrev ag0_recv_cw_0_partner : DmaSem sig := 1
abbrev ag0_recv_cw_1_ring : DmaSem sig := 2
abbrev ag0_recv_cw_1_partner : DmaSem sig := 3
abbrev ag0_recv_ccw_0_ring : DmaSem sig := 4
abbrev ag0_recv_ccw_0_partner : DmaSem sig := 5
abbrev ag0_recv_ccw_1_ring : DmaSem sig := 6
abbrev ag0_recv_ccw_1_partner : DmaSem sig := 7
abbrev ag0_send : DmaSem sig := 8
abbrev ag0_copy : DmaSem sig := 9
abbrev cc0_sem0_0 : DmaSem sig := 10
abbrev cc0_sem1_0 : DmaSem sig := 11
abbrev cc0_sem2_0 : DmaSem sig := 12
abbrev cc0_sem3_0 : DmaSem sig := 13
abbrev ag0_barrier : Sem sig := 0
abbrev barrier0 : Sem sig := 1

abbrev nD : Nat := 32
abbrev τ : Topo := Topo.v7x

variable {F : FTy → Type} [FloatOps F]

abbrev ag0_mem : Fin 1 × Fin 32 × Fin 1 → Dev nD := fun q => (![![0, 1, 2, 3, 4, 5, 6, 7, 8, 9, 10, 11, 12, 13, 14, 15, 16, 17, 18, 19, 20, 21, 22, 23, 24, 25, 26, 27, 28, 29, 30, 31]] : Fin 1 → Fin 32 → Dev nD) q.1 q.2.1
abbrev ag0_pos : Dev nD → Fin 1 × Fin 32 × Fin 1 := fun c => ((![0, 0, 0, 0, 0, 0, 0, 0, 0, 0, 0, 0, 0, 0, 0, 0, 0, 0, 0, 0, 0, 0, 0, 0, 0, 0, 0, 0, 0, 0, 0, 0] : Fin 32 → Fin 1) c, (![0, 1, 2, 3, 4, 5, 6, 7, 8, 9, 10, 11, 12, 13, 14, 15, 16, 17, 18, 19, 20, 21, 22, 23, 24, 25, 26, 27, 28, 29, 30, 31] : Fin 32 → Fin 32) c, 0)
abbrev ag0_recv : AllGather.Dir → AllGather.Parity → Bool → DmaSem sig := fun | .cw, 0, false => ag0_recv_cw_0_ring | .cw, 0, true => ag0_recv_cw_0_partner | .cw, 1, false => ag0_recv_cw_1_ring | .cw, 1, true => ag0_recv_cw_1_partner | .ccw, 0, false => ag0_recv_ccw_0_ring | .ccw, 0, true => ag0_recv_ccw_0_partner | .ccw, 1, false => ag0_recv_ccw_1_ring | .ccw, 1, true => ag0_recv_ccw_1_partner

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v6 : BitVec 32 := Scalar.addi v2 c1_i32_1
  let c32_i32_2 : BitVec 32 := 32#32
  let c0_i32 : BitVec 32 := 0#32
  let v7 : BitVec 1 := Scalar.cmpi .eq c32_i32_2 c0_i32
  let c1_i32_3 : BitVec 32 := 1#32
  let v8 : BitVec 32 := Scalar.select v7 c1_i32_3 c32_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_8 : BitVec 32 := 1#32
  let v17 : BitVec 32 := Scalar.muli v16 c1_i32_8
  let v18 : BitVec 32 := Scalar.addi c0_i32_9 v17
  v18.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v19 : BitVec 32 := Scalar.addi v2 c2_i32
  let c32_i32_10 : BitVec 32 := 32#32
  let c0_i32_11 : BitVec 32 := 0#32
  let v20 : BitVec 1 := Scalar.cmpi .eq c32_i32_10 c0_i32_11
  let c1_i32_12 : BitVec 32 := 1#32
  let v21 : BitVec 32 := Scalar.select v20 c1_i32_12 c32_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_17 : BitVec 32 := 1#32
  let v30 : BitVec 32 := Scalar.muli v29 c1_i32_17
  let v31 : BitVec 32 := Scalar.addi c0_i32_18 v30
  v31.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v32 : BitVec 32 := Scalar.addi v2 c3_i32
  let c32_i32_19 : BitVec 32 := 32#32
  let c0_i32_20 : BitVec 32 := 0#32
  let v33 : BitVec 1 := Scalar.cmpi .eq c32_i32_19 c0_i32_20
  let c1_i32_21 : BitVec 32 := 1#32
  let v34 : BitVec 32 := Scalar.select v33 c1_i32_21 c32_i32_19
  let v35 : BitVec 32 := Scalar.remsi v32 v34
  let c0_i32_23 : BitVec 32 := 0#32
  let v37 : BitVec 1 := Scalar.cmpi .slt v35 c0_i32_23
  let c0_i32_24 : BitVec 32 := 0#32
  let v38 : BitVec 1 := Scalar.cmpi .slt v34 c0_i32_24
  let v39 : BitVec 1 := Scalar.xori v37 v38
  let c0_i32_22 : BitVec 32 := 0#32
  let v36 : BitVec 1 := Scalar.cmpi .ne v35 c0_i32_22
  let v40 : BitVec 1 := Scalar.andi v39 v36
  let v41 : BitVec 32 := Scalar.addi v35 v34
  let v42 : BitVec 32 := Scalar.select v40 v41 v35
  let c1_i32_26 : BitVec 32 := 1#32
  let v43 : BitVec 32 := Scalar.muli v42 c1_i32_26
  let v44 : BitVec 32 := Scalar.addi c0_i32_27 v43
  v44.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v45 : BitVec 32 := Scalar.addi v2 c4_i32
  let c32_i32_28 : BitVec 32 := 32#32
  let c0_i32_29 : BitVec 32 := 0#32
  let v46 : BitVec 1 := Scalar.cmpi .eq c32_i32_28 c0_i32_29
  let c1_i32_30 : BitVec 32 := 1#32
  let v47 : BitVec 32 := Scalar.select v46 c1_i32_30 c32_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c1_i32_35 : BitVec 32 := 1#32
  let v56 : BitVec 32 := Scalar.muli v55 c1_i32_35
  let v57 : BitVec 32 := Scalar.addi c0_i32_36 v56
  v57.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v58 : BitVec 32 := Scalar.addi v2 c5_i32
  let c32_i32_37 : BitVec 32 := 32#32
  let c0_i32_38 : BitVec 32 := 0#32
  let v59 : BitVec 1 := Scalar.cmpi .eq c32_i32_37 c0_i32_38
  let c1_i32_39 : BitVec 32 := 1#32
  let v60 : BitVec 32 := Scalar.select v59 c1_i32_39 c32_i32_37
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let c1_i32_44 : BitVec 32 := 1#32
  let v69 : BitVec 32 := Scalar.muli v68 c1_i32_44
  let v70 : BitVec 32 := Scalar.addi c0_i32_45 v69
  v70.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v71 : BitVec 32 := Scalar.addi v2 c6_i32
  let c32_i32_46 : BitVec 32 := 32#32
  let c0_i32_47 : BitVec 32 := 0#32
  let v72 : BitVec 1 := Scalar.cmpi .eq c32_i32_46 c0_i32_47
  let c1_i32_48 : BitVec 32 := 1#32
  let v73 : BitVec 32 := Scalar.select v72 c1_i32_48 c32_i32_46
  let v74 : BitVec 32 := Scalar.remsi v71 v73
  let c0_i32_50 : BitVec 32 := 0#32
  let v76 : BitVec 1 := Scalar.cmpi .slt v74 c0_i32_50
  let c0_i32_51 : BitVec 32 := 0#32
  let v77 : BitVec 1 := Scalar.cmpi .slt v73 c0_i32_51
  let v78 : BitVec 1 := Scalar.xori v76 v77
  let c0_i32_49 : BitVec 32 := 0#32
  let v75 : BitVec 1 := Scalar.cmpi .ne v74 c0_i32_49
  let v79 : BitVec 1 := Scalar.andi v78 v75
  let v80 : BitVec 32 := Scalar.addi v74 v73
  let v81 : BitVec 32 := Scalar.select v79 v80 v74
  let c1_i32_53 : BitVec 32 := 1#32
  let v82 : BitVec 32 := Scalar.muli v81 c1_i32_53
  let v83 : BitVec 32 := Scalar.addi c0_i32_54 v82
  v83.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v84 : BitVec 32 := Scalar.addi v2 c7_i32
  let c32_i32_55 : BitVec 32 := 32#32
  let c0_i32_56 : BitVec 32 := 0#32
  let v85 : BitVec 1 := Scalar.cmpi .eq c32_i32_55 c0_i32_56
  let c1_i32_57 : BitVec 32 := 1#32
  let v86 : BitVec 32 := Scalar.select v85 c1_i32_57 c32_i32_55
  let v87 : BitVec 32 := Scalar.remsi v84 v86
  let c0_i32_59 : BitVec 32 := 0#32
  let v89 : BitVec 1 := Scalar.cmpi .slt v87 c0_i32_59
  let c0_i32_60 : BitVec 32 := 0#32
  let v90 : BitVec 1 := Scalar.cmpi .slt v86 c0_i32_60
  let v91 : BitVec 1 := Scalar.xori v89 v90
  let c0_i32_58 : BitVec 32 := 0#32
  let v88 : BitVec 1 := Scalar.cmpi .ne v87 c0_i32_58
  let v92 : BitVec 1 := Scalar.andi v91 v88
  let v93 : BitVec 32 := Scalar.addi v87 v86
  let v94 : BitVec 32 := Scalar.select v92 v93 v87
  let c1_i32_62 : BitVec 32 := 1#32
  let v95 : BitVec 32 := Scalar.muli v94 c1_i32_62
  let v96 : BitVec 32 := Scalar.addi c0_i32_63 v95
  v96.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v97 : BitVec 32 := Scalar.addi v2 c8_i32
  let c32_i32_64 : BitVec 32 := 32#32
  let c0_i32_65 : BitVec 32 := 0#32
  let v98 : BitVec 1 := Scalar.cmpi .eq c32_i32_64 c0_i32_65
  let c1_i32_66 : BitVec 32 := 1#32
  let v99 : BitVec 32 := Scalar.select v98 c1_i32_66 c32_i32_64
  let v100 : BitVec 32 := Scalar.remsi v97 v99
  let c0_i32_68 : BitVec 32 := 0#32
  let v102 : BitVec 1 := Scalar.cmpi .slt v100 c0_i32_68
  let c0_i32_69 : BitVec 32 := 0#32
  let v103 : BitVec 1 := Scalar.cmpi .slt v99 c0_i32_69
  let v104 : BitVec 1 := Scalar.xori v102 v103
  let c0_i32_67 : BitVec 32 := 0#32
  let v101 : BitVec 1 := Scalar.cmpi .ne v100 c0_i32_67
  let v105 : BitVec 1 := Scalar.andi v104 v101
  let v106 : BitVec 32 := Scalar.addi v100 v99
  let v107 : BitVec 32 := Scalar.select v105 v106 v100
  let c1_i32_71 : BitVec 32 := 1#32
  let v108 : BitVec 32 := Scalar.muli v107 c1_i32_71
  let v109 : BitVec 32 := Scalar.addi c0_i32_72 v108
  v109.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v110 : BitVec 32 := Scalar.addi v2 c9_i32
  let c32_i32_73 : BitVec 32 := 32#32
  let c0_i32_74 : BitVec 32 := 0#32
  let v111 : BitVec 1 := Scalar.cmpi .eq c32_i32_73 c0_i32_74
  let c1_i32_75 : BitVec 32 := 1#32
  let v112 : BitVec 32 := Scalar.select v111 c1_i32_75 c32_i32_73
  let v113 : BitVec 32 := Scalar.remsi v110 v112
  let c0_i32_77 : BitVec 32 := 0#32
  let v115 : BitVec 1 := Scalar.cmpi .slt v113 c0_i32_77
  let c0_i32_78 : BitVec 32 := 0#32
  let v116 : BitVec 1 := Scalar.cmpi .slt v112 c0_i32_78
  let v117 : BitVec 1 := Scalar.xori v115 v116
  let c0_i32_76 : BitVec 32 := 0#32
  let v114 : BitVec 1 := Scalar.cmpi .ne v113 c0_i32_76
  let v118 : BitVec 1 := Scalar.andi v117 v114
  let v119 : BitVec 32 := Scalar.addi v113 v112
  let v120 : BitVec 32 := Scalar.select v118 v119 v113
  let c1_i32_80 : BitVec 32 := 1#32
  let v121 : BitVec 32 := Scalar.muli v120 c1_i32_80
  let v122 : BitVec 32 := Scalar.addi c0_i32_81 v121
  v122.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v123 : BitVec 32 := Scalar.addi v2 c10_i32
  let c32_i32_82 : BitVec 32 := 32#32
  let c0_i32_83 : BitVec 32 := 0#32
  let v124 : BitVec 1 := Scalar.cmpi .eq c32_i32_82 c0_i32_83
  let c1_i32_84 : BitVec 32 := 1#32
  let v125 : BitVec 32 := Scalar.select v124 c1_i32_84 c32_i32_82
  let v126 : BitVec 32 := Scalar.remsi v123 v125
  let c0_i32_86 : BitVec 32 := 0#32
  let v128 : BitVec 1 := Scalar.cmpi .slt v126 c0_i32_86
  let c0_i32_87 : BitVec 32 := 0#32
  let v129 : BitVec 1 := Scalar.cmpi .slt v125 c0_i32_87
  let v130 : BitVec 1 := Scalar.xori v128 v129
  let c0_i32_85 : BitVec 32 := 0#32
  let v127 : BitVec 1 := Scalar.cmpi .ne v126 c0_i32_85
  let v131 : BitVec 1 := Scalar.andi v130 v127
  let v132 : BitVec 32 := Scalar.addi v126 v125
  let v133 : BitVec 32 := Scalar.select v131 v132 v126
  let c1_i32_89 : BitVec 32 := 1#32
  let v134 : BitVec 32 := Scalar.muli v133 c1_i32_89
  let v135 : BitVec 32 := Scalar.addi c0_i32_90 v134
  v135.toNat
def k0_dev11 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v136 : BitVec 32 := Scalar.addi v2 c11_i32
  let c32_i32_91 : BitVec 32 := 32#32
  let c0_i32_92 : BitVec 32 := 0#32
  let v137 : BitVec 1 := Scalar.cmpi .eq c32_i32_91 c0_i32_92
  let c1_i32_93 : BitVec 32 := 1#32
  let v138 : BitVec 32 := Scalar.select v137 c1_i32_93 c32_i32_91
  let v139 : BitVec 32 := Scalar.remsi v136 v138
  let c0_i32_95 : BitVec 32 := 0#32
  let v141 : BitVec 1 := Scalar.cmpi .slt v139 c0_i32_95
  let c0_i32_96 : BitVec 32 := 0#32
  let v142 : BitVec 1 := Scalar.cmpi .slt v138 c0_i32_96
  let v143 : BitVec 1 := Scalar.xori v141 v142
  let c0_i32_94 : BitVec 32 := 0#32
  let v140 : BitVec 1 := Scalar.cmpi .ne v139 c0_i32_94
  let v144 : BitVec 1 := Scalar.andi v143 v140
  let v145 : BitVec 32 := Scalar.addi v139 v138
  let v146 : BitVec 32 := Scalar.select v144 v145 v139
  let c1_i32_98 : BitVec 32 := 1#32
  let v147 : BitVec 32 := Scalar.muli v146 c1_i32_98
  let v148 : BitVec 32 := Scalar.addi c0_i32_99 v147
  v148.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v149 : BitVec 32 := Scalar.addi v2 c12_i32
  let c32_i32_100 : BitVec 32 := 32#32
  let c0_i32_101 : BitVec 32 := 0#32
  let v150 : BitVec 1 := Scalar.cmpi .eq c32_i32_100 c0_i32_101
  let c1_i32_102 : BitVec 32 := 1#32
  let v151 : BitVec 32 := Scalar.select v150 c1_i32_102 c32_i32_100
  let v152 : BitVec 32 := Scalar.remsi v149 v151
  let c0_i32_104 : BitVec 32 := 0#32
  let v154 : BitVec 1 := Scalar.cmpi .slt v152 c0_i32_104
  let c0_i32_105 : BitVec 32 := 0#32
  let v155 : BitVec 1 := Scalar.cmpi .slt v151 c0_i32_105
  let v156 : BitVec 1 := Scalar.xori v154 v155
  let c0_i32_103 : BitVec 32 := 0#32
  let v153 : BitVec 1 := Scalar.cmpi .ne v152 c0_i32_103
  let v157 : BitVec 1 := Scalar.andi v156 v153
  let v158 : BitVec 32 := Scalar.addi v152 v151
  let v159 : BitVec 32 := Scalar.select v157 v158 v152
  let c1_i32_107 : BitVec 32 := 1#32
  let v160 : BitVec 32 := Scalar.muli v159 c1_i32_107
  let v161 : BitVec 32 := Scalar.addi c0_i32_108 v160
  v161.toNat
def k0_dev13 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v162 : BitVec 32 := Scalar.addi v2 c13_i32
  let c32_i32_109 : BitVec 32 := 32#32
  let c0_i32_110 : BitVec 32 := 0#32
  let v163 : BitVec 1 := Scalar.cmpi .eq c32_i32_109 c0_i32_110
  let c1_i32_111 : BitVec 32 := 1#32
  let v164 : BitVec 32 := Scalar.select v163 c1_i32_111 c32_i32_109
  let v165 : BitVec 32 := Scalar.remsi v162 v164
  let c0_i32_113 : BitVec 32 := 0#32
  let v167 : BitVec 1 := Scalar.cmpi .slt v165 c0_i32_113
  let c0_i32_114 : BitVec 32 := 0#32
  let v168 : BitVec 1 := Scalar.cmpi .slt v164 c0_i32_114
  let v169 : BitVec 1 := Scalar.xori v167 v168
  let c0_i32_112 : BitVec 32 := 0#32
  let v166 : BitVec 1 := Scalar.cmpi .ne v165 c0_i32_112
  let v170 : BitVec 1 := Scalar.andi v169 v166
  let v171 : BitVec 32 := Scalar.addi v165 v164
  let v172 : BitVec 32 := Scalar.select v170 v171 v165
  let c1_i32_116 : BitVec 32 := 1#32
  let v173 : BitVec 32 := Scalar.muli v172 c1_i32_116
  let v174 : BitVec 32 := Scalar.addi c0_i32_117 v173
  v174.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v175 : BitVec 32 := Scalar.addi v2 c14_i32
  let c32_i32_118 : BitVec 32 := 32#32
  let c0_i32_119 : BitVec 32 := 0#32
  let v176 : BitVec 1 := Scalar.cmpi .eq c32_i32_118 c0_i32_119
  let c1_i32_120 : BitVec 32 := 1#32
  let v177 : BitVec 32 := Scalar.select v176 c1_i32_120 c32_i32_118
  let v178 : BitVec 32 := Scalar.remsi v175 v177
  let c0_i32_122 : BitVec 32 := 0#32
  let v180 : BitVec 1 := Scalar.cmpi .slt v178 c0_i32_122
  let c0_i32_123 : BitVec 32 := 0#32
  let v181 : BitVec 1 := Scalar.cmpi .slt v177 c0_i32_123
  let v182 : BitVec 1 := Scalar.xori v180 v181
  let c0_i32_121 : BitVec 32 := 0#32
  let v179 : BitVec 1 := Scalar.cmpi .ne v178 c0_i32_121
  let v183 : BitVec 1 := Scalar.andi v182 v179
  let v184 : BitVec 32 := Scalar.addi v178 v177
  let v185 : BitVec 32 := Scalar.select v183 v184 v178
  let c1_i32_125 : BitVec 32 := 1#32
  let v186 : BitVec 32 := Scalar.muli v185 c1_i32_125
  let v187 : BitVec 32 := Scalar.addi c0_i32_126 v186
  v187.toNat
def k0_dev15 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v188 : BitVec 32 := Scalar.addi v2 c15_i32
  let c32_i32_127 : BitVec 32 := 32#32
  let c0_i32_128 : BitVec 32 := 0#32
  let v189 : BitVec 1 := Scalar.cmpi .eq c32_i32_127 c0_i32_128
  let c1_i32_129 : BitVec 32 := 1#32
  let v190 : BitVec 32 := Scalar.select v189 c1_i32_129 c32_i32_127
  let v191 : BitVec 32 := Scalar.remsi v188 v190
  let c0_i32_131 : BitVec 32 := 0#32
  let v193 : BitVec 1 := Scalar.cmpi .slt v191 c0_i32_131
  let c0_i32_132 : BitVec 32 := 0#32
  let v194 : BitVec 1 := Scalar.cmpi .slt v190 c0_i32_132
  let v195 : BitVec 1 := Scalar.xori v193 v194
  let c0_i32_130 : BitVec 32 := 0#32
  let v192 : BitVec 1 := Scalar.cmpi .ne v191 c0_i32_130
  let v196 : BitVec 1 := Scalar.andi v195 v192
  let v197 : BitVec 32 := Scalar.addi v191 v190
  let v198 : BitVec 32 := Scalar.select v196 v197 v191
  let c1_i32_134 : BitVec 32 := 1#32
  let v199 : BitVec 32 := Scalar.muli v198 c1_i32_134
  let v200 : BitVec 32 := Scalar.addi c0_i32_135 v199
  v200.toNat
def k0_dev16 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v201 : BitVec 32 := Scalar.addi v2 c16_i32
  let c32_i32_136 : BitVec 32 := 32#32
  let c0_i32_137 : BitVec 32 := 0#32
  let v202 : BitVec 1 := Scalar.cmpi .eq c32_i32_136 c0_i32_137
  let c1_i32_138 : BitVec 32 := 1#32
  let v203 : BitVec 32 := Scalar.select v202 c1_i32_138 c32_i32_136
  let v204 : BitVec 32 := Scalar.remsi v201 v203
  let c0_i32_140 : BitVec 32 := 0#32
  let v206 : BitVec 1 := Scalar.cmpi .slt v204 c0_i32_140
  let c0_i32_141 : BitVec 32 := 0#32
  let v207 : BitVec 1 := Scalar.cmpi .slt v203 c0_i32_141
  let v208 : BitVec 1 := Scalar.xori v206 v207
  let c0_i32_139 : BitVec 32 := 0#32
  let v205 : BitVec 1 := Scalar.cmpi .ne v204 c0_i32_139
  let v209 : BitVec 1 := Scalar.andi v208 v205
  let v210 : BitVec 32 := Scalar.addi v204 v203
  let v211 : BitVec 32 := Scalar.select v209 v210 v204
  let c1_i32_143 : BitVec 32 := 1#32
  let v212 : BitVec 32 := Scalar.muli v211 c1_i32_143
  let v213 : BitVec 32 := Scalar.addi c0_i32_144 v212
  v213.toNat
def k0_dev17 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v214 : BitVec 32 := Scalar.addi v2 c17_i32
  let c32_i32_145 : BitVec 32 := 32#32
  let c0_i32_146 : BitVec 32 := 0#32
  let v215 : BitVec 1 := Scalar.cmpi .eq c32_i32_145 c0_i32_146
  let c1_i32_147 : BitVec 32 := 1#32
  let v216 : BitVec 32 := Scalar.select v215 c1_i32_147 c32_i32_145
  let v217 : BitVec 32 := Scalar.remsi v214 v216
  let c0_i32_149 : BitVec 32 := 0#32
  let v219 : BitVec 1 := Scalar.cmpi .slt v217 c0_i32_149
  let c0_i32_150 : BitVec 32 := 0#32
  let v220 : BitVec 1 := Scalar.cmpi .slt v216 c0_i32_150
  let v221 : BitVec 1 := Scalar.xori v219 v220
  let c0_i32_148 : BitVec 32 := 0#32
  let v218 : BitVec 1 := Scalar.cmpi .ne v217 c0_i32_148
  let v222 : BitVec 1 := Scalar.andi v221 v218
  let v223 : BitVec 32 := Scalar.addi v217 v216
  let v224 : BitVec 32 := Scalar.select v222 v223 v217
  let c1_i32_152 : BitVec 32 := 1#32
  let v225 : BitVec 32 := Scalar.muli v224 c1_i32_152
  let v226 : BitVec 32 := Scalar.addi c0_i32_153 v225
  v226.toNat
def k0_dev18 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v227 : BitVec 32 := Scalar.addi v2 c18_i32
  let c32_i32_154 : BitVec 32 := 32#32
  let c0_i32_155 : BitVec 32 := 0#32
  let v228 : BitVec 1 := Scalar.cmpi .eq c32_i32_154 c0_i32_155
  let c1_i32_156 : BitVec 32 := 1#32
  let v229 : BitVec 32 := Scalar.select v228 c1_i32_156 c32_i32_154
  let v230 : BitVec 32 := Scalar.remsi v227 v229
  let c0_i32_158 : BitVec 32 := 0#32
  let v232 : BitVec 1 := Scalar.cmpi .slt v230 c0_i32_158
  let c0_i32_159 : BitVec 32 := 0#32
  let v233 : BitVec 1 := Scalar.cmpi .slt v229 c0_i32_159
  let v234 : BitVec 1 := Scalar.xori v232 v233
  let c0_i32_157 : BitVec 32 := 0#32
  let v231 : BitVec 1 := Scalar.cmpi .ne v230 c0_i32_157
  let v235 : BitVec 1 := Scalar.andi v234 v231
  let v236 : BitVec 32 := Scalar.addi v230 v229
  let v237 : BitVec 32 := Scalar.select v235 v236 v230
  let c1_i32_161 : BitVec 32 := 1#32
  let v238 : BitVec 32 := Scalar.muli v237 c1_i32_161
  let v239 : BitVec 32 := Scalar.addi c0_i32_162 v238
  v239.toNat
def k0_dev19 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v240 : BitVec 32 := Scalar.addi v2 c19_i32
  let c32_i32_163 : BitVec 32 := 32#32
  let c0_i32_164 : BitVec 32 := 0#32
  let v241 : BitVec 1 := Scalar.cmpi .eq c32_i32_163 c0_i32_164
  let c1_i32_165 : BitVec 32 := 1#32
  let v242 : BitVec 32 := Scalar.select v241 c1_i32_165 c32_i32_163
  let v243 : BitVec 32 := Scalar.remsi v240 v242
  let c0_i32_167 : BitVec 32 := 0#32
  let v245 : BitVec 1 := Scalar.cmpi .slt v243 c0_i32_167
  let c0_i32_168 : BitVec 32 := 0#32
  let v246 : BitVec 1 := Scalar.cmpi .slt v242 c0_i32_168
  let v247 : BitVec 1 := Scalar.xori v245 v246
  let c0_i32_166 : BitVec 32 := 0#32
  let v244 : BitVec 1 := Scalar.cmpi .ne v243 c0_i32_166
  let v248 : BitVec 1 := Scalar.andi v247 v244
  let v249 : BitVec 32 := Scalar.addi v243 v242
  let v250 : BitVec 32 := Scalar.select v248 v249 v243
  let c1_i32_170 : BitVec 32 := 1#32
  let v251 : BitVec 32 := Scalar.muli v250 c1_i32_170
  let v252 : BitVec 32 := Scalar.addi c0_i32_171 v251
  v252.toNat
def k0_dev20 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v253 : BitVec 32 := Scalar.addi v2 c20_i32
  let c32_i32_172 : BitVec 32 := 32#32
  let c0_i32_173 : BitVec 32 := 0#32
  let v254 : BitVec 1 := Scalar.cmpi .eq c32_i32_172 c0_i32_173
  let c1_i32_174 : BitVec 32 := 1#32
  let v255 : BitVec 32 := Scalar.select v254 c1_i32_174 c32_i32_172
  let v256 : BitVec 32 := Scalar.remsi v253 v255
  let c0_i32_176 : BitVec 32 := 0#32
  let v258 : BitVec 1 := Scalar.cmpi .slt v256 c0_i32_176
  let c0_i32_177 : BitVec 32 := 0#32
  let v259 : BitVec 1 := Scalar.cmpi .slt v255 c0_i32_177
  let v260 : BitVec 1 := Scalar.xori v258 v259
  let c0_i32_175 : BitVec 32 := 0#32
  let v257 : BitVec 1 := Scalar.cmpi .ne v256 c0_i32_175
  let v261 : BitVec 1 := Scalar.andi v260 v257
  let v262 : BitVec 32 := Scalar.addi v256 v255
  let v263 : BitVec 32 := Scalar.select v261 v262 v256
  let c1_i32_179 : BitVec 32 := 1#32
  let v264 : BitVec 32 := Scalar.muli v263 c1_i32_179
  let v265 : BitVec 32 := Scalar.addi c0_i32_180 v264
  v265.toNat
def k0_dev21 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v266 : BitVec 32 := Scalar.addi v2 c21_i32
  let c32_i32_181 : BitVec 32 := 32#32
  let c0_i32_182 : BitVec 32 := 0#32
  let v267 : BitVec 1 := Scalar.cmpi .eq c32_i32_181 c0_i32_182
  let c1_i32_183 : BitVec 32 := 1#32
  let v268 : BitVec 32 := Scalar.select v267 c1_i32_183 c32_i32_181
  let v269 : BitVec 32 := Scalar.remsi v266 v268
  let c0_i32_185 : BitVec 32 := 0#32
  let v271 : BitVec 1 := Scalar.cmpi .slt v269 c0_i32_185
  let c0_i32_186 : BitVec 32 := 0#32
  let v272 : BitVec 1 := Scalar.cmpi .slt v268 c0_i32_186
  let v273 : BitVec 1 := Scalar.xori v271 v272
  let c0_i32_184 : BitVec 32 := 0#32
  let v270 : BitVec 1 := Scalar.cmpi .ne v269 c0_i32_184
  let v274 : BitVec 1 := Scalar.andi v273 v270
  let v275 : BitVec 32 := Scalar.addi v269 v268
  let v276 : BitVec 32 := Scalar.select v274 v275 v269
  let c1_i32_188 : BitVec 32 := 1#32
  let v277 : BitVec 32 := Scalar.muli v276 c1_i32_188
  let v278 : BitVec 32 := Scalar.addi c0_i32_189 v277
  v278.toNat
def k0_dev22 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v279 : BitVec 32 := Scalar.addi v2 c22_i32
  let c32_i32_190 : BitVec 32 := 32#32
  let c0_i32_191 : BitVec 32 := 0#32
  let v280 : BitVec 1 := Scalar.cmpi .eq c32_i32_190 c0_i32_191
  let c1_i32_192 : BitVec 32 := 1#32
  let v281 : BitVec 32 := Scalar.select v280 c1_i32_192 c32_i32_190
  let v282 : BitVec 32 := Scalar.remsi v279 v281
  let c0_i32_194 : BitVec 32 := 0#32
  let v284 : BitVec 1 := Scalar.cmpi .slt v282 c0_i32_194
  let c0_i32_195 : BitVec 32 := 0#32
  let v285 : BitVec 1 := Scalar.cmpi .slt v281 c0_i32_195
  let v286 : BitVec 1 := Scalar.xori v284 v285
  let c0_i32_193 : BitVec 32 := 0#32
  let v283 : BitVec 1 := Scalar.cmpi .ne v282 c0_i32_193
  let v287 : BitVec 1 := Scalar.andi v286 v283
  let v288 : BitVec 32 := Scalar.addi v282 v281
  let v289 : BitVec 32 := Scalar.select v287 v288 v282
  let c1_i32_197 : BitVec 32 := 1#32
  let v290 : BitVec 32 := Scalar.muli v289 c1_i32_197
  let v291 : BitVec 32 := Scalar.addi c0_i32_198 v290
  v291.toNat
def k0_dev23 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v292 : BitVec 32 := Scalar.addi v2 c23_i32
  let c32_i32_199 : BitVec 32 := 32#32
  let c0_i32_200 : BitVec 32 := 0#32
  let v293 : BitVec 1 := Scalar.cmpi .eq c32_i32_199 c0_i32_200
  let c1_i32_201 : BitVec 32 := 1#32
  let v294 : BitVec 32 := Scalar.select v293 c1_i32_201 c32_i32_199
  let v295 : BitVec 32 := Scalar.remsi v292 v294
  let c0_i32_203 : BitVec 32 := 0#32
  let v297 : BitVec 1 := Scalar.cmpi .slt v295 c0_i32_203
  let c0_i32_204 : BitVec 32 := 0#32
  let v298 : BitVec 1 := Scalar.cmpi .slt v294 c0_i32_204
  let v299 : BitVec 1 := Scalar.xori v297 v298
  let c0_i32_202 : BitVec 32 := 0#32
  let v296 : BitVec 1 := Scalar.cmpi .ne v295 c0_i32_202
  let v300 : BitVec 1 := Scalar.andi v299 v296
  let v301 : BitVec 32 := Scalar.addi v295 v294
  let v302 : BitVec 32 := Scalar.select v300 v301 v295
  let c1_i32_206 : BitVec 32 := 1#32
  let v303 : BitVec 32 := Scalar.muli v302 c1_i32_206
  let v304 : BitVec 32 := Scalar.addi c0_i32_207 v303
  v304.toNat
def k0_dev24 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v305 : BitVec 32 := Scalar.addi v2 c24_i32
  let c32_i32_208 : BitVec 32 := 32#32
  let c0_i32_209 : BitVec 32 := 0#32
  let v306 : BitVec 1 := Scalar.cmpi .eq c32_i32_208 c0_i32_209
  let c1_i32_210 : BitVec 32 := 1#32
  let v307 : BitVec 32 := Scalar.select v306 c1_i32_210 c32_i32_208
  let v308 : BitVec 32 := Scalar.remsi v305 v307
  let c0_i32_212 : BitVec 32 := 0#32
  let v310 : BitVec 1 := Scalar.cmpi .slt v308 c0_i32_212
  let c0_i32_213 : BitVec 32 := 0#32
  let v311 : BitVec 1 := Scalar.cmpi .slt v307 c0_i32_213
  let v312 : BitVec 1 := Scalar.xori v310 v311
  let c0_i32_211 : BitVec 32 := 0#32
  let v309 : BitVec 1 := Scalar.cmpi .ne v308 c0_i32_211
  let v313 : BitVec 1 := Scalar.andi v312 v309
  let v314 : BitVec 32 := Scalar.addi v308 v307
  let v315 : BitVec 32 := Scalar.select v313 v314 v308
  let c1_i32_215 : BitVec 32 := 1#32
  let v316 : BitVec 32 := Scalar.muli v315 c1_i32_215
  let v317 : BitVec 32 := Scalar.addi c0_i32_216 v316
  v317.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v318 : BitVec 32 := Scalar.addi v2 c25_i32
  let c32_i32_217 : BitVec 32 := 32#32
  let c0_i32_218 : BitVec 32 := 0#32
  let v319 : BitVec 1 := Scalar.cmpi .eq c32_i32_217 c0_i32_218
  let c1_i32_219 : BitVec 32 := 1#32
  let v320 : BitVec 32 := Scalar.select v319 c1_i32_219 c32_i32_217
  let v321 : BitVec 32 := Scalar.remsi v318 v320
  let c0_i32_221 : BitVec 32 := 0#32
  let v323 : BitVec 1 := Scalar.cmpi .slt v321 c0_i32_221
  let c0_i32_222 : BitVec 32 := 0#32
  let v324 : BitVec 1 := Scalar.cmpi .slt v320 c0_i32_222
  let v325 : BitVec 1 := Scalar.xori v323 v324
  let c0_i32_220 : BitVec 32 := 0#32
  let v322 : BitVec 1 := Scalar.cmpi .ne v321 c0_i32_220
  let v326 : BitVec 1 := Scalar.andi v325 v322
  let v327 : BitVec 32 := Scalar.addi v321 v320
  let v328 : BitVec 32 := Scalar.select v326 v327 v321
  let c1_i32_224 : BitVec 32 := 1#32
  let v329 : BitVec 32 := Scalar.muli v328 c1_i32_224
  let v330 : BitVec 32 := Scalar.addi c0_i32_225 v329
  v330.toNat
def k0_dev26 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v331 : BitVec 32 := Scalar.addi v2 c26_i32
  let c32_i32_226 : BitVec 32 := 32#32
  let c0_i32_227 : BitVec 32 := 0#32
  let v332 : BitVec 1 := Scalar.cmpi .eq c32_i32_226 c0_i32_227
  let c1_i32_228 : BitVec 32 := 1#32
  let v333 : BitVec 32 := Scalar.select v332 c1_i32_228 c32_i32_226
  let v334 : BitVec 32 := Scalar.remsi v331 v333
  let c0_i32_230 : BitVec 32 := 0#32
  let v336 : BitVec 1 := Scalar.cmpi .slt v334 c0_i32_230
  let c0_i32_231 : BitVec 32 := 0#32
  let v337 : BitVec 1 := Scalar.cmpi .slt v333 c0_i32_231
  let v338 : BitVec 1 := Scalar.xori v336 v337
  let c0_i32_229 : BitVec 32 := 0#32
  let v335 : BitVec 1 := Scalar.cmpi .ne v334 c0_i32_229
  let v339 : BitVec 1 := Scalar.andi v338 v335
  let v340 : BitVec 32 := Scalar.addi v334 v333
  let v341 : BitVec 32 := Scalar.select v339 v340 v334
  let c1_i32_233 : BitVec 32 := 1#32
  let v342 : BitVec 32 := Scalar.muli v341 c1_i32_233
  let v343 : BitVec 32 := Scalar.addi c0_i32_234 v342
  v343.toNat
def k0_dev27 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v344 : BitVec 32 := Scalar.addi v2 c27_i32
  let c32_i32_235 : BitVec 32 := 32#32
  let c0_i32_236 : BitVec 32 := 0#32
  let v345 : BitVec 1 := Scalar.cmpi .eq c32_i32_235 c0_i32_236
  let c1_i32_237 : BitVec 32 := 1#32
  let v346 : BitVec 32 := Scalar.select v345 c1_i32_237 c32_i32_235
  let v347 : BitVec 32 := Scalar.remsi v344 v346
  let c0_i32_239 : BitVec 32 := 0#32
  let v349 : BitVec 1 := Scalar.cmpi .slt v347 c0_i32_239
  let c0_i32_240 : BitVec 32 := 0#32
  let v350 : BitVec 1 := Scalar.cmpi .slt v346 c0_i32_240
  let v351 : BitVec 1 := Scalar.xori v349 v350
  let c0_i32_238 : BitVec 32 := 0#32
  let v348 : BitVec 1 := Scalar.cmpi .ne v347 c0_i32_238
  let v352 : BitVec 1 := Scalar.andi v351 v348
  let v353 : BitVec 32 := Scalar.addi v347 v346
  let v354 : BitVec 32 := Scalar.select v352 v353 v347
  let c1_i32_242 : BitVec 32 := 1#32
  let v355 : BitVec 32 := Scalar.muli v354 c1_i32_242
  let v356 : BitVec 32 := Scalar.addi c0_i32_243 v355
  v356.toNat
def k0_dev28 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v357 : BitVec 32 := Scalar.addi v2 c28_i32
  let c32_i32_244 : BitVec 32 := 32#32
  let c0_i32_245 : BitVec 32 := 0#32
  let v358 : BitVec 1 := Scalar.cmpi .eq c32_i32_244 c0_i32_245
  let c1_i32_246 : BitVec 32 := 1#32
  let v359 : BitVec 32 := Scalar.select v358 c1_i32_246 c32_i32_244
  let v360 : BitVec 32 := Scalar.remsi v357 v359
  let c0_i32_248 : BitVec 32 := 0#32
  let v362 : BitVec 1 := Scalar.cmpi .slt v360 c0_i32_248
  let c0_i32_249 : BitVec 32 := 0#32
  let v363 : BitVec 1 := Scalar.cmpi .slt v359 c0_i32_249
  let v364 : BitVec 1 := Scalar.xori v362 v363
  let c0_i32_247 : BitVec 32 := 0#32
  let v361 : BitVec 1 := Scalar.cmpi .ne v360 c0_i32_247
  let v365 : BitVec 1 := Scalar.andi v364 v361
  let v366 : BitVec 32 := Scalar.addi v360 v359
  let v367 : BitVec 32 := Scalar.select v365 v366 v360
  let c1_i32_251 : BitVec 32 := 1#32
  let v368 : BitVec 32 := Scalar.muli v367 c1_i32_251
  let v369 : BitVec 32 := Scalar.addi c0_i32_252 v368
  v369.toNat
def k0_dev29 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v370 : BitVec 32 := Scalar.addi v2 c29_i32
  let c32_i32_253 : BitVec 32 := 32#32
  let c0_i32_254 : BitVec 32 := 0#32
  let v371 : BitVec 1 := Scalar.cmpi .eq c32_i32_253 c0_i32_254
  let c1_i32_255 : BitVec 32 := 1#32
  let v372 : BitVec 32 := Scalar.select v371 c1_i32_255 c32_i32_253
  let v373 : BitVec 32 := Scalar.remsi v370 v372
  let c0_i32_257 : BitVec 32 := 0#32
  let v375 : BitVec 1 := Scalar.cmpi .slt v373 c0_i32_257
  let c0_i32_258 : BitVec 32 := 0#32
  let v376 : BitVec 1 := Scalar.cmpi .slt v372 c0_i32_258
  let v377 : BitVec 1 := Scalar.xori v375 v376
  let c0_i32_256 : BitVec 32 := 0#32
  let v374 : BitVec 1 := Scalar.cmpi .ne v373 c0_i32_256
  let v378 : BitVec 1 := Scalar.andi v377 v374
  let v379 : BitVec 32 := Scalar.addi v373 v372
  let v380 : BitVec 32 := Scalar.select v378 v379 v373
  let c1_i32_260 : BitVec 32 := 1#32
  let v381 : BitVec 32 := Scalar.muli v380 c1_i32_260
  let v382 : BitVec 32 := Scalar.addi c0_i32_261 v381
  v382.toNat
def k0_dev30 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v383 : BitVec 32 := Scalar.addi v2 c30_i32
  let c32_i32_262 : BitVec 32 := 32#32
  let c0_i32_263 : BitVec 32 := 0#32
  let v384 : BitVec 1 := Scalar.cmpi .eq c32_i32_262 c0_i32_263
  let c1_i32_264 : BitVec 32 := 1#32
  let v385 : BitVec 32 := Scalar.select v384 c1_i32_264 c32_i32_262
  let v386 : BitVec 32 := Scalar.remsi v383 v385
  let c0_i32_266 : BitVec 32 := 0#32
  let v388 : BitVec 1 := Scalar.cmpi .slt v386 c0_i32_266
  let c0_i32_267 : BitVec 32 := 0#32
  let v389 : BitVec 1 := Scalar.cmpi .slt v385 c0_i32_267
  let v390 : BitVec 1 := Scalar.xori v388 v389
  let c0_i32_265 : BitVec 32 := 0#32
  let v387 : BitVec 1 := Scalar.cmpi .ne v386 c0_i32_265
  let v391 : BitVec 1 := Scalar.andi v390 v387
  let v392 : BitVec 32 := Scalar.addi v386 v385
  let v393 : BitVec 32 := Scalar.select v391 v392 v386
  let c1_i32_269 : BitVec 32 := 1#32
  let v394 : BitVec 32 := Scalar.muli v393 c1_i32_269
  let v395 : BitVec 32 := Scalar.addi c0_i32_270 v394
  v395.toNat
def k0_dev31 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v396 : BitVec 32 := Scalar.addi v2 c31_i32
  let c32_i32_271 : BitVec 32 := 32#32
  let c0_i32_272 : BitVec 32 := 0#32
  let v397 : BitVec 1 := Scalar.cmpi .eq c32_i32_271 c0_i32_272
  let c1_i32_273 : BitVec 32 := 1#32
  let v398 : BitVec 32 := Scalar.select v397 c1_i32_273 c32_i32_271
  let v399 : BitVec 32 := Scalar.remsi v396 v398
  let c0_i32_275 : BitVec 32 := 0#32
  let v401 : BitVec 1 := Scalar.cmpi .slt v399 c0_i32_275
  let c0_i32_276 : BitVec 32 := 0#32
  let v402 : BitVec 1 := Scalar.cmpi .slt v398 c0_i32_276
  let v403 : BitVec 1 := Scalar.xori v401 v402
  let c0_i32_274 : BitVec 32 := 0#32
  let v400 : BitVec 1 := Scalar.cmpi .ne v399 c0_i32_274
  let v404 : BitVec 1 := Scalar.andi v403 v400
  let v405 : BitVec 32 := Scalar.addi v399 v398
  let v406 : BitVec 32 := Scalar.select v404 v405 v399
  let c1_i32_278 : BitVec 32 := 1#32
  let v407 : BitVec 32 := Scalar.muli v406 c1_i32_278
  let v408 : BitVec 32 := Scalar.addi c0_i32_279 v407
  v408.toNat
def k0_off1 (v590 : BitVec 32) : Fin 2 → Nat :=
  let c0_i32_327 : BitVec 32 := 0#32
  let v591 : BitVec 32 := Scalar.maxsi v590 c0_i32_327
  let v592 : Index := Scalar.indexCast v591
  let c0_328 : Index := 0#32
  ![v592.toNat, 0]

def k0_chk1 (v590 : BitVec 32) : Prop :=
  (∀ a, (k0_off1 v590) a + S1x512.size a ≤ S2048x512.size a)
theorem k0_off1_inb : ∀ (v590 : BitVec 32) (k0_hw1 : k0_chk1 v590), ∀ a, (k0_off1 v590) a + S1x512.size a ≤ S2048x512.size a := fun v590 k0_hw1 => k0_hw1

def k0_off2 (v598 : BitVec 32) : Fin 2 → Nat :=
  let c0_i32_332 : BitVec 32 := 0#32
  let v599 : BitVec 32 := Scalar.maxsi v598 c0_i32_332
  let v600 : Index := Scalar.indexCast v599
  let c0_333 : Index := 0#32
  ![v600.toNat, 0]

def k0_chk2 (v598 : BitVec 32) : Prop :=
  (∀ a, (k0_off2 v598) a + S1x512.size a ≤ S2048x512.size a)
theorem k0_off2_inb : ∀ (v598 : BitVec 32) (k0_hw2 : k0_chk2 v598), ∀ a, (k0_off2 v598) a + S1x512.size a ≤ S2048x512.size a := fun v598 k0_hw2 => k0_hw2

def k0_off3 (v606 : BitVec 32) : Fin 2 → Nat :=
  let c0_i32_337 : BitVec 32 := 0#32
  let v607 : BitVec 32 := Scalar.maxsi v606 c0_i32_337
  let v608 : Index := Scalar.indexCast v607
  let c0_338 : Index := 0#32
  ![v608.toNat, 0]

def k0_chk3 (v606 : BitVec 32) : Prop :=
  (∀ a, (k0_off3 v606) a + S1x512.size a ≤ S2048x512.size a)
theorem k0_off3_inb : ∀ (v606 : BitVec 32) (k0_hw3 : k0_chk3 v606), ∀ a, (k0_off3 v606) a + S1x512.size a ≤ S2048x512.size a := fun v606 k0_hw3 => k0_hw3

def k0_off4 (v614 : BitVec 32) : Fin 2 → Nat :=
  let c0_i32_342 : BitVec 32 := 0#32
  let v615 : BitVec 32 := Scalar.maxsi v614 c0_i32_342
  let v616 : Index := Scalar.indexCast v615
  let c0_343 : Index := 0#32
  ![v616.toNat, 0]

def k0_chk4 (v614 : BitVec 32) : Prop :=
  (∀ a, (k0_off4 v614) a + S1x512.size a ≤ S2048x512.size a)
theorem k0_off4_inb : ∀ (v614 : BitVec 32) (k0_hw4 : k0_chk4 v614), ∀ a, (k0_off4 v614) a + S1x512.size a ≤ S2048x512.size a := fun v614 k0_hw4 => k0_hw4

def k0_off5 (v622 : BitVec 32) : Fin 2 → Nat :=
  let c0_i32_347 : BitVec 32 := 0#32
  let v623 : BitVec 32 := Scalar.maxsi v622 c0_i32_347
  let v624 : Index := Scalar.indexCast v623
  let c0_348 : Index := 0#32
  ![v624.toNat, 0]

def k0_chk5 (v622 : BitVec 32) : Prop :=
  (∀ a, (k0_off5 v622) a + S1x512.size a ≤ S2048x512.size a)
theorem k0_off5_inb : ∀ (v622 : BitVec 32) (k0_hw5 : k0_chk5 v622), ∀ a, (k0_off5 v622) a + S1x512.size a ≤ S2048x512.size a := fun v622 k0_hw5 => k0_hw5

def k0_off6 (v630 : BitVec 32) : Fin 2 → Nat :=
  let c0_i32_352 : BitVec 32 := 0#32
  let v631 : BitVec 32 := Scalar.maxsi v630 c0_i32_352
  let v632 : Index := Scalar.indexCast v631
  let c0_353 : Index := 0#32
  ![v632.toNat, 0]

def k0_chk6 (v630 : BitVec 32) : Prop :=
  (∀ a, (k0_off6 v630) a + S1x512.size a ≤ S2048x512.size a)
theorem k0_off6_inb : ∀ (v630 : BitVec 32) (k0_hw6 : k0_chk6 v630), ∀ a, (k0_off6 v630) a + S1x512.size a ≤ S2048x512.size a := fun v630 k0_hw6 => k0_hw6

def k0_off7 (v638 : BitVec 32) : Fin 2 → Nat :=
  let c0_i32_357 : BitVec 32 := 0#32
  let v639 : BitVec 32 := Scalar.maxsi v638 c0_i32_357
  let v640 : Index := Scalar.indexCast v639
  let c0_358 : Index := 0#32
  ![v640.toNat, 0]

def k0_chk7 (v638 : BitVec 32) : Prop :=
  (∀ a, (k0_off7 v638) a + S1x512.size a ≤ S2048x512.size a)
theorem k0_off7_inb : ∀ (v638 : BitVec 32) (k0_hw7 : k0_chk7 v638), ∀ a, (k0_off7 v638) a + S1x512.size a ≤ S2048x512.size a := fun v638 k0_hw7 => k0_hw7

def k0_off8 (v646 : BitVec 32) : Fin 2 → Nat :=
  let c0_i32_362 : BitVec 32 := 0#32
  let v647 : BitVec 32 := Scalar.maxsi v646 c0_i32_362
  let v648 : Index := Scalar.indexCast v647
  let c0_363 : Index := 0#32
  ![v648.toNat, 0]

def k0_chk8 (v646 : BitVec 32) : Prop :=
  (∀ a, (k0_off8 v646) a + S1x512.size a ≤ S2048x512.size a)
theorem k0_off8_inb : ∀ (v646 : BitVec 32) (k0_hw8 : k0_chk8 v646), ∀ a, (k0_off8 v646) a + S1x512.size a ≤ S2048x512.size a := fun v646 k0_hw8 => k0_hw8

def k0_off9 (v654 : BitVec 32) : Fin 2 → Nat :=
  let c0_i32_367 : BitVec 32 := 0#32
  let v655 : BitVec 32 := Scalar.maxsi v654 c0_i32_367
  let v656 : Index := Scalar.indexCast v655
  let c0_368 : Index := 0#32
  ![v656.toNat, 0]

def k0_chk9 (v654 : BitVec 32) : Prop :=
  (∀ a, (k0_off9 v654) a + S1x512.size a ≤ S2048x512.size a)
theorem k0_off9_inb : ∀ (v654 : BitVec 32) (k0_hw9 : k0_chk9 v654), ∀ a, (k0_off9 v654) a + S1x512.size a ≤ S2048x512.size a := fun v654 k0_hw9 => k0_hw9

def k0_off10 (v662 : BitVec 32) : Fin 2 → Nat :=
  let c0_i32_372 : BitVec 32 := 0#32
  let v663 : BitVec 32 := Scalar.maxsi v662 c0_i32_372
  let v664 : Index := Scalar.indexCast v663
  let c0_373 : Index := 0#32
  ![v664.toNat, 0]

def k0_chk10 (v662 : BitVec 32) : Prop :=
  (∀ a, (k0_off10 v662) a + S1x512.size a ≤ S2048x512.size a)
theorem k0_off10_inb : ∀ (v662 : BitVec 32) (k0_hw10 : k0_chk10 v662), ∀ a, (k0_off10 v662) a + S1x512.size a ≤ S2048x512.size a := fun v662 k0_hw10 => k0_hw10

def k0_off11 (v670 : BitVec 32) : Fin 2 → Nat :=
  let c0_i32_377 : BitVec 32 := 0#32
  let v671 : BitVec 32 := Scalar.maxsi v670 c0_i32_377
  let v672 : Index := Scalar.indexCast v671
  let c0_378 : Index := 0#32
  ![v672.toNat, 0]

def k0_chk11 (v670 : BitVec 32) : Prop :=
  (∀ a, (k0_off11 v670) a + S1x512.size a ≤ S2048x512.size a)
theorem k0_off11_inb : ∀ (v670 : BitVec 32) (k0_hw11 : k0_chk11 v670), ∀ a, (k0_off11 v670) a + S1x512.size a ≤ S2048x512.size a := fun v670 k0_hw11 => k0_hw11

def k0_off12 (v678 : BitVec 32) : Fin 2 → Nat :=
  let c0_i32_382 : BitVec 32 := 0#32
  let v679 : BitVec 32 := Scalar.maxsi v678 c0_i32_382
  let v680 : Index := Scalar.indexCast v679
  let c0_383 : Index := 0#32
  ![v680.toNat, 0]

def k0_chk12 (v678 : BitVec 32) : Prop :=
  (∀ a, (k0_off12 v678) a + S1x512.size a ≤ S2048x512.size a)
theorem k0_off12_inb : ∀ (v678 : BitVec 32) (k0_hw12 : k0_chk12 v678), ∀ a, (k0_off12 v678) a + S1x512.size a ≤ S2048x512.size a := fun v678 k0_hw12 => k0_hw12

def k0_off13 (v686 : BitVec 32) : Fin 2 → Nat :=
  let c0_i32_387 : BitVec 32 := 0#32
  let v687 : BitVec 32 := Scalar.maxsi v686 c0_i32_387
  let v688 : Index := Scalar.indexCast v687
  let c0_388 : Index := 0#32
  ![v688.toNat, 0]

def k0_chk13 (v686 : BitVec 32) : Prop :=
  (∀ a, (k0_off13 v686) a + S1x512.size a ≤ S2048x512.size a)
theorem k0_off13_inb : ∀ (v686 : BitVec 32) (k0_hw13 : k0_chk13 v686), ∀ a, (k0_off13 v686) a + S1x512.size a ≤ S2048x512.size a := fun v686 k0_hw13 => k0_hw13

def k0_off14 (v694 : BitVec 32) : Fin 2 → Nat :=
  let c0_i32_392 : BitVec 32 := 0#32
  let v695 : BitVec 32 := Scalar.maxsi v694 c0_i32_392
  let v696 : Index := Scalar.indexCast v695
  let c0_393 : Index := 0#32
  ![v696.toNat, 0]

def k0_chk14 (v694 : BitVec 32) : Prop :=
  (∀ a, (k0_off14 v694) a + S1x512.size a ≤ S2048x512.size a)
theorem k0_off14_inb : ∀ (v694 : BitVec 32) (k0_hw14 : k0_chk14 v694), ∀ a, (k0_off14 v694) a + S1x512.size a ≤ S2048x512.size a := fun v694 k0_hw14 => k0_hw14

def k0_off15 (v702 : BitVec 32) : Fin 2 → Nat :=
  let c0_i32_397 : BitVec 32 := 0#32
  let v703 : BitVec 32 := Scalar.maxsi v702 c0_i32_397
  let v704 : Index := Scalar.indexCast v703
  let c0_398 : Index := 0#32
  ![v704.toNat, 0]

def k0_chk15 (v702 : BitVec 32) : Prop :=
  (∀ a, (k0_off15 v702) a + S1x512.size a ≤ S2048x512.size a)
theorem k0_off15_inb : ∀ (v702 : BitVec 32) (k0_hw15 : k0_chk15 v702), ∀ a, (k0_off15 v702) a + S1x512.size a ≤ S2048x512.size a := fun v702 k0_hw15 => k0_hw15

def k0_off16 (v710 : BitVec 32) : Fin 2 → Nat :=
  let c0_i32_402 : BitVec 32 := 0#32
  let v711 : BitVec 32 := Scalar.maxsi v710 c0_i32_402
  let v712 : Index := Scalar.indexCast v711
  let c0_403 : Index := 0#32
  ![v712.toNat, 0]

def k0_chk16 (v710 : BitVec 32) : Prop :=
  (∀ a, (k0_off16 v710) a + S1x512.size a ≤ S2048x512.size a)
theorem k0_off16_inb : ∀ (v710 : BitVec 32) (k0_hw16 : k0_chk16 v710), ∀ a, (k0_off16 v710) a + S1x512.size a ≤ S2048x512.size a := fun v710 k0_hw16 => k0_hw16

def k0_off17 (v718 : BitVec 32) : Fin 2 → Nat :=
  let c0_i32_407 : BitVec 32 := 0#32
  let v719 : BitVec 32 := Scalar.maxsi v718 c0_i32_407
  let v720 : Index := Scalar.indexCast v719
  let c0_408 : Index := 0#32
  ![v720.toNat, 0]

def k0_chk17 (v718 : BitVec 32) : Prop :=
  (∀ a, (k0_off17 v718) a + S1x512.size a ≤ S2048x512.size a)
theorem k0_off17_inb : ∀ (v718 : BitVec 32) (k0_hw17 : k0_chk17 v718), ∀ a, (k0_off17 v718) a + S1x512.size a ≤ S2048x512.size a := fun v718 k0_hw17 => k0_hw17

def k0_off18 (v726 : BitVec 32) : Fin 2 → Nat :=
  let c0_i32_412 : BitVec 32 := 0#32
  let v727 : BitVec 32 := Scalar.maxsi v726 c0_i32_412
  let v728 : Index := Scalar.indexCast v727
  let c0_413 : Index := 0#32
  ![v728.toNat, 0]

def k0_chk18 (v726 : BitVec 32) : Prop :=
  (∀ a, (k0_off18 v726) a + S1x512.size a ≤ S2048x512.size a)
theorem k0_off18_inb : ∀ (v726 : BitVec 32) (k0_hw18 : k0_chk18 v726), ∀ a, (k0_off18 v726) a + S1x512.size a ≤ S2048x512.size a := fun v726 k0_hw18 => k0_hw18

def k0_off19 (v734 : BitVec 32) : Fin 2 → Nat :=
  let c0_i32_417 : BitVec 32 := 0#32
  let v735 : BitVec 32 := Scalar.maxsi v734 c0_i32_417
  let v736 : Index := Scalar.indexCast v735
  let c0_418 : Index := 0#32
  ![v736.toNat, 0]

def k0_chk19 (v734 : BitVec 32) : Prop :=
  (∀ a, (k0_off19 v734) a + S1x512.size a ≤ S2048x512.size a)
theorem k0_off19_inb : ∀ (v734 : BitVec 32) (k0_hw19 : k0_chk19 v734), ∀ a, (k0_off19 v734) a + S1x512.size a ≤ S2048x512.size a := fun v734 k0_hw19 => k0_hw19

def k0_off20 (v742 : BitVec 32) : Fin 2 → Nat :=
  let c0_i32_422 : BitVec 32 := 0#32
  let v743 : BitVec 32 := Scalar.maxsi v742 c0_i32_422
  let v744 : Index := Scalar.indexCast v743
  let c0_423 : Index := 0#32
  ![v744.toNat, 0]

def k0_chk20 (v742 : BitVec 32) : Prop :=
  (∀ a, (k0_off20 v742) a + S1x512.size a ≤ S2048x512.size a)
theorem k0_off20_inb : ∀ (v742 : BitVec 32) (k0_hw20 : k0_chk20 v742), ∀ a, (k0_off20 v742) a + S1x512.size a ≤ S2048x512.size a := fun v742 k0_hw20 => k0_hw20

def k0_off21 (v750 : BitVec 32) : Fin 2 → Nat :=
  let c0_i32_427 : BitVec 32 := 0#32
  let v751 : BitVec 32 := Scalar.maxsi v750 c0_i32_427
  let v752 : Index := Scalar.indexCast v751
  let c0_428 : Index := 0#32
  ![v752.toNat, 0]

def k0_chk21 (v750 : BitVec 32) : Prop :=
  (∀ a, (k0_off21 v750) a + S1x512.size a ≤ S2048x512.size a)
theorem k0_off21_inb : ∀ (v750 : BitVec 32) (k0_hw21 : k0_chk21 v750), ∀ a, (k0_off21 v750) a + S1x512.size a ≤ S2048x512.size a := fun v750 k0_hw21 => k0_hw21

def k0_off22 (v758 : BitVec 32) : Fin 2 → Nat :=
  let c0_i32_432 : BitVec 32 := 0#32
  let v759 : BitVec 32 := Scalar.maxsi v758 c0_i32_432
  let v760 : Index := Scalar.indexCast v759
  let c0_433 : Index := 0#32
  ![v760.toNat, 0]

def k0_chk22 (v758 : BitVec 32) : Prop :=
  (∀ a, (k0_off22 v758) a + S1x512.size a ≤ S2048x512.size a)
theorem k0_off22_inb : ∀ (v758 : BitVec 32) (k0_hw22 : k0_chk22 v758), ∀ a, (k0_off22 v758) a + S1x512.size a ≤ S2048x512.size a := fun v758 k0_hw22 => k0_hw22

def k0_off23 (v766 : BitVec 32) : Fin 2 → Nat :=
  let c0_i32_437 : BitVec 32 := 0#32
  let v767 : BitVec 32 := Scalar.maxsi v766 c0_i32_437
  let v768 : Index := Scalar.indexCast v767
  let c0_438 : Index := 0#32
  ![v768.toNat, 0]

def k0_chk23 (v766 : BitVec 32) : Prop :=
  (∀ a, (k0_off23 v766) a + S1x512.size a ≤ S2048x512.size a)
theorem k0_off23_inb : ∀ (v766 : BitVec 32) (k0_hw23 : k0_chk23 v766), ∀ a, (k0_off23 v766) a + S1x512.size a ≤ S2048x512.size a := fun v766 k0_hw23 => k0_hw23

def k0_off24 (v774 : BitVec 32) : Fin 2 → Nat :=
  let c0_i32_442 : BitVec 32 := 0#32
  let v775 : BitVec 32 := Scalar.maxsi v774 c0_i32_442
  let v776 : Index := Scalar.indexCast v775
  let c0_443 : Index := 0#32
  ![v776.toNat, 0]

def k0_chk24 (v774 : BitVec 32) : Prop :=
  (∀ a, (k0_off24 v774) a + S1x512.size a ≤ S2048x512.size a)
theorem k0_off24_inb : ∀ (v774 : BitVec 32) (k0_hw24 : k0_chk24 v774), ∀ a, (k0_off24 v774) a + S1x512.size a ≤ S2048x512.size a := fun v774 k0_hw24 => k0_hw24

def k0_off25 (v782 : BitVec 32) : Fin 2 → Nat :=
  let c0_i32_447 : BitVec 32 := 0#32
  let v783 : BitVec 32 := Scalar.maxsi v782 c0_i32_447
  let v784 : Index := Scalar.indexCast v783
  let c0_448 : Index := 0#32
  ![v784.toNat, 0]

def k0_chk25 (v782 : BitVec 32) : Prop :=
  (∀ a, (k0_off25 v782) a + S1x512.size a ≤ S2048x512.size a)
theorem k0_off25_inb : ∀ (v782 : BitVec 32) (k0_hw25 : k0_chk25 v782), ∀ a, (k0_off25 v782) a + S1x512.size a ≤ S2048x512.size a := fun v782 k0_hw25 => k0_hw25

def k0_off26 (v790 : BitVec 32) : Fin 2 → Nat :=
  let c0_i32_452 : BitVec 32 := 0#32
  let v791 : BitVec 32 := Scalar.maxsi v790 c0_i32_452
  let v792 : Index := Scalar.indexCast v791
  let c0_453 : Index := 0#32
  ![v792.toNat, 0]

def k0_chk26 (v790 : BitVec 32) : Prop :=
  (∀ a, (k0_off26 v790) a + S1x512.size a ≤ S2048x512.size a)
theorem k0_off26_inb : ∀ (v790 : BitVec 32) (k0_hw26 : k0_chk26 v790), ∀ a, (k0_off26 v790) a + S1x512.size a ≤ S2048x512.size a := fun v790 k0_hw26 => k0_hw26

def k0_off27 (v798 : BitVec 32) : Fin 2 → Nat :=
  let c0_i32_457 : BitVec 32 := 0#32
  let v799 : BitVec 32 := Scalar.maxsi v798 c0_i32_457
  let v800 : Index := Scalar.indexCast v799
  let c0_458 : Index := 0#32
  ![v800.toNat, 0]

def k0_chk27 (v798 : BitVec 32) : Prop :=
  (∀ a, (k0_off27 v798) a + S1x512.size a ≤ S2048x512.size a)
theorem k0_off27_inb : ∀ (v798 : BitVec 32) (k0_hw27 : k0_chk27 v798), ∀ a, (k0_off27 v798) a + S1x512.size a ≤ S2048x512.size a := fun v798 k0_hw27 => k0_hw27

def k0_off28 (v806 : BitVec 32) : Fin 2 → Nat :=
  let c0_i32_462 : BitVec 32 := 0#32
  let v807 : BitVec 32 := Scalar.maxsi v806 c0_i32_462
  let v808 : Index := Scalar.indexCast v807
  let c0_463 : Index := 0#32
  ![v808.toNat, 0]

def k0_chk28 (v806 : BitVec 32) : Prop :=
  (∀ a, (k0_off28 v806) a + S1x512.size a ≤ S2048x512.size a)
theorem k0_off28_inb : ∀ (v806 : BitVec 32) (k0_hw28 : k0_chk28 v806), ∀ a, (k0_off28 v806) a + S1x512.size a ≤ S2048x512.size a := fun v806 k0_hw28 => k0_hw28

def k0_off29 (v814 : BitVec 32) : Fin 2 → Nat :=
  let c0_i32_467 : BitVec 32 := 0#32
  let v815 : BitVec 32 := Scalar.maxsi v814 c0_i32_467
  let v816 : Index := Scalar.indexCast v815
  let c0_468 : Index := 0#32
  ![v816.toNat, 0]

def k0_chk29 (v814 : BitVec 32) : Prop :=
  (∀ a, (k0_off29 v814) a + S1x512.size a ≤ S2048x512.size a)
theorem k0_off29_inb : ∀ (v814 : BitVec 32) (k0_hw29 : k0_chk29 v814), ∀ a, (k0_off29 v814) a + S1x512.size a ≤ S2048x512.size a := fun v814 k0_hw29 => k0_hw29

def k0_off30 (v822 : BitVec 32) : Fin 2 → Nat :=
  let c0_i32_472 : BitVec 32 := 0#32
  let v823 : BitVec 32 := Scalar.maxsi v822 c0_i32_472
  let v824 : Index := Scalar.indexCast v823
  let c0_473 : Index := 0#32
  ![v824.toNat, 0]

def k0_chk30 (v822 : BitVec 32) : Prop :=
  (∀ a, (k0_off30 v822) a + S1x512.size a ≤ S2048x512.size a)
theorem k0_off30_inb : ∀ (v822 : BitVec 32) (k0_hw30 : k0_chk30 v822), ∀ a, (k0_off30 v822) a + S1x512.size a ≤ S2048x512.size a := fun v822 k0_hw30 => k0_hw30

def k0_off31 (v830 : BitVec 32) : Fin 2 → Nat :=
  let c0_i32_477 : BitVec 32 := 0#32
  let v831 : BitVec 32 := Scalar.maxsi v830 c0_i32_477
  let v832 : Index := Scalar.indexCast v831
  let c0_478 : Index := 0#32
  ![v832.toNat, 0]

def k0_chk31 (v830 : BitVec 32) : Prop :=
  (∀ a, (k0_off31 v830) a + S1x512.size a ≤ S2048x512.size a)
theorem k0_off31_inb : ∀ (v830 : BitVec 32) (k0_hw31 : k0_chk31 v830), ∀ a, (k0_off31 v830) a + S1x512.size a ≤ S2048x512.size a := fun v830 k0_hw31 => k0_hw31

def k0_off32 (v838 : BitVec 32) : Fin 2 → Nat :=
  let c0_i32_482 : BitVec 32 := 0#32
  let v839 : BitVec 32 := Scalar.maxsi v838 c0_i32_482
  let v840 : Index := Scalar.indexCast v839
  let c0_483 : Index := 0#32
  ![v840.toNat, 0]

def k0_chk32 (v838 : BitVec 32) : Prop :=
  (∀ a, (k0_off32 v838) a + S1x512.size a ≤ S2048x512.size a)
theorem k0_off32_inb : ∀ (v838 : BitVec 32) (k0_hw32 : k0_chk32 v838), ∀ a, (k0_off32 v838) a + S1x512.size a ≤ S2048x512.size a := fun v838 k0_hw32 => k0_hw32

def k0_off33 (v846 : BitVec 32) : Fin 2 → Nat :=
  let c0_i32_487 : BitVec 32 := 0#32
  let v847 : BitVec 32 := Scalar.maxsi v846 c0_i32_487
  let v848 : Index := Scalar.indexCast v847
  let c0_488 : Index := 0#32
  ![v848.toNat, 0]

def k0_chk33 (v846 : BitVec 32) : Prop :=
  (∀ a, (k0_off33 v846) a + S1x512.size a ≤ S2048x512.size a)
theorem k0_off33_inb : ∀ (v846 : BitVec 32) (k0_hw33 : k0_chk33 v846), ∀ a, (k0_off33 v846) a + S1x512.size a ≤ S2048x512.size a := fun v846 k0_hw33 => k0_hw33

def k0_off34 (v854 : BitVec 32) : Fin 2 → Nat :=
  let c0_i32_492 : BitVec 32 := 0#32
  let v855 : BitVec 32 := Scalar.maxsi v854 c0_i32_492
  let v856 : Index := Scalar.indexCast v855
  let c0_493 : Index := 0#32
  ![v856.toNat, 0]

def k0_chk34 (v854 : BitVec 32) : Prop :=
  (∀ a, (k0_off34 v854) a + S1x512.size a ≤ S2048x512.size a)
theorem k0_off34_inb : ∀ (v854 : BitVec 32) (k0_hw34 : k0_chk34 v854), ∀ a, (k0_off34 v854) a + S1x512.size a ≤ S2048x512.size a := fun v854 k0_hw34 => k0_hw34

def k0_off35 (v862 : BitVec 32) : Fin 2 → Nat :=
  let c0_i32_497 : BitVec 32 := 0#32
  let v863 : BitVec 32 := Scalar.maxsi v862 c0_i32_497
  let v864 : Index := Scalar.indexCast v863
  let c0_498 : Index := 0#32
  ![v864.toNat, 0]

def k0_chk35 (v862 : BitVec 32) : Prop :=
  (∀ a, (k0_off35 v862) a + S1x512.size a ≤ S2048x512.size a)
theorem k0_off35_inb : ∀ (v862 : BitVec 32) (k0_hw35 : k0_chk35 v862), ∀ a, (k0_off35 v862) a + S1x512.size a ≤ S2048x512.size a := fun v862 k0_hw35 => k0_hw35

def k0_off36 (v870 : BitVec 32) : Fin 2 → Nat :=
  let c0_i32_502 : BitVec 32 := 0#32
  let v871 : BitVec 32 := Scalar.maxsi v870 c0_i32_502
  let v872 : Index := Scalar.indexCast v871
  let c0_503 : Index := 0#32
  ![v872.toNat, 0]

def k0_chk36 (v870 : BitVec 32) : Prop :=
  (∀ a, (k0_off36 v870) a + S1x512.size a ≤ S2048x512.size a)
theorem k0_off36_inb : ∀ (v870 : BitVec 32) (k0_hw36 : k0_chk36 v870), ∀ a, (k0_off36 v870) a + S1x512.size a ≤ S2048x512.size a := fun v870 k0_hw36 => k0_hw36

def k0_off37 (v878 : BitVec 32) : Fin 2 → Nat :=
  let c0_i32_507 : BitVec 32 := 0#32
  let v879 : BitVec 32 := Scalar.maxsi v878 c0_i32_507
  let v880 : Index := Scalar.indexCast v879
  let c0_508 : Index := 0#32
  ![v880.toNat, 0]

def k0_chk37 (v878 : BitVec 32) : Prop :=
  (∀ a, (k0_off37 v878) a + S1x512.size a ≤ S2048x512.size a)
theorem k0_off37_inb : ∀ (v878 : BitVec 32) (k0_hw37 : k0_chk37 v878), ∀ a, (k0_off37 v878) a + S1x512.size a ≤ S2048x512.size a := fun v878 k0_hw37 => k0_hw37

def k0_off38 (v886 : BitVec 32) : Fin 2 → Nat :=
  let c0_i32_512 : BitVec 32 := 0#32
  let v887 : BitVec 32 := Scalar.maxsi v886 c0_i32_512
  let v888 : Index := Scalar.indexCast v887
  let c0_513 : Index := 0#32
  ![v888.toNat, 0]

def k0_chk38 (v886 : BitVec 32) : Prop :=
  (∀ a, (k0_off38 v886) a + S1x512.size a ≤ S2048x512.size a)
theorem k0_off38_inb : ∀ (v886 : BitVec 32) (k0_hw38 : k0_chk38 v886), ∀ a, (k0_off38 v886) a + S1x512.size a ≤ S2048x512.size a := fun v886 k0_hw38 => k0_hw38

def k0_off39 (v894 : BitVec 32) : Fin 2 → Nat :=
  let c0_i32_517 : BitVec 32 := 0#32
  let v895 : BitVec 32 := Scalar.maxsi v894 c0_i32_517
  let v896 : Index := Scalar.indexCast v895
  let c0_518 : Index := 0#32
  ![v896.toNat, 0]

def k0_chk39 (v894 : BitVec 32) : Prop :=
  (∀ a, (k0_off39 v894) a + S1x512.size a ≤ S2048x512.size a)
theorem k0_off39_inb : ∀ (v894 : BitVec 32) (k0_hw39 : k0_chk39 v894), ∀ a, (k0_off39 v894) a + S1x512.size a ≤ S2048x512.size a := fun v894 k0_hw39 => k0_hw39

def k0_off40 (v902 : BitVec 32) : Fin 2 → Nat :=
  let c0_i32_522 : BitVec 32 := 0#32
  let v903 : BitVec 32 := Scalar.maxsi v902 c0_i32_522
  let v904 : Index := Scalar.indexCast v903
  let c0_523 : Index := 0#32
  ![v904.toNat, 0]

def k0_chk40 (v902 : BitVec 32) : Prop :=
  (∀ a, (k0_off40 v902) a + S1x512.size a ≤ S2048x512.size a)
theorem k0_off40_inb : ∀ (v902 : BitVec 32) (k0_hw40 : k0_chk40 v902), ∀ a, (k0_off40 v902) a + S1x512.size a ≤ S2048x512.size a := fun v902 k0_hw40 => k0_hw40

def k0_off41 (v910 : BitVec 32) : Fin 2 → Nat :=
  let c0_i32_527 : BitVec 32 := 0#32
  let v911 : BitVec 32 := Scalar.maxsi v910 c0_i32_527
  let v912 : Index := Scalar.indexCast v911
  let c0_528 : Index := 0#32
  ![v912.toNat, 0]

def k0_chk41 (v910 : BitVec 32) : Prop :=
  (∀ a, (k0_off41 v910) a + S1x512.size a ≤ S2048x512.size a)
theorem k0_off41_inb : ∀ (v910 : BitVec 32) (k0_hw41 : k0_chk41 v910), ∀ a, (k0_off41 v910) a + S1x512.size a ≤ S2048x512.size a := fun v910 k0_hw41 => k0_hw41

def k0_off42 (v918 : BitVec 32) : Fin 2 → Nat :=
  let c0_i32_532 : BitVec 32 := 0#32
  let v919 : BitVec 32 := Scalar.maxsi v918 c0_i32_532
  let v920 : Index := Scalar.indexCast v919
  let c0_533 : Index := 0#32
  ![v920.toNat, 0]

def k0_chk42 (v918 : BitVec 32) : Prop :=
  (∀ a, (k0_off42 v918) a + S1x512.size a ≤ S2048x512.size a)
theorem k0_off42_inb : ∀ (v918 : BitVec 32) (k0_hw42 : k0_chk42 v918), ∀ a, (k0_off42 v918) a + S1x512.size a ≤ S2048x512.size a := fun v918 k0_hw42 => k0_hw42

def k0_off43 (v926 : BitVec 32) : Fin 2 → Nat :=
  let c0_i32_537 : BitVec 32 := 0#32
  let v927 : BitVec 32 := Scalar.maxsi v926 c0_i32_537
  let v928 : Index := Scalar.indexCast v927
  let c0_538 : Index := 0#32
  ![v928.toNat, 0]

def k0_chk43 (v926 : BitVec 32) : Prop :=
  (∀ a, (k0_off43 v926) a + S1x512.size a ≤ S2048x512.size a)
theorem k0_off43_inb : ∀ (v926 : BitVec 32) (k0_hw43 : k0_chk43 v926), ∀ a, (k0_off43 v926) a + S1x512.size a ≤ S2048x512.size a := fun v926 k0_hw43 => k0_hw43

def k0_off44 (v934 : BitVec 32) : Fin 2 → Nat :=
  let c0_i32_542 : BitVec 32 := 0#32
  let v935 : BitVec 32 := Scalar.maxsi v934 c0_i32_542
  let v936 : Index := Scalar.indexCast v935
  let c0_543 : Index := 0#32
  ![v936.toNat, 0]

def k0_chk44 (v934 : BitVec 32) : Prop :=
  (∀ a, (k0_off44 v934) a + S1x512.size a ≤ S2048x512.size a)
theorem k0_off44_inb : ∀ (v934 : BitVec 32) (k0_hw44 : k0_chk44 v934), ∀ a, (k0_off44 v934) a + S1x512.size a ≤ S2048x512.size a := fun v934 k0_hw44 => k0_hw44

def k0_off45 (v942 : BitVec 32) : Fin 2 → Nat :=
  let c0_i32_547 : BitVec 32 := 0#32
  let v943 : BitVec 32 := Scalar.maxsi v942 c0_i32_547
  let v944 : Index := Scalar.indexCast v943
  let c0_548 : Index := 0#32
  ![v944.toNat, 0]

def k0_chk45 (v942 : BitVec 32) : Prop :=
  (∀ a, (k0_off45 v942) a + S1x512.size a ≤ S2048x512.size a)
theorem k0_off45_inb : ∀ (v942 : BitVec 32) (k0_hw45 : k0_chk45 v942), ∀ a, (k0_off45 v942) a + S1x512.size a ≤ S2048x512.size a := fun v942 k0_hw45 => k0_hw45

def k0_off46 (v950 : BitVec 32) : Fin 2 → Nat :=
  let c0_i32_552 : BitVec 32 := 0#32
  let v951 : BitVec 32 := Scalar.maxsi v950 c0_i32_552
  let v952 : Index := Scalar.indexCast v951
  let c0_553 : Index := 0#32
  ![v952.toNat, 0]

def k0_chk46 (v950 : BitVec 32) : Prop :=
  (∀ a, (k0_off46 v950) a + S1x512.size a ≤ S2048x512.size a)
theorem k0_off46_inb : ∀ (v950 : BitVec 32) (k0_hw46 : k0_chk46 v950), ∀ a, (k0_off46 v950) a + S1x512.size a ≤ S2048x512.size a := fun v950 k0_hw46 => k0_hw46

def k0_off47 (v958 : BitVec 32) : Fin 2 → Nat :=
  let c0_i32_557 : BitVec 32 := 0#32
  let v959 : BitVec 32 := Scalar.maxsi v958 c0_i32_557
  let v960 : Index := Scalar.indexCast v959
  let c0_558 : Index := 0#32
  ![v960.toNat, 0]

def k0_chk47 (v958 : BitVec 32) : Prop :=
  (∀ a, (k0_off47 v958) a + S1x512.size a ≤ S2048x512.size a)
theorem k0_off47_inb : ∀ (v958 : BitVec 32) (k0_hw47 : k0_chk47 v958), ∀ a, (k0_off47 v958) a + S1x512.size a ≤ S2048x512.size a := fun v958 k0_hw47 => k0_hw47

def k0_off48 (v966 : BitVec 32) : Fin 2 → Nat :=
  let c0_i32_562 : BitVec 32 := 0#32
  let v967 : BitVec 32 := Scalar.maxsi v966 c0_i32_562
  let v968 : Index := Scalar.indexCast v967
  let c0_563 : Index := 0#32
  ![v968.toNat, 0]

def k0_chk48 (v966 : BitVec 32) : Prop :=
  (∀ a, (k0_off48 v966) a + S1x512.size a ≤ S2048x512.size a)
theorem k0_off48_inb : ∀ (v966 : BitVec 32) (k0_hw48 : k0_chk48 v966), ∀ a, (k0_off48 v966) a + S1x512.size a ≤ S2048x512.size a := fun v966 k0_hw48 => k0_hw48

def k0_off49 (v1002 : BitVec 32) : Fin 2 → Nat :=
  let c64_i32_601 : BitVec 32 := 64#32
  let v1003 : BitVec 32 := Scalar.remsi v1002 c64_i32_601
  let c0_i32_1074 : BitVec 32 := 0#32
  ![v1003.toNat, 0]
def k0_cond1 (v1002 : BitVec 32) : BitVec 1 :=
  let c0_i32_791 : BitVec 32 := 0#32
  let v1146 : BitVec 1 := Scalar.cmpi .sge v1002 c0_i32_791
  let v1147 : BitVec 32 := Scalar.extui v1146
  let c0_i32_793 : BitVec 32 := 0#32
  let v1148 : BitVec 1 := Scalar.cmpi .ne v1147 c0_i32_793
  v1148

def k0_dev32 (v1002 : BitVec 32) : Nat :=
  let c0_i32_1073 : BitVec 32 := 0#32
  let c64_i32_602 : BitVec 32 := 64#32
  let v1004 : BitVec 32 := Scalar.divsi v1002 c64_i32_602
  let c1_i32_1072 : BitVec 32 := 1#32
  let v1440 : BitVec 32 := Scalar.muli v1004 c1_i32_1072
  let v1441 : BitVec 32 := Scalar.addi c0_i32_1073 v1440
  v1441.toNat
def k0_off50 (v1005 : BitVec 32) : Fin 2 → Nat :=
  let c64_i32_605 : BitVec 32 := 64#32
  let v1006 : BitVec 32 := Scalar.remsi v1005 c64_i32_605
  let c0_i32_1074 : BitVec 32 := 0#32
  ![v1006.toNat, 0]
def k0_cond2 (v1005 : BitVec 32) : BitVec 1 :=
  let c0_i32_794 : BitVec 32 := 0#32
  let v1149 : BitVec 1 := Scalar.cmpi .sge v1005 c0_i32_794
  let v1150 : BitVec 32 := Scalar.extui v1149
  let c0_i32_796 : BitVec 32 := 0#32
  let v1151 : BitVec 1 := Scalar.cmpi .ne v1150 c0_i32_796
  v1151

def k0_dev33 (v1005 : BitVec 32) : Nat :=
  let c0_i32_1073 : BitVec 32 := 0#32
  let c64_i32_606 : BitVec 32 := 64#32
  let v1007 : BitVec 32 := Scalar.divsi v1005 c64_i32_606
  let c1_i32_1072 : BitVec 32 := 1#32
  let v1440 : BitVec 32 := Scalar.muli v1007 c1_i32_1072
  let v1441 : BitVec 32 := Scalar.addi c0_i32_1073 v1440
  v1441.toNat
def k0_off51 (v1008 : BitVec 32) : Fin 2 → Nat :=
  let c64_i32_609 : BitVec 32 := 64#32
  let v1009 : BitVec 32 := Scalar.remsi v1008 c64_i32_609
  let c0_i32_1074 : BitVec 32 := 0#32
  ![v1009.toNat, 0]
def k0_cond3 (v1008 : BitVec 32) : BitVec 1 :=
  let c0_i32_797 : BitVec 32 := 0#32
  let v1152 : BitVec 1 := Scalar.cmpi .sge v1008 c0_i32_797
  let v1153 : BitVec 32 := Scalar.extui v1152
  let c0_i32_799 : BitVec 32 := 0#32
  let v1154 : BitVec 1 := Scalar.cmpi .ne v1153 c0_i32_799
  v1154

def k0_dev34 (v1008 : BitVec 32) : Nat :=
  let c0_i32_1073 : BitVec 32 := 0#32
  let c64_i32_610 : BitVec 32 := 64#32
  let v1010 : BitVec 32 := Scalar.divsi v1008 c64_i32_610
  let c1_i32_1072 : BitVec 32 := 1#32
  let v1440 : BitVec 32 := Scalar.muli v1010 c1_i32_1072
  let v1441 : BitVec 32 := Scalar.addi c0_i32_1073 v1440
  v1441.toNat
def k0_off52 (v1011 : BitVec 32) : Fin 2 → Nat :=
  let c64_i32_613 : BitVec 32 := 64#32
  let v1012 : BitVec 32 := Scalar.remsi v1011 c64_i32_613
  let c0_i32_1074 : BitVec 32 := 0#32
  ![v1012.toNat, 0]
def k0_cond4 (v1011 : BitVec 32) : BitVec 1 :=
  let c0_i32_800 : BitVec 32 := 0#32
  let v1155 : BitVec 1 := Scalar.cmpi .sge v1011 c0_i32_800
  let v1156 : BitVec 32 := Scalar.extui v1155
  let c0_i32_802 : BitVec 32 := 0#32
  let v1157 : BitVec 1 := Scalar.cmpi .ne v1156 c0_i32_802
  v1157

def k0_dev35 (v1011 : BitVec 32) : Nat :=
  let c0_i32_1073 : BitVec 32 := 0#32
  let c64_i32_614 : BitVec 32 := 64#32
  let v1013 : BitVec 32 := Scalar.divsi v1011 c64_i32_614
  let c1_i32_1072 : BitVec 32 := 1#32
  let v1440 : BitVec 32 := Scalar.muli v1013 c1_i32_1072
  let v1441 : BitVec 32 := Scalar.addi c0_i32_1073 v1440
  v1441.toNat
def k0_off53 (v1014 : BitVec 32) : Fin 2 → Nat :=
  let c64_i32_617 : BitVec 32 := 64#32
  let v1015 : BitVec 32 := Scalar.remsi v1014 c64_i32_617
  let c0_i32_1074 : BitVec 32 := 0#32
  ![v1015.toNat, 0]
def k0_cond5 (v1014 : BitVec 32) : BitVec 1 :=
  let c0_i32_803 : BitVec 32 := 0#32
  let v1158 : BitVec 1 := Scalar.cmpi .sge v1014 c0_i32_803
  let v1159 : BitVec 32 := Scalar.extui v1158
  let c0_i32_805 : BitVec 32 := 0#32
  let v1160 : BitVec 1 := Scalar.cmpi .ne v1159 c0_i32_805
  v1160

def k0_dev36 (v1014 : BitVec 32) : Nat :=
  let c0_i32_1073 : BitVec 32 := 0#32
  let c64_i32_618 : BitVec 32 := 64#32
  let v1016 : BitVec 32 := Scalar.divsi v1014 c64_i32_618
  let c1_i32_1072 : BitVec 32 := 1#32
  let v1440 : BitVec 32 := Scalar.muli v1016 c1_i32_1072
  let v1441 : BitVec 32 := Scalar.addi c0_i32_1073 v1440
  v1441.toNat
def k0_off54 (v1017 : BitVec 32) : Fin 2 → Nat :=
  let c64_i32_621 : BitVec 32 := 64#32
  let v1018 : BitVec 32 := Scalar.remsi v1017 c64_i32_621
  let c0_i32_1074 : BitVec 32 := 0#32
  ![v1018.toNat, 0]
def k0_cond6 (v1017 : BitVec 32) : BitVec 1 :=
  let c0_i32_806 : BitVec 32 := 0#32
  let v1161 : BitVec 1 := Scalar.cmpi .sge v1017 c0_i32_806
  let v1162 : BitVec 32 := Scalar.extui v1161
  let c0_i32_808 : BitVec 32 := 0#32
  let v1163 : BitVec 1 := Scalar.cmpi .ne v1162 c0_i32_808
  v1163

def k0_dev37 (v1017 : BitVec 32) : Nat :=
  let c0_i32_1073 : BitVec 32 := 0#32
  let c64_i32_622 : BitVec 32 := 64#32
  let v1019 : BitVec 32 := Scalar.divsi v1017 c64_i32_622
  let c1_i32_1072 : BitVec 32 := 1#32
  let v1440 : BitVec 32 := Scalar.muli v1019 c1_i32_1072
  let v1441 : BitVec 32 := Scalar.addi c0_i32_1073 v1440
  v1441.toNat
def k0_off55 (v1020 : BitVec 32) : Fin 2 → Nat :=
  let c64_i32_625 : BitVec 32 := 64#32
  let v1021 : BitVec 32 := Scalar.remsi v1020 c64_i32_625
  let c0_i32_1074 : BitVec 32 := 0#32
  ![v1021.toNat, 0]
def k0_cond7 (v1020 : BitVec 32) : BitVec 1 :=
  let c0_i32_809 : BitVec 32 := 0#32
  let v1164 : BitVec 1 := Scalar.cmpi .sge v1020 c0_i32_809
  let v1165 : BitVec 32 := Scalar.extui v1164
  let c0_i32_811 : BitVec 32 := 0#32
  let v1166 : BitVec 1 := Scalar.cmpi .ne v1165 c0_i32_811
  v1166

def k0_dev38 (v1020 : BitVec 32) : Nat :=
  let c0_i32_1073 : BitVec 32 := 0#32
  let c64_i32_626 : BitVec 32 := 64#32
  let v1022 : BitVec 32 := Scalar.divsi v1020 c64_i32_626
  let c1_i32_1072 : BitVec 32 := 1#32
  let v1440 : BitVec 32 := Scalar.muli v1022 c1_i32_1072
  let v1441 : BitVec 32 := Scalar.addi c0_i32_1073 v1440
  v1441.toNat
def k0_off56 (v1023 : BitVec 32) : Fin 2 → Nat :=
  let c64_i32_629 : BitVec 32 := 64#32
  let v1024 : BitVec 32 := Scalar.remsi v1023 c64_i32_629
  let c0_i32_1074 : BitVec 32 := 0#32
  ![v1024.toNat, 0]
def k0_cond8 (v1023 : BitVec 32) : BitVec 1 :=
  let c0_i32_812 : BitVec 32 := 0#32
  let v1167 : BitVec 1 := Scalar.cmpi .sge v1023 c0_i32_812
  let v1168 : BitVec 32 := Scalar.extui v1167
  let c0_i32_814 : BitVec 32 := 0#32
  let v1169 : BitVec 1 := Scalar.cmpi .ne v1168 c0_i32_814
  v1169

def k0_dev39 (v1023 : BitVec 32) : Nat :=
  let c0_i32_1073 : BitVec 32 := 0#32
  let c64_i32_630 : BitVec 32 := 64#32
  let v1025 : BitVec 32 := Scalar.divsi v1023 c64_i32_630
  let c1_i32_1072 : BitVec 32 := 1#32
  let v1440 : BitVec 32 := Scalar.muli v1025 c1_i32_1072
  let v1441 : BitVec 32 := Scalar.addi c0_i32_1073 v1440
  v1441.toNat
def k0_off57 (v1026 : BitVec 32) : Fin 2 → Nat :=
  let c64_i32_633 : BitVec 32 := 64#32
  let v1027 : BitVec 32 := Scalar.remsi v1026 c64_i32_633
  let c0_i32_1074 : BitVec 32 := 0#32
  ![v1027.toNat, 0]
def k0_cond9 (v1026 : BitVec 32) : BitVec 1 :=
  let c0_i32_815 : BitVec 32 := 0#32
  let v1170 : BitVec 1 := Scalar.cmpi .sge v1026 c0_i32_815
  let v1171 : BitVec 32 := Scalar.extui v1170
  let c0_i32_817 : BitVec 32 := 0#32
  let v1172 : BitVec 1 := Scalar.cmpi .ne v1171 c0_i32_817
  v1172

def k0_dev40 (v1026 : BitVec 32) : Nat :=
  let c0_i32_1073 : BitVec 32 := 0#32
  let c64_i32_634 : BitVec 32 := 64#32
  let v1028 : BitVec 32 := Scalar.divsi v1026 c64_i32_634
  let c1_i32_1072 : BitVec 32 := 1#32
  let v1440 : BitVec 32 := Scalar.muli v1028 c1_i32_1072
  let v1441 : BitVec 32 := Scalar.addi c0_i32_1073 v1440
  v1441.toNat
def k0_off58 (v1029 : BitVec 32) : Fin 2 → Nat :=
  let c64_i32_637 : BitVec 32 := 64#32
  let v1030 : BitVec 32 := Scalar.remsi v1029 c64_i32_637
  let c0_i32_1074 : BitVec 32 := 0#32
  ![v1030.toNat, 0]
def k0_cond10 (v1029 : BitVec 32) : BitVec 1 :=
  let c0_i32_818 : BitVec 32 := 0#32
  let v1173 : BitVec 1 := Scalar.cmpi .sge v1029 c0_i32_818
  let v1174 : BitVec 32 := Scalar.extui v1173
  let c0_i32_820 : BitVec 32 := 0#32
  let v1175 : BitVec 1 := Scalar.cmpi .ne v1174 c0_i32_820
  v1175

def k0_dev41 (v1029 : BitVec 32) : Nat :=
  let c0_i32_1073 : BitVec 32 := 0#32
  let c64_i32_638 : BitVec 32 := 64#32
  let v1031 : BitVec 32 := Scalar.divsi v1029 c64_i32_638
  let c1_i32_1072 : BitVec 32 := 1#32
  let v1440 : BitVec 32 := Scalar.muli v1031 c1_i32_1072
  let v1441 : BitVec 32 := Scalar.addi c0_i32_1073 v1440
  v1441.toNat
def k0_off59 (v1032 : BitVec 32) : Fin 2 → Nat :=
  let c64_i32_641 : BitVec 32 := 64#32
  let v1033 : BitVec 32 := Scalar.remsi v1032 c64_i32_641
  let c0_i32_1074 : BitVec 32 := 0#32
  ![v1033.toNat, 0]
def k0_cond11 (v1032 : BitVec 32) : BitVec 1 :=
  let c0_i32_821 : BitVec 32 := 0#32
  let v1176 : BitVec 1 := Scalar.cmpi .sge v1032 c0_i32_821
  let v1177 : BitVec 32 := Scalar.extui v1176
  let c0_i32_823 : BitVec 32 := 0#32
  let v1178 : BitVec 1 := Scalar.cmpi .ne v1177 c0_i32_823
  v1178

def k0_dev42 (v1032 : BitVec 32) : Nat :=
  let c0_i32_1073 : BitVec 32 := 0#32
  let c64_i32_642 : BitVec 32 := 64#32
  let v1034 : BitVec 32 := Scalar.divsi v1032 c64_i32_642
  let c1_i32_1072 : BitVec 32 := 1#32
  let v1440 : BitVec 32 := Scalar.muli v1034 c1_i32_1072
  let v1441 : BitVec 32 := Scalar.addi c0_i32_1073 v1440
  v1441.toNat
def k0_off60 (v1035 : BitVec 32) : Fin 2 → Nat :=
  let c64_i32_645 : BitVec 32 := 64#32
  let v1036 : BitVec 32 := Scalar.remsi v1035 c64_i32_645
  let c0_i32_1074 : BitVec 32 := 0#32
  ![v1036.toNat, 0]
def k0_cond12 (v1035 : BitVec 32) : BitVec 1 :=
  let c0_i32_824 : BitVec 32 := 0#32
  let v1179 : BitVec 1 := Scalar.cmpi .sge v1035 c0_i32_824
  let v1180 : BitVec 32 := Scalar.extui v1179
  let c0_i32_826 : BitVec 32 := 0#32
  let v1181 : BitVec 1 := Scalar.cmpi .ne v1180 c0_i32_826
  v1181

def k0_dev43 (v1035 : BitVec 32) : Nat :=
  let c0_i32_1073 : BitVec 32 := 0#32
  let c64_i32_646 : BitVec 32 := 64#32
  let v1037 : BitVec 32 := Scalar.divsi v1035 c64_i32_646
  let c1_i32_1072 : BitVec 32 := 1#32
  let v1440 : BitVec 32 := Scalar.muli v1037 c1_i32_1072
  let v1441 : BitVec 32 := Scalar.addi c0_i32_1073 v1440
  v1441.toNat
def k0_off61 (v1038 : BitVec 32) : Fin 2 → Nat :=
  let c64_i32_649 : BitVec 32 := 64#32
  let v1039 : BitVec 32 := Scalar.remsi v1038 c64_i32_649
  let c0_i32_1074 : BitVec 32 := 0#32
  ![v1039.toNat, 0]
def k0_cond13 (v1038 : BitVec 32) : BitVec 1 :=
  let c0_i32_827 : BitVec 32 := 0#32
  let v1182 : BitVec 1 := Scalar.cmpi .sge v1038 c0_i32_827
  let v1183 : BitVec 32 := Scalar.extui v1182
  let c0_i32_829 : BitVec 32 := 0#32
  let v1184 : BitVec 1 := Scalar.cmpi .ne v1183 c0_i32_829
  v1184

def k0_dev44 (v1038 : BitVec 32) : Nat :=
  let c0_i32_1073 : BitVec 32 := 0#32
  let c64_i32_650 : BitVec 32 := 64#32
  let v1040 : BitVec 32 := Scalar.divsi v1038 c64_i32_650
  let c1_i32_1072 : BitVec 32 := 1#32
  let v1440 : BitVec 32 := Scalar.muli v1040 c1_i32_1072
  let v1441 : BitVec 32 := Scalar.addi c0_i32_1073 v1440
  v1441.toNat
def k0_off62 (v1041 : BitVec 32) : Fin 2 → Nat :=
  let c64_i32_653 : BitVec 32 := 64#32
  let v1042 : BitVec 32 := Scalar.remsi v1041 c64_i32_653
  let c0_i32_1074 : BitVec 32 := 0#32
  ![v1042.toNat, 0]
def k0_cond14 (v1041 : BitVec 32) : BitVec 1 :=
  let c0_i32_830 : BitVec 32 := 0#32
  let v1185 : BitVec 1 := Scalar.cmpi .sge v1041 c0_i32_830
  let v1186 : BitVec 32 := Scalar.extui v1185
  let c0_i32_832 : BitVec 32 := 0#32
  let v1187 : BitVec 1 := Scalar.cmpi .ne v1186 c0_i32_832
  v1187

def k0_dev45 (v1041 : BitVec 32) : Nat :=
  let c0_i32_1073 : BitVec 32 := 0#32
  let c64_i32_654 : BitVec 32 := 64#32
  let v1043 : BitVec 32 := Scalar.divsi v1041 c64_i32_654
  let c1_i32_1072 : BitVec 32 := 1#32
  let v1440 : BitVec 32 := Scalar.muli v1043 c1_i32_1072
  let v1441 : BitVec 32 := Scalar.addi c0_i32_1073 v1440
  v1441.toNat
def k0_off63 (v1044 : BitVec 32) : Fin 2 → Nat :=
  let c64_i32_657 : BitVec 32 := 64#32
  let v1045 : BitVec 32 := Scalar.remsi v1044 c64_i32_657
  let c0_i32_1074 : BitVec 32 := 0#32
  ![v1045.toNat, 0]
def k0_cond15 (v1044 : BitVec 32) : BitVec 1 :=
  let c0_i32_833 : BitVec 32 := 0#32
  let v1188 : BitVec 1 := Scalar.cmpi .sge v1044 c0_i32_833
  let v1189 : BitVec 32 := Scalar.extui v1188
  let c0_i32_835 : BitVec 32 := 0#32
  let v1190 : BitVec 1 := Scalar.cmpi .ne v1189 c0_i32_835
  v1190

def k0_dev46 (v1044 : BitVec 32) : Nat :=
  let c0_i32_1073 : BitVec 32 := 0#32
  let c64_i32_658 : BitVec 32 := 64#32
  let v1046 : BitVec 32 := Scalar.divsi v1044 c64_i32_658
  let c1_i32_1072 : BitVec 32 := 1#32
  let v1440 : BitVec 32 := Scalar.muli v1046 c1_i32_1072
  let v1441 : BitVec 32 := Scalar.addi c0_i32_1073 v1440
  v1441.toNat
def k0_off64 (v1047 : BitVec 32) : Fin 2 → Nat :=
  let c64_i32_661 : BitVec 32 := 64#32
  let v1048 : BitVec 32 := Scalar.remsi v1047 c64_i32_661
  let c0_i32_1074 : BitVec 32 := 0#32
  ![v1048.toNat, 0]
def k0_cond16 (v1047 : BitVec 32) : BitVec 1 :=
  let c0_i32_836 : BitVec 32 := 0#32
  let v1191 : BitVec 1 := Scalar.cmpi .sge v1047 c0_i32_836
  let v1192 : BitVec 32 := Scalar.extui v1191
  let c0_i32_838 : BitVec 32 := 0#32
  let v1193 : BitVec 1 := Scalar.cmpi .ne v1192 c0_i32_838
  v1193

def k0_dev47 (v1047 : BitVec 32) : Nat :=
  let c0_i32_1073 : BitVec 32 := 0#32
  let c64_i32_662 : BitVec 32 := 64#32
  let v1049 : BitVec 32 := Scalar.divsi v1047 c64_i32_662
  let c1_i32_1072 : BitVec 32 := 1#32
  let v1440 : BitVec 32 := Scalar.muli v1049 c1_i32_1072
  let v1441 : BitVec 32 := Scalar.addi c0_i32_1073 v1440
  v1441.toNat
def k0_off65 (v1050 : BitVec 32) : Fin 2 → Nat :=
  let c64_i32_665 : BitVec 32 := 64#32
  let v1051 : BitVec 32 := Scalar.remsi v1050 c64_i32_665
  let c0_i32_1074 : BitVec 32 := 0#32
  ![v1051.toNat, 0]
def k0_cond17 (v1050 : BitVec 32) : BitVec 1 :=
  let c0_i32_839 : BitVec 32 := 0#32
  let v1194 : BitVec 1 := Scalar.cmpi .sge v1050 c0_i32_839
  let v1195 : BitVec 32 := Scalar.extui v1194
  let c0_i32_841 : BitVec 32 := 0#32
  let v1196 : BitVec 1 := Scalar.cmpi .ne v1195 c0_i32_841
  v1196

def k0_dev48 (v1050 : BitVec 32) : Nat :=
  let c0_i32_1073 : BitVec 32 := 0#32
  let c64_i32_666 : BitVec 32 := 64#32
  let v1052 : BitVec 32 := Scalar.divsi v1050 c64_i32_666
  let c1_i32_1072 : BitVec 32 := 1#32
  let v1440 : BitVec 32 := Scalar.muli v1052 c1_i32_1072
  let v1441 : BitVec 32 := Scalar.addi c0_i32_1073 v1440
  v1441.toNat
def k0_off66 (v1053 : BitVec 32) : Fin 2 → Nat :=
  let c64_i32_669 : BitVec 32 := 64#32
  let v1054 : BitVec 32 := Scalar.remsi v1053 c64_i32_669
  let c0_i32_1074 : BitVec 32 := 0#32
  ![v1054.toNat, 0]
def k0_cond18 (v1053 : BitVec 32) : BitVec 1 :=
  let c0_i32_842 : BitVec 32 := 0#32
  let v1197 : BitVec 1 := Scalar.cmpi .sge v1053 c0_i32_842
  let v1198 : BitVec 32 := Scalar.extui v1197
  let c0_i32_844 : BitVec 32 := 0#32
  let v1199 : BitVec 1 := Scalar.cmpi .ne v1198 c0_i32_844
  v1199

def k0_dev49 (v1053 : BitVec 32) : Nat :=
  let c0_i32_1073 : BitVec 32 := 0#32
  let c64_i32_670 : BitVec 32 := 64#32
  let v1055 : BitVec 32 := Scalar.divsi v1053 c64_i32_670
  let c1_i32_1072 : BitVec 32 := 1#32
  let v1440 : BitVec 32 := Scalar.muli v1055 c1_i32_1072
  let v1441 : BitVec 32 := Scalar.addi c0_i32_1073 v1440
  v1441.toNat
def k0_off67 (v1056 : BitVec 32) : Fin 2 → Nat :=
  let c64_i32_673 : BitVec 32 := 64#32
  let v1057 : BitVec 32 := Scalar.remsi v1056 c64_i32_673
  let c0_i32_1074 : BitVec 32 := 0#32
  ![v1057.toNat, 0]
def k0_cond19 (v1056 : BitVec 32) : BitVec 1 :=
  let c0_i32_845 : BitVec 32 := 0#32
  let v1200 : BitVec 1 := Scalar.cmpi .sge v1056 c0_i32_845
  let v1201 : BitVec 32 := Scalar.extui v1200
  let c0_i32_847 : BitVec 32 := 0#32
  let v1202 : BitVec 1 := Scalar.cmpi .ne v1201 c0_i32_847
  v1202

def k0_dev50 (v1056 : BitVec 32) : Nat :=
  let c0_i32_1073 : BitVec 32 := 0#32
  let c64_i32_674 : BitVec 32 := 64#32
  let v1058 : BitVec 32 := Scalar.divsi v1056 c64_i32_674
  let c1_i32_1072 : BitVec 32 := 1#32
  let v1440 : BitVec 32 := Scalar.muli v1058 c1_i32_1072
  let v1441 : BitVec 32 := Scalar.addi c0_i32_1073 v1440
  v1441.toNat
def k0_off68 (v1059 : BitVec 32) : Fin 2 → Nat :=
  let c64_i32_677 : BitVec 32 := 64#32
  let v1060 : BitVec 32 := Scalar.remsi v1059 c64_i32_677
  let c0_i32_1074 : BitVec 32 := 0#32
  ![v1060.toNat, 0]
def k0_cond20 (v1059 : BitVec 32) : BitVec 1 :=
  let c0_i32_848 : BitVec 32 := 0#32
  let v1203 : BitVec 1 := Scalar.cmpi .sge v1059 c0_i32_848
  let v1204 : BitVec 32 := Scalar.extui v1203
  let c0_i32_850 : BitVec 32 := 0#32
  let v1205 : BitVec 1 := Scalar.cmpi .ne v1204 c0_i32_850
  v1205

def k0_dev51 (v1059 : BitVec 32) : Nat :=
  let c0_i32_1073 : BitVec 32 := 0#32
  let c64_i32_678 : BitVec 32 := 64#32
  let v1061 : BitVec 32 := Scalar.divsi v1059 c64_i32_678
  let c1_i32_1072 : BitVec 32 := 1#32
  let v1440 : BitVec 32 := Scalar.muli v1061 c1_i32_1072
  let v1441 : BitVec 32 := Scalar.addi c0_i32_1073 v1440
  v1441.toNat
def k0_off69 (v1062 : BitVec 32) : Fin 2 → Nat :=
  let c64_i32_681 : BitVec 32 := 64#32
  let v1063 : BitVec 32 := Scalar.remsi v1062 c64_i32_681
  let c0_i32_1074 : BitVec 32 := 0#32
  ![v1063.toNat, 0]
def k0_cond21 (v1062 : BitVec 32) : BitVec 1 :=
  let c0_i32_851 : BitVec 32 := 0#32
  let v1206 : BitVec 1 := Scalar.cmpi .sge v1062 c0_i32_851
  let v1207 : BitVec 32 := Scalar.extui v1206
  let c0_i32_853 : BitVec 32 := 0#32
  let v1208 : BitVec 1 := Scalar.cmpi .ne v1207 c0_i32_853
  v1208

def k0_dev52 (v1062 : BitVec 32) : Nat :=
  let c0_i32_1073 : BitVec 32 := 0#32
  let c64_i32_682 : BitVec 32 := 64#32
  let v1064 : BitVec 32 := Scalar.divsi v1062 c64_i32_682
  let c1_i32_1072 : BitVec 32 := 1#32
  let v1440 : BitVec 32 := Scalar.muli v1064 c1_i32_1072
  let v1441 : BitVec 32 := Scalar.addi c0_i32_1073 v1440
  v1441.toNat
def k0_off70 (v1065 : BitVec 32) : Fin 2 → Nat :=
  let c64_i32_685 : BitVec 32 := 64#32
  let v1066 : BitVec 32 := Scalar.remsi v1065 c64_i32_685
  let c0_i32_1074 : BitVec 32 := 0#32
  ![v1066.toNat, 0]
def k0_cond22 (v1065 : BitVec 32) : BitVec 1 :=
  let c0_i32_854 : BitVec 32 := 0#32
  let v1209 : BitVec 1 := Scalar.cmpi .sge v1065 c0_i32_854
  let v1210 : BitVec 32 := Scalar.extui v1209
  let c0_i32_856 : BitVec 32 := 0#32
  let v1211 : BitVec 1 := Scalar.cmpi .ne v1210 c0_i32_856
  v1211

def k0_dev53 (v1065 : BitVec 32) : Nat :=
  let c0_i32_1073 : BitVec 32 := 0#32
  let c64_i32_686 : BitVec 32 := 64#32
  let v1067 : BitVec 32 := Scalar.divsi v1065 c64_i32_686
  let c1_i32_1072 : BitVec 32 := 1#32
  let v1440 : BitVec 32 := Scalar.muli v1067 c1_i32_1072
  let v1441 : BitVec 32 := Scalar.addi c0_i32_1073 v1440
  v1441.toNat
def k0_off71 (v1068 : BitVec 32) : Fin 2 → Nat :=
  let c64_i32_689 : BitVec 32 := 64#32
  let v1069 : BitVec 32 := Scalar.remsi v1068 c64_i32_689
  let c0_i32_1074 : BitVec 32 := 0#32
  ![v1069.toNat, 0]
def k0_cond23 (v1068 : BitVec 32) : BitVec 1 :=
  let c0_i32_857 : BitVec 32 := 0#32
  let v1212 : BitVec 1 := Scalar.cmpi .sge v1068 c0_i32_857
  let v1213 : BitVec 32 := Scalar.extui v1212
  let c0_i32_859 : BitVec 32 := 0#32
  let v1214 : BitVec 1 := Scalar.cmpi .ne v1213 c0_i32_859
  v1214

def k0_dev54 (v1068 : BitVec 32) : Nat :=
  let c0_i32_1073 : BitVec 32 := 0#32
  let c64_i32_690 : BitVec 32 := 64#32
  let v1070 : BitVec 32 := Scalar.divsi v1068 c64_i32_690
  let c1_i32_1072 : BitVec 32 := 1#32
  let v1440 : BitVec 32 := Scalar.muli v1070 c1_i32_1072
  let v1441 : BitVec 32 := Scalar.addi c0_i32_1073 v1440
  v1441.toNat
def k0_off72 (v1071 : BitVec 32) : Fin 2 → Nat :=
  let c64_i32_693 : BitVec 32 := 64#32
  let v1072 : BitVec 32 := Scalar.remsi v1071 c64_i32_693
  let c0_i32_1074 : BitVec 32 := 0#32
  ![v1072.toNat, 0]
def k0_cond24 (v1071 : BitVec 32) : BitVec 1 :=
  let c0_i32_860 : BitVec 32 := 0#32
  let v1215 : BitVec 1 := Scalar.cmpi .sge v1071 c0_i32_860
  let v1216 : BitVec 32 := Scalar.extui v1215
  let c0_i32_862 : BitVec 32 := 0#32
  let v1217 : BitVec 1 := Scalar.cmpi .ne v1216 c0_i32_862
  v1217

def k0_dev55 (v1071 : BitVec 32) : Nat :=
  let c0_i32_1073 : BitVec 32 := 0#32
  let c64_i32_694 : BitVec 32 := 64#32
  let v1073 : BitVec 32 := Scalar.divsi v1071 c64_i32_694
  let c1_i32_1072 : BitVec 32 := 1#32
  let v1440 : BitVec 32 := Scalar.muli v1073 c1_i32_1072
  let v1441 : BitVec 32 := Scalar.addi c0_i32_1073 v1440
  v1441.toNat
def k0_off73 (v1074 : BitVec 32) : Fin 2 → Nat :=
  let c64_i32_697 : BitVec 32 := 64#32
  let v1075 : BitVec 32 := Scalar.remsi v1074 c64_i32_697
  let c0_i32_1074 : BitVec 32 := 0#32
  ![v1075.toNat, 0]
def k0_cond25 (v1074 : BitVec 32) : BitVec 1 :=
  let c0_i32_863 : BitVec 32 := 0#32
  let v1218 : BitVec 1 := Scalar.cmpi .sge v1074 c0_i32_863
  let v1219 : BitVec 32 := Scalar.extui v1218
  let c0_i32_865 : BitVec 32 := 0#32
  let v1220 : BitVec 1 := Scalar.cmpi .ne v1219 c0_i32_865
  v1220

def k0_dev56 (v1074 : BitVec 32) : Nat :=
  let c0_i32_1073 : BitVec 32 := 0#32
  let c64_i32_698 : BitVec 32 := 64#32
  let v1076 : BitVec 32 := Scalar.divsi v1074 c64_i32_698
  let c1_i32_1072 : BitVec 32 := 1#32
  let v1440 : BitVec 32 := Scalar.muli v1076 c1_i32_1072
  let v1441 : BitVec 32 := Scalar.addi c0_i32_1073 v1440
  v1441.toNat
def k0_off74 (v1077 : BitVec 32) : Fin 2 → Nat :=
  let c64_i32_701 : BitVec 32 := 64#32
  let v1078 : BitVec 32 := Scalar.remsi v1077 c64_i32_701
  let c0_i32_1074 : BitVec 32 := 0#32
  ![v1078.toNat, 0]
def k0_cond26 (v1077 : BitVec 32) : BitVec 1 :=
  let c0_i32_866 : BitVec 32 := 0#32
  let v1221 : BitVec 1 := Scalar.cmpi .sge v1077 c0_i32_866
  let v1222 : BitVec 32 := Scalar.extui v1221
  let c0_i32_868 : BitVec 32 := 0#32
  let v1223 : BitVec 1 := Scalar.cmpi .ne v1222 c0_i32_868
  v1223

def k0_dev57 (v1077 : BitVec 32) : Nat :=
  let c0_i32_1073 : BitVec 32 := 0#32
  let c64_i32_702 : BitVec 32 := 64#32
  let v1079 : BitVec 32 := Scalar.divsi v1077 c64_i32_702
  let c1_i32_1072 : BitVec 32 := 1#32
  let v1440 : BitVec 32 := Scalar.muli v1079 c1_i32_1072
  let v1441 : BitVec 32 := Scalar.addi c0_i32_1073 v1440
  v1441.toNat
def k0_off75 (v1080 : BitVec 32) : Fin 2 → Nat :=
  let c64_i32_705 : BitVec 32 := 64#32
  let v1081 : BitVec 32 := Scalar.remsi v1080 c64_i32_705
  let c0_i32_1074 : BitVec 32 := 0#32
  ![v1081.toNat, 0]
def k0_cond27 (v1080 : BitVec 32) : BitVec 1 :=
  let c0_i32_869 : BitVec 32 := 0#32
  let v1224 : BitVec 1 := Scalar.cmpi .sge v1080 c0_i32_869
  let v1225 : BitVec 32 := Scalar.extui v1224
  let c0_i32_871 : BitVec 32 := 0#32
  let v1226 : BitVec 1 := Scalar.cmpi .ne v1225 c0_i32_871
  v1226

def k0_dev58 (v1080 : BitVec 32) : Nat :=
  let c0_i32_1073 : BitVec 32 := 0#32
  let c64_i32_706 : BitVec 32 := 64#32
  let v1082 : BitVec 32 := Scalar.divsi v1080 c64_i32_706
  let c1_i32_1072 : BitVec 32 := 1#32
  let v1440 : BitVec 32 := Scalar.muli v1082 c1_i32_1072
  let v1441 : BitVec 32 := Scalar.addi c0_i32_1073 v1440
  v1441.toNat
def k0_off76 (v1083 : BitVec 32) : Fin 2 → Nat :=
  let c64_i32_709 : BitVec 32 := 64#32
  let v1084 : BitVec 32 := Scalar.remsi v1083 c64_i32_709
  let c0_i32_1074 : BitVec 32 := 0#32
  ![v1084.toNat, 0]
def k0_cond28 (v1083 : BitVec 32) : BitVec 1 :=
  let c0_i32_872 : BitVec 32 := 0#32
  let v1227 : BitVec 1 := Scalar.cmpi .sge v1083 c0_i32_872
  let v1228 : BitVec 32 := Scalar.extui v1227
  let c0_i32_874 : BitVec 32 := 0#32
  let v1229 : BitVec 1 := Scalar.cmpi .ne v1228 c0_i32_874
  v1229

def k0_dev59 (v1083 : BitVec 32) : Nat :=
  let c0_i32_1073 : BitVec 32 := 0#32
  let c64_i32_710 : BitVec 32 := 64#32
  let v1085 : BitVec 32 := Scalar.divsi v1083 c64_i32_710
  let c1_i32_1072 : BitVec 32 := 1#32
  let v1440 : BitVec 32 := Scalar.muli v1085 c1_i32_1072
  let v1441 : BitVec 32 := Scalar.addi c0_i32_1073 v1440
  v1441.toNat
def k0_off77 (v1086 : BitVec 32) : Fin 2 → Nat :=
  let c64_i32_713 : BitVec 32 := 64#32
  let v1087 : BitVec 32 := Scalar.remsi v1086 c64_i32_713
  let c0_i32_1074 : BitVec 32 := 0#32
  ![v1087.toNat, 0]
def k0_cond29 (v1086 : BitVec 32) : BitVec 1 :=
  let c0_i32_875 : BitVec 32 := 0#32
  let v1230 : BitVec 1 := Scalar.cmpi .sge v1086 c0_i32_875
  let v1231 : BitVec 32 := Scalar.extui v1230
  let c0_i32_877 : BitVec 32 := 0#32
  let v1232 : BitVec 1 := Scalar.cmpi .ne v1231 c0_i32_877
  v1232

def k0_dev60 (v1086 : BitVec 32) : Nat :=
  let c0_i32_1073 : BitVec 32 := 0#32
  let c64_i32_714 : BitVec 32 := 64#32
  let v1088 : BitVec 32 := Scalar.divsi v1086 c64_i32_714
  let c1_i32_1072 : BitVec 32 := 1#32
  let v1440 : BitVec 32 := Scalar.muli v1088 c1_i32_1072
  let v1441 : BitVec 32 := Scalar.addi c0_i32_1073 v1440
  v1441.toNat
def k0_off78 (v1089 : BitVec 32) : Fin 2 → Nat :=
  let c64_i32_717 : BitVec 32 := 64#32
  let v1090 : BitVec 32 := Scalar.remsi v1089 c64_i32_717
  let c0_i32_1074 : BitVec 32 := 0#32
  ![v1090.toNat, 0]
def k0_cond30 (v1089 : BitVec 32) : BitVec 1 :=
  let c0_i32_878 : BitVec 32 := 0#32
  let v1233 : BitVec 1 := Scalar.cmpi .sge v1089 c0_i32_878
  let v1234 : BitVec 32 := Scalar.extui v1233
  let c0_i32_880 : BitVec 32 := 0#32
  let v1235 : BitVec 1 := Scalar.cmpi .ne v1234 c0_i32_880
  v1235

def k0_dev61 (v1089 : BitVec 32) : Nat :=
  let c0_i32_1073 : BitVec 32 := 0#32
  let c64_i32_718 : BitVec 32 := 64#32
  let v1091 : BitVec 32 := Scalar.divsi v1089 c64_i32_718
  let c1_i32_1072 : BitVec 32 := 1#32
  let v1440 : BitVec 32 := Scalar.muli v1091 c1_i32_1072
  let v1441 : BitVec 32 := Scalar.addi c0_i32_1073 v1440
  v1441.toNat
def k0_off79 (v1092 : BitVec 32) : Fin 2 → Nat :=
  let c64_i32_721 : BitVec 32 := 64#32
  let v1093 : BitVec 32 := Scalar.remsi v1092 c64_i32_721
  let c0_i32_1074 : BitVec 32 := 0#32
  ![v1093.toNat, 0]
def k0_cond31 (v1092 : BitVec 32) : BitVec 1 :=
  let c0_i32_881 : BitVec 32 := 0#32
  let v1236 : BitVec 1 := Scalar.cmpi .sge v1092 c0_i32_881
  let v1237 : BitVec 32 := Scalar.extui v1236
  let c0_i32_883 : BitVec 32 := 0#32
  let v1238 : BitVec 1 := Scalar.cmpi .ne v1237 c0_i32_883
  v1238

def k0_dev62 (v1092 : BitVec 32) : Nat :=
  let c0_i32_1073 : BitVec 32 := 0#32
  let c64_i32_722 : BitVec 32 := 64#32
  let v1094 : BitVec 32 := Scalar.divsi v1092 c64_i32_722
  let c1_i32_1072 : BitVec 32 := 1#32
  let v1440 : BitVec 32 := Scalar.muli v1094 c1_i32_1072
  let v1441 : BitVec 32 := Scalar.addi c0_i32_1073 v1440
  v1441.toNat
def k0_off80 (v1095 : BitVec 32) : Fin 2 → Nat :=
  let c64_i32_725 : BitVec 32 := 64#32
  let v1096 : BitVec 32 := Scalar.remsi v1095 c64_i32_725
  let c0_i32_1074 : BitVec 32 := 0#32
  ![v1096.toNat, 0]
def k0_cond32 (v1095 : BitVec 32) : BitVec 1 :=
  let c0_i32_884 : BitVec 32 := 0#32
  let v1239 : BitVec 1 := Scalar.cmpi .sge v1095 c0_i32_884
  let v1240 : BitVec 32 := Scalar.extui v1239
  let c0_i32_886 : BitVec 32 := 0#32
  let v1241 : BitVec 1 := Scalar.cmpi .ne v1240 c0_i32_886
  v1241

def k0_dev63 (v1095 : BitVec 32) : Nat :=
  let c0_i32_1073 : BitVec 32 := 0#32
  let c64_i32_726 : BitVec 32 := 64#32
  let v1097 : BitVec 32 := Scalar.divsi v1095 c64_i32_726
  let c1_i32_1072 : BitVec 32 := 1#32
  let v1440 : BitVec 32 := Scalar.muli v1097 c1_i32_1072
  let v1441 : BitVec 32 := Scalar.addi c0_i32_1073 v1440
  v1441.toNat
def k0_off81 (v1098 : BitVec 32) : Fin 2 → Nat :=
  let c64_i32_729 : BitVec 32 := 64#32
  let v1099 : BitVec 32 := Scalar.remsi v1098 c64_i32_729
  let c0_i32_1074 : BitVec 32 := 0#32
  ![v1099.toNat, 0]
def k0_cond33 (v1098 : BitVec 32) : BitVec 1 :=
  let c0_i32_887 : BitVec 32 := 0#32
  let v1242 : BitVec 1 := Scalar.cmpi .sge v1098 c0_i32_887
  let v1243 : BitVec 32 := Scalar.extui v1242
  let c0_i32_889 : BitVec 32 := 0#32
  let v1244 : BitVec 1 := Scalar.cmpi .ne v1243 c0_i32_889
  v1244

def k0_dev64 (v1098 : BitVec 32) : Nat :=
  let c0_i32_1073 : BitVec 32 := 0#32
  let c64_i32_730 : BitVec 32 := 64#32
  let v1100 : BitVec 32 := Scalar.divsi v1098 c64_i32_730
  let c1_i32_1072 : BitVec 32 := 1#32
  let v1440 : BitVec 32 := Scalar.muli v1100 c1_i32_1072
  let v1441 : BitVec 32 := Scalar.addi c0_i32_1073 v1440
  v1441.toNat
def k0_off82 (v1101 : BitVec 32) : Fin 2 → Nat :=
  let c64_i32_733 : BitVec 32 := 64#32
  let v1102 : BitVec 32 := Scalar.remsi v1101 c64_i32_733
  let c0_i32_1074 : BitVec 32 := 0#32
  ![v1102.toNat, 0]
def k0_cond34 (v1101 : BitVec 32) : BitVec 1 :=
  let c0_i32_890 : BitVec 32 := 0#32
  let v1245 : BitVec 1 := Scalar.cmpi .sge v1101 c0_i32_890
  let v1246 : BitVec 32 := Scalar.extui v1245
  let c0_i32_891 : BitVec 32 := 0#32
  let v1247 : BitVec 1 := Scalar.cmpi .ne v1246 c0_i32_891
  v1247

def k0_dev65 (v1101 : BitVec 32) : Nat :=
  let c0_i32_1073 : BitVec 32 := 0#32
  let c64_i32_734 : BitVec 32 := 64#32
  let v1103 : BitVec 32 := Scalar.divsi v1101 c64_i32_734
  let c1_i32_1072 : BitVec 32 := 1#32
  let v1440 : BitVec 32 := Scalar.muli v1103 c1_i32_1072
  let v1441 : BitVec 32 := Scalar.addi c0_i32_1073 v1440
  v1441.toNat
def k0_off83 (v1104 : BitVec 32) : Fin 2 → Nat :=
  let c64_i32_737 : BitVec 32 := 64#32
  let v1105 : BitVec 32 := Scalar.remsi v1104 c64_i32_737
  let c0_i32_1074 : BitVec 32 := 0#32
  ![v1105.toNat, 0]
def k0_cond35 (v1104 : BitVec 32) : BitVec 1 :=
  let c0_i32_892 : BitVec 32 := 0#32
  let v1248 : BitVec 1 := Scalar.cmpi .sge v1104 c0_i32_892
  let v1249 : BitVec 32 := Scalar.extui v1248
  let c0_i32_893 : BitVec 32 := 0#32
  let v1250 : BitVec 1 := Scalar.cmpi .ne v1249 c0_i32_893
  v1250

def k0_dev66 (v1104 : BitVec 32) : Nat :=
  let c0_i32_1073 : BitVec 32 := 0#32
  let c64_i32_738 : BitVec 32 := 64#32
  let v1106 : BitVec 32 := Scalar.divsi v1104 c64_i32_738
  let c1_i32_1072 : BitVec 32 := 1#32
  let v1440 : BitVec 32 := Scalar.muli v1106 c1_i32_1072
  let v1441 : BitVec 32 := Scalar.addi c0_i32_1073 v1440
  v1441.toNat
def k0_off84 (v1107 : BitVec 32) : Fin 2 → Nat :=
  let c64_i32_741 : BitVec 32 := 64#32
  let v1108 : BitVec 32 := Scalar.remsi v1107 c64_i32_741
  let c0_i32_1074 : BitVec 32 := 0#32
  ![v1108.toNat, 0]
def k0_cond36 (v1107 : BitVec 32) : BitVec 1 :=
  let c0_i32_894 : BitVec 32 := 0#32
  let v1251 : BitVec 1 := Scalar.cmpi .sge v1107 c0_i32_894
  let v1252 : BitVec 32 := Scalar.extui v1251
  let c0_i32_895 : BitVec 32 := 0#32
  let v1253 : BitVec 1 := Scalar.cmpi .ne v1252 c0_i32_895
  v1253

def k0_dev67 (v1107 : BitVec 32) : Nat :=
  let c0_i32_1073 : BitVec 32 := 0#32
  let c64_i32_742 : BitVec 32 := 64#32
  let v1109 : BitVec 32 := Scalar.divsi v1107 c64_i32_742
  let c1_i32_1072 : BitVec 32 := 1#32
  let v1440 : BitVec 32 := Scalar.muli v1109 c1_i32_1072
  let v1441 : BitVec 32 := Scalar.addi c0_i32_1073 v1440
  v1441.toNat
def k0_off85 (v1110 : BitVec 32) : Fin 2 → Nat :=
  let c64_i32_745 : BitVec 32 := 64#32
  let v1111 : BitVec 32 := Scalar.remsi v1110 c64_i32_745
  let c0_i32_1074 : BitVec 32 := 0#32
  ![v1111.toNat, 0]
def k0_cond37 (v1110 : BitVec 32) : BitVec 1 :=
  let c0_i32_896 : BitVec 32 := 0#32
  let v1254 : BitVec 1 := Scalar.cmpi .sge v1110 c0_i32_896
  let v1255 : BitVec 32 := Scalar.extui v1254
  let c0_i32_897 : BitVec 32 := 0#32
  let v1256 : BitVec 1 := Scalar.cmpi .ne v1255 c0_i32_897
  v1256

def k0_dev68 (v1110 : BitVec 32) : Nat :=
  let c0_i32_1073 : BitVec 32 := 0#32
  let c64_i32_746 : BitVec 32 := 64#32
  let v1112 : BitVec 32 := Scalar.divsi v1110 c64_i32_746
  let c1_i32_1072 : BitVec 32 := 1#32
  let v1440 : BitVec 32 := Scalar.muli v1112 c1_i32_1072
  let v1441 : BitVec 32 := Scalar.addi c0_i32_1073 v1440
  v1441.toNat
def k0_off86 (v1113 : BitVec 32) : Fin 2 → Nat :=
  let c64_i32_749 : BitVec 32 := 64#32
  let v1114 : BitVec 32 := Scalar.remsi v1113 c64_i32_749
  let c0_i32_1074 : BitVec 32 := 0#32
  ![v1114.toNat, 0]
def k0_cond38 (v1113 : BitVec 32) : BitVec 1 :=
  let c0_i32_898 : BitVec 32 := 0#32
  let v1257 : BitVec 1 := Scalar.cmpi .sge v1113 c0_i32_898
  let v1258 : BitVec 32 := Scalar.extui v1257
  let c0_i32_899 : BitVec 32 := 0#32
  let v1259 : BitVec 1 := Scalar.cmpi .ne v1258 c0_i32_899
  v1259

def k0_dev69 (v1113 : BitVec 32) : Nat :=
  let c0_i32_1073 : BitVec 32 := 0#32
  let c64_i32_750 : BitVec 32 := 64#32
  let v1115 : BitVec 32 := Scalar.divsi v1113 c64_i32_750
  let c1_i32_1072 : BitVec 32 := 1#32
  let v1440 : BitVec 32 := Scalar.muli v1115 c1_i32_1072
  let v1441 : BitVec 32 := Scalar.addi c0_i32_1073 v1440
  v1441.toNat
def k0_off87 (v1116 : BitVec 32) : Fin 2 → Nat :=
  let c64_i32_753 : BitVec 32 := 64#32
  let v1117 : BitVec 32 := Scalar.remsi v1116 c64_i32_753
  let c0_i32_1074 : BitVec 32 := 0#32
  ![v1117.toNat, 0]
def k0_cond39 (v1116 : BitVec 32) : BitVec 1 :=
  let c0_i32_900 : BitVec 32 := 0#32
  let v1260 : BitVec 1 := Scalar.cmpi .sge v1116 c0_i32_900
  let v1261 : BitVec 32 := Scalar.extui v1260
  let c0_i32_901 : BitVec 32 := 0#32
  let v1262 : BitVec 1 := Scalar.cmpi .ne v1261 c0_i32_901
  v1262

def k0_dev70 (v1116 : BitVec 32) : Nat :=
  let c0_i32_1073 : BitVec 32 := 0#32
  let c64_i32_754 : BitVec 32 := 64#32
  let v1118 : BitVec 32 := Scalar.divsi v1116 c64_i32_754
  let c1_i32_1072 : BitVec 32 := 1#32
  let v1440 : BitVec 32 := Scalar.muli v1118 c1_i32_1072
  let v1441 : BitVec 32 := Scalar.addi c0_i32_1073 v1440
  v1441.toNat
def k0_off88 (v1119 : BitVec 32) : Fin 2 → Nat :=
  let c64_i32_757 : BitVec 32 := 64#32
  let v1120 : BitVec 32 := Scalar.remsi v1119 c64_i32_757
  let c0_i32_1074 : BitVec 32 := 0#32
  ![v1120.toNat, 0]
def k0_cond40 (v1119 : BitVec 32) : BitVec 1 :=
  let c0_i32_902 : BitVec 32 := 0#32
  let v1263 : BitVec 1 := Scalar.cmpi .sge v1119 c0_i32_902
  let v1264 : BitVec 32 := Scalar.extui v1263
  let c0_i32_903 : BitVec 32 := 0#32
  let v1265 : BitVec 1 := Scalar.cmpi .ne v1264 c0_i32_903
  v1265

def k0_dev71 (v1119 : BitVec 32) : Nat :=
  let c0_i32_1073 : BitVec 32 := 0#32
  let c64_i32_758 : BitVec 32 := 64#32
  let v1121 : BitVec 32 := Scalar.divsi v1119 c64_i32_758
  let c1_i32_1072 : BitVec 32 := 1#32
  let v1440 : BitVec 32 := Scalar.muli v1121 c1_i32_1072
  let v1441 : BitVec 32 := Scalar.addi c0_i32_1073 v1440
  v1441.toNat
def k0_off89 (v1122 : BitVec 32) : Fin 2 → Nat :=
  let c64_i32_761 : BitVec 32 := 64#32
  let v1123 : BitVec 32 := Scalar.remsi v1122 c64_i32_761
  let c0_i32_1074 : BitVec 32 := 0#32
  ![v1123.toNat, 0]
def k0_cond41 (v1122 : BitVec 32) : BitVec 1 :=
  let c0_i32_904 : BitVec 32 := 0#32
  let v1266 : BitVec 1 := Scalar.cmpi .sge v1122 c0_i32_904
  let v1267 : BitVec 32 := Scalar.extui v1266
  let c0_i32_905 : BitVec 32 := 0#32
  let v1268 : BitVec 1 := Scalar.cmpi .ne v1267 c0_i32_905
  v1268

def k0_dev72 (v1122 : BitVec 32) : Nat :=
  let c0_i32_1073 : BitVec 32 := 0#32
  let c64_i32_762 : BitVec 32 := 64#32
  let v1124 : BitVec 32 := Scalar.divsi v1122 c64_i32_762
  let c1_i32_1072 : BitVec 32 := 1#32
  let v1440 : BitVec 32 := Scalar.muli v1124 c1_i32_1072
  let v1441 : BitVec 32 := Scalar.addi c0_i32_1073 v1440
  v1441.toNat
def k0_off90 (v1125 : BitVec 32) : Fin 2 → Nat :=
  let c64_i32_765 : BitVec 32 := 64#32
  let v1126 : BitVec 32 := Scalar.remsi v1125 c64_i32_765
  let c0_i32_1074 : BitVec 32 := 0#32
  ![v1126.toNat, 0]
def k0_cond42 (v1125 : BitVec 32) : BitVec 1 :=
  let c0_i32_906 : BitVec 32 := 0#32
  let v1269 : BitVec 1 := Scalar.cmpi .sge v1125 c0_i32_906
  let v1270 : BitVec 32 := Scalar.extui v1269
  let c0_i32_907 : BitVec 32 := 0#32
  let v1271 : BitVec 1 := Scalar.cmpi .ne v1270 c0_i32_907
  v1271

def k0_dev73 (v1125 : BitVec 32) : Nat :=
  let c0_i32_1073 : BitVec 32 := 0#32
  let c64_i32_766 : BitVec 32 := 64#32
  let v1127 : BitVec 32 := Scalar.divsi v1125 c64_i32_766
  let c1_i32_1072 : BitVec 32 := 1#32
  let v1440 : BitVec 32 := Scalar.muli v1127 c1_i32_1072
  let v1441 : BitVec 32 := Scalar.addi c0_i32_1073 v1440
  v1441.toNat
def k0_off91 (v1128 : BitVec 32) : Fin 2 → Nat :=
  let c64_i32_769 : BitVec 32 := 64#32
  let v1129 : BitVec 32 := Scalar.remsi v1128 c64_i32_769
  let c0_i32_1074 : BitVec 32 := 0#32
  ![v1129.toNat, 0]
def k0_cond43 (v1128 : BitVec 32) : BitVec 1 :=
  let c0_i32_908 : BitVec 32 := 0#32
  let v1272 : BitVec 1 := Scalar.cmpi .sge v1128 c0_i32_908
  let v1273 : BitVec 32 := Scalar.extui v1272
  let c0_i32_909 : BitVec 32 := 0#32
  let v1274 : BitVec 1 := Scalar.cmpi .ne v1273 c0_i32_909
  v1274

def k0_dev74 (v1128 : BitVec 32) : Nat :=
  let c0_i32_1073 : BitVec 32 := 0#32
  let c64_i32_770 : BitVec 32 := 64#32
  let v1130 : BitVec 32 := Scalar.divsi v1128 c64_i32_770
  let c1_i32_1072 : BitVec 32 := 1#32
  let v1440 : BitVec 32 := Scalar.muli v1130 c1_i32_1072
  let v1441 : BitVec 32 := Scalar.addi c0_i32_1073 v1440
  v1441.toNat
def k0_off92 (v1131 : BitVec 32) : Fin 2 → Nat :=
  let c64_i32_773 : BitVec 32 := 64#32
  let v1132 : BitVec 32 := Scalar.remsi v1131 c64_i32_773
  let c0_i32_1074 : BitVec 32 := 0#32
  ![v1132.toNat, 0]
def k0_cond44 (v1131 : BitVec 32) : BitVec 1 :=
  let c0_i32_910 : BitVec 32 := 0#32
  let v1275 : BitVec 1 := Scalar.cmpi .sge v1131 c0_i32_910
  let v1276 : BitVec 32 := Scalar.extui v1275
  let c0_i32_911 : BitVec 32 := 0#32
  let v1277 : BitVec 1 := Scalar.cmpi .ne v1276 c0_i32_911
  v1277

def k0_dev75 (v1131 : BitVec 32) : Nat :=
  let c0_i32_1073 : BitVec 32 := 0#32
  let c64_i32_774 : BitVec 32 := 64#32
  let v1133 : BitVec 32 := Scalar.divsi v1131 c64_i32_774
  let c1_i32_1072 : BitVec 32 := 1#32
  let v1440 : BitVec 32 := Scalar.muli v1133 c1_i32_1072
  let v1441 : BitVec 32 := Scalar.addi c0_i32_1073 v1440
  v1441.toNat
def k0_off93 (v1134 : BitVec 32) : Fin 2 → Nat :=
  let c64_i32_777 : BitVec 32 := 64#32
  let v1135 : BitVec 32 := Scalar.remsi v1134 c64_i32_777
  let c0_i32_1074 : BitVec 32 := 0#32
  ![v1135.toNat, 0]
def k0_cond45 (v1134 : BitVec 32) : BitVec 1 :=
  let c0_i32_912 : BitVec 32 := 0#32
  let v1278 : BitVec 1 := Scalar.cmpi .sge v1134 c0_i32_912
  let v1279 : BitVec 32 := Scalar.extui v1278
  let c0_i32_913 : BitVec 32 := 0#32
  let v1280 : BitVec 1 := Scalar.cmpi .ne v1279 c0_i32_913
  v1280

def k0_dev76 (v1134 : BitVec 32) : Nat :=
  let c0_i32_1073 : BitVec 32 := 0#32
  let c64_i32_778 : BitVec 32 := 64#32
  let v1136 : BitVec 32 := Scalar.divsi v1134 c64_i32_778
  let c1_i32_1072 : BitVec 32 := 1#32
  let v1440 : BitVec 32 := Scalar.muli v1136 c1_i32_1072
  let v1441 : BitVec 32 := Scalar.addi c0_i32_1073 v1440
  v1441.toNat
def k0_off94 (v1137 : BitVec 32) : Fin 2 → Nat :=
  let c64_i32_781 : BitVec 32 := 64#32
  let v1138 : BitVec 32 := Scalar.remsi v1137 c64_i32_781
  let c0_i32_1074 : BitVec 32 := 0#32
  ![v1138.toNat, 0]
def k0_cond46 (v1137 : BitVec 32) : BitVec 1 :=
  let c0_i32_914 : BitVec 32 := 0#32
  let v1281 : BitVec 1 := Scalar.cmpi .sge v1137 c0_i32_914
  let v1282 : BitVec 32 := Scalar.extui v1281
  let c0_i32_915 : BitVec 32 := 0#32
  let v1283 : BitVec 1 := Scalar.cmpi .ne v1282 c0_i32_915
  v1283

def k0_dev77 (v1137 : BitVec 32) : Nat :=
  let c0_i32_1073 : BitVec 32 := 0#32
  let c64_i32_782 : BitVec 32 := 64#32
  let v1139 : BitVec 32 := Scalar.divsi v1137 c64_i32_782
  let c1_i32_1072 : BitVec 32 := 1#32
  let v1440 : BitVec 32 := Scalar.muli v1139 c1_i32_1072
  let v1441 : BitVec 32 := Scalar.addi c0_i32_1073 v1440
  v1441.toNat
def k0_off95 (v1140 : BitVec 32) : Fin 2 → Nat :=
  let c64_i32_785 : BitVec 32 := 64#32
  let v1141 : BitVec 32 := Scalar.remsi v1140 c64_i32_785
  let c0_i32_1074 : BitVec 32 := 0#32
  ![v1141.toNat, 0]
def k0_cond47 (v1140 : BitVec 32) : BitVec 1 :=
  let c0_i32_916 : BitVec 32 := 0#32
  let v1284 : BitVec 1 := Scalar.cmpi .sge v1140 c0_i32_916
  let v1285 : BitVec 32 := Scalar.extui v1284
  let c0_i32_917 : BitVec 32 := 0#32
  let v1286 : BitVec 1 := Scalar.cmpi .ne v1285 c0_i32_917
  v1286

def k0_dev78 (v1140 : BitVec 32) : Nat :=
  let c0_i32_1073 : BitVec 32 := 0#32
  let c64_i32_786 : BitVec 32 := 64#32
  let v1142 : BitVec 32 := Scalar.divsi v1140 c64_i32_786
  let c1_i32_1072 : BitVec 32 := 1#32
  let v1440 : BitVec 32 := Scalar.muli v1142 c1_i32_1072
  let v1441 : BitVec 32 := Scalar.addi c0_i32_1073 v1440
  v1441.toNat
def k0_off96 (v1143 : BitVec 32) : Fin 2 → Nat :=
  let c64_i32_789 : BitVec 32 := 64#32
  let v1144 : BitVec 32 := Scalar.remsi v1143 c64_i32_789
  let c0_i32_1074 : BitVec 32 := 0#32
  ![v1144.toNat, 0]
def k0_cond48 (v1143 : BitVec 32) : BitVec 1 :=
  let c0_i32_918 : BitVec 32 := 0#32
  let v1287 : BitVec 1 := Scalar.cmpi .sge v1143 c0_i32_918
  let v1288 : BitVec 32 := Scalar.extui v1287
  let c0_i32_919 : BitVec 32 := 0#32
  let v1289 : BitVec 1 := Scalar.cmpi .ne v1288 c0_i32_919
  v1289

def k0_dev79 (v1143 : BitVec 32) : Nat :=
  let c0_i32_1073 : BitVec 32 := 0#32
  let c64_i32_790 : BitVec 32 := 64#32
  let v1145 : BitVec 32 := Scalar.divsi v1143 c64_i32_790
  let c1_i32_1072 : BitVec 32 := 1#32
  let v1440 : BitVec 32 := Scalar.muli v1145 c1_i32_1072
  let v1441 : BitVec 32 := Scalar.addi c0_i32_1073 v1440
  v1441.toNat
def k0_off97 (v1002 : BitVec 32) : Fin 2 → Nat :=
  let c64_i32_601 : BitVec 32 := 64#32
  let v1003 : BitVec 32 := Scalar.remsi v1002 c64_i32_601
  let c0_i32_1075 : BitVec 32 := 0#32
  ![v1003.toNat, 0]
def k0_cond49 (v1002 : BitVec 32) : BitVec 1 :=
  let c0_i32_920 : BitVec 32 := 0#32
  let v1290 : BitVec 1 := Scalar.cmpi .sge v1002 c0_i32_920
  let v1291 : BitVec 32 := Scalar.extui v1290
  let c0_i32_922 : BitVec 32 := 0#32
  let v1292 : BitVec 1 := Scalar.cmpi .ne v1291 c0_i32_922
  v1292

def k0_chk49 (v1002 : BitVec 32) : Prop :=
  (∀ (k0_h1 : k0_cond1 v1002 = 1#1), ∀ a, (k0_off49 v1002) a + S1x1024.size a ≤ S64x1024.size a) ∧
  (∀ (k0_h1 : k0_cond1 v1002 = 1#1), (k0_dev32 v1002) < nD) ∧
  (∀ (k0_h49 : k0_cond49 v1002 = 1#1), ∀ a, (k0_off97 v1002) a + S1x1024.size a ≤ S64x1024.size a)
theorem k0_off49_inb : ∀ (v1002 : BitVec 32) (k0_hw49 : k0_chk49 v1002), ∀ (k0_h1 : k0_cond1 v1002 = 1#1), ∀ a, (k0_off49 v1002) a + S1x1024.size a ≤ S64x1024.size a := fun v1002 k0_hw49 k0_h1 => k0_hw49.1 k0_h1
theorem k0_dev32_lt : ∀ (v1002 : BitVec 32) (k0_hw49 : k0_chk49 v1002), ∀ (k0_h1 : k0_cond1 v1002 = 1#1), (k0_dev32 v1002) < nD := fun v1002 k0_hw49 k0_h1 => k0_hw49.2.1 k0_h1
theorem k0_off97_inb : ∀ (v1002 : BitVec 32) (k0_hw49 : k0_chk49 v1002), ∀ (k0_h49 : k0_cond49 v1002 = 1#1), ∀ a, (k0_off97 v1002) a + S1x1024.size a ≤ S64x1024.size a := fun v1002 k0_hw49 k0_h49 => k0_hw49.2.2 k0_h49

def k0_off98 (v1005 : BitVec 32) : Fin 2 → Nat :=
  let c64_i32_605 : BitVec 32 := 64#32
  let v1006 : BitVec 32 := Scalar.remsi v1005 c64_i32_605
  let c0_i32_1075 : BitVec 32 := 0#32
  ![v1006.toNat, 0]
def k0_cond50 (v1005 : BitVec 32) : BitVec 1 :=
  let c0_i32_923 : BitVec 32 := 0#32
  let v1293 : BitVec 1 := Scalar.cmpi .sge v1005 c0_i32_923
  let v1294 : BitVec 32 := Scalar.extui v1293
  let c0_i32_925 : BitVec 32 := 0#32
  let v1295 : BitVec 1 := Scalar.cmpi .ne v1294 c0_i32_925
  v1295

def k0_chk50 (v1005 : BitVec 32) : Prop :=
  (∀ (k0_h2 : k0_cond2 v1005 = 1#1), ∀ a, (k0_off50 v1005) a + S1x1024.size a ≤ S64x1024.size a) ∧
  (∀ (k0_h2 : k0_cond2 v1005 = 1#1), (k0_dev33 v1005) < nD) ∧
  (∀ (k0_h50 : k0_cond50 v1005 = 1#1), ∀ a, (k0_off98 v1005) a + S1x1024.size a ≤ S64x1024.size a)
theorem k0_off50_inb : ∀ (v1005 : BitVec 32) (k0_hw50 : k0_chk50 v1005), ∀ (k0_h2 : k0_cond2 v1005 = 1#1), ∀ a, (k0_off50 v1005) a + S1x1024.size a ≤ S64x1024.size a := fun v1005 k0_hw50 k0_h2 => k0_hw50.1 k0_h2
theorem k0_dev33_lt : ∀ (v1005 : BitVec 32) (k0_hw50 : k0_chk50 v1005), ∀ (k0_h2 : k0_cond2 v1005 = 1#1), (k0_dev33 v1005) < nD := fun v1005 k0_hw50 k0_h2 => k0_hw50.2.1 k0_h2
theorem k0_off98_inb : ∀ (v1005 : BitVec 32) (k0_hw50 : k0_chk50 v1005), ∀ (k0_h50 : k0_cond50 v1005 = 1#1), ∀ a, (k0_off98 v1005) a + S1x1024.size a ≤ S64x1024.size a := fun v1005 k0_hw50 k0_h50 => k0_hw50.2.2 k0_h50

def k0_off99 (v1008 : BitVec 32) : Fin 2 → Nat :=
  let c64_i32_609 : BitVec 32 := 64#32
  let v1009 : BitVec 32 := Scalar.remsi v1008 c64_i32_609
  let c0_i32_1075 : BitVec 32 := 0#32
  ![v1009.toNat, 0]
def k0_cond51 (v1008 : BitVec 32) : BitVec 1 :=
  let c0_i32_926 : BitVec 32 := 0#32
  let v1296 : BitVec 1 := Scalar.cmpi .sge v1008 c0_i32_926
  let v1297 : BitVec 32 := Scalar.extui v1296
  let c0_i32_928 : BitVec 32 := 0#32
  let v1298 : BitVec 1 := Scalar.cmpi .ne v1297 c0_i32_928
  v1298

def k0_chk51 (v1008 : BitVec 32) : Prop :=
  (∀ (k0_h3 : k0_cond3 v1008 = 1#1), ∀ a, (k0_off51 v1008) a + S1x1024.size a ≤ S64x1024.size a) ∧
  (∀ (k0_h3 : k0_cond3 v1008 = 1#1), (k0_dev34 v1008) < nD) ∧
  (∀ (k0_h51 : k0_cond51 v1008 = 1#1), ∀ a, (k0_off99 v1008) a + S1x1024.size a ≤ S64x1024.size a)
theorem k0_off51_inb : ∀ (v1008 : BitVec 32) (k0_hw51 : k0_chk51 v1008), ∀ (k0_h3 : k0_cond3 v1008 = 1#1), ∀ a, (k0_off51 v1008) a + S1x1024.size a ≤ S64x1024.size a := fun v1008 k0_hw51 k0_h3 => k0_hw51.1 k0_h3
theorem k0_dev34_lt : ∀ (v1008 : BitVec 32) (k0_hw51 : k0_chk51 v1008), ∀ (k0_h3 : k0_cond3 v1008 = 1#1), (k0_dev34 v1008) < nD := fun v1008 k0_hw51 k0_h3 => k0_hw51.2.1 k0_h3
theorem k0_off99_inb : ∀ (v1008 : BitVec 32) (k0_hw51 : k0_chk51 v1008), ∀ (k0_h51 : k0_cond51 v1008 = 1#1), ∀ a, (k0_off99 v1008) a + S1x1024.size a ≤ S64x1024.size a := fun v1008 k0_hw51 k0_h51 => k0_hw51.2.2 k0_h51

def k0_off100 (v1011 : BitVec 32) : Fin 2 → Nat :=
  let c64_i32_613 : BitVec 32 := 64#32
  let v1012 : BitVec 32 := Scalar.remsi v1011 c64_i32_613
  let c0_i32_1075 : BitVec 32 := 0#32
  ![v1012.toNat, 0]
def k0_cond52 (v1011 : BitVec 32) : BitVec 1 :=
  let c0_i32_929 : BitVec 32 := 0#32
  let v1299 : BitVec 1 := Scalar.cmpi .sge v1011 c0_i32_929
  let v1300 : BitVec 32 := Scalar.extui v1299
  let c0_i32_931 : BitVec 32 := 0#32
  let v1301 : BitVec 1 := Scalar.cmpi .ne v1300 c0_i32_931
  v1301

def k0_chk52 (v1011 : BitVec 32) : Prop :=
  (∀ (k0_h4 : k0_cond4 v1011 = 1#1), ∀ a, (k0_off52 v1011) a + S1x1024.size a ≤ S64x1024.size a) ∧
  (∀ (k0_h4 : k0_cond4 v1011 = 1#1), (k0_dev35 v1011) < nD) ∧
  (∀ (k0_h52 : k0_cond52 v1011 = 1#1), ∀ a, (k0_off100 v1011) a + S1x1024.size a ≤ S64x1024.size a)
theorem k0_off52_inb : ∀ (v1011 : BitVec 32) (k0_hw52 : k0_chk52 v1011), ∀ (k0_h4 : k0_cond4 v1011 = 1#1), ∀ a, (k0_off52 v1011) a + S1x1024.size a ≤ S64x1024.size a := fun v1011 k0_hw52 k0_h4 => k0_hw52.1 k0_h4
theorem k0_dev35_lt : ∀ (v1011 : BitVec 32) (k0_hw52 : k0_chk52 v1011), ∀ (k0_h4 : k0_cond4 v1011 = 1#1), (k0_dev35 v1011) < nD := fun v1011 k0_hw52 k0_h4 => k0_hw52.2.1 k0_h4
theorem k0_off100_inb : ∀ (v1011 : BitVec 32) (k0_hw52 : k0_chk52 v1011), ∀ (k0_h52 : k0_cond52 v1011 = 1#1), ∀ a, (k0_off100 v1011) a + S1x1024.size a ≤ S64x1024.size a := fun v1011 k0_hw52 k0_h52 => k0_hw52.2.2 k0_h52

def k0_off101 (v1014 : BitVec 32) : Fin 2 → Nat :=
  let c64_i32_617 : BitVec 32 := 64#32
  let v1015 : BitVec 32 := Scalar.remsi v1014 c64_i32_617
  let c0_i32_1075 : BitVec 32 := 0#32
  ![v1015.toNat, 0]
def k0_cond53 (v1014 : BitVec 32) : BitVec 1 :=
  let c0_i32_932 : BitVec 32 := 0#32
  let v1302 : BitVec 1 := Scalar.cmpi .sge v1014 c0_i32_932
  let v1303 : BitVec 32 := Scalar.extui v1302
  let c0_i32_934 : BitVec 32 := 0#32
  let v1304 : BitVec 1 := Scalar.cmpi .ne v1303 c0_i32_934
  v1304

def k0_chk53 (v1014 : BitVec 32) : Prop :=
  (∀ (k0_h5 : k0_cond5 v1014 = 1#1), ∀ a, (k0_off53 v1014) a + S1x1024.size a ≤ S64x1024.size a) ∧
  (∀ (k0_h5 : k0_cond5 v1014 = 1#1), (k0_dev36 v1014) < nD) ∧
  (∀ (k0_h53 : k0_cond53 v1014 = 1#1), ∀ a, (k0_off101 v1014) a + S1x1024.size a ≤ S64x1024.size a)
theorem k0_off53_inb : ∀ (v1014 : BitVec 32) (k0_hw53 : k0_chk53 v1014), ∀ (k0_h5 : k0_cond5 v1014 = 1#1), ∀ a, (k0_off53 v1014) a + S1x1024.size a ≤ S64x1024.size a := fun v1014 k0_hw53 k0_h5 => k0_hw53.1 k0_h5
theorem k0_dev36_lt : ∀ (v1014 : BitVec 32) (k0_hw53 : k0_chk53 v1014), ∀ (k0_h5 : k0_cond5 v1014 = 1#1), (k0_dev36 v1014) < nD := fun v1014 k0_hw53 k0_h5 => k0_hw53.2.1 k0_h5
theorem k0_off101_inb : ∀ (v1014 : BitVec 32) (k0_hw53 : k0_chk53 v1014), ∀ (k0_h53 : k0_cond53 v1014 = 1#1), ∀ a, (k0_off101 v1014) a + S1x1024.size a ≤ S64x1024.size a := fun v1014 k0_hw53 k0_h53 => k0_hw53.2.2 k0_h53

def k0_off102 (v1017 : BitVec 32) : Fin 2 → Nat :=
  let c64_i32_621 : BitVec 32 := 64#32
  let v1018 : BitVec 32 := Scalar.remsi v1017 c64_i32_621
  let c0_i32_1075 : BitVec 32 := 0#32
  ![v1018.toNat, 0]
def k0_cond54 (v1017 : BitVec 32) : BitVec 1 :=
  let c0_i32_935 : BitVec 32 := 0#32
  let v1305 : BitVec 1 := Scalar.cmpi .sge v1017 c0_i32_935
  let v1306 : BitVec 32 := Scalar.extui v1305
  let c0_i32_937 : BitVec 32 := 0#32
  let v1307 : BitVec 1 := Scalar.cmpi .ne v1306 c0_i32_937
  v1307

def k0_chk54 (v1017 : BitVec 32) : Prop :=
  (∀ (k0_h6 : k0_cond6 v1017 = 1#1), ∀ a, (k0_off54 v1017) a + S1x1024.size a ≤ S64x1024.size a) ∧
  (∀ (k0_h6 : k0_cond6 v1017 = 1#1), (k0_dev37 v1017) < nD) ∧
  (∀ (k0_h54 : k0_cond54 v1017 = 1#1), ∀ a, (k0_off102 v1017) a + S1x1024.size a ≤ S64x1024.size a)
theorem k0_off54_inb : ∀ (v1017 : BitVec 32) (k0_hw54 : k0_chk54 v1017), ∀ (k0_h6 : k0_cond6 v1017 = 1#1), ∀ a, (k0_off54 v1017) a + S1x1024.size a ≤ S64x1024.size a := fun v1017 k0_hw54 k0_h6 => k0_hw54.1 k0_h6
theorem k0_dev37_lt : ∀ (v1017 : BitVec 32) (k0_hw54 : k0_chk54 v1017), ∀ (k0_h6 : k0_cond6 v1017 = 1#1), (k0_dev37 v1017) < nD := fun v1017 k0_hw54 k0_h6 => k0_hw54.2.1 k0_h6
theorem k0_off102_inb : ∀ (v1017 : BitVec 32) (k0_hw54 : k0_chk54 v1017), ∀ (k0_h54 : k0_cond54 v1017 = 1#1), ∀ a, (k0_off102 v1017) a + S1x1024.size a ≤ S64x1024.size a := fun v1017 k0_hw54 k0_h54 => k0_hw54.2.2 k0_h54

def k0_off103 (v1020 : BitVec 32) : Fin 2 → Nat :=
  let c64_i32_625 : BitVec 32 := 64#32
  let v1021 : BitVec 32 := Scalar.remsi v1020 c64_i32_625
  let c0_i32_1075 : BitVec 32 := 0#32
  ![v1021.toNat, 0]
def k0_cond55 (v1020 : BitVec 32) : BitVec 1 :=
  let c0_i32_938 : BitVec 32 := 0#32
  let v1308 : BitVec 1 := Scalar.cmpi .sge v1020 c0_i32_938
  let v1309 : BitVec 32 := Scalar.extui v1308
  let c0_i32_940 : BitVec 32 := 0#32
  let v1310 : BitVec 1 := Scalar.cmpi .ne v1309 c0_i32_940
  v1310

def k0_chk55 (v1020 : BitVec 32) : Prop :=
  (∀ (k0_h7 : k0_cond7 v1020 = 1#1), ∀ a, (k0_off55 v1020) a + S1x1024.size a ≤ S64x1024.size a) ∧
  (∀ (k0_h7 : k0_cond7 v1020 = 1#1), (k0_dev38 v1020) < nD) ∧
  (∀ (k0_h55 : k0_cond55 v1020 = 1#1), ∀ a, (k0_off103 v1020) a + S1x1024.size a ≤ S64x1024.size a)
theorem k0_off55_inb : ∀ (v1020 : BitVec 32) (k0_hw55 : k0_chk55 v1020), ∀ (k0_h7 : k0_cond7 v1020 = 1#1), ∀ a, (k0_off55 v1020) a + S1x1024.size a ≤ S64x1024.size a := fun v1020 k0_hw55 k0_h7 => k0_hw55.1 k0_h7
theorem k0_dev38_lt : ∀ (v1020 : BitVec 32) (k0_hw55 : k0_chk55 v1020), ∀ (k0_h7 : k0_cond7 v1020 = 1#1), (k0_dev38 v1020) < nD := fun v1020 k0_hw55 k0_h7 => k0_hw55.2.1 k0_h7
theorem k0_off103_inb : ∀ (v1020 : BitVec 32) (k0_hw55 : k0_chk55 v1020), ∀ (k0_h55 : k0_cond55 v1020 = 1#1), ∀ a, (k0_off103 v1020) a + S1x1024.size a ≤ S64x1024.size a := fun v1020 k0_hw55 k0_h55 => k0_hw55.2.2 k0_h55

def k0_off104 (v1023 : BitVec 32) : Fin 2 → Nat :=
  let c64_i32_629 : BitVec 32 := 64#32
  let v1024 : BitVec 32 := Scalar.remsi v1023 c64_i32_629
  let c0_i32_1075 : BitVec 32 := 0#32
  ![v1024.toNat, 0]
def k0_cond56 (v1023 : BitVec 32) : BitVec 1 :=
  let c0_i32_941 : BitVec 32 := 0#32
  let v1311 : BitVec 1 := Scalar.cmpi .sge v1023 c0_i32_941
  let v1312 : BitVec 32 := Scalar.extui v1311
  let c0_i32_943 : BitVec 32 := 0#32
  let v1313 : BitVec 1 := Scalar.cmpi .ne v1312 c0_i32_943
  v1313

def k0_chk56 (v1023 : BitVec 32) : Prop :=
  (∀ (k0_h8 : k0_cond8 v1023 = 1#1), ∀ a, (k0_off56 v1023) a + S1x1024.size a ≤ S64x1024.size a) ∧
  (∀ (k0_h8 : k0_cond8 v1023 = 1#1), (k0_dev39 v1023) < nD) ∧
  (∀ (k0_h56 : k0_cond56 v1023 = 1#1), ∀ a, (k0_off104 v1023) a + S1x1024.size a ≤ S64x1024.size a)
theorem k0_off56_inb : ∀ (v1023 : BitVec 32) (k0_hw56 : k0_chk56 v1023), ∀ (k0_h8 : k0_cond8 v1023 = 1#1), ∀ a, (k0_off56 v1023) a + S1x1024.size a ≤ S64x1024.size a := fun v1023 k0_hw56 k0_h8 => k0_hw56.1 k0_h8
theorem k0_dev39_lt : ∀ (v1023 : BitVec 32) (k0_hw56 : k0_chk56 v1023), ∀ (k0_h8 : k0_cond8 v1023 = 1#1), (k0_dev39 v1023) < nD := fun v1023 k0_hw56 k0_h8 => k0_hw56.2.1 k0_h8
theorem k0_off104_inb : ∀ (v1023 : BitVec 32) (k0_hw56 : k0_chk56 v1023), ∀ (k0_h56 : k0_cond56 v1023 = 1#1), ∀ a, (k0_off104 v1023) a + S1x1024.size a ≤ S64x1024.size a := fun v1023 k0_hw56 k0_h56 => k0_hw56.2.2 k0_h56

def k0_off105 (v1026 : BitVec 32) : Fin 2 → Nat :=
  let c64_i32_633 : BitVec 32 := 64#32
  let v1027 : BitVec 32 := Scalar.remsi v1026 c64_i32_633
  let c0_i32_1075 : BitVec 32 := 0#32
  ![v1027.toNat, 0]
def k0_cond57 (v1026 : BitVec 32) : BitVec 1 :=
  let c0_i32_944 : BitVec 32 := 0#32
  let v1314 : BitVec 1 := Scalar.cmpi .sge v1026 c0_i32_944
  let v1315 : BitVec 32 := Scalar.extui v1314
  let c0_i32_946 : BitVec 32 := 0#32
  let v1316 : BitVec 1 := Scalar.cmpi .ne v1315 c0_i32_946
  v1316

def k0_chk57 (v1026 : BitVec 32) : Prop :=
  (∀ (k0_h9 : k0_cond9 v1026 = 1#1), ∀ a, (k0_off57 v1026) a + S1x1024.size a ≤ S64x1024.size a) ∧
  (∀ (k0_h9 : k0_cond9 v1026 = 1#1), (k0_dev40 v1026) < nD) ∧
  (∀ (k0_h57 : k0_cond57 v1026 = 1#1), ∀ a, (k0_off105 v1026) a + S1x1024.size a ≤ S64x1024.size a)
theorem k0_off57_inb : ∀ (v1026 : BitVec 32) (k0_hw57 : k0_chk57 v1026), ∀ (k0_h9 : k0_cond9 v1026 = 1#1), ∀ a, (k0_off57 v1026) a + S1x1024.size a ≤ S64x1024.size a := fun v1026 k0_hw57 k0_h9 => k0_hw57.1 k0_h9
theorem k0_dev40_lt : ∀ (v1026 : BitVec 32) (k0_hw57 : k0_chk57 v1026), ∀ (k0_h9 : k0_cond9 v1026 = 1#1), (k0_dev40 v1026) < nD := fun v1026 k0_hw57 k0_h9 => k0_hw57.2.1 k0_h9
theorem k0_off105_inb : ∀ (v1026 : BitVec 32) (k0_hw57 : k0_chk57 v1026), ∀ (k0_h57 : k0_cond57 v1026 = 1#1), ∀ a, (k0_off105 v1026) a + S1x1024.size a ≤ S64x1024.size a := fun v1026 k0_hw57 k0_h57 => k0_hw57.2.2 k0_h57

def k0_off106 (v1029 : BitVec 32) : Fin 2 → Nat :=
  let c64_i32_637 : BitVec 32 := 64#32
  let v1030 : BitVec 32 := Scalar.remsi v1029 c64_i32_637
  let c0_i32_1075 : BitVec 32 := 0#32
  ![v1030.toNat, 0]
def k0_cond58 (v1029 : BitVec 32) : BitVec 1 :=
  let c0_i32_947 : BitVec 32 := 0#32
  let v1317 : BitVec 1 := Scalar.cmpi .sge v1029 c0_i32_947
  let v1318 : BitVec 32 := Scalar.extui v1317
  let c0_i32_949 : BitVec 32 := 0#32
  let v1319 : BitVec 1 := Scalar.cmpi .ne v1318 c0_i32_949
  v1319

def k0_chk58 (v1029 : BitVec 32) : Prop :=
  (∀ (k0_h10 : k0_cond10 v1029 = 1#1), ∀ a, (k0_off58 v1029) a + S1x1024.size a ≤ S64x1024.size a) ∧
  (∀ (k0_h10 : k0_cond10 v1029 = 1#1), (k0_dev41 v1029) < nD) ∧
  (∀ (k0_h58 : k0_cond58 v1029 = 1#1), ∀ a, (k0_off106 v1029) a + S1x1024.size a ≤ S64x1024.size a)
theorem k0_off58_inb : ∀ (v1029 : BitVec 32) (k0_hw58 : k0_chk58 v1029), ∀ (k0_h10 : k0_cond10 v1029 = 1#1), ∀ a, (k0_off58 v1029) a + S1x1024.size a ≤ S64x1024.size a := fun v1029 k0_hw58 k0_h10 => k0_hw58.1 k0_h10
theorem k0_dev41_lt : ∀ (v1029 : BitVec 32) (k0_hw58 : k0_chk58 v1029), ∀ (k0_h10 : k0_cond10 v1029 = 1#1), (k0_dev41 v1029) < nD := fun v1029 k0_hw58 k0_h10 => k0_hw58.2.1 k0_h10
theorem k0_off106_inb : ∀ (v1029 : BitVec 32) (k0_hw58 : k0_chk58 v1029), ∀ (k0_h58 : k0_cond58 v1029 = 1#1), ∀ a, (k0_off106 v1029) a + S1x1024.size a ≤ S64x1024.size a := fun v1029 k0_hw58 k0_h58 => k0_hw58.2.2 k0_h58

def k0_off107 (v1032 : BitVec 32) : Fin 2 → Nat :=
  let c64_i32_641 : BitVec 32 := 64#32
  let v1033 : BitVec 32 := Scalar.remsi v1032 c64_i32_641
  let c0_i32_1075 : BitVec 32 := 0#32
  ![v1033.toNat, 0]
def k0_cond59 (v1032 : BitVec 32) : BitVec 1 :=
  let c0_i32_950 : BitVec 32 := 0#32
  let v1320 : BitVec 1 := Scalar.cmpi .sge v1032 c0_i32_950
  let v1321 : BitVec 32 := Scalar.extui v1320
  let c0_i32_952 : BitVec 32 := 0#32
  let v1322 : BitVec 1 := Scalar.cmpi .ne v1321 c0_i32_952
  v1322

def k0_chk59 (v1032 : BitVec 32) : Prop :=
  (∀ (k0_h11 : k0_cond11 v1032 = 1#1), ∀ a, (k0_off59 v1032) a + S1x1024.size a ≤ S64x1024.size a) ∧
  (∀ (k0_h11 : k0_cond11 v1032 = 1#1), (k0_dev42 v1032) < nD) ∧
  (∀ (k0_h59 : k0_cond59 v1032 = 1#1), ∀ a, (k0_off107 v1032) a + S1x1024.size a ≤ S64x1024.size a)
theorem k0_off59_inb : ∀ (v1032 : BitVec 32) (k0_hw59 : k0_chk59 v1032), ∀ (k0_h11 : k0_cond11 v1032 = 1#1), ∀ a, (k0_off59 v1032) a + S1x1024.size a ≤ S64x1024.size a := fun v1032 k0_hw59 k0_h11 => k0_hw59.1 k0_h11
theorem k0_dev42_lt : ∀ (v1032 : BitVec 32) (k0_hw59 : k0_chk59 v1032), ∀ (k0_h11 : k0_cond11 v1032 = 1#1), (k0_dev42 v1032) < nD := fun v1032 k0_hw59 k0_h11 => k0_hw59.2.1 k0_h11
theorem k0_off107_inb : ∀ (v1032 : BitVec 32) (k0_hw59 : k0_chk59 v1032), ∀ (k0_h59 : k0_cond59 v1032 = 1#1), ∀ a, (k0_off107 v1032) a + S1x1024.size a ≤ S64x1024.size a := fun v1032 k0_hw59 k0_h59 => k0_hw59.2.2 k0_h59

def k0_off108 (v1035 : BitVec 32) : Fin 2 → Nat :=
  let c64_i32_645 : BitVec 32 := 64#32
  let v1036 : BitVec 32 := Scalar.remsi v1035 c64_i32_645
  let c0_i32_1075 : BitVec 32 := 0#32
  ![v1036.toNat, 0]
def k0_cond60 (v1035 : BitVec 32) : BitVec 1 :=
  let c0_i32_953 : BitVec 32 := 0#32
  let v1323 : BitVec 1 := Scalar.cmpi .sge v1035 c0_i32_953
  let v1324 : BitVec 32 := Scalar.extui v1323
  let c0_i32_955 : BitVec 32 := 0#32
  let v1325 : BitVec 1 := Scalar.cmpi .ne v1324 c0_i32_955
  v1325

def k0_chk60 (v1035 : BitVec 32) : Prop :=
  (∀ (k0_h12 : k0_cond12 v1035 = 1#1), ∀ a, (k0_off60 v1035) a + S1x1024.size a ≤ S64x1024.size a) ∧
  (∀ (k0_h12 : k0_cond12 v1035 = 1#1), (k0_dev43 v1035) < nD) ∧
  (∀ (k0_h60 : k0_cond60 v1035 = 1#1), ∀ a, (k0_off108 v1035) a + S1x1024.size a ≤ S64x1024.size a)
theorem k0_off60_inb : ∀ (v1035 : BitVec 32) (k0_hw60 : k0_chk60 v1035), ∀ (k0_h12 : k0_cond12 v1035 = 1#1), ∀ a, (k0_off60 v1035) a + S1x1024.size a ≤ S64x1024.size a := fun v1035 k0_hw60 k0_h12 => k0_hw60.1 k0_h12
theorem k0_dev43_lt : ∀ (v1035 : BitVec 32) (k0_hw60 : k0_chk60 v1035), ∀ (k0_h12 : k0_cond12 v1035 = 1#1), (k0_dev43 v1035) < nD := fun v1035 k0_hw60 k0_h12 => k0_hw60.2.1 k0_h12
theorem k0_off108_inb : ∀ (v1035 : BitVec 32) (k0_hw60 : k0_chk60 v1035), ∀ (k0_h60 : k0_cond60 v1035 = 1#1), ∀ a, (k0_off108 v1035) a + S1x1024.size a ≤ S64x1024.size a := fun v1035 k0_hw60 k0_h60 => k0_hw60.2.2 k0_h60

def k0_off109 (v1038 : BitVec 32) : Fin 2 → Nat :=
  let c64_i32_649 : BitVec 32 := 64#32
  let v1039 : BitVec 32 := Scalar.remsi v1038 c64_i32_649
  let c0_i32_1075 : BitVec 32 := 0#32
  ![v1039.toNat, 0]
def k0_cond61 (v1038 : BitVec 32) : BitVec 1 :=
  let c0_i32_956 : BitVec 32 := 0#32
  let v1326 : BitVec 1 := Scalar.cmpi .sge v1038 c0_i32_956
  let v1327 : BitVec 32 := Scalar.extui v1326
  let c0_i32_958 : BitVec 32 := 0#32
  let v1328 : BitVec 1 := Scalar.cmpi .ne v1327 c0_i32_958
  v1328

def k0_chk61 (v1038 : BitVec 32) : Prop :=
  (∀ (k0_h13 : k0_cond13 v1038 = 1#1), ∀ a, (k0_off61 v1038) a + S1x1024.size a ≤ S64x1024.size a) ∧
  (∀ (k0_h13 : k0_cond13 v1038 = 1#1), (k0_dev44 v1038) < nD) ∧
  (∀ (k0_h61 : k0_cond61 v1038 = 1#1), ∀ a, (k0_off109 v1038) a + S1x1024.size a ≤ S64x1024.size a)
theorem k0_off61_inb : ∀ (v1038 : BitVec 32) (k0_hw61 : k0_chk61 v1038), ∀ (k0_h13 : k0_cond13 v1038 = 1#1), ∀ a, (k0_off61 v1038) a + S1x1024.size a ≤ S64x1024.size a := fun v1038 k0_hw61 k0_h13 => k0_hw61.1 k0_h13
theorem k0_dev44_lt : ∀ (v1038 : BitVec 32) (k0_hw61 : k0_chk61 v1038), ∀ (k0_h13 : k0_cond13 v1038 = 1#1), (k0_dev44 v1038) < nD := fun v1038 k0_hw61 k0_h13 => k0_hw61.2.1 k0_h13
theorem k0_off109_inb : ∀ (v1038 : BitVec 32) (k0_hw61 : k0_chk61 v1038), ∀ (k0_h61 : k0_cond61 v1038 = 1#1), ∀ a, (k0_off109 v1038) a + S1x1024.size a ≤ S64x1024.size a := fun v1038 k0_hw61 k0_h61 => k0_hw61.2.2 k0_h61

def k0_off110 (v1041 : BitVec 32) : Fin 2 → Nat :=
  let c64_i32_653 : BitVec 32 := 64#32
  let v1042 : BitVec 32 := Scalar.remsi v1041 c64_i32_653
  let c0_i32_1075 : BitVec 32 := 0#32
  ![v1042.toNat, 0]
def k0_cond62 (v1041 : BitVec 32) : BitVec 1 :=
  let c0_i32_959 : BitVec 32 := 0#32
  let v1329 : BitVec 1 := Scalar.cmpi .sge v1041 c0_i32_959
  let v1330 : BitVec 32 := Scalar.extui v1329
  let c0_i32_961 : BitVec 32 := 0#32
  let v1331 : BitVec 1 := Scalar.cmpi .ne v1330 c0_i32_961
  v1331

def k0_chk62 (v1041 : BitVec 32) : Prop :=
  (∀ (k0_h14 : k0_cond14 v1041 = 1#1), ∀ a, (k0_off62 v1041) a + S1x1024.size a ≤ S64x1024.size a) ∧
  (∀ (k0_h14 : k0_cond14 v1041 = 1#1), (k0_dev45 v1041) < nD) ∧
  (∀ (k0_h62 : k0_cond62 v1041 = 1#1), ∀ a, (k0_off110 v1041) a + S1x1024.size a ≤ S64x1024.size a)
theorem k0_off62_inb : ∀ (v1041 : BitVec 32) (k0_hw62 : k0_chk62 v1041), ∀ (k0_h14 : k0_cond14 v1041 = 1#1), ∀ a, (k0_off62 v1041) a + S1x1024.size a ≤ S64x1024.size a := fun v1041 k0_hw62 k0_h14 => k0_hw62.1 k0_h14
theorem k0_dev45_lt : ∀ (v1041 : BitVec 32) (k0_hw62 : k0_chk62 v1041), ∀ (k0_h14 : k0_cond14 v1041 = 1#1), (k0_dev45 v1041) < nD := fun v1041 k0_hw62 k0_h14 => k0_hw62.2.1 k0_h14
theorem k0_off110_inb : ∀ (v1041 : BitVec 32) (k0_hw62 : k0_chk62 v1041), ∀ (k0_h62 : k0_cond62 v1041 = 1#1), ∀ a, (k0_off110 v1041) a + S1x1024.size a ≤ S64x1024.size a := fun v1041 k0_hw62 k0_h62 => k0_hw62.2.2 k0_h62

def k0_off111 (v1044 : BitVec 32) : Fin 2 → Nat :=
  let c64_i32_657 : BitVec 32 := 64#32
  let v1045 : BitVec 32 := Scalar.remsi v1044 c64_i32_657
  let c0_i32_1075 : BitVec 32 := 0#32
  ![v1045.toNat, 0]
def k0_cond63 (v1044 : BitVec 32) : BitVec 1 :=
  let c0_i32_962 : BitVec 32 := 0#32
  let v1332 : BitVec 1 := Scalar.cmpi .sge v1044 c0_i32_962
  let v1333 : BitVec 32 := Scalar.extui v1332
  let c0_i32_964 : BitVec 32 := 0#32
  let v1334 : BitVec 1 := Scalar.cmpi .ne v1333 c0_i32_964
  v1334

def k0_chk63 (v1044 : BitVec 32) : Prop :=
  (∀ (k0_h15 : k0_cond15 v1044 = 1#1), ∀ a, (k0_off63 v1044) a + S1x1024.size a ≤ S64x1024.size a) ∧
  (∀ (k0_h15 : k0_cond15 v1044 = 1#1), (k0_dev46 v1044) < nD) ∧
  (∀ (k0_h63 : k0_cond63 v1044 = 1#1), ∀ a, (k0_off111 v1044) a + S1x1024.size a ≤ S64x1024.size a)
theorem k0_off63_inb : ∀ (v1044 : BitVec 32) (k0_hw63 : k0_chk63 v1044), ∀ (k0_h15 : k0_cond15 v1044 = 1#1), ∀ a, (k0_off63 v1044) a + S1x1024.size a ≤ S64x1024.size a := fun v1044 k0_hw63 k0_h15 => k0_hw63.1 k0_h15
theorem k0_dev46_lt : ∀ (v1044 : BitVec 32) (k0_hw63 : k0_chk63 v1044), ∀ (k0_h15 : k0_cond15 v1044 = 1#1), (k0_dev46 v1044) < nD := fun v1044 k0_hw63 k0_h15 => k0_hw63.2.1 k0_h15
theorem k0_off111_inb : ∀ (v1044 : BitVec 32) (k0_hw63 : k0_chk63 v1044), ∀ (k0_h63 : k0_cond63 v1044 = 1#1), ∀ a, (k0_off111 v1044) a + S1x1024.size a ≤ S64x1024.size a := fun v1044 k0_hw63 k0_h63 => k0_hw63.2.2 k0_h63

def k0_off112 (v1047 : BitVec 32) : Fin 2 → Nat :=
  let c64_i32_661 : BitVec 32 := 64#32
  let v1048 : BitVec 32 := Scalar.remsi v1047 c64_i32_661
  let c0_i32_1075 : BitVec 32 := 0#32
  ![v1048.toNat, 0]
def k0_cond64 (v1047 : BitVec 32) : BitVec 1 :=
  let c0_i32_965 : BitVec 32 := 0#32
  let v1335 : BitVec 1 := Scalar.cmpi .sge v1047 c0_i32_965
  let v1336 : BitVec 32 := Scalar.extui v1335
  let c0_i32_967 : BitVec 32 := 0#32
  let v1337 : BitVec 1 := Scalar.cmpi .ne v1336 c0_i32_967
  v1337

def k0_chk64 (v1047 : BitVec 32) : Prop :=
  (∀ (k0_h16 : k0_cond16 v1047 = 1#1), ∀ a, (k0_off64 v1047) a + S1x1024.size a ≤ S64x1024.size a) ∧
  (∀ (k0_h16 : k0_cond16 v1047 = 1#1), (k0_dev47 v1047) < nD) ∧
  (∀ (k0_h64 : k0_cond64 v1047 = 1#1), ∀ a, (k0_off112 v1047) a + S1x1024.size a ≤ S64x1024.size a)
theorem k0_off64_inb : ∀ (v1047 : BitVec 32) (k0_hw64 : k0_chk64 v1047), ∀ (k0_h16 : k0_cond16 v1047 = 1#1), ∀ a, (k0_off64 v1047) a + S1x1024.size a ≤ S64x1024.size a := fun v1047 k0_hw64 k0_h16 => k0_hw64.1 k0_h16
theorem k0_dev47_lt : ∀ (v1047 : BitVec 32) (k0_hw64 : k0_chk64 v1047), ∀ (k0_h16 : k0_cond16 v1047 = 1#1), (k0_dev47 v1047) < nD := fun v1047 k0_hw64 k0_h16 => k0_hw64.2.1 k0_h16
theorem k0_off112_inb : ∀ (v1047 : BitVec 32) (k0_hw64 : k0_chk64 v1047), ∀ (k0_h64 : k0_cond64 v1047 = 1#1), ∀ a, (k0_off112 v1047) a + S1x1024.size a ≤ S64x1024.size a := fun v1047 k0_hw64 k0_h64 => k0_hw64.2.2 k0_h64

def k0_off113 (v1050 : BitVec 32) : Fin 2 → Nat :=
  let c64_i32_665 : BitVec 32 := 64#32
  let v1051 : BitVec 32 := Scalar.remsi v1050 c64_i32_665
  let c0_i32_1075 : BitVec 32 := 0#32
  ![v1051.toNat, 0]
def k0_cond65 (v1050 : BitVec 32) : BitVec 1 :=
  let c0_i32_968 : BitVec 32 := 0#32
  let v1338 : BitVec 1 := Scalar.cmpi .sge v1050 c0_i32_968
  let v1339 : BitVec 32 := Scalar.extui v1338
  let c0_i32_970 : BitVec 32 := 0#32
  let v1340 : BitVec 1 := Scalar.cmpi .ne v1339 c0_i32_970
  v1340

def k0_chk65 (v1050 : BitVec 32) : Prop :=
  (∀ (k0_h17 : k0_cond17 v1050 = 1#1), ∀ a, (k0_off65 v1050) a + S1x1024.size a ≤ S64x1024.size a) ∧
  (∀ (k0_h17 : k0_cond17 v1050 = 1#1), (k0_dev48 v1050) < nD) ∧
  (∀ (k0_h65 : k0_cond65 v1050 = 1#1), ∀ a, (k0_off113 v1050) a + S1x1024.size a ≤ S64x1024.size a)
theorem k0_off65_inb : ∀ (v1050 : BitVec 32) (k0_hw65 : k0_chk65 v1050), ∀ (k0_h17 : k0_cond17 v1050 = 1#1), ∀ a, (k0_off65 v1050) a + S1x1024.size a ≤ S64x1024.size a := fun v1050 k0_hw65 k0_h17 => k0_hw65.1 k0_h17
theorem k0_dev48_lt : ∀ (v1050 : BitVec 32) (k0_hw65 : k0_chk65 v1050), ∀ (k0_h17 : k0_cond17 v1050 = 1#1), (k0_dev48 v1050) < nD := fun v1050 k0_hw65 k0_h17 => k0_hw65.2.1 k0_h17
theorem k0_off113_inb : ∀ (v1050 : BitVec 32) (k0_hw65 : k0_chk65 v1050), ∀ (k0_h65 : k0_cond65 v1050 = 1#1), ∀ a, (k0_off113 v1050) a + S1x1024.size a ≤ S64x1024.size a := fun v1050 k0_hw65 k0_h65 => k0_hw65.2.2 k0_h65

def k0_off114 (v1053 : BitVec 32) : Fin 2 → Nat :=
  let c64_i32_669 : BitVec 32 := 64#32
  let v1054 : BitVec 32 := Scalar.remsi v1053 c64_i32_669
  let c0_i32_1075 : BitVec 32 := 0#32
  ![v1054.toNat, 0]
def k0_cond66 (v1053 : BitVec 32) : BitVec 1 :=
  let c0_i32_971 : BitVec 32 := 0#32
  let v1341 : BitVec 1 := Scalar.cmpi .sge v1053 c0_i32_971
  let v1342 : BitVec 32 := Scalar.extui v1341
  let c0_i32_973 : BitVec 32 := 0#32
  let v1343 : BitVec 1 := Scalar.cmpi .ne v1342 c0_i32_973
  v1343

def k0_chk66 (v1053 : BitVec 32) : Prop :=
  (∀ (k0_h18 : k0_cond18 v1053 = 1#1), ∀ a, (k0_off66 v1053) a + S1x1024.size a ≤ S64x1024.size a) ∧
  (∀ (k0_h18 : k0_cond18 v1053 = 1#1), (k0_dev49 v1053) < nD) ∧
  (∀ (k0_h66 : k0_cond66 v1053 = 1#1), ∀ a, (k0_off114 v1053) a + S1x1024.size a ≤ S64x1024.size a)
theorem k0_off66_inb : ∀ (v1053 : BitVec 32) (k0_hw66 : k0_chk66 v1053), ∀ (k0_h18 : k0_cond18 v1053 = 1#1), ∀ a, (k0_off66 v1053) a + S1x1024.size a ≤ S64x1024.size a := fun v1053 k0_hw66 k0_h18 => k0_hw66.1 k0_h18
theorem k0_dev49_lt : ∀ (v1053 : BitVec 32) (k0_hw66 : k0_chk66 v1053), ∀ (k0_h18 : k0_cond18 v1053 = 1#1), (k0_dev49 v1053) < nD := fun v1053 k0_hw66 k0_h18 => k0_hw66.2.1 k0_h18
theorem k0_off114_inb : ∀ (v1053 : BitVec 32) (k0_hw66 : k0_chk66 v1053), ∀ (k0_h66 : k0_cond66 v1053 = 1#1), ∀ a, (k0_off114 v1053) a + S1x1024.size a ≤ S64x1024.size a := fun v1053 k0_hw66 k0_h66 => k0_hw66.2.2 k0_h66

def k0_off115 (v1056 : BitVec 32) : Fin 2 → Nat :=
  let c64_i32_673 : BitVec 32 := 64#32
  let v1057 : BitVec 32 := Scalar.remsi v1056 c64_i32_673
  let c0_i32_1075 : BitVec 32 := 0#32
  ![v1057.toNat, 0]
def k0_cond67 (v1056 : BitVec 32) : BitVec 1 :=
  let c0_i32_974 : BitVec 32 := 0#32
  let v1344 : BitVec 1 := Scalar.cmpi .sge v1056 c0_i32_974
  let v1345 : BitVec 32 := Scalar.extui v1344
  let c0_i32_976 : BitVec 32 := 0#32
  let v1346 : BitVec 1 := Scalar.cmpi .ne v1345 c0_i32_976
  v1346

def k0_chk67 (v1056 : BitVec 32) : Prop :=
  (∀ (k0_h19 : k0_cond19 v1056 = 1#1), ∀ a, (k0_off67 v1056) a + S1x1024.size a ≤ S64x1024.size a) ∧
  (∀ (k0_h19 : k0_cond19 v1056 = 1#1), (k0_dev50 v1056) < nD) ∧
  (∀ (k0_h67 : k0_cond67 v1056 = 1#1), ∀ a, (k0_off115 v1056) a + S1x1024.size a ≤ S64x1024.size a)
theorem k0_off67_inb : ∀ (v1056 : BitVec 32) (k0_hw67 : k0_chk67 v1056), ∀ (k0_h19 : k0_cond19 v1056 = 1#1), ∀ a, (k0_off67 v1056) a + S1x1024.size a ≤ S64x1024.size a := fun v1056 k0_hw67 k0_h19 => k0_hw67.1 k0_h19
theorem k0_dev50_lt : ∀ (v1056 : BitVec 32) (k0_hw67 : k0_chk67 v1056), ∀ (k0_h19 : k0_cond19 v1056 = 1#1), (k0_dev50 v1056) < nD := fun v1056 k0_hw67 k0_h19 => k0_hw67.2.1 k0_h19
theorem k0_off115_inb : ∀ (v1056 : BitVec 32) (k0_hw67 : k0_chk67 v1056), ∀ (k0_h67 : k0_cond67 v1056 = 1#1), ∀ a, (k0_off115 v1056) a + S1x1024.size a ≤ S64x1024.size a := fun v1056 k0_hw67 k0_h67 => k0_hw67.2.2 k0_h67

def k0_off116 (v1059 : BitVec 32) : Fin 2 → Nat :=
  let c64_i32_677 : BitVec 32 := 64#32
  let v1060 : BitVec 32 := Scalar.remsi v1059 c64_i32_677
  let c0_i32_1075 : BitVec 32 := 0#32
  ![v1060.toNat, 0]
def k0_cond68 (v1059 : BitVec 32) : BitVec 1 :=
  let c0_i32_977 : BitVec 32 := 0#32
  let v1347 : BitVec 1 := Scalar.cmpi .sge v1059 c0_i32_977
  let v1348 : BitVec 32 := Scalar.extui v1347
  let c0_i32_979 : BitVec 32 := 0#32
  let v1349 : BitVec 1 := Scalar.cmpi .ne v1348 c0_i32_979
  v1349

def k0_chk68 (v1059 : BitVec 32) : Prop :=
  (∀ (k0_h20 : k0_cond20 v1059 = 1#1), ∀ a, (k0_off68 v1059) a + S1x1024.size a ≤ S64x1024.size a) ∧
  (∀ (k0_h20 : k0_cond20 v1059 = 1#1), (k0_dev51 v1059) < nD) ∧
  (∀ (k0_h68 : k0_cond68 v1059 = 1#1), ∀ a, (k0_off116 v1059) a + S1x1024.size a ≤ S64x1024.size a)
theorem k0_off68_inb : ∀ (v1059 : BitVec 32) (k0_hw68 : k0_chk68 v1059), ∀ (k0_h20 : k0_cond20 v1059 = 1#1), ∀ a, (k0_off68 v1059) a + S1x1024.size a ≤ S64x1024.size a := fun v1059 k0_hw68 k0_h20 => k0_hw68.1 k0_h20
theorem k0_dev51_lt : ∀ (v1059 : BitVec 32) (k0_hw68 : k0_chk68 v1059), ∀ (k0_h20 : k0_cond20 v1059 = 1#1), (k0_dev51 v1059) < nD := fun v1059 k0_hw68 k0_h20 => k0_hw68.2.1 k0_h20
theorem k0_off116_inb : ∀ (v1059 : BitVec 32) (k0_hw68 : k0_chk68 v1059), ∀ (k0_h68 : k0_cond68 v1059 = 1#1), ∀ a, (k0_off116 v1059) a + S1x1024.size a ≤ S64x1024.size a := fun v1059 k0_hw68 k0_h68 => k0_hw68.2.2 k0_h68

def k0_off117 (v1062 : BitVec 32) : Fin 2 → Nat :=
  let c64_i32_681 : BitVec 32 := 64#32
  let v1063 : BitVec 32 := Scalar.remsi v1062 c64_i32_681
  let c0_i32_1075 : BitVec 32 := 0#32
  ![v1063.toNat, 0]
def k0_cond69 (v1062 : BitVec 32) : BitVec 1 :=
  let c0_i32_980 : BitVec 32 := 0#32
  let v1350 : BitVec 1 := Scalar.cmpi .sge v1062 c0_i32_980
  let v1351 : BitVec 32 := Scalar.extui v1350
  let c0_i32_982 : BitVec 32 := 0#32
  let v1352 : BitVec 1 := Scalar.cmpi .ne v1351 c0_i32_982
  v1352

def k0_chk69 (v1062 : BitVec 32) : Prop :=
  (∀ (k0_h21 : k0_cond21 v1062 = 1#1), ∀ a, (k0_off69 v1062) a + S1x1024.size a ≤ S64x1024.size a) ∧
  (∀ (k0_h21 : k0_cond21 v1062 = 1#1), (k0_dev52 v1062) < nD) ∧
  (∀ (k0_h69 : k0_cond69 v1062 = 1#1), ∀ a, (k0_off117 v1062) a + S1x1024.size a ≤ S64x1024.size a)
theorem k0_off69_inb : ∀ (v1062 : BitVec 32) (k0_hw69 : k0_chk69 v1062), ∀ (k0_h21 : k0_cond21 v1062 = 1#1), ∀ a, (k0_off69 v1062) a + S1x1024.size a ≤ S64x1024.size a := fun v1062 k0_hw69 k0_h21 => k0_hw69.1 k0_h21
theorem k0_dev52_lt : ∀ (v1062 : BitVec 32) (k0_hw69 : k0_chk69 v1062), ∀ (k0_h21 : k0_cond21 v1062 = 1#1), (k0_dev52 v1062) < nD := fun v1062 k0_hw69 k0_h21 => k0_hw69.2.1 k0_h21
theorem k0_off117_inb : ∀ (v1062 : BitVec 32) (k0_hw69 : k0_chk69 v1062), ∀ (k0_h69 : k0_cond69 v1062 = 1#1), ∀ a, (k0_off117 v1062) a + S1x1024.size a ≤ S64x1024.size a := fun v1062 k0_hw69 k0_h69 => k0_hw69.2.2 k0_h69

def k0_off118 (v1065 : BitVec 32) : Fin 2 → Nat :=
  let c64_i32_685 : BitVec 32 := 64#32
  let v1066 : BitVec 32 := Scalar.remsi v1065 c64_i32_685
  let c0_i32_1075 : BitVec 32 := 0#32
  ![v1066.toNat, 0]
def k0_cond70 (v1065 : BitVec 32) : BitVec 1 :=
  let c0_i32_983 : BitVec 32 := 0#32
  let v1353 : BitVec 1 := Scalar.cmpi .sge v1065 c0_i32_983
  let v1354 : BitVec 32 := Scalar.extui v1353
  let c0_i32_985 : BitVec 32 := 0#32
  let v1355 : BitVec 1 := Scalar.cmpi .ne v1354 c0_i32_985
  v1355

def k0_chk70 (v1065 : BitVec 32) : Prop :=
  (∀ (k0_h22 : k0_cond22 v1065 = 1#1), ∀ a, (k0_off70 v1065) a + S1x1024.size a ≤ S64x1024.size a) ∧
  (∀ (k0_h22 : k0_cond22 v1065 = 1#1), (k0_dev53 v1065) < nD) ∧
  (∀ (k0_h70 : k0_cond70 v1065 = 1#1), ∀ a, (k0_off118 v1065) a + S1x1024.size a ≤ S64x1024.size a)
theorem k0_off70_inb : ∀ (v1065 : BitVec 32) (k0_hw70 : k0_chk70 v1065), ∀ (k0_h22 : k0_cond22 v1065 = 1#1), ∀ a, (k0_off70 v1065) a + S1x1024.size a ≤ S64x1024.size a := fun v1065 k0_hw70 k0_h22 => k0_hw70.1 k0_h22
theorem k0_dev53_lt : ∀ (v1065 : BitVec 32) (k0_hw70 : k0_chk70 v1065), ∀ (k0_h22 : k0_cond22 v1065 = 1#1), (k0_dev53 v1065) < nD := fun v1065 k0_hw70 k0_h22 => k0_hw70.2.1 k0_h22
theorem k0_off118_inb : ∀ (v1065 : BitVec 32) (k0_hw70 : k0_chk70 v1065), ∀ (k0_h70 : k0_cond70 v1065 = 1#1), ∀ a, (k0_off118 v1065) a + S1x1024.size a ≤ S64x1024.size a := fun v1065 k0_hw70 k0_h70 => k0_hw70.2.2 k0_h70

def k0_off119 (v1068 : BitVec 32) : Fin 2 → Nat :=
  let c64_i32_689 : BitVec 32 := 64#32
  let v1069 : BitVec 32 := Scalar.remsi v1068 c64_i32_689
  let c0_i32_1075 : BitVec 32 := 0#32
  ![v1069.toNat, 0]
def k0_cond71 (v1068 : BitVec 32) : BitVec 1 :=
  let c0_i32_986 : BitVec 32 := 0#32
  let v1356 : BitVec 1 := Scalar.cmpi .sge v1068 c0_i32_986
  let v1357 : BitVec 32 := Scalar.extui v1356
  let c0_i32_988 : BitVec 32 := 0#32
  let v1358 : BitVec 1 := Scalar.cmpi .ne v1357 c0_i32_988
  v1358

def k0_chk71 (v1068 : BitVec 32) : Prop :=
  (∀ (k0_h23 : k0_cond23 v1068 = 1#1), ∀ a, (k0_off71 v1068) a + S1x1024.size a ≤ S64x1024.size a) ∧
  (∀ (k0_h23 : k0_cond23 v1068 = 1#1), (k0_dev54 v1068) < nD) ∧
  (∀ (k0_h71 : k0_cond71 v1068 = 1#1), ∀ a, (k0_off119 v1068) a + S1x1024.size a ≤ S64x1024.size a)
theorem k0_off71_inb : ∀ (v1068 : BitVec 32) (k0_hw71 : k0_chk71 v1068), ∀ (k0_h23 : k0_cond23 v1068 = 1#1), ∀ a, (k0_off71 v1068) a + S1x1024.size a ≤ S64x1024.size a := fun v1068 k0_hw71 k0_h23 => k0_hw71.1 k0_h23
theorem k0_dev54_lt : ∀ (v1068 : BitVec 32) (k0_hw71 : k0_chk71 v1068), ∀ (k0_h23 : k0_cond23 v1068 = 1#1), (k0_dev54 v1068) < nD := fun v1068 k0_hw71 k0_h23 => k0_hw71.2.1 k0_h23
theorem k0_off119_inb : ∀ (v1068 : BitVec 32) (k0_hw71 : k0_chk71 v1068), ∀ (k0_h71 : k0_cond71 v1068 = 1#1), ∀ a, (k0_off119 v1068) a + S1x1024.size a ≤ S64x1024.size a := fun v1068 k0_hw71 k0_h71 => k0_hw71.2.2 k0_h71

def k0_off120 (v1071 : BitVec 32) : Fin 2 → Nat :=
  let c64_i32_693 : BitVec 32 := 64#32
  let v1072 : BitVec 32 := Scalar.remsi v1071 c64_i32_693
  let c0_i32_1075 : BitVec 32 := 0#32
  ![v1072.toNat, 0]
def k0_cond72 (v1071 : BitVec 32) : BitVec 1 :=
  let c0_i32_989 : BitVec 32 := 0#32
  let v1359 : BitVec 1 := Scalar.cmpi .sge v1071 c0_i32_989
  let v1360 : BitVec 32 := Scalar.extui v1359
  let c0_i32_991 : BitVec 32 := 0#32
  let v1361 : BitVec 1 := Scalar.cmpi .ne v1360 c0_i32_991
  v1361

def k0_chk72 (v1071 : BitVec 32) : Prop :=
  (∀ (k0_h24 : k0_cond24 v1071 = 1#1), ∀ a, (k0_off72 v1071) a + S1x1024.size a ≤ S64x1024.size a) ∧
  (∀ (k0_h24 : k0_cond24 v1071 = 1#1), (k0_dev55 v1071) < nD) ∧
  (∀ (k0_h72 : k0_cond72 v1071 = 1#1), ∀ a, (k0_off120 v1071) a + S1x1024.size a ≤ S64x1024.size a)
theorem k0_off72_inb : ∀ (v1071 : BitVec 32) (k0_hw72 : k0_chk72 v1071), ∀ (k0_h24 : k0_cond24 v1071 = 1#1), ∀ a, (k0_off72 v1071) a + S1x1024.size a ≤ S64x1024.size a := fun v1071 k0_hw72 k0_h24 => k0_hw72.1 k0_h24
theorem k0_dev55_lt : ∀ (v1071 : BitVec 32) (k0_hw72 : k0_chk72 v1071), ∀ (k0_h24 : k0_cond24 v1071 = 1#1), (k0_dev55 v1071) < nD := fun v1071 k0_hw72 k0_h24 => k0_hw72.2.1 k0_h24
theorem k0_off120_inb : ∀ (v1071 : BitVec 32) (k0_hw72 : k0_chk72 v1071), ∀ (k0_h72 : k0_cond72 v1071 = 1#1), ∀ a, (k0_off120 v1071) a + S1x1024.size a ≤ S64x1024.size a := fun v1071 k0_hw72 k0_h72 => k0_hw72.2.2 k0_h72

def k0_off121 (v1074 : BitVec 32) : Fin 2 → Nat :=
  let c64_i32_697 : BitVec 32 := 64#32
  let v1075 : BitVec 32 := Scalar.remsi v1074 c64_i32_697
  let c0_i32_1075 : BitVec 32 := 0#32
  ![v1075.toNat, 0]
def k0_cond73 (v1074 : BitVec 32) : BitVec 1 :=
  let c0_i32_992 : BitVec 32 := 0#32
  let v1362 : BitVec 1 := Scalar.cmpi .sge v1074 c0_i32_992
  let v1363 : BitVec 32 := Scalar.extui v1362
  let c0_i32_994 : BitVec 32 := 0#32
  let v1364 : BitVec 1 := Scalar.cmpi .ne v1363 c0_i32_994
  v1364

def k0_chk73 (v1074 : BitVec 32) : Prop :=
  (∀ (k0_h25 : k0_cond25 v1074 = 1#1), ∀ a, (k0_off73 v1074) a + S1x1024.size a ≤ S64x1024.size a) ∧
  (∀ (k0_h25 : k0_cond25 v1074 = 1#1), (k0_dev56 v1074) < nD) ∧
  (∀ (k0_h73 : k0_cond73 v1074 = 1#1), ∀ a, (k0_off121 v1074) a + S1x1024.size a ≤ S64x1024.size a)
theorem k0_off73_inb : ∀ (v1074 : BitVec 32) (k0_hw73 : k0_chk73 v1074), ∀ (k0_h25 : k0_cond25 v1074 = 1#1), ∀ a, (k0_off73 v1074) a + S1x1024.size a ≤ S64x1024.size a := fun v1074 k0_hw73 k0_h25 => k0_hw73.1 k0_h25
theorem k0_dev56_lt : ∀ (v1074 : BitVec 32) (k0_hw73 : k0_chk73 v1074), ∀ (k0_h25 : k0_cond25 v1074 = 1#1), (k0_dev56 v1074) < nD := fun v1074 k0_hw73 k0_h25 => k0_hw73.2.1 k0_h25
theorem k0_off121_inb : ∀ (v1074 : BitVec 32) (k0_hw73 : k0_chk73 v1074), ∀ (k0_h73 : k0_cond73 v1074 = 1#1), ∀ a, (k0_off121 v1074) a + S1x1024.size a ≤ S64x1024.size a := fun v1074 k0_hw73 k0_h73 => k0_hw73.2.2 k0_h73

def k0_off122 (v1077 : BitVec 32) : Fin 2 → Nat :=
  let c64_i32_701 : BitVec 32 := 64#32
  let v1078 : BitVec 32 := Scalar.remsi v1077 c64_i32_701
  let c0_i32_1075 : BitVec 32 := 0#32
  ![v1078.toNat, 0]
def k0_cond74 (v1077 : BitVec 32) : BitVec 1 :=
  let c0_i32_995 : BitVec 32 := 0#32
  let v1365 : BitVec 1 := Scalar.cmpi .sge v1077 c0_i32_995
  let v1366 : BitVec 32 := Scalar.extui v1365
  let c0_i32_997 : BitVec 32 := 0#32
  let v1367 : BitVec 1 := Scalar.cmpi .ne v1366 c0_i32_997
  v1367

def k0_chk74 (v1077 : BitVec 32) : Prop :=
  (∀ (k0_h26 : k0_cond26 v1077 = 1#1), ∀ a, (k0_off74 v1077) a + S1x1024.size a ≤ S64x1024.size a) ∧
  (∀ (k0_h26 : k0_cond26 v1077 = 1#1), (k0_dev57 v1077) < nD) ∧
  (∀ (k0_h74 : k0_cond74 v1077 = 1#1), ∀ a, (k0_off122 v1077) a + S1x1024.size a ≤ S64x1024.size a)
theorem k0_off74_inb : ∀ (v1077 : BitVec 32) (k0_hw74 : k0_chk74 v1077), ∀ (k0_h26 : k0_cond26 v1077 = 1#1), ∀ a, (k0_off74 v1077) a + S1x1024.size a ≤ S64x1024.size a := fun v1077 k0_hw74 k0_h26 => k0_hw74.1 k0_h26
theorem k0_dev57_lt : ∀ (v1077 : BitVec 32) (k0_hw74 : k0_chk74 v1077), ∀ (k0_h26 : k0_cond26 v1077 = 1#1), (k0_dev57 v1077) < nD := fun v1077 k0_hw74 k0_h26 => k0_hw74.2.1 k0_h26
theorem k0_off122_inb : ∀ (v1077 : BitVec 32) (k0_hw74 : k0_chk74 v1077), ∀ (k0_h74 : k0_cond74 v1077 = 1#1), ∀ a, (k0_off122 v1077) a + S1x1024.size a ≤ S64x1024.size a := fun v1077 k0_hw74 k0_h74 => k0_hw74.2.2 k0_h74

def k0_off123 (v1080 : BitVec 32) : Fin 2 → Nat :=
  let c64_i32_705 : BitVec 32 := 64#32
  let v1081 : BitVec 32 := Scalar.remsi v1080 c64_i32_705
  let c0_i32_1075 : BitVec 32 := 0#32
  ![v1081.toNat, 0]
def k0_cond75 (v1080 : BitVec 32) : BitVec 1 :=
  let c0_i32_998 : BitVec 32 := 0#32
  let v1368 : BitVec 1 := Scalar.cmpi .sge v1080 c0_i32_998
  let v1369 : BitVec 32 := Scalar.extui v1368
  let c0_i32_1000 : BitVec 32 := 0#32
  let v1370 : BitVec 1 := Scalar.cmpi .ne v1369 c0_i32_1000
  v1370

def k0_chk75 (v1080 : BitVec 32) : Prop :=
  (∀ (k0_h27 : k0_cond27 v1080 = 1#1), ∀ a, (k0_off75 v1080) a + S1x1024.size a ≤ S64x1024.size a) ∧
  (∀ (k0_h27 : k0_cond27 v1080 = 1#1), (k0_dev58 v1080) < nD) ∧
  (∀ (k0_h75 : k0_cond75 v1080 = 1#1), ∀ a, (k0_off123 v1080) a + S1x1024.size a ≤ S64x1024.size a)
theorem k0_off75_inb : ∀ (v1080 : BitVec 32) (k0_hw75 : k0_chk75 v1080), ∀ (k0_h27 : k0_cond27 v1080 = 1#1), ∀ a, (k0_off75 v1080) a + S1x1024.size a ≤ S64x1024.size a := fun v1080 k0_hw75 k0_h27 => k0_hw75.1 k0_h27
theorem k0_dev58_lt : ∀ (v1080 : BitVec 32) (k0_hw75 : k0_chk75 v1080), ∀ (k0_h27 : k0_cond27 v1080 = 1#1), (k0_dev58 v1080) < nD := fun v1080 k0_hw75 k0_h27 => k0_hw75.2.1 k0_h27
theorem k0_off123_inb : ∀ (v1080 : BitVec 32) (k0_hw75 : k0_chk75 v1080), ∀ (k0_h75 : k0_cond75 v1080 = 1#1), ∀ a, (k0_off123 v1080) a + S1x1024.size a ≤ S64x1024.size a := fun v1080 k0_hw75 k0_h75 => k0_hw75.2.2 k0_h75

def k0_off124 (v1083 : BitVec 32) : Fin 2 → Nat :=
  let c64_i32_709 : BitVec 32 := 64#32
  let v1084 : BitVec 32 := Scalar.remsi v1083 c64_i32_709
  let c0_i32_1075 : BitVec 32 := 0#32
  ![v1084.toNat, 0]
def k0_cond76 (v1083 : BitVec 32) : BitVec 1 :=
  let c0_i32_1001 : BitVec 32 := 0#32
  let v1371 : BitVec 1 := Scalar.cmpi .sge v1083 c0_i32_1001
  let v1372 : BitVec 32 := Scalar.extui v1371
  let c0_i32_1003 : BitVec 32 := 0#32
  let v1373 : BitVec 1 := Scalar.cmpi .ne v1372 c0_i32_1003
  v1373

def k0_chk76 (v1083 : BitVec 32) : Prop :=
  (∀ (k0_h28 : k0_cond28 v1083 = 1#1), ∀ a, (k0_off76 v1083) a + S1x1024.size a ≤ S64x1024.size a) ∧
  (∀ (k0_h28 : k0_cond28 v1083 = 1#1), (k0_dev59 v1083) < nD) ∧
  (∀ (k0_h76 : k0_cond76 v1083 = 1#1), ∀ a, (k0_off124 v1083) a + S1x1024.size a ≤ S64x1024.size a)
theorem k0_off76_inb : ∀ (v1083 : BitVec 32) (k0_hw76 : k0_chk76 v1083), ∀ (k0_h28 : k0_cond28 v1083 = 1#1), ∀ a, (k0_off76 v1083) a + S1x1024.size a ≤ S64x1024.size a := fun v1083 k0_hw76 k0_h28 => k0_hw76.1 k0_h28
theorem k0_dev59_lt : ∀ (v1083 : BitVec 32) (k0_hw76 : k0_chk76 v1083), ∀ (k0_h28 : k0_cond28 v1083 = 1#1), (k0_dev59 v1083) < nD := fun v1083 k0_hw76 k0_h28 => k0_hw76.2.1 k0_h28
theorem k0_off124_inb : ∀ (v1083 : BitVec 32) (k0_hw76 : k0_chk76 v1083), ∀ (k0_h76 : k0_cond76 v1083 = 1#1), ∀ a, (k0_off124 v1083) a + S1x1024.size a ≤ S64x1024.size a := fun v1083 k0_hw76 k0_h76 => k0_hw76.2.2 k0_h76

def k0_off125 (v1086 : BitVec 32) : Fin 2 → Nat :=
  let c64_i32_713 : BitVec 32 := 64#32
  let v1087 : BitVec 32 := Scalar.remsi v1086 c64_i32_713
  let c0_i32_1075 : BitVec 32 := 0#32
  ![v1087.toNat, 0]
def k0_cond77 (v1086 : BitVec 32) : BitVec 1 :=
  let c0_i32_1004 : BitVec 32 := 0#32
  let v1374 : BitVec 1 := Scalar.cmpi .sge v1086 c0_i32_1004
  let v1375 : BitVec 32 := Scalar.extui v1374
  let c0_i32_1006 : BitVec 32 := 0#32
  let v1376 : BitVec 1 := Scalar.cmpi .ne v1375 c0_i32_1006
  v1376

def k0_chk77 (v1086 : BitVec 32) : Prop :=
  (∀ (k0_h29 : k0_cond29 v1086 = 1#1), ∀ a, (k0_off77 v1086) a + S1x1024.size a ≤ S64x1024.size a) ∧
  (∀ (k0_h29 : k0_cond29 v1086 = 1#1), (k0_dev60 v1086) < nD) ∧
  (∀ (k0_h77 : k0_cond77 v1086 = 1#1), ∀ a, (k0_off125 v1086) a + S1x1024.size a ≤ S64x1024.size a)
theorem k0_off77_inb : ∀ (v1086 : BitVec 32) (k0_hw77 : k0_chk77 v1086), ∀ (k0_h29 : k0_cond29 v1086 = 1#1), ∀ a, (k0_off77 v1086) a + S1x1024.size a ≤ S64x1024.size a := fun v1086 k0_hw77 k0_h29 => k0_hw77.1 k0_h29
theorem k0_dev60_lt : ∀ (v1086 : BitVec 32) (k0_hw77 : k0_chk77 v1086), ∀ (k0_h29 : k0_cond29 v1086 = 1#1), (k0_dev60 v1086) < nD := fun v1086 k0_hw77 k0_h29 => k0_hw77.2.1 k0_h29
theorem k0_off125_inb : ∀ (v1086 : BitVec 32) (k0_hw77 : k0_chk77 v1086), ∀ (k0_h77 : k0_cond77 v1086 = 1#1), ∀ a, (k0_off125 v1086) a + S1x1024.size a ≤ S64x1024.size a := fun v1086 k0_hw77 k0_h77 => k0_hw77.2.2 k0_h77

def k0_off126 (v1089 : BitVec 32) : Fin 2 → Nat :=
  let c64_i32_717 : BitVec 32 := 64#32
  let v1090 : BitVec 32 := Scalar.remsi v1089 c64_i32_717
  let c0_i32_1075 : BitVec 32 := 0#32
  ![v1090.toNat, 0]
def k0_cond78 (v1089 : BitVec 32) : BitVec 1 :=
  let c0_i32_1007 : BitVec 32 := 0#32
  let v1377 : BitVec 1 := Scalar.cmpi .sge v1089 c0_i32_1007
  let v1378 : BitVec 32 := Scalar.extui v1377
  let c0_i32_1009 : BitVec 32 := 0#32
  let v1379 : BitVec 1 := Scalar.cmpi .ne v1378 c0_i32_1009
  v1379

def k0_chk78 (v1089 : BitVec 32) : Prop :=
  (∀ (k0_h30 : k0_cond30 v1089 = 1#1), ∀ a, (k0_off78 v1089) a + S1x1024.size a ≤ S64x1024.size a) ∧
  (∀ (k0_h30 : k0_cond30 v1089 = 1#1), (k0_dev61 v1089) < nD) ∧
  (∀ (k0_h78 : k0_cond78 v1089 = 1#1), ∀ a, (k0_off126 v1089) a + S1x1024.size a ≤ S64x1024.size a)
theorem k0_off78_inb : ∀ (v1089 : BitVec 32) (k0_hw78 : k0_chk78 v1089), ∀ (k0_h30 : k0_cond30 v1089 = 1#1), ∀ a, (k0_off78 v1089) a + S1x1024.size a ≤ S64x1024.size a := fun v1089 k0_hw78 k0_h30 => k0_hw78.1 k0_h30
theorem k0_dev61_lt : ∀ (v1089 : BitVec 32) (k0_hw78 : k0_chk78 v1089), ∀ (k0_h30 : k0_cond30 v1089 = 1#1), (k0_dev61 v1089) < nD := fun v1089 k0_hw78 k0_h30 => k0_hw78.2.1 k0_h30
theorem k0_off126_inb : ∀ (v1089 : BitVec 32) (k0_hw78 : k0_chk78 v1089), ∀ (k0_h78 : k0_cond78 v1089 = 1#1), ∀ a, (k0_off126 v1089) a + S1x1024.size a ≤ S64x1024.size a := fun v1089 k0_hw78 k0_h78 => k0_hw78.2.2 k0_h78

def k0_off127 (v1092 : BitVec 32) : Fin 2 → Nat :=
  let c64_i32_721 : BitVec 32 := 64#32
  let v1093 : BitVec 32 := Scalar.remsi v1092 c64_i32_721
  let c0_i32_1075 : BitVec 32 := 0#32
  ![v1093.toNat, 0]
def k0_cond79 (v1092 : BitVec 32) : BitVec 1 :=
  let c0_i32_1010 : BitVec 32 := 0#32
  let v1380 : BitVec 1 := Scalar.cmpi .sge v1092 c0_i32_1010
  let v1381 : BitVec 32 := Scalar.extui v1380
  let c0_i32_1012 : BitVec 32 := 0#32
  let v1382 : BitVec 1 := Scalar.cmpi .ne v1381 c0_i32_1012
  v1382

def k0_chk79 (v1092 : BitVec 32) : Prop :=
  (∀ (k0_h31 : k0_cond31 v1092 = 1#1), ∀ a, (k0_off79 v1092) a + S1x1024.size a ≤ S64x1024.size a) ∧
  (∀ (k0_h31 : k0_cond31 v1092 = 1#1), (k0_dev62 v1092) < nD) ∧
  (∀ (k0_h79 : k0_cond79 v1092 = 1#1), ∀ a, (k0_off127 v1092) a + S1x1024.size a ≤ S64x1024.size a)
theorem k0_off79_inb : ∀ (v1092 : BitVec 32) (k0_hw79 : k0_chk79 v1092), ∀ (k0_h31 : k0_cond31 v1092 = 1#1), ∀ a, (k0_off79 v1092) a + S1x1024.size a ≤ S64x1024.size a := fun v1092 k0_hw79 k0_h31 => k0_hw79.1 k0_h31
theorem k0_dev62_lt : ∀ (v1092 : BitVec 32) (k0_hw79 : k0_chk79 v1092), ∀ (k0_h31 : k0_cond31 v1092 = 1#1), (k0_dev62 v1092) < nD := fun v1092 k0_hw79 k0_h31 => k0_hw79.2.1 k0_h31
theorem k0_off127_inb : ∀ (v1092 : BitVec 32) (k0_hw79 : k0_chk79 v1092), ∀ (k0_h79 : k0_cond79 v1092 = 1#1), ∀ a, (k0_off127 v1092) a + S1x1024.size a ≤ S64x1024.size a := fun v1092 k0_hw79 k0_h79 => k0_hw79.2.2 k0_h79

def k0_off128 (v1095 : BitVec 32) : Fin 2 → Nat :=
  let c64_i32_725 : BitVec 32 := 64#32
  let v1096 : BitVec 32 := Scalar.remsi v1095 c64_i32_725
  let c0_i32_1075 : BitVec 32 := 0#32
  ![v1096.toNat, 0]
def k0_cond80 (v1095 : BitVec 32) : BitVec 1 :=
  let c0_i32_1013 : BitVec 32 := 0#32
  let v1383 : BitVec 1 := Scalar.cmpi .sge v1095 c0_i32_1013
  let v1384 : BitVec 32 := Scalar.extui v1383
  let c0_i32_1015 : BitVec 32 := 0#32
  let v1385 : BitVec 1 := Scalar.cmpi .ne v1384 c0_i32_1015
  v1385

def k0_chk80 (v1095 : BitVec 32) : Prop :=
  (∀ (k0_h32 : k0_cond32 v1095 = 1#1), ∀ a, (k0_off80 v1095) a + S1x1024.size a ≤ S64x1024.size a) ∧
  (∀ (k0_h32 : k0_cond32 v1095 = 1#1), (k0_dev63 v1095) < nD) ∧
  (∀ (k0_h80 : k0_cond80 v1095 = 1#1), ∀ a, (k0_off128 v1095) a + S1x1024.size a ≤ S64x1024.size a)
theorem k0_off80_inb : ∀ (v1095 : BitVec 32) (k0_hw80 : k0_chk80 v1095), ∀ (k0_h32 : k0_cond32 v1095 = 1#1), ∀ a, (k0_off80 v1095) a + S1x1024.size a ≤ S64x1024.size a := fun v1095 k0_hw80 k0_h32 => k0_hw80.1 k0_h32
theorem k0_dev63_lt : ∀ (v1095 : BitVec 32) (k0_hw80 : k0_chk80 v1095), ∀ (k0_h32 : k0_cond32 v1095 = 1#1), (k0_dev63 v1095) < nD := fun v1095 k0_hw80 k0_h32 => k0_hw80.2.1 k0_h32
theorem k0_off128_inb : ∀ (v1095 : BitVec 32) (k0_hw80 : k0_chk80 v1095), ∀ (k0_h80 : k0_cond80 v1095 = 1#1), ∀ a, (k0_off128 v1095) a + S1x1024.size a ≤ S64x1024.size a := fun v1095 k0_hw80 k0_h80 => k0_hw80.2.2 k0_h80

def k0_off129 (v1098 : BitVec 32) : Fin 2 → Nat :=
  let c64_i32_729 : BitVec 32 := 64#32
  let v1099 : BitVec 32 := Scalar.remsi v1098 c64_i32_729
  let c0_i32_1075 : BitVec 32 := 0#32
  ![v1099.toNat, 0]
def k0_cond81 (v1098 : BitVec 32) : BitVec 1 :=
  let c0_i32_1016 : BitVec 32 := 0#32
  let v1386 : BitVec 1 := Scalar.cmpi .sge v1098 c0_i32_1016
  let v1387 : BitVec 32 := Scalar.extui v1386
  let c0_i32_1018 : BitVec 32 := 0#32
  let v1388 : BitVec 1 := Scalar.cmpi .ne v1387 c0_i32_1018
  v1388

def k0_chk81 (v1098 : BitVec 32) : Prop :=
  (∀ (k0_h33 : k0_cond33 v1098 = 1#1), ∀ a, (k0_off81 v1098) a + S1x1024.size a ≤ S64x1024.size a) ∧
  (∀ (k0_h33 : k0_cond33 v1098 = 1#1), (k0_dev64 v1098) < nD) ∧
  (∀ (k0_h81 : k0_cond81 v1098 = 1#1), ∀ a, (k0_off129 v1098) a + S1x1024.size a ≤ S64x1024.size a)
theorem k0_off81_inb : ∀ (v1098 : BitVec 32) (k0_hw81 : k0_chk81 v1098), ∀ (k0_h33 : k0_cond33 v1098 = 1#1), ∀ a, (k0_off81 v1098) a + S1x1024.size a ≤ S64x1024.size a := fun v1098 k0_hw81 k0_h33 => k0_hw81.1 k0_h33
theorem k0_dev64_lt : ∀ (v1098 : BitVec 32) (k0_hw81 : k0_chk81 v1098), ∀ (k0_h33 : k0_cond33 v1098 = 1#1), (k0_dev64 v1098) < nD := fun v1098 k0_hw81 k0_h33 => k0_hw81.2.1 k0_h33
theorem k0_off129_inb : ∀ (v1098 : BitVec 32) (k0_hw81 : k0_chk81 v1098), ∀ (k0_h81 : k0_cond81 v1098 = 1#1), ∀ a, (k0_off129 v1098) a + S1x1024.size a ≤ S64x1024.size a := fun v1098 k0_hw81 k0_h81 => k0_hw81.2.2 k0_h81

def k0_off130 (v1101 : BitVec 32) : Fin 2 → Nat :=
  let c64_i32_733 : BitVec 32 := 64#32
  let v1102 : BitVec 32 := Scalar.remsi v1101 c64_i32_733
  let c0_i32_1075 : BitVec 32 := 0#32
  ![v1102.toNat, 0]
def k0_cond82 (v1101 : BitVec 32) : BitVec 1 :=
  let c0_i32_1019 : BitVec 32 := 0#32
  let v1389 : BitVec 1 := Scalar.cmpi .sge v1101 c0_i32_1019
  let v1390 : BitVec 32 := Scalar.extui v1389
  let c0_i32_1021 : BitVec 32 := 0#32
  let v1391 : BitVec 1 := Scalar.cmpi .ne v1390 c0_i32_1021
  v1391

def k0_chk82 (v1101 : BitVec 32) : Prop :=
  (∀ (k0_h34 : k0_cond34 v1101 = 1#1), ∀ a, (k0_off82 v1101) a + S1x1024.size a ≤ S64x1024.size a) ∧
  (∀ (k0_h34 : k0_cond34 v1101 = 1#1), (k0_dev65 v1101) < nD) ∧
  (∀ (k0_h82 : k0_cond82 v1101 = 1#1), ∀ a, (k0_off130 v1101) a + S1x1024.size a ≤ S64x1024.size a)
theorem k0_off82_inb : ∀ (v1101 : BitVec 32) (k0_hw82 : k0_chk82 v1101), ∀ (k0_h34 : k0_cond34 v1101 = 1#1), ∀ a, (k0_off82 v1101) a + S1x1024.size a ≤ S64x1024.size a := fun v1101 k0_hw82 k0_h34 => k0_hw82.1 k0_h34
theorem k0_dev65_lt : ∀ (v1101 : BitVec 32) (k0_hw82 : k0_chk82 v1101), ∀ (k0_h34 : k0_cond34 v1101 = 1#1), (k0_dev65 v1101) < nD := fun v1101 k0_hw82 k0_h34 => k0_hw82.2.1 k0_h34
theorem k0_off130_inb : ∀ (v1101 : BitVec 32) (k0_hw82 : k0_chk82 v1101), ∀ (k0_h82 : k0_cond82 v1101 = 1#1), ∀ a, (k0_off130 v1101) a + S1x1024.size a ≤ S64x1024.size a := fun v1101 k0_hw82 k0_h82 => k0_hw82.2.2 k0_h82

def k0_off131 (v1104 : BitVec 32) : Fin 2 → Nat :=
  let c64_i32_737 : BitVec 32 := 64#32
  let v1105 : BitVec 32 := Scalar.remsi v1104 c64_i32_737
  let c0_i32_1075 : BitVec 32 := 0#32
  ![v1105.toNat, 0]
def k0_cond83 (v1104 : BitVec 32) : BitVec 1 :=
  let c0_i32_1022 : BitVec 32 := 0#32
  let v1392 : BitVec 1 := Scalar.cmpi .sge v1104 c0_i32_1022
  let v1393 : BitVec 32 := Scalar.extui v1392
  let c0_i32_1024 : BitVec 32 := 0#32
  let v1394 : BitVec 1 := Scalar.cmpi .ne v1393 c0_i32_1024
  v1394

def k0_chk83 (v1104 : BitVec 32) : Prop :=
  (∀ (k0_h35 : k0_cond35 v1104 = 1#1), ∀ a, (k0_off83 v1104) a + S1x1024.size a ≤ S64x1024.size a) ∧
  (∀ (k0_h35 : k0_cond35 v1104 = 1#1), (k0_dev66 v1104) < nD) ∧
  (∀ (k0_h83 : k0_cond83 v1104 = 1#1), ∀ a, (k0_off131 v1104) a + S1x1024.size a ≤ S64x1024.size a)
theorem k0_off83_inb : ∀ (v1104 : BitVec 32) (k0_hw83 : k0_chk83 v1104), ∀ (k0_h35 : k0_cond35 v1104 = 1#1), ∀ a, (k0_off83 v1104) a + S1x1024.size a ≤ S64x1024.size a := fun v1104 k0_hw83 k0_h35 => k0_hw83.1 k0_h35
theorem k0_dev66_lt : ∀ (v1104 : BitVec 32) (k0_hw83 : k0_chk83 v1104), ∀ (k0_h35 : k0_cond35 v1104 = 1#1), (k0_dev66 v1104) < nD := fun v1104 k0_hw83 k0_h35 => k0_hw83.2.1 k0_h35
theorem k0_off131_inb : ∀ (v1104 : BitVec 32) (k0_hw83 : k0_chk83 v1104), ∀ (k0_h83 : k0_cond83 v1104 = 1#1), ∀ a, (k0_off131 v1104) a + S1x1024.size a ≤ S64x1024.size a := fun v1104 k0_hw83 k0_h83 => k0_hw83.2.2 k0_h83

def k0_off132 (v1107 : BitVec 32) : Fin 2 → Nat :=
  let c64_i32_741 : BitVec 32 := 64#32
  let v1108 : BitVec 32 := Scalar.remsi v1107 c64_i32_741
  let c0_i32_1075 : BitVec 32 := 0#32
  ![v1108.toNat, 0]
def k0_cond84 (v1107 : BitVec 32) : BitVec 1 :=
  let c0_i32_1025 : BitVec 32 := 0#32
  let v1395 : BitVec 1 := Scalar.cmpi .sge v1107 c0_i32_1025
  let v1396 : BitVec 32 := Scalar.extui v1395
  let c0_i32_1027 : BitVec 32 := 0#32
  let v1397 : BitVec 1 := Scalar.cmpi .ne v1396 c0_i32_1027
  v1397

def k0_chk84 (v1107 : BitVec 32) : Prop :=
  (∀ (k0_h36 : k0_cond36 v1107 = 1#1), ∀ a, (k0_off84 v1107) a + S1x1024.size a ≤ S64x1024.size a) ∧
  (∀ (k0_h36 : k0_cond36 v1107 = 1#1), (k0_dev67 v1107) < nD) ∧
  (∀ (k0_h84 : k0_cond84 v1107 = 1#1), ∀ a, (k0_off132 v1107) a + S1x1024.size a ≤ S64x1024.size a)
theorem k0_off84_inb : ∀ (v1107 : BitVec 32) (k0_hw84 : k0_chk84 v1107), ∀ (k0_h36 : k0_cond36 v1107 = 1#1), ∀ a, (k0_off84 v1107) a + S1x1024.size a ≤ S64x1024.size a := fun v1107 k0_hw84 k0_h36 => k0_hw84.1 k0_h36
theorem k0_dev67_lt : ∀ (v1107 : BitVec 32) (k0_hw84 : k0_chk84 v1107), ∀ (k0_h36 : k0_cond36 v1107 = 1#1), (k0_dev67 v1107) < nD := fun v1107 k0_hw84 k0_h36 => k0_hw84.2.1 k0_h36
theorem k0_off132_inb : ∀ (v1107 : BitVec 32) (k0_hw84 : k0_chk84 v1107), ∀ (k0_h84 : k0_cond84 v1107 = 1#1), ∀ a, (k0_off132 v1107) a + S1x1024.size a ≤ S64x1024.size a := fun v1107 k0_hw84 k0_h84 => k0_hw84.2.2 k0_h84

def k0_off133 (v1110 : BitVec 32) : Fin 2 → Nat :=
  let c64_i32_745 : BitVec 32 := 64#32
  let v1111 : BitVec 32 := Scalar.remsi v1110 c64_i32_745
  let c0_i32_1075 : BitVec 32 := 0#32
  ![v1111.toNat, 0]
def k0_cond85 (v1110 : BitVec 32) : BitVec 1 :=
  let c0_i32_1028 : BitVec 32 := 0#32
  let v1398 : BitVec 1 := Scalar.cmpi .sge v1110 c0_i32_1028
  let v1399 : BitVec 32 := Scalar.extui v1398
  let c0_i32_1030 : BitVec 32 := 0#32
  let v1400 : BitVec 1 := Scalar.cmpi .ne v1399 c0_i32_1030
  v1400

def k0_chk85 (v1110 : BitVec 32) : Prop :=
  (∀ (k0_h37 : k0_cond37 v1110 = 1#1), ∀ a, (k0_off85 v1110) a + S1x1024.size a ≤ S64x1024.size a) ∧
  (∀ (k0_h37 : k0_cond37 v1110 = 1#1), (k0_dev68 v1110) < nD) ∧
  (∀ (k0_h85 : k0_cond85 v1110 = 1#1), ∀ a, (k0_off133 v1110) a + S1x1024.size a ≤ S64x1024.size a)
theorem k0_off85_inb : ∀ (v1110 : BitVec 32) (k0_hw85 : k0_chk85 v1110), ∀ (k0_h37 : k0_cond37 v1110 = 1#1), ∀ a, (k0_off85 v1110) a + S1x1024.size a ≤ S64x1024.size a := fun v1110 k0_hw85 k0_h37 => k0_hw85.1 k0_h37
theorem k0_dev68_lt : ∀ (v1110 : BitVec 32) (k0_hw85 : k0_chk85 v1110), ∀ (k0_h37 : k0_cond37 v1110 = 1#1), (k0_dev68 v1110) < nD := fun v1110 k0_hw85 k0_h37 => k0_hw85.2.1 k0_h37
theorem k0_off133_inb : ∀ (v1110 : BitVec 32) (k0_hw85 : k0_chk85 v1110), ∀ (k0_h85 : k0_cond85 v1110 = 1#1), ∀ a, (k0_off133 v1110) a + S1x1024.size a ≤ S64x1024.size a := fun v1110 k0_hw85 k0_h85 => k0_hw85.2.2 k0_h85

def k0_off134 (v1113 : BitVec 32) : Fin 2 → Nat :=
  let c64_i32_749 : BitVec 32 := 64#32
  let v1114 : BitVec 32 := Scalar.remsi v1113 c64_i32_749
  let c0_i32_1075 : BitVec 32 := 0#32
  ![v1114.toNat, 0]
def k0_cond86 (v1113 : BitVec 32) : BitVec 1 :=
  let c0_i32_1031 : BitVec 32 := 0#32
  let v1401 : BitVec 1 := Scalar.cmpi .sge v1113 c0_i32_1031
  let v1402 : BitVec 32 := Scalar.extui v1401
  let c0_i32_1033 : BitVec 32 := 0#32
  let v1403 : BitVec 1 := Scalar.cmpi .ne v1402 c0_i32_1033
  v1403

def k0_chk86 (v1113 : BitVec 32) : Prop :=
  (∀ (k0_h38 : k0_cond38 v1113 = 1#1), ∀ a, (k0_off86 v1113) a + S1x1024.size a ≤ S64x1024.size a) ∧
  (∀ (k0_h38 : k0_cond38 v1113 = 1#1), (k0_dev69 v1113) < nD) ∧
  (∀ (k0_h86 : k0_cond86 v1113 = 1#1), ∀ a, (k0_off134 v1113) a + S1x1024.size a ≤ S64x1024.size a)
theorem k0_off86_inb : ∀ (v1113 : BitVec 32) (k0_hw86 : k0_chk86 v1113), ∀ (k0_h38 : k0_cond38 v1113 = 1#1), ∀ a, (k0_off86 v1113) a + S1x1024.size a ≤ S64x1024.size a := fun v1113 k0_hw86 k0_h38 => k0_hw86.1 k0_h38
theorem k0_dev69_lt : ∀ (v1113 : BitVec 32) (k0_hw86 : k0_chk86 v1113), ∀ (k0_h38 : k0_cond38 v1113 = 1#1), (k0_dev69 v1113) < nD := fun v1113 k0_hw86 k0_h38 => k0_hw86.2.1 k0_h38
theorem k0_off134_inb : ∀ (v1113 : BitVec 32) (k0_hw86 : k0_chk86 v1113), ∀ (k0_h86 : k0_cond86 v1113 = 1#1), ∀ a, (k0_off134 v1113) a + S1x1024.size a ≤ S64x1024.size a := fun v1113 k0_hw86 k0_h86 => k0_hw86.2.2 k0_h86

def k0_off135 (v1116 : BitVec 32) : Fin 2 → Nat :=
  let c64_i32_753 : BitVec 32 := 64#32
  let v1117 : BitVec 32 := Scalar.remsi v1116 c64_i32_753
  let c0_i32_1075 : BitVec 32 := 0#32
  ![v1117.toNat, 0]
def k0_cond87 (v1116 : BitVec 32) : BitVec 1 :=
  let c0_i32_1034 : BitVec 32 := 0#32
  let v1404 : BitVec 1 := Scalar.cmpi .sge v1116 c0_i32_1034
  let v1405 : BitVec 32 := Scalar.extui v1404
  let c0_i32_1036 : BitVec 32 := 0#32
  let v1406 : BitVec 1 := Scalar.cmpi .ne v1405 c0_i32_1036
  v1406

def k0_chk87 (v1116 : BitVec 32) : Prop :=
  (∀ (k0_h39 : k0_cond39 v1116 = 1#1), ∀ a, (k0_off87 v1116) a + S1x1024.size a ≤ S64x1024.size a) ∧
  (∀ (k0_h39 : k0_cond39 v1116 = 1#1), (k0_dev70 v1116) < nD) ∧
  (∀ (k0_h87 : k0_cond87 v1116 = 1#1), ∀ a, (k0_off135 v1116) a + S1x1024.size a ≤ S64x1024.size a)
theorem k0_off87_inb : ∀ (v1116 : BitVec 32) (k0_hw87 : k0_chk87 v1116), ∀ (k0_h39 : k0_cond39 v1116 = 1#1), ∀ a, (k0_off87 v1116) a + S1x1024.size a ≤ S64x1024.size a := fun v1116 k0_hw87 k0_h39 => k0_hw87.1 k0_h39
theorem k0_dev70_lt : ∀ (v1116 : BitVec 32) (k0_hw87 : k0_chk87 v1116), ∀ (k0_h39 : k0_cond39 v1116 = 1#1), (k0_dev70 v1116) < nD := fun v1116 k0_hw87 k0_h39 => k0_hw87.2.1 k0_h39
theorem k0_off135_inb : ∀ (v1116 : BitVec 32) (k0_hw87 : k0_chk87 v1116), ∀ (k0_h87 : k0_cond87 v1116 = 1#1), ∀ a, (k0_off135 v1116) a + S1x1024.size a ≤ S64x1024.size a := fun v1116 k0_hw87 k0_h87 => k0_hw87.2.2 k0_h87

def k0_off136 (v1119 : BitVec 32) : Fin 2 → Nat :=
  let c64_i32_757 : BitVec 32 := 64#32
  let v1120 : BitVec 32 := Scalar.remsi v1119 c64_i32_757
  let c0_i32_1075 : BitVec 32 := 0#32
  ![v1120.toNat, 0]
def k0_cond88 (v1119 : BitVec 32) : BitVec 1 :=
  let c0_i32_1037 : BitVec 32 := 0#32
  let v1407 : BitVec 1 := Scalar.cmpi .sge v1119 c0_i32_1037
  let v1408 : BitVec 32 := Scalar.extui v1407
  let c0_i32_1039 : BitVec 32 := 0#32
  let v1409 : BitVec 1 := Scalar.cmpi .ne v1408 c0_i32_1039
  v1409

def k0_chk88 (v1119 : BitVec 32) : Prop :=
  (∀ (k0_h40 : k0_cond40 v1119 = 1#1), ∀ a, (k0_off88 v1119) a + S1x1024.size a ≤ S64x1024.size a) ∧
  (∀ (k0_h40 : k0_cond40 v1119 = 1#1), (k0_dev71 v1119) < nD) ∧
  (∀ (k0_h88 : k0_cond88 v1119 = 1#1), ∀ a, (k0_off136 v1119) a + S1x1024.size a ≤ S64x1024.size a)
theorem k0_off88_inb : ∀ (v1119 : BitVec 32) (k0_hw88 : k0_chk88 v1119), ∀ (k0_h40 : k0_cond40 v1119 = 1#1), ∀ a, (k0_off88 v1119) a + S1x1024.size a ≤ S64x1024.size a := fun v1119 k0_hw88 k0_h40 => k0_hw88.1 k0_h40
theorem k0_dev71_lt : ∀ (v1119 : BitVec 32) (k0_hw88 : k0_chk88 v1119), ∀ (k0_h40 : k0_cond40 v1119 = 1#1), (k0_dev71 v1119) < nD := fun v1119 k0_hw88 k0_h40 => k0_hw88.2.1 k0_h40
theorem k0_off136_inb : ∀ (v1119 : BitVec 32) (k0_hw88 : k0_chk88 v1119), ∀ (k0_h88 : k0_cond88 v1119 = 1#1), ∀ a, (k0_off136 v1119) a + S1x1024.size a ≤ S64x1024.size a := fun v1119 k0_hw88 k0_h88 => k0_hw88.2.2 k0_h88

def k0_off137 (v1122 : BitVec 32) : Fin 2 → Nat :=
  let c64_i32_761 : BitVec 32 := 64#32
  let v1123 : BitVec 32 := Scalar.remsi v1122 c64_i32_761
  let c0_i32_1075 : BitVec 32 := 0#32
  ![v1123.toNat, 0]
def k0_cond89 (v1122 : BitVec 32) : BitVec 1 :=
  let c0_i32_1040 : BitVec 32 := 0#32
  let v1410 : BitVec 1 := Scalar.cmpi .sge v1122 c0_i32_1040
  let v1411 : BitVec 32 := Scalar.extui v1410
  let c0_i32_1042 : BitVec 32 := 0#32
  let v1412 : BitVec 1 := Scalar.cmpi .ne v1411 c0_i32_1042
  v1412

def k0_chk89 (v1122 : BitVec 32) : Prop :=
  (∀ (k0_h41 : k0_cond41 v1122 = 1#1), ∀ a, (k0_off89 v1122) a + S1x1024.size a ≤ S64x1024.size a) ∧
  (∀ (k0_h41 : k0_cond41 v1122 = 1#1), (k0_dev72 v1122) < nD) ∧
  (∀ (k0_h89 : k0_cond89 v1122 = 1#1), ∀ a, (k0_off137 v1122) a + S1x1024.size a ≤ S64x1024.size a)
theorem k0_off89_inb : ∀ (v1122 : BitVec 32) (k0_hw89 : k0_chk89 v1122), ∀ (k0_h41 : k0_cond41 v1122 = 1#1), ∀ a, (k0_off89 v1122) a + S1x1024.size a ≤ S64x1024.size a := fun v1122 k0_hw89 k0_h41 => k0_hw89.1 k0_h41
theorem k0_dev72_lt : ∀ (v1122 : BitVec 32) (k0_hw89 : k0_chk89 v1122), ∀ (k0_h41 : k0_cond41 v1122 = 1#1), (k0_dev72 v1122) < nD := fun v1122 k0_hw89 k0_h41 => k0_hw89.2.1 k0_h41
theorem k0_off137_inb : ∀ (v1122 : BitVec 32) (k0_hw89 : k0_chk89 v1122), ∀ (k0_h89 : k0_cond89 v1122 = 1#1), ∀ a, (k0_off137 v1122) a + S1x1024.size a ≤ S64x1024.size a := fun v1122 k0_hw89 k0_h89 => k0_hw89.2.2 k0_h89

def k0_off138 (v1125 : BitVec 32) : Fin 2 → Nat :=
  let c64_i32_765 : BitVec 32 := 64#32
  let v1126 : BitVec 32 := Scalar.remsi v1125 c64_i32_765
  let c0_i32_1075 : BitVec 32 := 0#32
  ![v1126.toNat, 0]
def k0_cond90 (v1125 : BitVec 32) : BitVec 1 :=
  let c0_i32_1043 : BitVec 32 := 0#32
  let v1413 : BitVec 1 := Scalar.cmpi .sge v1125 c0_i32_1043
  let v1414 : BitVec 32 := Scalar.extui v1413
  let c0_i32_1045 : BitVec 32 := 0#32
  let v1415 : BitVec 1 := Scalar.cmpi .ne v1414 c0_i32_1045
  v1415

def k0_chk90 (v1125 : BitVec 32) : Prop :=
  (∀ (k0_h42 : k0_cond42 v1125 = 1#1), ∀ a, (k0_off90 v1125) a + S1x1024.size a ≤ S64x1024.size a) ∧
  (∀ (k0_h42 : k0_cond42 v1125 = 1#1), (k0_dev73 v1125) < nD) ∧
  (∀ (k0_h90 : k0_cond90 v1125 = 1#1), ∀ a, (k0_off138 v1125) a + S1x1024.size a ≤ S64x1024.size a)
theorem k0_off90_inb : ∀ (v1125 : BitVec 32) (k0_hw90 : k0_chk90 v1125), ∀ (k0_h42 : k0_cond42 v1125 = 1#1), ∀ a, (k0_off90 v1125) a + S1x1024.size a ≤ S64x1024.size a := fun v1125 k0_hw90 k0_h42 => k0_hw90.1 k0_h42
theorem k0_dev73_lt : ∀ (v1125 : BitVec 32) (k0_hw90 : k0_chk90 v1125), ∀ (k0_h42 : k0_cond42 v1125 = 1#1), (k0_dev73 v1125) < nD := fun v1125 k0_hw90 k0_h42 => k0_hw90.2.1 k0_h42
theorem k0_off138_inb : ∀ (v1125 : BitVec 32) (k0_hw90 : k0_chk90 v1125), ∀ (k0_h90 : k0_cond90 v1125 = 1#1), ∀ a, (k0_off138 v1125) a + S1x1024.size a ≤ S64x1024.size a := fun v1125 k0_hw90 k0_h90 => k0_hw90.2.2 k0_h90

def k0_off139 (v1128 : BitVec 32) : Fin 2 → Nat :=
  let c64_i32_769 : BitVec 32 := 64#32
  let v1129 : BitVec 32 := Scalar.remsi v1128 c64_i32_769
  let c0_i32_1075 : BitVec 32 := 0#32
  ![v1129.toNat, 0]
def k0_cond91 (v1128 : BitVec 32) : BitVec 1 :=
  let c0_i32_1046 : BitVec 32 := 0#32
  let v1416 : BitVec 1 := Scalar.cmpi .sge v1128 c0_i32_1046
  let v1417 : BitVec 32 := Scalar.extui v1416
  let c0_i32_1048 : BitVec 32 := 0#32
  let v1418 : BitVec 1 := Scalar.cmpi .ne v1417 c0_i32_1048
  v1418

def k0_chk91 (v1128 : BitVec 32) : Prop :=
  (∀ (k0_h43 : k0_cond43 v1128 = 1#1), ∀ a, (k0_off91 v1128) a + S1x1024.size a ≤ S64x1024.size a) ∧
  (∀ (k0_h43 : k0_cond43 v1128 = 1#1), (k0_dev74 v1128) < nD) ∧
  (∀ (k0_h91 : k0_cond91 v1128 = 1#1), ∀ a, (k0_off139 v1128) a + S1x1024.size a ≤ S64x1024.size a)
theorem k0_off91_inb : ∀ (v1128 : BitVec 32) (k0_hw91 : k0_chk91 v1128), ∀ (k0_h43 : k0_cond43 v1128 = 1#1), ∀ a, (k0_off91 v1128) a + S1x1024.size a ≤ S64x1024.size a := fun v1128 k0_hw91 k0_h43 => k0_hw91.1 k0_h43
theorem k0_dev74_lt : ∀ (v1128 : BitVec 32) (k0_hw91 : k0_chk91 v1128), ∀ (k0_h43 : k0_cond43 v1128 = 1#1), (k0_dev74 v1128) < nD := fun v1128 k0_hw91 k0_h43 => k0_hw91.2.1 k0_h43
theorem k0_off139_inb : ∀ (v1128 : BitVec 32) (k0_hw91 : k0_chk91 v1128), ∀ (k0_h91 : k0_cond91 v1128 = 1#1), ∀ a, (k0_off139 v1128) a + S1x1024.size a ≤ S64x1024.size a := fun v1128 k0_hw91 k0_h91 => k0_hw91.2.2 k0_h91

def k0_off140 (v1131 : BitVec 32) : Fin 2 → Nat :=
  let c64_i32_773 : BitVec 32 := 64#32
  let v1132 : BitVec 32 := Scalar.remsi v1131 c64_i32_773
  let c0_i32_1075 : BitVec 32 := 0#32
  ![v1132.toNat, 0]
def k0_cond92 (v1131 : BitVec 32) : BitVec 1 :=
  let c0_i32_1049 : BitVec 32 := 0#32
  let v1419 : BitVec 1 := Scalar.cmpi .sge v1131 c0_i32_1049
  let v1420 : BitVec 32 := Scalar.extui v1419
  let c0_i32_1051 : BitVec 32 := 0#32
  let v1421 : BitVec 1 := Scalar.cmpi .ne v1420 c0_i32_1051
  v1421

def k0_chk92 (v1131 : BitVec 32) : Prop :=
  (∀ (k0_h44 : k0_cond44 v1131 = 1#1), ∀ a, (k0_off92 v1131) a + S1x1024.size a ≤ S64x1024.size a) ∧
  (∀ (k0_h44 : k0_cond44 v1131 = 1#1), (k0_dev75 v1131) < nD) ∧
  (∀ (k0_h92 : k0_cond92 v1131 = 1#1), ∀ a, (k0_off140 v1131) a + S1x1024.size a ≤ S64x1024.size a)
theorem k0_off92_inb : ∀ (v1131 : BitVec 32) (k0_hw92 : k0_chk92 v1131), ∀ (k0_h44 : k0_cond44 v1131 = 1#1), ∀ a, (k0_off92 v1131) a + S1x1024.size a ≤ S64x1024.size a := fun v1131 k0_hw92 k0_h44 => k0_hw92.1 k0_h44
theorem k0_dev75_lt : ∀ (v1131 : BitVec 32) (k0_hw92 : k0_chk92 v1131), ∀ (k0_h44 : k0_cond44 v1131 = 1#1), (k0_dev75 v1131) < nD := fun v1131 k0_hw92 k0_h44 => k0_hw92.2.1 k0_h44
theorem k0_off140_inb : ∀ (v1131 : BitVec 32) (k0_hw92 : k0_chk92 v1131), ∀ (k0_h92 : k0_cond92 v1131 = 1#1), ∀ a, (k0_off140 v1131) a + S1x1024.size a ≤ S64x1024.size a := fun v1131 k0_hw92 k0_h92 => k0_hw92.2.2 k0_h92

def k0_off141 (v1134 : BitVec 32) : Fin 2 → Nat :=
  let c64_i32_777 : BitVec 32 := 64#32
  let v1135 : BitVec 32 := Scalar.remsi v1134 c64_i32_777
  let c0_i32_1075 : BitVec 32 := 0#32
  ![v1135.toNat, 0]
def k0_cond93 (v1134 : BitVec 32) : BitVec 1 :=
  let c0_i32_1052 : BitVec 32 := 0#32
  let v1422 : BitVec 1 := Scalar.cmpi .sge v1134 c0_i32_1052
  let v1423 : BitVec 32 := Scalar.extui v1422
  let c0_i32_1054 : BitVec 32 := 0#32
  let v1424 : BitVec 1 := Scalar.cmpi .ne v1423 c0_i32_1054
  v1424

def k0_chk93 (v1134 : BitVec 32) : Prop :=
  (∀ (k0_h45 : k0_cond45 v1134 = 1#1), ∀ a, (k0_off93 v1134) a + S1x1024.size a ≤ S64x1024.size a) ∧
  (∀ (k0_h45 : k0_cond45 v1134 = 1#1), (k0_dev76 v1134) < nD) ∧
  (∀ (k0_h93 : k0_cond93 v1134 = 1#1), ∀ a, (k0_off141 v1134) a + S1x1024.size a ≤ S64x1024.size a)
theorem k0_off93_inb : ∀ (v1134 : BitVec 32) (k0_hw93 : k0_chk93 v1134), ∀ (k0_h45 : k0_cond45 v1134 = 1#1), ∀ a, (k0_off93 v1134) a + S1x1024.size a ≤ S64x1024.size a := fun v1134 k0_hw93 k0_h45 => k0_hw93.1 k0_h45
theorem k0_dev76_lt : ∀ (v1134 : BitVec 32) (k0_hw93 : k0_chk93 v1134), ∀ (k0_h45 : k0_cond45 v1134 = 1#1), (k0_dev76 v1134) < nD := fun v1134 k0_hw93 k0_h45 => k0_hw93.2.1 k0_h45
theorem k0_off141_inb : ∀ (v1134 : BitVec 32) (k0_hw93 : k0_chk93 v1134), ∀ (k0_h93 : k0_cond93 v1134 = 1#1), ∀ a, (k0_off141 v1134) a + S1x1024.size a ≤ S64x1024.size a := fun v1134 k0_hw93 k0_h93 => k0_hw93.2.2 k0_h93

def k0_off142 (v1137 : BitVec 32) : Fin 2 → Nat :=
  let c64_i32_781 : BitVec 32 := 64#32
  let v1138 : BitVec 32 := Scalar.remsi v1137 c64_i32_781
  let c0_i32_1075 : BitVec 32 := 0#32
  ![v1138.toNat, 0]
def k0_cond94 (v1137 : BitVec 32) : BitVec 1 :=
  let c0_i32_1055 : BitVec 32 := 0#32
  let v1425 : BitVec 1 := Scalar.cmpi .sge v1137 c0_i32_1055
  let v1426 : BitVec 32 := Scalar.extui v1425
  let c0_i32_1057 : BitVec 32 := 0#32
  let v1427 : BitVec 1 := Scalar.cmpi .ne v1426 c0_i32_1057
  v1427

def k0_chk94 (v1137 : BitVec 32) : Prop :=
  (∀ (k0_h46 : k0_cond46 v1137 = 1#1), ∀ a, (k0_off94 v1137) a + S1x1024.size a ≤ S64x1024.size a) ∧
  (∀ (k0_h46 : k0_cond46 v1137 = 1#1), (k0_dev77 v1137) < nD) ∧
  (∀ (k0_h94 : k0_cond94 v1137 = 1#1), ∀ a, (k0_off142 v1137) a + S1x1024.size a ≤ S64x1024.size a)
theorem k0_off94_inb : ∀ (v1137 : BitVec 32) (k0_hw94 : k0_chk94 v1137), ∀ (k0_h46 : k0_cond46 v1137 = 1#1), ∀ a, (k0_off94 v1137) a + S1x1024.size a ≤ S64x1024.size a := fun v1137 k0_hw94 k0_h46 => k0_hw94.1 k0_h46
theorem k0_dev77_lt : ∀ (v1137 : BitVec 32) (k0_hw94 : k0_chk94 v1137), ∀ (k0_h46 : k0_cond46 v1137 = 1#1), (k0_dev77 v1137) < nD := fun v1137 k0_hw94 k0_h46 => k0_hw94.2.1 k0_h46
theorem k0_off142_inb : ∀ (v1137 : BitVec 32) (k0_hw94 : k0_chk94 v1137), ∀ (k0_h94 : k0_cond94 v1137 = 1#1), ∀ a, (k0_off142 v1137) a + S1x1024.size a ≤ S64x1024.size a := fun v1137 k0_hw94 k0_h94 => k0_hw94.2.2 k0_h94

def k0_off143 (v1140 : BitVec 32) : Fin 2 → Nat :=
  let c64_i32_785 : BitVec 32 := 64#32
  let v1141 : BitVec 32 := Scalar.remsi v1140 c64_i32_785
  let c0_i32_1075 : BitVec 32 := 0#32
  ![v1141.toNat, 0]
def k0_cond95 (v1140 : BitVec 32) : BitVec 1 :=
  let c0_i32_1058 : BitVec 32 := 0#32
  let v1428 : BitVec 1 := Scalar.cmpi .sge v1140 c0_i32_1058
  let v1429 : BitVec 32 := Scalar.extui v1428
  let c0_i32_1060 : BitVec 32 := 0#32
  let v1430 : BitVec 1 := Scalar.cmpi .ne v1429 c0_i32_1060
  v1430

def k0_chk95 (v1140 : BitVec 32) : Prop :=
  (∀ (k0_h47 : k0_cond47 v1140 = 1#1), ∀ a, (k0_off95 v1140) a + S1x1024.size a ≤ S64x1024.size a) ∧
  (∀ (k0_h47 : k0_cond47 v1140 = 1#1), (k0_dev78 v1140) < nD) ∧
  (∀ (k0_h95 : k0_cond95 v1140 = 1#1), ∀ a, (k0_off143 v1140) a + S1x1024.size a ≤ S64x1024.size a)
theorem k0_off95_inb : ∀ (v1140 : BitVec 32) (k0_hw95 : k0_chk95 v1140), ∀ (k0_h47 : k0_cond47 v1140 = 1#1), ∀ a, (k0_off95 v1140) a + S1x1024.size a ≤ S64x1024.size a := fun v1140 k0_hw95 k0_h47 => k0_hw95.1 k0_h47
theorem k0_dev78_lt : ∀ (v1140 : BitVec 32) (k0_hw95 : k0_chk95 v1140), ∀ (k0_h47 : k0_cond47 v1140 = 1#1), (k0_dev78 v1140) < nD := fun v1140 k0_hw95 k0_h47 => k0_hw95.2.1 k0_h47
theorem k0_off143_inb : ∀ (v1140 : BitVec 32) (k0_hw95 : k0_chk95 v1140), ∀ (k0_h95 : k0_cond95 v1140 = 1#1), ∀ a, (k0_off143 v1140) a + S1x1024.size a ≤ S64x1024.size a := fun v1140 k0_hw95 k0_h95 => k0_hw95.2.2 k0_h95

def k0_off144 (v1143 : BitVec 32) : Fin 2 → Nat :=
  let c64_i32_789 : BitVec 32 := 64#32
  let v1144 : BitVec 32 := Scalar.remsi v1143 c64_i32_789
  let c0_i32_1075 : BitVec 32 := 0#32
  ![v1144.toNat, 0]
def k0_cond96 (v1143 : BitVec 32) : BitVec 1 :=
  let c0_i32_1061 : BitVec 32 := 0#32
  let v1431 : BitVec 1 := Scalar.cmpi .sge v1143 c0_i32_1061
  let v1432 : BitVec 32 := Scalar.extui v1431
  let c0_i32_1063 : BitVec 32 := 0#32
  let v1433 : BitVec 1 := Scalar.cmpi .ne v1432 c0_i32_1063
  v1433

def k0_chk96 (v1143 : BitVec 32) : Prop :=
  (∀ (k0_h48 : k0_cond48 v1143 = 1#1), ∀ a, (k0_off96 v1143) a + S1x1024.size a ≤ S64x1024.size a) ∧
  (∀ (k0_h48 : k0_cond48 v1143 = 1#1), (k0_dev79 v1143) < nD) ∧
  (∀ (k0_h96 : k0_cond96 v1143 = 1#1), ∀ a, (k0_off144 v1143) a + S1x1024.size a ≤ S64x1024.size a)
theorem k0_off96_inb : ∀ (v1143 : BitVec 32) (k0_hw96 : k0_chk96 v1143), ∀ (k0_h48 : k0_cond48 v1143 = 1#1), ∀ a, (k0_off96 v1143) a + S1x1024.size a ≤ S64x1024.size a := fun v1143 k0_hw96 k0_h48 => k0_hw96.1 k0_h48
theorem k0_dev79_lt : ∀ (v1143 : BitVec 32) (k0_hw96 : k0_chk96 v1143), ∀ (k0_h48 : k0_cond48 v1143 = 1#1), (k0_dev79 v1143) < nD := fun v1143 k0_hw96 k0_h48 => k0_hw96.2.1 k0_h48
theorem k0_off144_inb : ∀ (v1143 : BitVec 32) (k0_hw96 : k0_chk96 v1143), ∀ (k0_h96 : k0_cond96 v1143 = 1#1), ∀ a, (k0_off144 v1143) a + S1x1024.size a ≤ S64x1024.size a := fun v1143 k0_hw96 k0_h96 => k0_hw96.2.2 k0_h96

@[reducible] def k0_t1_loop (v1434 : BitVec 32) : Scf.Loop 32 :=
  let c0_i32_1068 : BitVec 32 := 0#32
  let v1435 : BitVec 32 := Scalar.subi v1434 c0_i32_1068
  let c1_i32_1069 : BitVec 32 := 1#32
  let v1437 : BitVec 32 := Scalar.divsi v1435 c1_i32_1069
  let v1438 : BitVec 32 := Scalar.muli v1437 c1_i32_1069
  let v1439 : BitVec 32 := Scalar.addi c0_i32_1068 v1438
  let c1_i32_1070 : BitVec 32 := 1#32
  ⟨c0_i32_1068, v1439, c1_i32_1070⟩

@[reducible] def k0_t2_loop (v1434 : BitVec 32) : Scf.Loop 32 :=
  let c0_i32_1068 : BitVec 32 := 0#32
  let v1435 : BitVec 32 := Scalar.subi v1434 c0_i32_1068
  let c1_i32_1069 : BitVec 32 := 1#32
  let v1437 : BitVec 32 := Scalar.divsi v1435 c1_i32_1069
  let v1438 : BitVec 32 := Scalar.muli v1437 c1_i32_1069
  let v1439 : BitVec 32 := Scalar.addi c0_i32_1068 v1438
  let v1436 : BitVec 32 := Scalar.addi c0_i32_1068 v1435
  let c1_i32_1071 : BitVec 32 := 1#32
  ⟨v1439, v1436, c1_i32_1071⟩

def k0_chk97 (v1434 : BitVec 32) : Prop :=
  ((k0_t1_loop v1434).OK) ∧
  ((k0_t2_loop v1434).OK)
theorem k0_t1_ok : ∀ (v1434 : BitVec 32) (k0_hw97 : k0_chk97 v1434), (k0_t1_loop v1434).OK := fun v1434 k0_hw97 => k0_hw97.1
theorem k0_t2_ok : ∀ (v1434 : BitVec 32) (k0_hw97 : k0_chk97 v1434), (k0_t2_loop v1434).OK := fun v1434 k0_hw97 => k0_hw97.2

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S2048 : Shape := ⟨1, ![2048]⟩
abbrev S128 : Shape := ⟨1, ![128]⟩
abbrev S1x128 : Shape := ⟨2, ![1, 128]⟩
abbrev S2048x128 : Shape := ⟨2, ![2048, 128]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S128x512x1024, .f32⟩
  | .hbm, ⟨4, _⟩ => ⟨S2048, .i32⟩
  | .hbm, ⟨5, _⟩ => ⟨S2048x1, .i32⟩
  | .hbm, ⟨6, _⟩ => ⟨S128, .i32⟩
  | .hbm, ⟨7, _⟩ => ⟨S1x128, .i32⟩
  | .hbm, ⟨8, _⟩ => ⟨S2048x128, .i32⟩
  | .hbm, ⟨9, _⟩ => ⟨S2048x128, .i32⟩
  | .hbm, ⟨10, _⟩ => ⟨S2048x128, .i1⟩
  | .hbm, ⟨11, _⟩ => ⟨S2048x128, .i32⟩
  | .hbm, ⟨12, _⟩ => ⟨S_, .i32⟩
  | .hbm, ⟨13, _⟩ => ⟨S_, .i32⟩
  | .hbm, ⟨14, _⟩ => ⟨S2048x128, .i32⟩
  | .hbm, ⟨15, _⟩ => ⟨S2048x128, .i32⟩
  | .hbm, ⟨16, _⟩ => ⟨S_, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S2048x1, .i32⟩
  | .hbm, ⟨41, _⟩ => ⟨S2048x512x1024, .f32⟩
  | .hbm, ⟨42, _⟩ => ⟨S2048x1024, .f32⟩
  | .hbm, ⟨43, _⟩ => ⟨S2048x1, .i1⟩
  | .hbm, ⟨44, _⟩ => ⟨S_, .f32⟩
  | .hbm, ⟨45, _⟩ => ⟨S_, .f32⟩
  | .hbm, ⟨46, _⟩ => ⟨S2048x1024, .i1⟩
  | .hbm, ⟨47, _⟩ => ⟨S2048x1024, .f32⟩
  | .hbm, ⟨48, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Proof.RouteCore.lean ====
/- Counting facts about a list of expert words: how many tokens before a place name an expert, which token
   stands in an expert's place `k`, and the running sum a doubling shift computes. No program is mentioned. -/
module

public import Mathlib.Data.BitVec
public import Mathlib.Data.Nat.Count
public import Mathlib.Algebra.BigOperators.Intervals
public import Idealize.ShloMosaic.Lib.WordSum

@[expose] public section

namespace Cert.Route

/-- Tokens before place `n` that name expert word `x`. -/
def cnt (e : ℕ → BitVec 32) (x : BitVec 32) (n : ℕ) : ℕ := Nat.count (fun j => e j = x) n

theorem cnt_le (e : ℕ → BitVec 32) (x : BitVec 32) (n : ℕ) : cnt e x n ≤ n := Nat.count_le _

theorem cnt_mono (e : ℕ → BitVec 32) (x : BitVec 32) {m n : ℕ} (h : m ≤ n) : cnt e x m ≤ cnt e x n :=
  Nat.count_monotone _ h

theorem cnt_succ (e : ℕ → BitVec 32) (x : BitVec 32) (n : ℕ) : cnt e x (n + 1) = cnt e x n + if e n = x then 1 else 0 := by
  unfold cnt; rw [Nat.count_succ]

/-- Two tokens of one expert with one rank are one token. -/
theorem cnt_inj {e : ℕ → BitVec 32} {x : BitVec 32} {s t : ℕ} (hs : e s = x) (ht : e t = x) (h : cnt e x s = cnt e x t) : s = t :=
  Nat.count_injective hs ht h

/-- Token `t` is the one of rank `k` (from zero) among the `N` tokens of expert `x`. -/
def Nth (N : ℕ) (e : ℕ → BitVec 32) (x : BitVec 32) (k t : ℕ) : Prop := t < N ∧ e t = x ∧ cnt e x t = k

theorem Nth.unique {N : ℕ} {e : ℕ → BitVec 32} {x : BitVec 32} {k s t : ℕ} (hs : Nth N e x k s) (ht : Nth N e x k t) : s = t :=
  cnt_inj hs.2.1 ht.2.1 (hs.2.2.trans ht.2.2.symm)

/-- A rank below an expert's total has its token. -/
theorem exists_nth {N : ℕ} {e : ℕ → BitVec 32} {x : BitVec 32} {k : ℕ} (h : k < cnt e x N) : ∃ t, Nth N e x k t := by
  induction N with
  | zero => simp [cnt] at h
  | succ n ih =>
    rw [cnt_succ] at h
    by_cases hk : k < cnt e x n
    · obtain ⟨t, ht⟩ := ih hk
      exact ⟨t, Nat.lt_succ_of_lt ht.1, ht.2⟩
    · by_cases he : e n = x
      · rw [if_pos he] at h; exact ⟨n, n.lt_succ_self, he, by omega⟩
      · rw [if_neg he] at h; omega

theorem Nth.lt_total {N : ℕ} {e : ℕ → BitVec 32} {x : BitVec 32} {k t : ℕ} (h : Nth N e x k t) : k < cnt e x N := by
  have h1 := cnt_mono e x (show t + 1 ≤ N from h.1)
  rw [cnt_succ, if_pos h.2.1, h.2.2] at h1; omega

/-- The sum of the `w` entries that end at place `l`, as many as there are. -/
def win {R : Type} [AddCommMonoid R] (f : ℕ → R) (w l : ℕ) : R := ∑ j ∈ Finset.range w, if j ≤ l then f (l - j) else 0

theorem win_one {R : Type} [AddCommMonoid R] (f : ℕ → R) (l : ℕ) : win f 1 l = f l := by simp [win]

/-- Adding the window `w` places back doubles it. -/
theorem win_add {R : Type} [AddCommMonoid R] (f : ℕ → R) (w l : ℕ) :
    win f (w + w) l = win f w l + if w ≤ l then win f w (l - w) else 0 := by
  unfold win
  rw [Finset.sum_range_add]
  congr 1
  by_cases h : w ≤ l
  · rw [if_pos h]
    refine Finset.sum_congr rfl fun j _ => ?_
    by_cases hj : j ≤ l - w
    · rw [if_pos hj, if_pos (by omega), Nat.sub_sub]
    · rw [if_neg hj, if_neg (by omega)]
  · rw [if_neg h]
    refine Finset.sum_eq_zero fun j _ => if_neg (by omega)

/-- A window long enough is the running sum. -/
theorem win_all {R : Type} [AddCommMonoid R] (f : ℕ → R) {w l : ℕ} (h : l < w) : win f w l = ∑ j ∈ Finset.range (l + 1), f j := by
  obtain ⟨m, rfl⟩ : ∃ m, w = (l + 1) + m := ⟨w - (l + 1), by omega⟩
  unfold win
  rw [Finset.sum_range_add, Finset.sum_eq_zero (s := Finset.range m) fun j _ => if_neg (by omega), add_zero,
    ← Finset.sum_range_reflect (fun j => f j)]
  refine Finset.sum_congr rfl fun j hj => ?_
  have := Finset.mem_range.1 hj
  rw [if_pos (by omega)]; congr 1

/-- The running sum of the bits `e j = x` is the count. -/
theorem sum_bits (e : ℕ → BitVec 32) (x : BitVec 32) (n : ℕ) :
    (∑ j ∈ Finset.range n, if e j = x then 1 else 0 : ℕ) = cnt e x n := by
  induction n with
  | zero => simp [cnt]
  | succ n ih => rw [Finset.sum_range_succ, ih, cnt_succ]

theorem sum_bits_word (e : ℕ → BitVec 32) (x : BitVec 32) (n : ℕ) :
    (∑ j ∈ Finset.range n, if e j = x then 1#32 else 0#32) = BitVec.ofNat 32 (cnt e x n) := by
  induction n with
  | zero => simp [cnt]
  | succ n ih =>
    rw [Finset.sum_range_succ, ih, cnt_succ, BitVec.ofNat_add]
    split <;> rfl

/-! ## The routing of 2048 tokens to 128 experts, four to a device, twelve places to an expert -/

/-- The expert word whose place `s` of device `c` is. -/
def slotX (c s : ℕ) : BitVec 32 := BitVec.ofNat 32 (4 * c + s / 12)

/-- Token `t` stands in place `s` of device `c`. -/
def Holds (e : ℕ → BitVec 32) (c s t : ℕ) : Prop := Nth 2048 e (slotX c s) (s % 12) t

open Classical in
/-- The word that device `c` keeps for its place `s`: the token there, or minus one. -/
noncomputable def tokW (e : ℕ → BitVec 32) (c s : ℕ) : BitVec 32 :=
  if h : ∃ t, Holds e c s t then BitVec.ofNat 32 h.choose else 4294967295#32

theorem tokW_of_holds {e : ℕ → BitVec 32} {c s t : ℕ} (h : Holds e c s t) : tokW e c s = BitVec.ofNat 32 t := by
  have hx : ∃ t, Holds e c s t := ⟨t, h⟩
  rw [tokW, dif_pos hx, Nth.unique hx.choose_spec h]

theorem tokW_of_not {e : ℕ → BitVec 32} {c s : ℕ} (h : ¬ ∃ t, Holds e c s t) : tokW e c s = 4294967295#32 := by
  rw [tokW, dif_neg h]

/-- A place and its token determine each other. -/
theorem Holds.inj {e : ℕ → BitVec 32} {c c' s s' t : ℕ} (hc : c < 32) (hc' : c' < 32) (hs : s < 48) (hs' : s' < 48)
    (h : Holds e c s t) (h' : Holds e c' s' t) : c = c' ∧ s = s' := by
  have hx : slotX c s = slotX c' s' := h.2.1.symm.trans h'.2.1
  have hn : 4 * c + s / 12 = 4 * c' + s' / 12 := by
    have := congrArg BitVec.toNat hx
    simpa [slotX, BitVec.toNat_ofNat, Nat.mod_eq_of_lt (show 4 * c + s / 12 < 4294967296 by omega),
      Nat.mod_eq_of_lt (show 4 * c' + s' / 12 < 4294967296 by omega)] using this
  have hr : s % 12 = s' % 12 := by
    have h1 := h.2.2; have h2 := h'.2.2; rw [hx] at h1; exact h1.symm.trans h2
  omega

/-- The rows a device is sent: over the experts, the kept tokens among its 64. -/
def nrecv (e : ℕ → BitVec 32) (d : ℕ) : ℕ :=
  ∑ x : Fin 128, (min (cnt e (BitVec.ofNat 32 x) (64 * d + 64)) 12 - min (cnt e (BitVec.ofNat 32 x) (64 * d)) 12)

open Classical in
/-- The rows a device is sent, counted by the places they come from. -/
theorem nrecv_eq_card (e : ℕ → BitVec 32) (d : ℕ) (hd : d < 32) :
    nrecv e d = (Finset.univ.filter fun p : Fin 32 × Fin 48 => ∃ t, Holds e p.1 p.2 t ∧ t / 64 = d).card := by
  have key : ∀ (x : Fin 128) (k : ℕ), (∃ t, Nth 2048 e (BitVec.ofNat 32 x) k t ∧ t / 64 = d) ↔
      cnt e (BitVec.ofNat 32 x) (64 * d) ≤ k ∧ k < cnt e (BitVec.ofNat 32 x) (64 * d + 64) := by
    intro x k
    constructor
    · rintro ⟨t, ht, hq⟩
      refine ⟨?_, ?_⟩
      · rw [← ht.2.2]; exact cnt_mono _ _ (by omega)
      · exact Nth.lt_total (N := 64 * d + 64) ⟨by omega, ht.2⟩
    · rintro ⟨h1, h2⟩
      obtain ⟨t, ht⟩ := exists_nth h2
      refine ⟨t, ⟨by have := ht.1; omega, ht.2⟩, ?_⟩
      have h3 := ht.1
      have : ¬ t < 64 * d := fun hlt => by
        have := Nth.lt_total (N := 64 * d) ⟨hlt, ht.2⟩; omega
      omega
  let pr : Fin 32 × Fin 48 → Fin 128 := fun p => ⟨4 * p.1 + p.2 / 12, by omega⟩
  rw [Finset.card_eq_sum_card_fiberwise (f := pr) (t := Finset.univ) (fun _ _ => Finset.mem_coe.2 (Finset.mem_univ _))]
  unfold nrecv
  refine Finset.sum_congr rfl fun x _ => ?_
  have hIco : min (cnt e (BitVec.ofNat 32 x) (64 * d + 64)) 12 - min (cnt e (BitVec.ofNat 32 x) (64 * d)) 12
      = (Finset.Ico (min (cnt e (BitVec.ofNat 32 x) (64 * d)) 12) (min (cnt e (BitVec.ofNat 32 x) (64 * d + 64)) 12)).card := by
    rw [Nat.card_Ico]
  rw [hIco]
  symm
  refine Finset.card_bij (fun p _ => (p.2 : ℕ) % 12) ?_ ?_ ?_
  · intro p hp
    obtain ⟨hp1, hp2⟩ := Finset.mem_filter.1 hp
    have hh := (Finset.mem_filter.1 hp1).2
    have hx : slotX p.1 p.2 = BitVec.ofNat 32 x := by rw [← hp2, slotX]
    unfold Holds at hh; rw [hx] at hh
    have := (key x _).1 hh
    rw [Finset.mem_Ico]; omega
  · intro p hp q hq hpq
    have h1 := congrArg Fin.val ((Finset.mem_filter.1 hp).2.trans (Finset.mem_filter.1 hq).2.symm)
    simp only [pr] at h1
    refine Prod.ext (Fin.ext ?_) (Fin.ext ?_) <;> omega
  · intro k hk
    rw [Finset.mem_Ico] at hk
    refine ⟨(⟨x / 4, by omega⟩, ⟨12 * (x % 4) + k, by omega⟩), ?_, by simp only; omega⟩
    have hx : slotX (x / 4) (12 * (x % 4) + k) = BitVec.ofNat 32 x := by rw [slotX]; congr 1; omega
    have hr : (12 * ((x : ℕ) % 4) + k) % 12 = k := by omega
    refine Finset.mem_filter.2 ⟨Finset.mem_filter.2 ⟨Finset.mem_univ _, ?_⟩, Fin.ext (by simp only [pr]; omega)⟩
    simp only [Holds, hx, hr]
    exact (key x k).2 (by omega)

end Cert.Route
-- ==== Proof.Routing.lean ====
/- What the kernel's integer part computes from the row of expert words: each device's 48 token words and its count of rows
   to receive, read off the printed vector operations. -/
module

public import proofs.«01_k».proof.Proof.Gen.KernelIdeal.Skeleton
public import proofs.«01_k».proof.Proof.RouteCore
public import Idealize.ShloMosaic.Lib.Pointwise
public import Idealize.ShloMosaic.Lib.WordCmp

@[expose] public section

noncomputable section

namespace Cert.Route

open Cert.KernelIdeal Cert.KernelIdeal.Gen
open Idealize.ShloMosaic

variable {F : FTy → Type} [FloatOps F]

/-- The expert words as a function of the token. -/
def ev (v : IVec S1x2048 32) (l : ℕ) : BitVec 32 := if h : l < 2048 then v (ix2 0 ⟨l, h⟩) else 0

theorem ev_at (v : IVec S1x2048 32) (l : Fin 2048) : v (ix2 0 l) = ev v l := by rw [ev, dif_pos l.2]

theorem dbl (f : ℕ → BitVec 32) (w l : ℕ) (hl : l < 2048) (hw : w < 2048) (p q : BitVec 32) (hp : p = win f w l)
    (hq : w ≤ l → q = win f w (l - w)) :
    IntOp.addi p (Scalar.select (IntOp.cmpi .sge (BitVec.ofNat 32 l) (BitVec.ofNat 32 w)) q 0#32) = win f (w + w) l := by
  rw [win_add, ← hp]
  by_cases h : w ≤ l
  · rw [if_pos h, ← hq h]
    have : IntOp.cmpi .sge (BitVec.ofNat 32 l) (BitVec.ofNat 32 w) = 1#1 := by
      simp (disch := omega) only [hlo_ix]; simpa using h
    rw [this]; rfl
  · have : IntOp.cmpi .sge (BitVec.ofNat 32 l) (BitVec.ofNat 32 w) = 0#1 := by
      simp (disch := omega) only [hlo_ix]; simpa using h
    rw [this, if_neg h]; simp [IntOp.addi, Scalar.select]

/-- One doubling of the running sum: add the row shifted right by `k`, zeros coming in. -/
theorem step (k m o : ℕ) (hk : k + m = 2048) (ho : o + k = 2048) (hm : 0 < m) (X : IVec S4x2048 32) (f : Fin 4 → ℕ → BitVec 32)
    (hX : ∀ a l, X (ix2 a l) = win (f a) k l)
    (hs1 : S4x2048.Slices ![0, o] ⟨2, ![4, k]⟩) (hs2 : S4x2048.Slices ![0, 0] ⟨2, ![4, m]⟩)
    (hc : Shape.Concatenates [⟨2, ![4, k]⟩, ⟨2, ![4, m]⟩] S4x2048 1) (hi : S4x2048.Iotas .tc 32 [1]) (a : Fin 4) (l : Fin 2048) :
    addi X (select (cmpi .sge (iota .tc S4x2048 32 [1] hi) (broadcast S4x2048 (BitVec.ofNat 32 k)))
      (concatenate S4x2048 1 [⟨_, extractStridedSlice ⟨2, ![4, k]⟩ ![0, o] X hs1⟩, ⟨_, extractStridedSlice ⟨2, ![4, m]⟩ ![0, 0] X hs2⟩] hc)
      (broadcast S4x2048 0#32)) (ix2 a l) = win (f a) (k + k) l := by
  pointwise
  refine dbl (f a) k l l.2 (by omega) _ _ (hX a l) fun h => ?_
  rw [dif_neg (by omega)]
  exact hX a _

/-- The mask of the device's four experts. -/
theorem mask_at (v : Vec F S1x2048 .i32) (me : ℕ) (a : Fin 4) (l : Fin 2048) :
    k0_pay3 (BitVec.ofNat 32 me) v (ix2 a l) = if ev v l = BitVec.ofNat 32 (4 * me + a) then 1#32 else 0#32 := by
  unfold k0_pay3 k0_pay2
  pointwise
  rw [show IntOp.addi (Scalar.muli (BitVec.ofNat 32 me) 4#32) (BitVec.ofNat 32 a) = BitVec.ofNat 32 (4 * me + a) by
      show BitVec.ofNat 32 me * 4#32 + BitVec.ofNat 32 a = _
      rw [BitVec.ofNat_add, BitVec.ofNat_mul, mul_comm],
    show (v : IVec S1x2048 32) (ix2 0 l) = ev v l from ev_at v l]
  by_cases h : ev v l = BitVec.ofNat 32 (4 * me + a)
  · rw [if_pos h, h]; simp [IntOp.cmpi]
  · rw [if_neg h]; simp only [IntOp.cmpi]; rw [beq_eq_false_iff_ne.2 h]; rfl

/-- The running count of the device's four experts. -/
theorem cum_at (v : Vec F S1x2048 .i32) (me : ℕ) (a : Fin 4) (l : Fin 2048) :
    k0_pay7 (iota .tc S4x2048 32 [1] Facts₀.iota_S4x2048_d1_w32)
        (k0_pay5 (k0_pay3 (BitVec.ofNat 32 me) v) (iota .tc S4x2048 32 [1] Facts₀.iota_S4x2048_d1_w32) (k0_pay4 (BitVec.ofNat 32 me) v))
        (k0_pay6 (k0_pay3 (BitVec.ofNat 32 me) v) (iota .tc S4x2048 32 [1] Facts₀.iota_S4x2048_d1_w32) (k0_pay4 (BitVec.ofNat 32 me) v)) (ix2 a l)
      = BitVec.ofNat 32 (cnt (ev v) (BitVec.ofNat 32 (4 * me + a)) (l + 1)) := by
  have key := step 1024 1024 1024 rfl rfl (by decide)
  have hf := win_all (fun j => if ev v j = BitVec.ofNat 32 (4 * me + a) then 1#32 else 0#32) l.2
  rw [sum_bits_word] at hf
  rw [← hf]
  let f : Fin 4 → ℕ → BitVec 32 := fun a j => if ev v j = BitVec.ofNat 32 (4 * me + a) then 1#32 else 0#32
  have h1 : ∀ a l, k0_pay3 (BitVec.ofNat 32 me) v (ix2 a l) = win (f a) 1 l := fun a l => by rw [win_one]; exact mask_at v me a l
  show _ = win (f a) 2048 l
  unfold k0_pay7 k0_pay6 k0_pay5 k0_pay4
  refine step 1024 1024 1024 rfl rfl (by decide) _ f ?_ _ _ _ _ a l
  refine step 512 1536 1536 rfl rfl (by decide) _ f ?_ _ _ _ _
  refine step 256 1792 1792 rfl rfl (by decide) _ f ?_ _ _ _ _
  refine step 128 1920 1920 rfl rfl (by decide) _ f ?_ _ _ _ _
  refine step 64 1984 1984 rfl rfl (by decide) _ f ?_ _ _ _ _
  refine step 32 2016 2016 rfl rfl (by decide) _ f ?_ _ _ _ _
  refine step 16 2032 2032 rfl rfl (by decide) _ f ?_ _ _ _ _
  refine step 8 2040 2040 rfl rfl (by decide) _ f ?_ _ _ _ _
  refine step 4 2044 2044 rfl rfl (by decide) _ f ?_ _ _ _ _
  refine step 2 2046 2046 rfl rfl (by decide) _ f ?_ _ _ _ _
  exact step 1 2047 2047 rfl rfl (by decide) _ f h1 _ _ _ _

/-- The signed minimum of words, each below the first, is attained at the one small word. -/
theorem fold_min_eq (g : Fin 2048 → BitVec 32) (t : Fin 2048) (ht : g t = BitVec.ofNat 32 t) (hg : ∀ l, l ≠ t → g l = 4096#32) :
    Finset.fold IntOp.minsi (2147483647#32) g Finset.univ = BitVec.ofNat 32 t := by
  have hm : ∀ x y : BitVec 32, (IntOp.minsi x y).toInt = min x.toInt y.toInt := by
    intro x y; simp only [IntOp.minsi]; split <;> rename_i h <;> simp [BitVec.slt, BitVec.sle] at h <;> omega
  apply BitVec.eq_of_toInt_eq
  rw [← Finset.fold_hom (op' := min) hm]
  have h0 : (BitVec.ofNat 32 t.1).toInt = t.1 := WordCmp.toInt_ofNat_of_lt (by omega)
  have hb : (2147483647#32 : BitVec 32).toInt = 2147483647 := by decide
  have h4 : (4096#32 : BitVec 32).toInt = 4096 := by decide
  apply le_antisymm
  · rw [Finset.fold_min_le]; exact Or.inr ⟨t, Finset.mem_univ _, by rw [ht]⟩
  · rw [Finset.le_fold_min]
    refine ⟨by rw [h0, hb]; omega, fun l _ => ?_⟩
    by_cases h : l = t
    · rw [h, ht]
    · rw [hg l h, h0, h4]; omega

/-- A place's rank within its expert. -/
theorem rank_at : ∀ s : Fin 48, k0_pay8 (ix2 s 0) = BitVec.ofNat 32 (s % 12) := by
  unfold k0_pay8
  pointwise
  decide

/-- The token word of each of the device's 48 places. -/
theorem tok_at (v : Vec F S1x2048 .i32) (me : ℕ) (s : Fin 48) :
    k0_pay11 (k0_pay3 (BitVec.ofNat 32 me) v)
      (k0_pay7 (iota .tc S4x2048 32 [1] Facts₀.iota_S4x2048_d1_w32)
        (k0_pay5 (k0_pay3 (BitVec.ofNat 32 me) v) (iota .tc S4x2048 32 [1] Facts₀.iota_S4x2048_d1_w32) (k0_pay4 (BitVec.ofNat 32 me) v))
        (k0_pay6 (k0_pay3 (BitVec.ofNat 32 me) v) (iota .tc S4x2048 32 [1] Facts₀.iota_S4x2048_d1_w32) (k0_pay4 (BitVec.ofNat 32 me) v)))
      (Scalar.select (Scalar.cmpi .eq 12#32 0#32) 1#32 12#32) k0_pay8 k0_pay9 k0_pay10 (ix2 s 0) = tokW (ev v) me s := by
  have hcum := cum_at v me
  have hmask := mask_at v me
  generalize hM : k0_pay3 (BitVec.ofNat 32 me) v = M at *
  generalize hC : k0_pay7 (iota .tc S4x2048 32 [1] Facts₀.iota_S4x2048_d1_w32)
        (k0_pay5 M (iota .tc S4x2048 32 [1] Facts₀.iota_S4x2048_d1_w32) (k0_pay4 (BitVec.ofNat 32 me) v))
        (k0_pay6 M (iota .tc S4x2048 32 [1] Facts₀.iota_S4x2048_d1_w32) (k0_pay4 (BitVec.ofNat 32 me) v)) = C at *
  have hq : s.1 / 12 < 4 := by omega
  have hr : ∀ s : Fin 48, Scalar.select
        (IntOp.andi (IntOp.xori (IntOp.cmpi CmpIPredicate.slt (BitVec.ofNat 32 (s % 12)) 0#32)
              (Scalar.cmpi CmpIPredicate.slt (Scalar.select (Scalar.cmpi CmpIPredicate.eq 12#32 0#32) 1#32 12#32) 0#32))
            (IntOp.cmpi CmpIPredicate.ne (BitVec.ofNat 32 (s % 12)) 0#32))
        (IntOp.addi (BitVec.ofNat 32 (s % 12)) (Scalar.select (Scalar.cmpi CmpIPredicate.eq 12#32 0#32) 1#32 12#32))
        (BitVec.ofNat 32 (s % 12)) = BitVec.ofNat 32 (s % 12) := by decide
  unfold k0_pay11 k0_pay9 k0_pay10
  pointwise [rank_at]
  rw [hr s]
  have hx : slotX me s = BitVec.ofNat 32 (4 * me + s / 12) := rfl
  have hc : ∀ l : Fin 2048, C (ix2 ⟨s / 12, hq⟩ l) = BitVec.ofNat 32 (cnt (ev v) (slotX me s) (l + 1)) := fun l => hcum _ l
  have hk : ∀ l : Fin 2048, M (ix2 ⟨s / 12, hq⟩ l) = if ev v l = slotX me s then 1#32 else 0#32 := fun l => hmask _ l
  have hc0 : C (ix2 ⟨s / 12, hq⟩ 2047) = BitVec.ofNat 32 (cnt (ev v) (slotX me s) 2048) := hc 2047
  have hle := cnt_le (ev v) (slotX me s) 2048
  rw [hc0]
  by_cases hv : s % 12 < cnt (ev v) (slotX me s) 2048
  · have h1 : IntOp.cmpi .slt (BitVec.ofNat 32 (s % 12)) (BitVec.ofNat 32 (cnt (ev v) (slotX me s) 2048)) = 1#1 := by
      simp (disch := omega) only [hlo_ix]; simpa using hv
    rw [h1]
    obtain ⟨t, ht⟩ := exists_nth hv
    rw [tokW_of_holds ht]
    have hsel : ∀ x y : BitVec 32, Scalar.select 1#1 x y = x := fun _ _ => rfl
    rw [hsel]
    refine fold_min_eq _ ⟨t, ht.1⟩ ?_ ?_
    · simp only [hk, hc, if_pos ht.2.1, cnt_succ, ht.2.2]
      have : BitVec.ofNat 32 (s % 12 + 1) = IntOp.addi (BitVec.ofNat 32 (s % 12)) 1#32 := BitVec.ofNat_add _ _
      rw [this]
      simp [IntOp.cmpi, IntOp.andi, Scalar.select]
    · intro l hl
      simp only [hk, hc]
      have hno : ¬ (ev v l = slotX me s ∧ cnt (ev v) (slotX me s) (l + 1) = s % 12 + 1) := by
        rintro ⟨h2, h3⟩
        rw [cnt_succ, if_pos h2] at h3
        exact hl (Fin.ext (Nth.unique ⟨l.2, h2, by omega⟩ ht))
      have hw : IntOp.addi (BitVec.ofNat 32 (s % 12)) 1#32 = BitVec.ofNat 32 (s % 12 + 1) := (BitVec.ofNat_add _ _).symm
      have hle2 := cnt_le (ev v) (slotX me s) (l + 1)
      rw [hw]
      by_cases h2 : ev v l = slotX me s
      · have h3 : ¬ cnt (ev v) (slotX me s) (l + 1) = s % 12 + 1 := fun h => hno ⟨h2, h⟩
        have h4 : IntOp.cmpi .eq (BitVec.ofNat 32 (cnt (ev v) (slotX me s) (l + 1))) (BitVec.ofNat 32 (s % 12 + 1)) = 0#1 := by
          simp (disch := omega) only [hlo_ix]; simpa using h3
        rw [h4]; simp [IntOp.andi, Scalar.select]
      · rw [if_neg h2]; simp [IntOp.cmpi, IntOp.andi, Scalar.select]
  · have h1 : IntOp.cmpi .slt (BitVec.ofNat 32 (s % 12)) (BitVec.ofNat 32 (cnt (ev v) (slotX me s) 2048)) = 0#1 := by
      simp (disch := omega) only [hlo_ix]; simpa using hv
    rw [h1, tokW_of_not fun ⟨t, ht⟩ => hv ht.lt_total]
    rfl

/-! ## The count of rows to receive -/

theorem fold_addi {n : ℕ} (g : Fin n → BitVec 32) (f : Fin n → ℕ) (h : ∀ i, g i = BitVec.ofNat 32 (f i)) :
    Finset.fold IntOp.addi (0#32) g Finset.univ = BitVec.ofNat 32 (∑ i, f i) := by
  have aux : ∀ S : Finset (Fin n), Finset.fold IntOp.addi (0#32) g S = BitVec.ofNat 32 (∑ i ∈ S, f i) := by
    intro S
    induction S using Finset.cons_induction with
    | empty => rfl
    | cons a S ha ih => rw [Finset.fold_cons, Finset.sum_cons, ih, h, BitVec.ofNat_add]; rfl
  exact aux _

/-- The tokens of an expert below a bound, counted along all places. -/
theorem sum_below (e : ℕ → BitVec 32) (x : BitVec 32) (m n : ℕ) :
    (∑ l ∈ Finset.range n, if e l = x ∧ l < m then 1 else 0 : ℕ) = cnt e x (min m n) := by
  induction n with
  | zero => simp [cnt]
  | succ n ih =>
    rw [Finset.sum_range_succ, ih]
    by_cases h : n < m
    · rw [Nat.min_eq_right (by omega), Nat.min_eq_right (by omega), cnt_succ]; simp [h]
    · rw [Nat.min_eq_left (by omega), Nat.min_eq_left (by omega)]; simp [h]

/-- Two counts packed in one word, unpacked, capped and subtracted. -/
theorem unpack (A B : ℕ) (hA : A ≤ B) (hB : B ≤ 2048) :
    IntOp.maxsi (IntOp.subi (IntOp.minsi (IntOp.andi (BitVec.ofNat 32 (4096 * A + B)) 4095#32) 12#32)
      (IntOp.minsi (IntOp.shrsi ArithUnit.vector (BitVec.ofNat 32 (4096 * A + B)) 12#32) 12#32)) 0#32
      = BitVec.ofNat 32 (min B 12 - min A 12) := by
  have hmin : ∀ k : ℕ, k ≤ 2048 → IntOp.minsi (BitVec.ofNat 32 k) 12#32 = BitVec.ofNat 32 (min k 12) := by
    intro k hk
    have h1 : (BitVec.ofNat 32 k).toInt = k := WordCmp.toInt_ofNat_of_lt (by omega)
    have h2 : (12#32 : BitVec 32).toInt = 12 := by decide
    unfold IntOp.minsi
    by_cases h : k < 12
    · rw [if_pos (by rw [BitVec.slt_iff_toInt_lt, h1, h2]; omega), Nat.min_eq_left h.le]
    · rw [if_neg (by rw [BitVec.slt_iff_toInt_lt, h1, h2]; omega), Nat.min_eq_right (by omega)]
  have hand : IntOp.andi (BitVec.ofNat 32 (4096 * A + B)) 4095#32 = BitVec.ofNat 32 B := by
    apply BitVec.eq_of_toNat_eq
    unfold IntOp.andi
    rw [BitVec.toNat_and, BitVec.toNat_ofNat, BitVec.toNat_ofNat, BitVec.toNat_ofNat]
    show _ &&& (2 ^ 12 - 1) = _
    rw [Nat.and_two_pow_sub_one_eq_mod]; omega
  have hshr : IntOp.shrsi ArithUnit.vector (BitVec.ofNat 32 (4096 * A + B)) 12#32 = BitVec.ofNat 32 A := by
    unfold IntOp.shrsi
    rw [if_pos (by decide)]
    apply BitVec.eq_of_toNat_eq
    rw [BitVec.sshiftRight', BitVec.toNat_sshiftRight_of_msb_false (by rw [BitVec.msb_eq_false_iff_two_mul_lt, BitVec.toNat_ofNat]; omega),
      BitVec.toNat_ofNat, BitVec.toNat_ofNat, BitVec.toNat_ofNat, Nat.shiftRight_eq_div_pow]
    show (4096 * A + B) % 4294967296 / 4096 = A % 4294967296
    omega
  rw [hand, hshr, hmin B hB, hmin A (by omega)]
  have h1 : (BitVec.ofNat 32 (min B 12 - min A 12)).toInt = (min B 12 - min A 12 : ℕ) := WordCmp.toInt_ofNat_of_lt (by omega)
  have h3 : IntOp.subi (BitVec.ofNat 32 (min B 12)) (BitVec.ofNat 32 (min A 12)) = BitVec.ofNat 32 (min B 12 - min A 12) := by
    apply BitVec.eq_of_toNat_eq
    unfold IntOp.subi
    rw [BitVec.toNat_sub, BitVec.toNat_ofNat, BitVec.toNat_ofNat, BitVec.toNat_ofNat]; omega
  rw [h3]
  unfold IntOp.maxsi
  by_cases h : 0 < min B 12 - min A 12
  · rw [if_pos (by rw [BitVec.slt_iff_toInt_lt, h1]; simpa using h)]
  · rw [if_neg (by rw [BitVec.slt_iff_toInt_lt, h1]; simpa using h)]; congr 1; omega

/-- The word of how many rows device `me` waits for. -/
theorem recv_at (v : Vec F S1x2048 .i32) (me : ℕ) (hme : me < 32) :
    k0_pay14 (k0_pay12 (BitVec.ofNat 32 me) (k0_pay2 v)) (ix2 0 0) = BitVec.ofNat 32 (nrecv (ev v) me) := by
  unfold k0_pay14 k0_pay12 k0_pay2
  pointwise
  have h64 : Scalar.muli (BitVec.ofNat 32 me) 64#32 = BitVec.ofNat 32 (64 * me) := by
    rw [BitVec.ofNat_mul, mul_comm]; rfl
  have h65 : Scalar.addi (BitVec.ofNat 32 (64 * me)) 64#32 = BitVec.ofNat 32 (64 * me + 64) := (BitVec.ofNat_add _ _).symm
  rw [h64, h65]
  have hin : ∀ x : Fin 128, Finset.fold IntOp.addi (0#32)
      (fun l : Fin 2048 => Scalar.select (IntOp.cmpi CmpIPredicate.eq ((v : IVec S1x2048 32) (ix2 0 l)) (BitVec.ofNat 32 ↑x))
        (IntOp.addi (Scalar.select (IntOp.cmpi CmpIPredicate.slt (BitVec.ofNat 32 ↑l) (BitVec.ofNat 32 (64 * me))) 4096#32 0#32)
          (Scalar.select (IntOp.cmpi CmpIPredicate.slt (BitVec.ofNat 32 ↑l) (BitVec.ofNat 32 (64 * me + 64))) 1#32 0#32)) 0#32) Finset.univ
      = BitVec.ofNat 32 (4096 * cnt (ev v) (BitVec.ofNat 32 x) (64 * me) + cnt (ev v) (BitVec.ofNat 32 x) (64 * me + 64)) := by
    intro x
    rw [fold_addi _ (fun l : Fin 2048 => 4096 * (if ev v l = BitVec.ofNat 32 x ∧ (l : ℕ) < 64 * me then 1 else 0)
      + (if ev v l = BitVec.ofNat 32 x ∧ (l : ℕ) < 64 * me + 64 then 1 else 0))]
    · rw [Finset.sum_add_distrib, ← Finset.mul_sum,
        Fin.sum_univ_eq_sum_range (fun l => if ev v l = BitVec.ofNat 32 x ∧ l < 64 * me then 1 else 0) 2048,
        Fin.sum_univ_eq_sum_range (fun l => if ev v l = BitVec.ofNat 32 x ∧ l < 64 * me + 64 then 1 else 0) 2048,
        sum_below, sum_below, Nat.min_eq_left (by omega), Nat.min_eq_left (by omega)]
    · intro l
      have hlt : ∀ m : ℕ, m ≤ 2048 → IntOp.cmpi CmpIPredicate.slt (BitVec.ofNat 32 l.1) (BitVec.ofNat 32 m) = if l.1 < m then 1#1 else 0#1 := by
        intro m hm
        split <;> rename_i h <;> (simp (disch := omega) only [hlo_ix]; simpa using h)
      rw [hlt _ (by omega), hlt _ (by omega), ev_at v l]
      by_cases he : ev v l = BitVec.ofNat 32 x
      · rw [he]
        by_cases h1 : l.1 < 64 * me
        · rw [if_pos h1, if_pos (by omega), if_pos ⟨rfl, h1⟩, if_pos ⟨rfl, by omega⟩]; simp [IntOp.cmpi, Scalar.select, IntOp.addi]
        · by_cases h2 : l.1 < 64 * me + 64
          · rw [if_neg h1, if_pos h2, if_neg (fun h => h1 h.2), if_pos ⟨rfl, h2⟩]; simp [IntOp.cmpi, Scalar.select, IntOp.addi]
          · rw [if_neg h1, if_neg h2, if_neg (fun h => h1 h.2), if_neg (fun h => h2 h.2)]; simp [IntOp.cmpi, Scalar.select, IntOp.addi]
      · have : IntOp.cmpi CmpIPredicate.eq (ev v l) (BitVec.ofNat 32 x) = 0#1 := by
          simp only [IntOp.cmpi]; rw [beq_eq_false_iff_ne.2 he]; rfl
        rw [this]; simp [he, Scalar.select]
  unfold nrecv
  refine fold_addi _ _ fun x => ?_
  rw [hin x]
  exact unpack _ _ (cnt_mono _ _ (by omega)) ((cnt_le _ _ _).trans (by omega))

end Cert.Route
-- ==== Proof.Data.lean ====
/- What each device computes, as data: the token words, which slots hold a token, where a slot's row goes, and the
   contents of the gathered rows, of the products and of the finished block. -/
module

public import proofs.«01_k».proof.Proof.Routing

@[expose] public section

noncomputable section

namespace Cert.Route

open Cert.KernelIdeal Cert.KernelIdeal.Gen
open Idealize.ShloMosaic Idealize.ShloMosaic.TcCoe

variable {F : FTy → Type} [FloatOps F]

/-- A token word: a token's number, or all ones. -/
def WordOk (w : BitVec 32) : Prop := (∃ t, t < 2048 ∧ w = BitVec.ofNat 32 t) ∨ w = 4294967295#32

theorem tokW_ok (e : ℕ → BitVec 32) (c s : ℕ) : WordOk (tokW e c s) := by
  by_cases h : ∃ t, Holds e c s t
  · obtain ⟨t, ht⟩ := h
    exact .inl ⟨t, ht.1, tokW_of_holds ht⟩
  · exact .inr (tokW_of_not h)

theorem toNat_tok {t : ℕ} (h : t < 2048) : (BitVec.ofNat 32 t).toNat = t := by
  rw [BitVec.toNat_ofNat]; exact Nat.mod_eq_of_lt (by show t < 4294967296; omega)

theorem msb_tok {t : ℕ} (h : t < 2048) : (BitVec.ofNat 32 t).msb = false := by
  rw [BitVec.msb_eq_decide, toNat_tok h]; simp; omega

theorem toInt_tok {t : ℕ} (h : t < 2048) : (BitVec.ofNat 32 t).toInt = t := by
  rw [BitVec.toInt_eq_msb_cond, msb_tok h, toNat_tok h]; simp

theorem off1_tok {t : ℕ} (h : t < 2048) : k0_off1 (BitVec.ofNat 32 t) = ![t, 0] := by
  have : Scalar.maxsi (BitVec.ofNat 32 t) 0#32 = BitVec.ofNat 32 t := by
    have h0 : (0#32 : BitVec 32).toInt = 0 := rfl
    simp only [Scalar.maxsi, IntOp.maxsi]
    split
    · rfl
    · rename_i hn
      simp only [BitVec.slt, toInt_tok h, h0, decide_eq_true_eq] at hn
      have : t = 0 := by omega
      rw [this]
  unfold k0_off1
  simp only [this, Scalar.indexCast]
  funext a; fin_cases a
  · simpa using toNat_tok h
  · rfl

theorem off1_neg : k0_off1 4294967295#32 = ![0, 0] := by decide

theorem off49_tok {t : ℕ} (h : t < 2048) : k0_off49 (BitVec.ofNat 32 t) = ![t % 64, 0] := by
  have : Scalar.remsi (BitVec.ofNat 32 t) 64#32 = BitVec.ofNat 32 (t % 64) := by
    simp only [Scalar.remsi, IntOp.remsi]
    rw [if_neg (by simp [IntOp.SDivCorner]), BitVec.srem_eq, msb_tok h]
    show (BitVec.ofNat 32 t).umod 64#32 = _
    apply BitVec.eq_of_toNat_eq
    rw [show ((BitVec.ofNat 32 t).umod 64#32).toNat = (BitVec.ofNat 32 t).toNat % 64 from rfl, toNat_tok h, toNat_tok (by omega)]
  unfold k0_off49
  simp only [this]
  funext a; fin_cases a
  · simpa using toNat_tok (t := t % 64) (by omega)
  · rfl

theorem dev32_tok {t : ℕ} (h : t < 2048) : k0_dev32 (BitVec.ofNat 32 t) = t / 64 := by
  have : Scalar.divsi (BitVec.ofNat 32 t) 64#32 = BitVec.ofNat 32 (t / 64) := by
    simp only [Scalar.divsi, IntOp.divsi]
    rw [if_neg (by simp [IntOp.SDivCorner]), BitVec.sdiv_eq, msb_tok h]
    show (BitVec.ofNat 32 t).udiv 64#32 = _
    apply BitVec.eq_of_toNat_eq
    rw [show ((BitVec.ofNat 32 t).udiv 64#32).toNat = (BitVec.ofNat 32 t).toNat / 64 from rfl, toNat_tok h, toNat_tok (by omega)]
  unfold k0_dev32
  simp only [this]
  have h1 : Scalar.muli (BitVec.ofNat 32 (t / 64)) 1#32 = BitVec.ofNat 32 (t / 64) := BitVec.mul_one _
  have h2 : Scalar.addi 0#32 (BitVec.ofNat 32 (t / 64)) = BitVec.ofNat 32 (t / 64) := BitVec.zero_add _
  rw [h1, h2, toNat_tok (by omega)]

theorem cond_tok {t : ℕ} (h : t < 2048) : k0_cond1 (BitVec.ofNat 32 t) = 1#1 := by
  have : Scalar.cmpi .sge (BitVec.ofNat 32 t) 0#32 = 1#1 := by
    simp [Scalar.cmpi, IntOp.cmpi, BitVec.sle, toInt_tok h]
  unfold k0_cond1; simp only [this]; decide

theorem cond_neg : ¬ k0_cond1 4294967295#32 = 1#1 := by decide

theorem chk1_ok {w : BitVec 32} (h : WordOk w) : k0_chk1 w := by
  rcases h with ⟨t, ht, rfl⟩ | rfl
  · intro a; rw [off1_tok ht]; fin_cases a
    · show t + 1 ≤ 2048; omega
    · show 0 + 512 ≤ 512; omega
  · intro a; rw [off1_neg]; revert a; decide

theorem chk49_ok {w : BitVec 32} (h : WordOk w) : k0_chk49 w := by
  rcases h with ⟨t, ht, rfl⟩ | rfl
  · have : ∀ a, (k0_off49 (BitVec.ofNat 32 t)) a + S1x1024.size a ≤ S64x1024.size a := by
      intro a; rw [off49_tok ht]; fin_cases a
      · show t % 64 + 1 ≤ 64; omega
      · show 0 + 1024 ≤ 1024; omega
    exact ⟨fun _ => this, fun _ => by rw [dev32_tok ht]; show t / 64 < 32; omega, fun _ => this⟩
  · exact ⟨fun h => absurd h cond_neg, fun h => absurd h cond_neg, fun h => absurd h cond_neg⟩

/-! ## The data -/

/-- What the devices are given: each its rows and its experts, all of them the same row of expert words. -/
structure Inp (F : FTy → Type) where
  X : Dev nD → Vec F S2048x512 .f32
  E : Dev nD → Vec F S4x512x1024 .f32
  R : Vec F S1x2048 .i32

variable (P : Inp F)

/-- Slot `s` of device `c`: its token word. -/
def W (c : Dev nD) (s : Fin 48) : BitVec 32 := tokW (ev P.R) c s

/-- The slot holds a token. -/
def live (c : Dev nD) (s : Fin 48) : Prop := k0_cond1 (W P c s) = 1#1
instance (c : Dev nD) (s : Fin 48) : Decidable (live P c s) := by unfold live; infer_instance

/-- The token, and the device and the row of its block that hold the token's row. -/
def tk (c : Dev nD) (s : Fin 48) : ℕ := (W P c s).toNat
def tgt (c : Dev nD) (s : Fin 48) : Dev nD := ⟨tk P c s / 64 % 32, Nat.mod_lt _ (by decide)⟩
def row (c : Dev nD) (s : Fin 48) : Fin 64 := ⟨tk P c s % 64, Nat.mod_lt _ (by decide)⟩

theorem W_ok (c : Dev nD) (s : Fin 48) : WordOk (W P c s) := tokW_ok _ _ _

theorem live_holds {c : Dev nD} {s : Fin 48} (h : live P c s) : Holds (ev P.R) c s (tk P c s) ∧ W P c s = BitVec.ofNat 32 (tk P c s) := by
  unfold live at h
  by_cases hh : ∃ t, Holds (ev P.R) c s t
  · obtain ⟨t, ht⟩ := hh
    have hw : W P c s = BitVec.ofNat 32 t := tokW_of_holds ht
    have : tk P c s = t := by unfold tk; rw [hw, toNat_tok ht.1]
    rw [this]; exact ⟨ht, hw⟩
  · have hw : W P c s = 4294967295#32 := tokW_of_not hh
    rw [hw] at h; exact absurd h cond_neg

theorem live_of_holds {c : Dev nD} {s : Fin 48} {t : ℕ} (h : Holds (ev P.R) c s t) : live P c s ∧ tk P c s = t := by
  have hw : W P c s = BitVec.ofNat 32 t := tokW_of_holds h
  exact ⟨by unfold live; rw [hw]; exact cond_tok h.1, by unfold tk; rw [hw, toNat_tok h.1]⟩

theorem tk_lt {c : Dev nD} {s : Fin 48} (h : live P c s) : tk P c s < 2048 := (live_holds P h).1.1

theorem tgt_row {c : Dev nD} {s : Fin 48} (h : live P c s) : 64 * (tgt P c s).val + (row P c s).val = tk P c s := by
  have := tk_lt P h
  simp only [tgt, row]; omega

/-- Two slots that hold a token of the same place are one. -/
theorem slot_inj {c c' : Dev nD} {s s' : Fin 48} (h : live P c s) (h' : live P c' s') (ht : tgt P c s = tgt P c' s') (hr : row P c s = row P c' s') :
    c = c' ∧ s = s' := by
  have e : tk P c s = tk P c' s' := by rw [← tgt_row P h, ← tgt_row P h', ht, hr]
  obtain ⟨h1, h2⟩ := Holds.inj c.2 c'.2 s.2 s'.2 (e ▸ (live_holds P h).1) (live_holds P h').1
  exact ⟨Fin.ext h1, Fin.ext h2⟩

theorem off49_live {c : Dev nD} {s : Fin 48} (h : live P c s) : k0_off49 (W P c s) = ![(row P c s).val, 0] := by
  rw [(live_holds P h).2, off49_tok (tk_lt P h)]; rfl

theorem dev32_live {c : Dev nD} {s : Fin 48} (h : live P c s) : k0_dev32 (W P c s) = (tgt P c s).val := by
  have := tk_lt P h
  rw [(live_holds P h).2, dev32_tok this]; simp only [tgt]; omega

/-- The row of `X` the slot gathers. -/
def src (c : Dev nD) (s : Fin 48) : Fin 2048 := ⟨k0_off1 (W P c s) 0 % 2048, Nat.mod_lt _ (by decide)⟩

theorem off1_src (c : Dev nD) (s : Fin 48) : k0_off1 (W P c s) = ![(src P c s).val, 0] := by
  rcases W_ok P c s with ⟨t, ht, hw⟩ | hw
  · have : (src P c s).val = t := by simp only [src, hw, off1_tok ht]; exact Nat.mod_eq_of_lt ht
    rw [this, hw, off1_tok ht]
  · have : (src P c s).val = 0 := by simp only [src, hw, off1_neg]; rfl
    rw [this, hw, off1_neg]

theorem src_live {c : Dev nD} {s : Fin 48} (h : live P c s) : (src P c s).val = tk P c s := by
  have := congrFun (off1_src P c s) 0
  rw [(live_holds P h).2, off1_tok (tk_lt P h)] at this
  exact this.symm

/-- The gathered rows. -/
def XG (c : Dev nD) : Vec F S48x512 .f32 := fun j => P.X c (ix2 (src P c (j 0)) (j 1))

/-- The products: each group of twelve rows by its expert. -/
def Y (c : Dev nD) : Vec F S48x1024 .f32 := fun j =>
  k0_pay66 (fun q : S12x512.Idx => XG P c (ix2 ⟨12 * ((j 0).val / 12) + (q 0).val, by have h := (j 0).isLt; have h' := (q 0).isLt; change _ < 48 at h; change _ < 12 at h'; omega⟩ (q 1)))
    (fun q : S1x512x1024.Idx => P.E c (ix3 ⟨(j 0).val / 12, by have h := (j 0).isLt; change _ < 48 at h; omega⟩ (q 1) (q 2)))
    (ix2 ⟨(j 0).val % 12, Nat.mod_lt _ (by decide)⟩ (j 1))

/-- The finished block of device `d`: a row some slot was sent to is that slot's product, any other is zero. -/
def FIN (d : Dev nD) : Vec F S64x1024 .f32 := fun j =>
  open Classical in
  if h : ∃ p : Dev nD × Fin 48, live P p.1 p.2 ∧ tgt P p.1 p.2 = d ∧ row P p.1 p.2 = j 0 then Y P h.choose.1 (ix2 h.choose.2 (j 1)) else k0_pay1 (F := F) j

theorem FIN_live {c : Dev nD} {s : Fin 48} (h : live P c s) (j : S64x1024.Idx) (hj : j 0 = row P c s) :
    FIN P (tgt P c s) j = Y P c (ix2 s (j 1)) := by
  have hex : ∃ p : Dev nD × Fin 48, live P p.1 p.2 ∧ tgt P p.1 p.2 = tgt P c s ∧ row P p.1 p.2 = j 0 := ⟨(c, s), h, rfl, hj.symm⟩
  unfold FIN; rw [dif_pos hex]
  obtain ⟨h1, h2, h3⟩ := hex.choose_spec
  obtain ⟨e1, e2⟩ := slot_inj P h1 h h2 (h3.trans hj)
  rw [e1, e2]

theorem FIN_none {d : Dev nD} (j : S64x1024.Idx) (h : ∀ c s, live P c s → tgt P c s = d → row P c s ≠ j 0) :
    FIN P d j = k0_pay1 (F := F) j := by
  unfold FIN; rw [dif_neg]
  rintro ⟨p, h1, h2, h3⟩; exact h _ _ h1 h2 h3

/-- The words a device's own copy puts in its scalar memory: the 48 token words, then how many rows it is to receive. -/
def META (c : Dev nD) : Vec F S49x1 .i32 := fun j => if h : (j 0).val < 48 then W P c ⟨(j 0).val, h⟩ else BitVec.ofNat 32 (nrecv (ev P.R) c)

/-- The slots sent to device `d`. -/
def sends (d : Dev nD) : Finset (Dev nD × Fin 48) := Finset.univ.filter fun p => live P p.1 p.2 ∧ tgt P p.1 p.2 = d

theorem card_sends (d : Dev nD) : (sends P d).card = nrecv (ev P.R) d := by
  rw [nrecv_eq_card _ _ d.2]
  congr 1
  ext p
  simp only [sends, Finset.mem_filter, Finset.mem_univ, true_and]
  constructor
  · rintro ⟨h, rfl⟩
    refine ⟨_, (live_holds P h).1, ?_⟩
    have := tgt_row P h; have := (row P p.1 p.2).2; omega
  · rintro ⟨t, ht, hd⟩
    obtain ⟨h, e⟩ := live_of_holds P ht
    refine ⟨h, Fin.ext ?_⟩
    have := tgt_row P h; have := (row P p.1 p.2).2; omega

end Cert.Route
-- ==== Proof.Protocol.lean ====
/- The exchange's protocol: the cells, what each arrival hands over, what each device owes, and the ways the shared
   buffers are cut into rows.

   Every device signals each other device once on its barrier cell; the signal hands over the rows of the sender's block
   that the receiver will write. Every live slot is one remote copy: it pays its own send cell with the product's row and
   the target's receive cell with the written row. -/
module

public import proofs.«01_k».proof.Proof.Data
public import proofs.«01_k».proof.Proof.Gen.KernelIdeal.Launch

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A duty is named by a device and a slot. -/
abbrev D : Type := Dev nD × Fin 48

abbrev UE : Type := URounds (GSem nD τ sig) D
abbrev UU : Type := (UR sig nD τ × Sites.UC) × UE

local notation "𝕄" => MT nD τ sig ℕ (Elt F) ℕ UU ℕ

abbrev ER : Emb UE (MT nD τ sig ℕ (Elt F) ℕ UU ℕ) := embR
abbrev 𝒱₀ : Variants := Variants.none

variable (P : Inp F)

/-! ## Cells -/

abbrev barCell (c : Dev nD) : GSem nD τ sig := ((c : Thread nD τ), .reg barrier0)
abbrev recvSem : DmaSem sig := cc0_scratch5.sem
abbrev metaSem : DmaSem sig := cc0_scratch6.sem
abbrev sendSem (s : Fin 48) : DmaSem sig := ⟨14 + s.val, by show 14 + s.val < 64; omega⟩
abbrev recvCell (c : Dev nD) : GSem nD τ sig := ((c : Thread nD τ), .dma recvSem)
abbrev metaCell (c : Dev nD) : GSem nD τ sig := ((c : Thread nD τ), .dma metaSem)
abbrev sendCell (c : Dev nD) (s : Fin 48) : GSem nD τ sig := ((c : Thread nD τ), .dma (sendSem s))

theorem recvSem_val : recvSem.val = 62 := by decide
theorem metaSem_val : metaSem.val = 63 := by decide

/-! ## The memrefs -/

abbrev xM : Memref sig .tc .vmem S2048x512 .f32 := Memref.whole cc0_stg0_0
abbrev eM : Memref sig .tc .vmem S4x512x1024 .f32 := Memref.whole cc0_stg1_0
abbrev rM : Memref sig .tc .vmem S1x2048 .i32 := Memref.whole cc0_stg2_0
abbrev oM : Memref sig .tc .vmem S64x1024 .f32 := Memref.whole cc0_stg3_0
abbrev gM : Memref sig .tc .vmem S48x512 .f32 := Memref.whole cc0_scratch0
abbrev yM : Memref sig .tc .vmem S48x1024 .f32 := Memref.whole cc0_scratch1
abbrev vM : Memref sig .tc .vmem S49x1 .i32 := Memref.whole cc0_scratch2
abbrev mM : Memref sig .tc .smem S49x1 .i32 := Memref.whole cc0_scratch3

theorem inbO (r : Fin 64) : ∀ a, (![r.val, 0] : Fin 2 → ℕ) a + S1x1024.size a ≤ S64x1024.size a := by
  intro a; fin_cases a
  · show r.val + 1 ≤ 64; omega
  · show 0 + 1024 ≤ 1024; omega
theorem inbY (s : Fin 48) : ∀ a, (![s.val, 0] : Fin 2 → ℕ) a + S1x1024.size a ≤ S48x1024.size a := by
  intro a; fin_cases a
  · show s.val + 1 ≤ 48; omega
  · show 0 + 1024 ≤ 1024; omega

abbrev oRow (r : Fin 64) : Memref sig .tc .vmem S1x1024 .f32 := oM.slice (Rect.unit (s := S64x1024) ![r.val, 0] S1x1024.size (inbO r)) (fun _ => rfl)
abbrev yRow (s : Fin 48) : Memref sig .tc .vmem S1x1024 .f32 := yM.slice (Rect.unit (s := S48x1024) ![s.val, 0] S1x1024.size (inbY s)) (fun _ => rfl)

abbrev N : ℕ := (oRow 0).view.dmaCredit
abbrev NM : ℕ := (mM : Memref sig .tc .smem S49x1 .i32).view.dmaCredit
theorem N_pos : 0 < N := View.dmaCredit_pos _ (by decide)
theorem NM_pos : 0 < NM := View.dmaCredit_pos _ (by decide)

/-- The elements of row `r`. -/
def oSet (r : Fin 64) : Finset S64x1024.Idx := Finset.univ.filter fun i => (i 0).val = r.val
theorem mem_oSet (r : Fin 64) (i : S64x1024.Idx) : i ∈ oSet r ↔ (i 0).val = r.val := by simp [oSet]
theorem oRow_set (r : Fin 64) : (oRow r).view.set = oSet r := by
  show ((View.whole cc0_stg3_0).slice _).set = _
  rw [View.set_slice_whole]
  refine Finset.ext fun (i : S64x1024.Idx) => ?_
  rw [Rect.mem_set_unit, mem_oSet]
  constructor
  · intro h
    have h0 := h 0
    change r.val ≤ (i 0).val ∧ (i 0).val < r.val + 1 at h0
    omega
  · intro h a
    fin_cases a
    · show r.val ≤ (i 0).val ∧ (i 0).val < r.val + 1
      omega
    · have h1 := (i 1).isLt
      change (i 1).val < 1024 at h1
      show 0 ≤ (i 1).val ∧ (i 1).val < 0 + 1024
      omega

/-- The elements of row `s`. -/
def ySet (s : Fin 48) : Finset S48x1024.Idx := Finset.univ.filter fun i => (i 0).val = s.val
theorem mem_ySet (s : Fin 48) (i : S48x1024.Idx) : i ∈ ySet s ↔ (i 0).val = s.val := by simp [ySet]
theorem yRow_set (s : Fin 48) : (yRow s).view.set = ySet s := by
  show ((View.whole cc0_scratch1).slice _).set = _
  rw [View.set_slice_whole]
  refine Finset.ext fun (i : S48x1024.Idx) => ?_
  rw [Rect.mem_set_unit, mem_ySet]
  constructor
  · intro h
    have h0 := h 0
    change s.val ≤ (i 0).val ∧ (i 0).val < s.val + 1 at h0
    omega
  · intro h a
    fin_cases a
    · show s.val ≤ (i 0).val ∧ (i 0).val < s.val + 1
      omega
    · have h1 := (i 1).isLt
      change (i 1).val < 1024 at h1
      show 0 ≤ (i 1).val ∧ (i 1).val < 0 + 1024
      omega

/-! ## Points-to, by rows -/

/-- Row `r` of device `d`'s block, held at `f`. -/
def outRow (d : Dev nD) (r : Fin 64) (f : Vec F S64x1024 .f32) : sProp 𝕄 :=
  (oRow r).view.loc (d : Thread nD τ) ↦[(oRow r).view.set]{fullShare} f
/-- Row `s` of device `c`'s products. -/
def yPts (c : Dev nD) (s : Fin 48) : sProp 𝕄 :=
  (yRow s).view.loc (c : Thread nD τ) ↦[(yRow s).view.set]{fullShare} (Y P c : Vec F S48x1024 .f32)

omit [FloatOps F] in
instance outRow_storable (d : Dev nD) (r : Fin 64) (f : Vec F S64x1024 .f32) : BI.Storable (upEmb : UEmb _ 𝕄) (outRow d r f) := by unfold outRow; infer_instance
instance yPts_storable (c : Dev nD) (s : Fin 48) : BI.Storable (upEmb : UEmb _ 𝕄) (yPts P c s) := by unfold yPts; infer_instance

abbrev zeroB : Vec F S64x1024 .f32 := k0_pay1 (F := F)

/-- The rows of device `c`'s block that device `d`'s slots go to. -/
def handRow (c d : Dev nD) : sProp 𝕄 := bigSep Finset.univ fun s : Fin 48 => if live P d s ∧ tgt P d s = c then outRow c (row P d s) zeroB else iprop(emp)

instance handRow_storable (c d : Dev nD) : BI.Storable (upEmb : UEmb _ 𝕄) (handRow P c d) := by
  unfold handRow
  haveI : ∀ s : Fin 48, BI.Storable (upEmb : UEmb _ 𝕄) (if live P d s ∧ tgt P d s = c then outRow c (row P d s) (zeroB : Vec F S64x1024 .f32) else iprop(emp)) := by
    intro s; split <;> infer_instance
  infer_instance

/-- What `c`'s signal hands `d`: those rows, and that `c`'s receive cell is open. -/
def handPay (c d : Dev nD) : sProp 𝕄 := iprop(handRow P c d ∗ reached ER (recvCell c) 0)
/-- The words' own copy: the scalar memory filled, the vector buffer back. -/
def metaPay (c : Dev nD) : sProp 𝕄 :=
  iprop(((mM : Memref sig .tc .smem S49x1 .i32).view.loc (c : Thread nD τ) ↦[(mM : Memref sig .tc .smem S49x1 .i32).view.set]{fullShare} (META P c : Vec F S49x1 .i32))
    ∗ ((vM : Memref sig .tc .vmem S49x1 .i32).view.loc (c : Thread nD τ) ↦[(vM : Memref sig .tc .vmem S49x1 .i32).view.set]{fullShare} (META P c : Vec F S49x1 .i32)))
/-- What slot `p`'s arrival leaves at device `d`. -/
def recvPay (d : Dev nD) (p : D) : sProp 𝕄 := outRow d (row P p.1 p.2) (FIN P d)

instance handPay_storable (c d : Dev nD) : BI.Storable (upEmb : UEmb _ 𝕄) (handPay P c d) := by unfold handPay; infer_instance
instance metaPay_storable (c : Dev nD) : BI.Storable (upEmb : UEmb _ 𝕄) (metaPay P c) := by unfold metaPay; infer_instance
instance recvPay_storable (d : Dev nD) (p : D) : BI.Storable (upEmb : UEmb _ 𝕄) (recvPay P d p) := by unfold recvPay; infer_instance

/-! ## The schedule -/

/-- The slot whose send cell a DMA semaphore is. -/
def slotOf (q : ℕ) : Fin 48 := ⟨(q - 14) % 48, Nat.mod_lt _ (by decide)⟩

def barEmb : Dev nD ↪ D := ⟨fun x => (x, 0), fun _ _ h => congrArg Prod.fst h⟩

def duts (c : Dev nD) : SemLoc sig → Finset D
  | .reg q => if q = barrier0 then (Finset.univ.erase c).map barEmb else ∅
  | .dma q => if q.val = 62 then sends P c else if q.val = 63 then {(c, 0)}
      else if 14 ≤ q.val then (if live P c (slotOf q.val) then {(c, 0)} else ∅) else ∅

def pay (c : Dev nD) : SemLoc sig → D → sProp 𝕄
  | .reg _, p => handPay P p.1 c
  | .dma q, p => if q.val = 62 then recvPay P c p else if q.val = 63 then metaPay P c else yPts P c (slotOf q.val)

def amt : SemLoc sig → ℕ
  | .reg _ => 1
  | .dma q => if q.val = 63 then NM else N

theorem amt_pos (sm : SemLoc sig) : 0 < amt sm := by
  cases sm with
  | reg q => exact Nat.one_pos
  | dma q => unfold amt; dsimp only; split; exacts [NM_pos, N_pos]

def Rd : Rounds.Schedule (GSem nD τ sig) D 𝕄 where
  duties g r := if r = 0 ∧ g.1.2 = .tc then duts P g.1.1 g.2 else ∅
  unitless _ := False
  amount g _ _ := amt g.2
  payload g _ p := pay P g.1.1 g.2 p
  amount_pos g _ _ _ := amt_pos g.2

instance Rd_payload_storable (g : GSem nD τ sig) (r : ℕ) (d : D) : BI.Storable (upEmb : UEmb _ 𝕄) ((Rd (F := F) P).payload g r d) := by
  show BI.Storable upEmb (pay P g.1.1 g.2 d)
  cases g.2 with
  | reg q => unfold pay; infer_instance
  | dma q => unfold pay; dsimp only; (repeat' split) <;> infer_instance

theorem duties_later (g : GSem nD τ sig) : ∀ r, 1 ≤ r → (Rd (F := F) P).duties g r = ∅ :=
  fun r hr => by dsimp only [Rd]; exact if_neg fun h => by omega

theorem duties_zero (c : Dev nD) (sm : SemLoc sig) : (Rd (F := F) P).duties ((c : Thread nD τ), sm) 0 = duts P c sm := by
  dsimp only [Rd]; exact if_pos ⟨rfl, rfl⟩

theorem duties_bar (c : Dev nD) : (Rd (F := F) P).duties (barCell c) 0 = (Finset.univ.erase c).map barEmb := by
  rw [duties_zero]; unfold duts; dsimp only; exact if_pos rfl
theorem duties_recv (c : Dev nD) : (Rd (F := F) P).duties (recvCell c) 0 = sends P c := by
  rw [duties_zero]; unfold duts; dsimp only; exact if_pos recvSem_val
theorem duties_meta (c : Dev nD) : (Rd (F := F) P).duties (metaCell c) 0 = {(c, 0)} := by
  rw [duties_zero]; unfold duts; dsimp only; rw [if_neg (by decide), if_pos (by decide)]
theorem slotOf_send (s : Fin 48) : slotOf (sendSem s).val = s := by
  apply Fin.ext; show (14 + s.val - 14) % 48 = s.val; have := s.2; omega
theorem send_ne (s : Fin 48) : ¬ (sendSem s).val = 62 ∧ ¬ (sendSem s).val = 63 ∧ 14 ≤ (sendSem s).val := by
  have := s.2; refine ⟨?_, ?_, ?_⟩ <;> dsimp only [sendSem] <;> omega
theorem duties_send (c : Dev nD) (s : Fin 48) : (Rd (F := F) P).duties (sendCell c s) 0 = if live P c s then {(c, 0)} else ∅ := by
  rw [duties_zero]; unfold duts; dsimp only
  rw [if_neg (send_ne s).1, if_neg (send_ne s).2.1, if_pos (send_ne s).2.2, slotOf_send]

theorem amount_bar (c : Dev nD) (r : ℕ) (p : D) : (Rd (F := F) P).amount (barCell c) r p = 1 := rfl
theorem amount_recv (c : Dev nD) (r : ℕ) (p : D) : (Rd (F := F) P).amount (recvCell c) r p = N := by
  show amt (.dma recvSem) = N; unfold amt; dsimp only; exact if_neg (by decide)
theorem amount_meta (c : Dev nD) (r : ℕ) (p : D) : (Rd (F := F) P).amount (metaCell c) r p = NM := by
  show amt (.dma metaSem) = NM; unfold amt; dsimp only; exact if_pos (by decide)
theorem amount_send (c : Dev nD) (s : Fin 48) (r : ℕ) (p : D) : (Rd (F := F) P).amount (sendCell c s) r p = N := by
  show amt (.dma (sendSem s)) = N; unfold amt; dsimp only; exact if_neg (send_ne s).2.1

theorem payload_bar (c : Dev nD) (r : ℕ) (p : D) : (Rd (F := F) P).payload (barCell c) r p = handPay P p.1 c := rfl
theorem payload_recv (c : Dev nD) (r : ℕ) (p : D) : (Rd (F := F) P).payload (recvCell c) r p = recvPay P c p := by
  show pay P c (.dma recvSem) p = _; unfold pay; dsimp only; exact if_pos (by decide)
theorem payload_meta (c : Dev nD) (r : ℕ) (p : D) : (Rd (F := F) P).payload (metaCell c) r p = metaPay P c := by
  show pay P c (.dma metaSem) p = _; unfold pay; dsimp only; rw [if_neg (by decide), if_pos (by decide)]
theorem payload_send (c : Dev nD) (s : Fin 48) (r : ℕ) (p : D) : (Rd (F := F) P).payload (sendCell c s) r p = yPts P c s := by
  show pay P c (.dma (sendSem s)) p = _; unfold pay; dsimp only; rw [if_neg (send_ne s).1, if_neg (send_ne s).2.1, slotOf_send]

theorem expect_bar (c : Dev nD) : (Rd (F := F) P).expect (barCell c) 0 = 31 := by
  unfold Schedule.expect Schedule.amountOf
  rw [duties_bar, Finset.sum_congr rfl (fun p _ => amount_bar P c 0 p), Finset.sum_const, Finset.card_map, Finset.card_erase_of_mem (Finset.mem_univ _)]
  decide
theorem expect_recv (c : Dev nD) : (Rd (F := F) P).expect (recvCell c) 0 = nrecv (ev P.R) c * N := by
  unfold Schedule.expect Schedule.amountOf
  rw [duties_recv, Finset.sum_congr rfl (fun p _ => amount_recv P c 0 p), Finset.sum_const, card_sends, smul_eq_mul]
theorem expect_meta (c : Dev nD) : (Rd (F := F) P).expect (metaCell c) 0 = NM := by
  unfold Schedule.expect Schedule.amountOf
  rw [duties_meta, Finset.sum_singleton, amount_meta]
theorem expect_send (c : Dev nD) (s : Fin 48) (h : live P c s) : (Rd (F := F) P).expect (sendCell c s) 0 = N := by
  unfold Schedule.expect Schedule.amountOf
  rw [duties_send, if_pos h, Finset.sum_singleton, amount_send]

/-! ## What is owed, and the levels -/

/-- The device `j + 1` places on. -/
def nxt (c : Dev nD) (j : Fin 31) : Dev nD := ⟨(c.val + j.val + 1) % 32, Nat.mod_lt _ (by decide)⟩
theorem nxt_ne (c : Dev nD) (j : Fin 31) : nxt c j ≠ c := by
  intro h; have := congrArg Fin.val h; simp only [nxt] at this; have := c.isLt; change c.val < 32 at this; have := j.2; omega
theorem nxt_inj (c : Dev nD) : Function.Injective (nxt c) := by
  intro i j h; have := congrArg Fin.val h; simp only [nxt] at this; have := c.isLt; change c.val < 32 at this; have := i.2; have := j.2
  exact Fin.ext (by omega)
def nxtEmb (c : Dev nD) : Fin 31 ↪ Dev nD := ⟨nxt c, nxt_inj c⟩
theorem map_nxt (c : Dev nD) : Finset.univ.map (nxtEmb c) = Finset.univ.erase c := by
  apply Finset.eq_of_subset_of_card_le
  · intro x hx
    obtain ⟨j, -, rfl⟩ := Finset.mem_map.mp hx
    exact Finset.mem_erase.mpr ⟨nxt_ne c j, Finset.mem_univ _⟩
  · rw [Finset.card_map, Finset.card_erase_of_mem (Finset.mem_univ _)]; decide

/-- A level is an index: staging 0, the gather's 1 to 18, the words' copy 19, the barrier 20, arrivals 21, sends 22. -/
def L (g : GSem nD τ sig) : Finset ℕ := if g.1.2 = .tc then Finset.range 23 else ∅
def lv (_ : GSem nD τ sig) (i : ℕ) : ℕ := i
theorem L_of_ne (g : GSem nD τ sig) (h : g.1.2 ≠ .tc) : L g = ∅ := if_neg h
theorem mem_L (c : Dev nD) (sm : SemLoc sig) {i : ℕ} (hi : i < 23) : i ∈ L ((c : Thread nD τ), sm) := by
  unfold L; rw [if_pos rfl]; exact Finset.mem_range.mpr hi

/-- The signals still owed before signal `i`; the arrivals still owed before slot `i`. -/
def OB (c : Dev nD) (i : ℕ) : CellTallies nD τ sig ℕ := ∑ j : Fin 31, if i ≤ j.val then tallyAt (barCell (nxt c j)) 20 1 else 0
def OS (c : Dev nD) (i : ℕ) : CellTallies nD τ sig ℕ := ∑ s : Fin 48, if i ≤ s.val ∧ live P c s then tallyAt (recvCell (tgt P c s)) 21 N else 0
def O₀ (c : Dev nD) : CellTallies nD τ sig ℕ := OS P c 0 + OB c 0

theorem OB_step (c : Dev nD) (j : Fin 31) : OB c j.val = OB c (j.val + 1) + tallyAt (barCell (nxt c j)) 20 1 := by
  unfold OB
  rw [← Finset.sum_erase_add _ _ (Finset.mem_univ j), ← Finset.sum_erase_add _ (fun k : Fin 31 => if j.val + 1 ≤ k.val then (_ : CellTallies nD τ sig ℕ) else 0) (Finset.mem_univ j), if_pos le_rfl, if_neg (by omega), add_zero]
  congr 1
  refine Finset.sum_congr rfl fun k hk => ?_
  have : k.val ≠ j.val := fun h => (Finset.ne_of_mem_erase hk) (Fin.ext h)
  by_cases h : j.val ≤ k.val
  · rw [if_pos h, if_pos (by omega)]
  · rw [if_neg h, if_neg (by omega)]
theorem OB_last (c : Dev nD) : OB c 31 = 0 := Finset.sum_eq_zero fun j _ => if_neg (by have := j.2; omega)

theorem OS_step (c : Dev nD) (s : Fin 48) (h : live P c s) : OS P c s.val = OS P c (s.val + 1) + tallyAt (recvCell (tgt P c s)) 21 N := by
  unfold OS
  rw [← Finset.sum_erase_add _ _ (Finset.mem_univ s), ← Finset.sum_erase_add _ (fun k : Fin 48 => if s.val + 1 ≤ k.val ∧ live P c k then (_ : CellTallies nD τ sig ℕ) else 0) (Finset.mem_univ s), if_pos ⟨le_rfl, h⟩, if_neg (by omega), add_zero]
  congr 1
  refine Finset.sum_congr rfl fun k hk => ?_
  have : k.val ≠ s.val := fun h => (Finset.ne_of_mem_erase hk) (Fin.ext h)
  by_cases h : s.val ≤ k.val ∧ live P c k
  · rw [if_pos h, if_pos ⟨by omega, h.2⟩]
  · rw [if_neg h, if_neg (fun h' => h ⟨by omega, h'.2⟩)]
theorem OS_skip (c : Dev nD) (s : Fin 48) (h : ¬ live P c s) : OS P c s.val = OS P c (s.val + 1) := by
  unfold OS
  refine Finset.sum_congr rfl fun k _ => ?_
  by_cases hk : k = s
  · subst hk; rw [if_neg (fun h' => h h'.2), if_neg (fun h' => h h'.2)]
  · have : k.val ≠ s.val := fun h => hk (Fin.ext h)
    by_cases h : s.val ≤ k.val ∧ live P c k
    · rw [if_pos h, if_pos ⟨by omega, h.2⟩]
    · rw [if_neg h, if_neg (fun h' => h ⟨by omega, h'.2⟩)]
theorem OS_last (c : Dev nD) : OS P c 48 = 0 := Finset.sum_eq_zero fun j _ => if_neg (by have := j.2; omega)

theorem sum_pos {J : Type} (s : Finset J) (f : J → CellTallies nD τ sig ℕ) {g : GSem nD τ sig} {i : ℕ} (h : 0 < (∑ j ∈ s, f j) g i) : ∃ j ∈ s, 0 < f j g i := by
  by_contra hn
  push Not at hn
  have h0 : ∀ t ⊆ s, (∑ j ∈ t, f j) g i = 0 := by
    classical
    intro t
    induction t using Finset.induction_on with
    | empty => intro _; rfl
    | insert a t ha ih =>
      intro hs
      rw [Finset.sum_insert ha, Pi.add_apply, Finsupp.add_apply, ih (fun x hx => hs (Finset.mem_insert_of_mem hx)), Nat.le_zero.mp (hn a (hs (Finset.mem_insert_self _ _)))]
  rw [h0 s (Finset.Subset.refl _)] at h
  exact Nat.lt_irrefl 0 h

theorem tally_pos {g g' : GSem nD τ sig} {i i' k : ℕ} (h : 0 < tallyAt g i k g' i') : g' = g ∧ i' = i := by
  rw [tallyAt_apply] at h
  by_contra hn
  rw [if_neg hn] at h
  exact Nat.lt_irrefl 0 h

theorem OB_pos {c : Dev nD} {n : ℕ} {g : GSem nD τ sig} {i : ℕ} (h : 0 < OB c n g i) : g.1.2 = .tc ∧ i = 20 := by
  obtain ⟨j, -, hj⟩ := sum_pos _ _ h
  split at hj
  · obtain ⟨rfl, rfl⟩ := tally_pos hj; exact ⟨rfl, rfl⟩
  · exact absurd hj (Nat.lt_irrefl 0)
theorem OS_pos {c : Dev nD} {n : ℕ} {g : GSem nD τ sig} {i : ℕ} (h : 0 < OS P c n g i) : g.1.2 = .tc ∧ i = 21 := by
  obtain ⟨j, -, hj⟩ := sum_pos _ _ h
  split at hj
  · obtain ⟨rfl, rfl⟩ := tally_pos hj; exact ⟨rfl, rfl⟩
  · exact absurd hj (Nat.lt_irrefl 0)
theorem O₀_pos {c : Dev nD} {g : GSem nD τ sig} {i : ℕ} (h : 0 < O₀ P c g i) : i ∈ L g ∧ 19 < i ∧ i < 22 := by
  unfold O₀ at h
  rw [Pi.add_apply, Finsupp.add_apply] at h
  rcases Nat.add_pos_iff_pos_or_pos.mp h with h | h
  · obtain ⟨hg, rfl⟩ := OS_pos P h
    unfold L; rw [if_pos hg]; decide
  · obtain ⟨hg, rfl⟩ := OB_pos h
    unfold L; rw [if_pos hg]; decide

/-- A wait at an index below 21, the arrivals still owed. -/
theorem mayWait_OS (c : Dev nD) (sm : SemLoc sig) (n i : ℕ) (hi : i < 21) : (levAts L lv : sProp 𝕄) ⊢ MayWait (c : Thread nD τ) sm i (OS P c n) :=
  MayOwe.of_cut (L := L) (lev := lv) 20 (fun p hp => by rw [Finset.mem_singleton.mp hp]; exact mem_L _ _ (by omega))
    (fun g u hg => by obtain ⟨h1, rfl⟩ := OS_pos P hg; unfold L; rw [if_pos h1]; decide)
    (fun p hp => by rw [Finset.mem_singleton.mp hp]; show i ≤ 20; omega)
    (fun g u hg => by obtain ⟨hg, rfl⟩ := OS_pos P hg; show 20 < 21; decide)
/-- A wait at an index below 20, everything still owed. -/
theorem mayWait_O₀ (c : Dev nD) (sm : SemLoc sig) (i : ℕ) (hi : i < 20) : (levAts L lv : sProp 𝕄) ⊢ MayWait (c : Thread nD τ) sm i (O₀ P c) :=
  MayOwe.of_cut (L := L) (lev := lv) 19 (fun p hp => by rw [Finset.mem_singleton.mp hp]; exact mem_L _ _ (by omega))
    (fun g u hg => (O₀_pos P hg).1)
    (fun p hp => by rw [Finset.mem_singleton.mp hp]; show i ≤ 19; omega)
    (fun g u hg => (O₀_pos P hg).2.1)

end Cert.Route
-- ==== Proof.Mem.lean ====
/- Reads and writes of rows of the body's buffers, as steps of the program: what each load returns and what each store
   leaves, in terms of the data of `Data`. -/
module

public import proofs.«01_k».proof.Proof.Protocol
public import Idealize.ShloMosaic.Lib.Tactic

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

/-! ## Writes through a rectangle of a whole buffer -/

theorem write_in (b : Ref sig .tc) (r : Rect b.ty.shape) (f : b.ty.Contents (Elt F)) (w : r.shape.Idx → Elt F b.ty.elt) (x : r.shape.Idx) :
    ((View.whole b).slice r).write (Elt F) f w Finset.univ (r.emb x) = w x :=
  View.write_emb_of_mem (Val := Elt F) (v := (View.whole b).slice r) f w (Finset.mem_univ x)

theorem write_off (b : Ref sig .tc) (r : Rect b.ty.shape) (f : b.ty.Contents (Elt F)) (w : r.shape.Idx → Elt F b.ty.elt) (i : b.ty.Idx) (h : i ∉ r.set) :
    ((View.whole b).slice r).write (Elt F) f w Finset.univ i = f i :=
  View.write_of_not_mem (Val := Elt F) (v := (View.whole b).slice r) f w Finset.univ (by
    rw [View.setOn_univ, View.set_slice_whole]; exact h)

/-! ## A band of a matrix -/

theorem emb2 {n m a b o p : ℕ} (inb : ∀ t, (![o, p] : Fin 2 → ℕ) t + (![a, b] : Fin 2 → ℕ) t ≤ (⟨2, ![n, m]⟩ : Shape).size t)
    (x : Fin a) (y : Fin b) (h1 : o + x.val < n) (h2 : p + y.val < m) :
    (Rect.unit (s := ⟨2, ![n, m]⟩) ![o, p] ![a, b] inb).emb (ix2 x y) = ix2 ⟨o + x.val, h1⟩ ⟨p + y.val, h2⟩ := by
  funext t; apply Fin.ext
  rw [Rect.emb_apply]
  fin_cases t
  · show o + 1 * x.val = o + x.val; omega
  · show p + 1 * y.val = p + y.val; omega

theorem mem2 {n m a b o p : ℕ} (inb : ∀ t, (![o, p] : Fin 2 → ℕ) t + (![a, b] : Fin 2 → ℕ) t ≤ (⟨2, ![n, m]⟩ : Shape).size t)
    (i : (⟨2, ![n, m]⟩ : Shape).Idx) (h : i ∈ (Rect.unit (s := ⟨2, ![n, m]⟩) ![o, p] ![a, b] inb).set) :
    (o ≤ (i 0).val ∧ (i 0).val < o + a) ∧ (p ≤ (i 1).val ∧ (i 1).val < p + b) :=
  ⟨Rect.mem_set_unit.mp h 0, Rect.mem_set_unit.mp h 1⟩

/-- A band of whole rows, written. -/
theorem writeBand {sp : Space} {e : EltTy} {n m a o : ℕ} (v : View sig .tc sp ⟨2, ![n, m]⟩ e)
    (inb : ∀ t, (![o, 0] : Fin 2 → ℕ) t + (![a, m] : Fin 2 → ℕ) t ≤ (⟨2, ![n, m]⟩ : Shape).size t)
    (f : v.ty.Contents (Elt F)) (w : (⟨2, ![a, m]⟩ : Shape).Idx → Elt F e) (x : Fin n) (y : Fin m) :
    v.read (Elt F) ((v.slice (Rect.unit (s := ⟨2, ![n, m]⟩) ![o, 0] ![a, m] inb)).write (Elt F) f w Finset.univ) (ix2 x y)
      = if h : o ≤ x.val ∧ x.val < o + a then w (ix2 ⟨x.val - o, by omega⟩ y) else v.read (Elt F) f (ix2 x y) := by
  split
  · rename_i h
    have hx : o + (⟨x.val - o, by omega⟩ : Fin a).val < n := by have := x.2; show o + (x.val - o) < n; omega
    have hy : 0 + y.val < m := by have := y.2; omega
    have e1 := emb2 (n := n) (m := m) (a := a) (b := m) (o := o) (p := 0) inb ⟨x.val - o, by omega⟩ y hx hy
    have e2 : (ix2 ⟨o + (⟨x.val - o, by omega⟩ : Fin a).val, hx⟩ ⟨0 + y.val, hy⟩ : (⟨2, ![n, m]⟩ : Shape).Idx) = ix2 x y := by
      congr 1
      · exact Fin.ext (show o + (x.val - o) = x.val by omega)
      · exact Fin.ext (show 0 + y.val = y.val by omega)
    rw [← e2, ← e1, View.read_slice_write_emb]
    exact Finset.mem_univ _
  · rename_i h
    rw [View.read_apply, View.read_apply]
    congr 1
    refine View.write_of_not_mem (v := v.slice (Rect.unit (s := ⟨2, ![n, m]⟩) ![o, 0] ![a, m] inb)) f w Finset.univ ?_
    rw [View.setOn_univ, View.set_slice]
    intro hm
    obtain ⟨z, hz, he⟩ := Finset.mem_map.mp hm
    have : z = ix2 x y := v.emb.injective he
    rw [this] at hz
    exact h (mem2 inb _ hz).1

/-- A band of whole rows, read. -/
theorem readBand {sp : Space} {e : EltTy} {n m a o : ℕ} (v : View sig .tc sp ⟨2, ![n, m]⟩ e)
    (inb : ∀ t, (![o, 0] : Fin 2 → ℕ) t + (![a, m] : Fin 2 → ℕ) t ≤ (⟨2, ![n, m]⟩ : Shape).size t)
    (f : v.ty.Contents (Elt F)) (x : Fin a) (y : Fin m) (h : o + x.val < n) :
    v.readAt (Elt F) (Rect.unit (s := ⟨2, ![n, m]⟩) ![o, 0] ![a, m] inb).toLoadRect f (ix2 x y) = v.read (Elt F) f (ix2 ⟨o + x.val, h⟩ y) := by
  have hy : 0 + y.val < m := by have := y.2; omega
  have e1 := emb2 (n := n) (m := m) (a := a) (b := m) (o := o) (p := 0) inb x y h hy
  rw [View.readAt_apply]
  have e2 : (ix2 ⟨o + x.val, h⟩ ⟨0 + y.val, hy⟩ : (⟨2, ![n, m]⟩ : Shape).Idx) = ix2 ⟨o + x.val, h⟩ y := congrArg _ (Fin.ext (by show 0 + y.val = y.val; omega))
  rw [← e2, ← e1]; rfl

/-- A band of one expert, read. -/
theorem readExpert (g : Fin 4) (inb) (f : Vec F S4x512x1024 .f32) (q : S1x512x1024.Idx) :
    (eM : Memref sig .tc .vmem S4x512x1024 .f32).view.readAt (Elt F) (Rect.unit (s := S4x512x1024) ![g.val, 0, 0] S1x512x1024.size inb).toLoadRect f q = f (ix3 g (q 1) (q 2)) := by
  rw [View.readAt_apply]
  show f _ = f _
  congr 1
  funext t; apply Fin.ext
  have h0 : (q 0).val < 1 := (q 0).isLt
  fin_cases t
  · show g.val + 1 * (q 0).val = g.val; omega
  · show 0 + 1 * (q 1).val = (q 1).val; omega
  · show 0 + 1 * (q 2).val = (q 2).val; omega

/-! ## The buffers while the body runs -/

/-- A buffer of device `c`, held whole. -/
abbrev buf (c : Dev nD) (b : Ref sig .tc) (f : b.ty.Contents (Elt F)) : sProp 𝕄 := iprop(((c : Thread nD τ).loc b) ↦{fullShare} f)

/-- The gathered rows, `n` of them in place. -/
def GSt (c : Dev nD) (n : ℕ) : sProp 𝕄 :=
  iprop(∃ f : Vec F S48x512 .f32, ⌜∀ (u : Fin 48) (v : Fin 512), u.val < n → gM.view.read (Elt F) f (ix2 u v) = XG P c (ix2 u v)⌝ ∗ buf c cc0_scratch0 f)
/-- The products, `n` rows of them in place. -/
def YSt (c : Dev nD) (n : ℕ) : sProp 𝕄 :=
  iprop(∃ f : Vec F S48x1024 .f32, ⌜∀ (u : Fin 48) (v : Fin 1024), u.val < n → yM.view.read (Elt F) f (ix2 u v) = Y P c (ix2 u v)⌝ ∗ buf c cc0_scratch1 f)

/-- The row slot `s` gathers. -/
def xRow (c : Dev nD) (s : Fin 48) : Vec F S1x512 .f32 := fun j => P.X c (ix2 (src P c s) (j 1))

section Steps

theorem step_xload {α : Type} {Q : α → sProp 𝕄} (c : Dev nD) (s : Fin 48) {off : Fin 2 → ℕ} (hoff : off = ![(src P c s).val, 0]) {inb}
    {hl : (xM : Memref sig .tc .vmem S2048x512 .f32).view.LoadsAt (Rect.unit (s := S2048x512) off S1x512.size inb).toLoadRect}
    {k : Vec F S1x512 .f32 → Prog (TpuEff nD τ sig (Elt F) Λ₀ .tc) α} :
    buf c cc0_stg0_0 (P.X c)
      ⊢ iprop((buf c cc0_stg0_0 (P.X c) -∗ wp frame (wpE (defs₀ (F := F)) 𝒱₀ (c : Thread nD τ) none) Set.univ (k (xRow P c s)) Q)
        -∗ wp frame (wpE (defs₀ (F := F)) 𝒱₀ (c : Thread nD τ) none) Set.univ (.op (.load xM (Rect.unit (s := S2048x512) off S1x512.size inb).toLoadRect hl) k) Q) := by
  subst hoff
  have e : (xM : Memref sig .tc .vmem S2048x512 .f32).view.readAt (Elt F) (Rect.unit (s := S2048x512) ![(src P c s).val, 0] S1x512.size inb).toLoadRect (P.X c) = xRow P c s := by
    funext j
    have h0 : (j 0).val < 1 := (j 0).isLt
    have hj : j = ix2 0 (j 1) := by
      refine (eq_ix2 (n0 := 1) (n1 := 512) j).trans ?_
      congr 1; exact Fin.ext (by show (j 0).val = 0; omega)
    generalize j 1 = y at hj
    subst hj
    exact readBand (F := F) (n := 2048) (m := 512) (a := 1) xM.view inb (P.X c) 0 y (src P c s).2
  iintro H Hk
  iapply (wp_load 𝒱₀ (c : Thread nD τ) none Set.univ (m := xM) (S := Finset.univ) (Finset.subset_univ _)) $$ H; iintro H
  rw [e]
  iapply Hk; iexact H

theorem step_gload {α : Type} {Q : α → sProp 𝕄} (c : Dev nD) (n : ℕ) {r : LoadRect S48x512} {hl : (gM : Memref sig .tc .vmem S48x512 .f32).view.LoadsAt r}
    {k : (r.shape.Idx → Elt F .f32) → Prog (TpuEff nD τ sig (Elt F) Λ₀ .tc) α} :
    GSt P c n
      ⊢ iprop((∀ v, GSt P c n -∗ wp frame (wpE (defs₀ (F := F)) 𝒱₀ (c : Thread nD τ) none) Set.univ (k v) Q)
        -∗ wp frame (wpE (defs₀ (F := F)) 𝒱₀ (c : Thread nD τ) none) Set.univ (.op (.load gM r hl) k) Q) := by
  unfold GSt
  iintro ⟨%f, %hf, H⟩ Hk
  iapply (wp_load 𝒱₀ (c : Thread nD τ) none Set.univ (m := gM) (S := Finset.univ) (Finset.subset_univ _)) $$ H; iintro H
  iapply Hk
  iexists f
  isplitr; · ipureintro; exact hf
  iexact H

theorem step_gstore {α : Type} {Q : α → sProp 𝕄} (c : Dev nD) (s : Fin 48) {inb} {w : Vec F S1x512 .f32} (hw : w = xRow P c s) {hx hm}
    {k : PUnit → Prog (TpuEff nD τ sig (Elt F) Λ₀ .tc) α} :
    GSt P c s.val
      ⊢ iprop((GSt P c (s.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.store gM (Rect.unit (s := S48x512) ![s.val, 0] S1x512.size inb) w Finset.univ hx hm) k) Q) := by
  subst hw
  unfold GSt
  iintro ⟨%f, %hf, H⟩ Hk
  iapply (wp_store 𝒱₀ (c : Thread nD τ) none Set.univ (m := gM) (r := Rect.unit (s := S48x512) ![s.val, 0] S1x512.size inb) (Mk := Finset.univ) (Finset.subset_univ _)) $$ H; iintro H
  iapply Hk
  iexists _
  isplitr
  swap
  · iexact H
  ipureintro
  intro u v hu
  refine (writeBand (F := F) (n := 48) (m := 512) (a := 1) gM.view inb f (xRow P c s) u v).trans ?_
  split
  · rename_i h
    have : u = s := Fin.ext (by omega)
    subst this
    rfl
  · rename_i h
    exact hf u v (by omega)

theorem step_gband {α : Type} {Q : α → sProp 𝕄} (c : Dev nD) (g : Fin 4) {inb} {hl} {k : Vec F S12x512 .f32 → Prog (TpuEff nD τ sig (Elt F) Λ₀ .tc) α} :
    GSt P c 48
      ⊢ iprop((GSt P c 48 -∗ wp frame (wpE (defs₀ (F := F)) 𝒱₀ (c : Thread nD τ) none) Set.univ
            (k (fun q => XG P c (ix2 ⟨12 * g.val + (q 0).val, by have h := g.2; have h' := (q 0).isLt; change _ < 12 at h'; omega⟩ (q 1)))) Q)
        -∗ wp frame (wpE (defs₀ (F := F)) 𝒱₀ (c : Thread nD τ) none) Set.univ (.op (.load gM (Rect.unit (s := S48x512) ![12 * g.val, 0] S12x512.size inb).toLoadRect hl) k) Q) := by
  unfold GSt
  iintro ⟨%f, %hf, H⟩ Hk
  iapply (wp_load 𝒱₀ (c : Thread nD τ) none Set.univ (m := gM) (S := Finset.univ) (Finset.subset_univ _)) $$ H; iintro H
  have e : (gM : Memref sig .tc .vmem S48x512 .f32).view.readAt (Elt F) (Rect.unit (s := S48x512) ![12 * g.val, 0] S12x512.size inb).toLoadRect f
      = fun q => XG P c (ix2 ⟨12 * g.val + (q 0).val, by have h := g.2; have h' := (q 0).isLt; change _ < 12 at h'; omega⟩ (q 1)) := by
    funext j
    have key : ∀ (u : Fin 12) (y : Fin 512) (hu : 12 * g.val + u.val < 48), (gM : Memref sig .tc .vmem S48x512 .f32).view.readAt (Elt F) (Rect.unit (s := S48x512) ![12 * g.val, 0] S12x512.size inb).toLoadRect f (ix2 u y)
        = XG P c (ix2 ⟨12 * g.val + u.val, hu⟩ y) := fun u y hu =>
      (readBand (F := F) (n := 48) (m := 512) (a := 12) gM.view inb f u y hu).trans (hf ⟨_, hu⟩ y hu)
    exact (congrArg _ (eq_ix2 (n0 := 12) (n1 := 512) j)).trans (key (j 0) (j 1) _)
  rw [e]
  iapply Hk
  iexists f
  isplitr; · ipureintro; exact hf
  iexact H

theorem step_eload {α : Type} {Q : α → sProp 𝕄} (c : Dev nD) (g : Fin 4) {inb} {hl} {k : Vec F S1x512x1024 .f32 → Prog (TpuEff nD τ sig (Elt F) Λ₀ .tc) α} :
    buf c cc0_stg1_0 (P.E c)
      ⊢ iprop((buf c cc0_stg1_0 (P.E c) -∗ wp frame (wpE (defs₀ (F := F)) 𝒱₀ (c : Thread nD τ) none) Set.univ
            (k (fun q => P.E c (ix3 g (q 1) (q 2)))) Q)
        -∗ wp frame (wpE (defs₀ (F := F)) 𝒱₀ (c : Thread nD τ) none) Set.univ (.op (.load eM (Rect.unit (s := S4x512x1024) ![g.val, 0, 0] S1x512x1024.size inb).toLoadRect hl) k) Q) := by
  iintro H Hk
  iapply (wp_load 𝒱₀ (c : Thread nD τ) none Set.univ (m := eM) (S := Finset.univ) (Finset.subset_univ _)) $$ H; iintro H
  rw [show (eM : Memref sig .tc .vmem S4x512x1024 .f32).view.readAt (Elt F) (Rect.unit (s := S4x512x1024) ![g.val, 0, 0] S1x512x1024.size inb).toLoadRect (P.E c)
    = fun q => P.E c (ix3 g (q 1) (q 2)) from funext fun q => readExpert g inb (P.E c) q]
  iapply Hk; iexact H

theorem step_yload {α : Type} {Q : α → sProp 𝕄} (c : Dev nD) (n : ℕ) {r : LoadRect S48x1024} {hl : (yM : Memref sig .tc .vmem S48x1024 .f32).view.LoadsAt r}
    {k : (r.shape.Idx → Elt F .f32) → Prog (TpuEff nD τ sig (Elt F) Λ₀ .tc) α} :
    YSt P c n
      ⊢ iprop((∀ v, YSt P c n -∗ wp frame (wpE (defs₀ (F := F)) 𝒱₀ (c : Thread nD τ) none) Set.univ (k v) Q)
        -∗ wp frame (wpE (defs₀ (F := F)) 𝒱₀ (c : Thread nD τ) none) Set.univ (.op (.load yM r hl) k) Q) := by
  unfold YSt
  iintro ⟨%f, %hf, H⟩ Hk
  iapply (wp_load 𝒱₀ (c : Thread nD τ) none Set.univ (m := yM) (S := Finset.univ) (Finset.subset_univ _)) $$ H; iintro H
  iapply Hk
  iexists f
  isplitr; · ipureintro; exact hf
  iexact H

/-- Group `g`'s product. -/
def yGroup (c : Dev nD) (g : Fin 4) : Vec F S12x1024 .f32 :=
  k0_pay66 (fun q : S12x512.Idx => XG P c (ix2 ⟨12 * g.val + (q 0).val, by have h := g.2; have h' := (q 0).isLt; change _ < 12 at h'; omega⟩ (q 1)))
    (fun q : S1x512x1024.Idx => P.E c (ix3 g (q 1) (q 2)))

theorem yGroup_row (c : Dev nD) (g : Fin 4) (u : Fin 48) (y : Fin 1024) (p : Fin 12) (h : u.val = 12 * g.val + p.val) : yGroup P c g (ix2 p y) = Y P c (ix2 u y) := by
  have hg : g = ⟨u.val / 12, by have := u.2; omega⟩ := Fin.ext (by show g.val = u.val / 12; have := p.2; omega)
  have hp : p = ⟨u.val % 12, Nat.mod_lt _ (by decide)⟩ := Fin.ext (by show p.val = u.val % 12; have := p.2; omega)
  have e : Y P c (ix2 u y) = yGroup P c ⟨u.val / 12, by have := u.2; omega⟩ (ix2 ⟨u.val % 12, Nat.mod_lt _ (by decide)⟩ y) := rfl
  rw [e, ← hg, ← hp]

theorem step_ystore {α : Type} {Q : α → sProp 𝕄} (c : Dev nD) (g : Fin 4) {inb} {w : Vec F S12x1024 .f32} (hw : w = yGroup P c g) {hx hm}
    {k : PUnit → Prog (TpuEff nD τ sig (Elt F) Λ₀ .tc) α} :
    YSt P c (12 * g.val)
      ⊢ iprop((YSt P c (12 * g.val + 12) -∗ wp frame (wpE (defs₀ (F := F)) 𝒱₀ (c : Thread nD τ) none) Set.univ (k ⟨⟩) Q)
        -∗ wp frame (wpE (defs₀ (F := F)) 𝒱₀ (c : Thread nD τ) none) Set.univ (.op (.store yM (Rect.unit (s := S48x1024) ![12 * g.val, 0] S12x1024.size inb) w Finset.univ hx hm) k) Q) := by
  subst hw
  unfold YSt
  iintro ⟨%f, %hf, H⟩ Hk
  iapply (wp_store 𝒱₀ (c : Thread nD τ) none Set.univ (m := yM) (r := Rect.unit (s := S48x1024) ![12 * g.val, 0] S12x1024.size inb) (Mk := Finset.univ) (Finset.subset_univ _)) $$ H; iintro H
  iapply Hk
  iexists _
  isplitr
  swap
  · iexact H
  ipureintro
  intro u v hu
  refine (writeBand (F := F) (n := 48) (m := 1024) (a := 12) yM.view inb f (yGroup P c g) u v).trans ?_
  split
  · rename_i h
    exact yGroup_row P c g u v ⟨u.val - 12 * g.val, by omega⟩ (show u.val = 12 * g.val + (u.val - 12 * g.val) by omega)
  · rename_i h
    exact hf u v (by omega)

theorem step_smem {α : Type} {Q : α → sProp 𝕄} (c : Dev nD) (s : Fin 49) {inb} {hw} {k : Elt F .i32 → Prog (TpuEff nD τ sig (Elt F) Λ₀ .tc) α} {h1} :
    buf c cc0_scratch3 (META P c)
      ⊢ iprop((buf c cc0_scratch3 (META P c) -∗ wp frame (wpE (defs₀ (F := F)) 𝒱₀ (c : Thread nD τ) none) Set.univ (k (META P c (ix2 s 0))) Q)
        -∗ wp frame (wpE (defs₀ (F := F)) 𝒱₀ (c : Thread nD τ) none) Set.univ (smemLoadElt mM (Rect.unit (s := S49x1) ![s.val, 0] S1x1.size inb) hw (Shape.Idx.first h1) k) Q) := by
  iintro H Hk
  iapply (wp_smemLoadElt 𝒱₀ (c : Thread nD τ) none Set.univ (m := mM) (r := Rect.unit (s := S49x1) ![s.val, 0] S1x1.size inb) (Finset.subset_univ _)) $$ H; iintro H
  have e : ((mM : Memref sig .tc .smem S49x1 .i32).access (Rect.unit (s := S49x1) ![s.val, 0] S1x1.size inb)).read (Elt F) (META P c) (Shape.Idx.first h1) = META P c (ix2 s 0) := by
    show META P c _ = META P c _
    congr 1
    funext t; apply Fin.ext
    fin_cases t
    · exact (show s.val + 1 * (Shape.Idx.first h1 0).val = s.val from by have := (Shape.Idx.first h1 0).isLt; change _ < 1 at this; omega)
    · exact (show 0 + 1 * (Shape.Idx.first h1 1).val = 0 from by have := (Shape.Idx.first h1 1).isLt; change _ < 1 at this; omega)
  rw [e]
  iapply Hk; iexact H

theorem META_slot (c : Dev nD) (s : Fin 48) : META P c (ix2 ⟨s.val, by omega⟩ 0) = W P c s := dif_pos s.2
theorem META_last (c : Dev nD) : META P c (ix2 48 0) = BitVec.ofNat 32 (nrecv (ev P.R) c) := dif_neg (by decide)

/-- The words' buffer after its two stores. -/
theorem meta_eq (c : Dev nD) {inb1 inb2} (f : Vec F S49x1 .i32) (w1 : Vec F S48x1 .i32) (w2 : Vec F S1x1 .i32)
    (h1 : ∀ s : Fin 48, w1 (ix2 s 0) = W P c s) (h2 : w2 (ix2 0 0) = BitVec.ofNat 32 (nrecv (ev P.R) c)) :
    ((vM : Memref sig .tc .vmem S49x1 .i32).access (Rect.unit (s := S49x1) ![48, 0] S1x1.size inb2)).write (Elt F)
      (((vM : Memref sig .tc .vmem S49x1 .i32).access (Rect.unit (s := S49x1) ![0, 0] S48x1.size inb1)).write (Elt F) f w1 Finset.univ) w2 Finset.univ = META P c := by
  have key : ∀ (u : Fin 49) (y : Fin 1), (vM : Memref sig .tc .vmem S49x1 .i32).view.read (Elt F)
      (((vM : Memref sig .tc .vmem S49x1 .i32).access (Rect.unit (s := S49x1) ![48, 0] S1x1.size inb2)).write (Elt F)
        (((vM : Memref sig .tc .vmem S49x1 .i32).access (Rect.unit (s := S49x1) ![0, 0] S48x1.size inb1)).write (Elt F) f w1 Finset.univ) w2 Finset.univ) (ix2 u y)
      = META P c (ix2 u y) := by
    intro u y
    obtain rfl : y = 0 := Subsingleton.elim _ _
    refine (writeBand (F := F) (n := 49) (m := 1) (a := 1) (o := 48) vM.view inb2 _ w2 u 0).trans ?_
    split
    · rename_i h
      obtain rfl : u = 48 := Fin.ext (by show u.val = 48; omega)
      rw [META_last]; exact h2
    · rename_i h
      have hu : u.val < 48 := by have := u.2; omega
      refine (writeBand (F := F) (n := 49) (m := 1) (a := 48) (o := 0) vM.view inb1 f w1 u 0).trans ?_
      rw [dif_pos ⟨Nat.zero_le _, by omega⟩]
      exact (h1 ⟨u.val - 0, by omega⟩).trans (META_slot P c ⟨u.val, hu⟩).symm
  funext i
  exact (congrArg _ (eq_ix2 (n0 := 49) (n1 := 1) i)).trans ((key (i 0) (i 1)).trans (congrArg _ (eq_ix2 (n0 := 49) (n1 := 1) i).symm))

end Steps

end Cert.Route
-- ==== Proof.Comm.lean ====
/- The exchange's own steps: signals, the barrier wait, sends, the waits for the sends and the waits for the arrivals. -/
module

public import proofs.«01_k».proof.Proof.Mem

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

/-! ## The cells and their records -/

/-- The semaphores that open and close with the call: the 48 send semaphores, the receive semaphore, the words' own. -/
abbrev ownSem (k : Fin 50) : DmaSem sig := ⟨14 + k.val, by show 14 + k.val < 64; omega⟩
def osem (k : Fin 50) : SemLoc sig := .dma (ownSem k)
theorem osem_inj : Function.Injective osem := by
  intro i j h
  have h1 : ownSem i = ownSem j := by unfold osem at h; injection h
  have h2 := congrArg Fin.val h1
  exact Fin.ext (by dsimp only [ownSem] at h2; omega)
theorem osem_send (s : Fin 48) : osem ⟨s.val, by omega⟩ = .dma (sendSem s) := rfl
theorem osem_recv : osem 48 = .dma recvSem := rfl
theorem osem_meta : osem 49 = .dma metaSem := rfl

def barCellEmb : Dev nD ↪ GSem nD τ sig := ⟨fun c => barCell c, fun _ _ h => congrArg (fun g : GSem nD τ sig => g.1.1) h⟩
def scEmb : Dev nD × Fin 50 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barCellEmb
abbrev scCells : Finset (GSem nD τ sig) := Finset.univ.map scEmb

theorem bar_mem (c : Dev nD) : barCell c ∈ (barCells ∪ scCells : Finset (GSem nD τ sig)) :=
  Finset.mem_union_left _ (Finset.mem_map_of_mem barCellEmb (Finset.mem_univ c))
theorem own_mem (c : Dev nD) (k : Fin 50) : ((c : Thread nD τ), osem k) ∈ (barCells ∪ scCells : Finset (GSem nD τ sig)) :=
  Finset.mem_union_right _ (Finset.mem_map_of_mem scEmb (Finset.mem_univ (c, k)))

/-- What every device may consult: all the cells' invariants, and that every barrier cell is at its first round. -/
def records (κ : GSem nD τ sig → ℕ) : sProp 𝕄 :=
  iprop((bigSep (barCells ∪ scCells) fun g => cellInv ER (Rd P) (κ g) g) ∗ bigSep barCells fun g => reached ER g 0)
instance records_persistent (κ : GSem nD τ sig → ℕ) : BI.Persistent (records P κ) := by unfold records; infer_instance

variable (κ : GSem nD τ sig → ℕ)

theorem inv_of {g : GSem nD τ sig} (hg : g ∈ (barCells ∪ scCells : Finset (GSem nD τ sig))) : records P κ ⊢ cellInv ER (Rd P) (κ g) g := by
  unfold records
  iintro ⟨H, -⟩
  have h : (bigSep (barCells ∪ scCells) fun g => (cellInv ER (Rd P) (κ g) g : sProp 𝕄)) ⊢ cellInv ER (Rd P) (κ g) g := bigSep_elim hg
  iapply h; iexact H
theorem inv_bar (c : Dev nD) : records P κ ⊢ cellInv ER (Rd P) (κ (barCell c)) (barCell c) := inv_of P κ (bar_mem c)
theorem inv_send (c : Dev nD) (s : Fin 48) : records P κ ⊢ cellInv ER (Rd P) (κ (sendCell c s)) (sendCell c s) := inv_of P κ (own_mem c ⟨s.val, by omega⟩)
theorem inv_recv (c : Dev nD) : records P κ ⊢ cellInv ER (Rd P) (κ (recvCell c)) (recvCell c) := inv_of P κ (own_mem c 48)
theorem inv_meta (c : Dev nD) : records P κ ⊢ cellInv ER (Rd P) (κ (metaCell c)) (metaCell c) := inv_of P κ (own_mem c 49)
theorem reached_bar (c : Dev nD) : records P κ ⊢ reached ER (barCell c) 0 := by
  unfold records
  iintro ⟨-, H⟩
  have h : (bigSep barCells fun g => (reached ER g 0 : sProp 𝕄)) ⊢ reached ER (barCell c) 0 := bigSep_elim (Finset.mem_map_of_mem barCellEmb (Finset.mem_univ c))
  iapply h; iexact H

/-! ## One slot after another -/

/-- Of a row of things, the next one taken, with the way to put back what becomes of it. -/
theorem seq_step {M : Type} [URA M] {m : ℕ} (Φ Ψ : Fin m → sProp M) (n : Fin m) :
    (bigSep Finset.univ fun s : Fin m => if s.val < n.val then Ψ s else Φ s)
      ⊢ iprop(Φ n ∗ (Ψ n -∗ bigSep Finset.univ fun s : Fin m => if s.val < n.val + 1 then Ψ s else Φ s)) := by
  have e : bigSep (Finset.univ.erase n) (fun s : Fin m => if s.val < n.val then Ψ s else Φ s)
      = bigSep (Finset.univ.erase n) (fun s : Fin m => if s.val < n.val + 1 then Ψ s else Φ s) := bigSep_congr fun s hs => by
    have : s.val ≠ n.val := fun h => Finset.ne_of_mem_erase hs (Fin.ext h)
    by_cases h : s.val < n.val
    · rw [if_pos h, if_pos (by omega)]
    · rw [if_neg h, if_neg (by omega)]
  rw [bigSep_univ_at _ n, bigSep_univ_at (fun s : Fin m => if s.val < n.val + 1 then Ψ s else Φ s) n, e, if_neg (Nat.lt_irrefl _), if_pos (Nat.lt_succ_self _)]
  iintro ⟨H, Hr⟩
  isplitl [H]; · iexact H
  iintro H; isplitl [H]; · iexact H
  iexact Hr
theorem seq_start {M : Type} [URA M] {m : ℕ} (Φ Ψ : Fin m → sProp M) :
    bigSep Finset.univ Φ = bigSep Finset.univ fun s : Fin m => if s.val < 0 then Ψ s else Φ s :=
  bigSep_congr fun s _ => by rw [if_neg (Nat.not_lt_zero _)]
theorem seq_end {M : Type} [URA M] {m : ℕ} (Φ Ψ : Fin m → sProp M) :
    (bigSep Finset.univ fun s : Fin m => if s.val < m then Ψ s else Φ s) = bigSep Finset.univ Ψ :=
  bigSep_congr fun s _ => by rw [if_pos s.2]

/-! ## Signals -/

/-- What signal `j` takes: its token and the rows it hands over. -/
def sigItem (c : Dev nD) (j : Fin 31) : sProp 𝕄 := iprop(dutyTok ER (barCell (nxt c j)) 0 (c, 0) ∗ handRow P c (nxt c j))
/-- Before signal `n`. -/
def SigSt (c : Dev nD) (n : ℕ) : sProp 𝕄 :=
  iprop((∃ W, owes (c : Thread nD τ) (OS P c 0 + OB c n) W) ∗ bigSep Finset.univ fun j : Fin 31 => if j.val < n then iprop(emp) else sigItem P c j)

theorem step_signal {α : Type} {Q : α → sProp 𝕄} (c : Dev nD) (j : Fin 31) {d : Dev nD} (hd : d = nxt c j) {w : Int} (hw : w = 1)
    {k : PUnit → Prog (TpuEff nD τ sig (Elt F) Λ₀ .tc) α} :
    iprop(records P κ ∗ reached ER (recvCell c) 0 ∗ SigSt P c j.val)
      ⊢ iprop((SigSt P c (j.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d, Proc.tc) barrier0 w) k) Q) := by
  subst hd; subst hw
  have hO : OS P c 0 + OB c j.val = OS P c 0 + OB c (j.val + 1) + tallyAt (barCell (nxt c j)) 20 1 := by rw [OB_step, add_assoc]
  unfold SigSt
  iintro ⟨#HR, #Hrc, ⟨%W, HO⟩, Hs⟩ Hk
  ihave Hs' := (seq_step (fun j => sigItem P c j) (fun _ => iprop(emp)) j) $$ Hs
  icases Hs' with ⟨Hi, Hback⟩
  unfold sigItem
  icases Hi with ⟨Ht, Hh⟩
  iapply (Rounds.wp_signal 𝒱₀ ER (Rd P) (c : Thread nD τ) none (dst := (nxt c j : Thread nD τ)) (κ := κ (barCell (nxt c j))) (r := 0) (d := (c, 0))
      (by rw [duties_bar]; exact Finset.mem_map_of_mem barEmb (Finset.mem_erase.mpr ⟨(nxt_ne c j).symm, Finset.mem_univ _⟩))
      ((amount_bar P (nxt c j) 0 (c, 0)).trans (by decide)) 20 (OS P c 0 + OB c (j.val + 1)) (hO)) $$ [HO Ht Hh]
  · isplitr; · iapply (inv_bar P κ (nxt c j)); iexact HR
    isplitl [HO]; · iexact HO
    isplitl [Ht]; · iexact Ht
    isplitl [Hh]
    · rw [payload_bar]; unfold handPay
      isplitl [Hh]; · iexact Hh
      iexact Hrc
    · iapply (reached_bar P κ (nxt c j)); iexact HR
  iintro HO
  iapply Hk
  isplitl [HO]; · iexists W; iexact HO
  iapply Hback; iempintro

/-! ## Sends -/

/-- What a live slot has been handed: the row it goes to, and that the receiver's cell is open. -/
def slotGot (c : Dev nD) (s : Fin 48) : sProp 𝕄 :=
  if live P c s then iprop(outRow (tgt P c s) (row P c s) (zeroB : Vec F S64x1024 .f32) ∗ reached ER (recvCell (tgt P c s)) 0) else iprop(emp)
/-- What send `s` takes. -/
def sendItem (c : Dev nD) (s : Fin 48) : sProp 𝕄 :=
  iprop(slotGot P c s ∗ dutyTok ER (recvCell (tgt P c s)) 0 (c, s) ∗ dutyTok ER (sendCell c s) 0 (c, 0) ∗ reached ER (sendCell c s) 0 ∗ yPts P c s)
/-- What it leaves: the credit to wait for it, or the row, when nothing was sent. -/
def sentItem (c : Dev nD) (s : Fin 48) : sProp 𝕄 :=
  if live P c s then iprop(cred (tallyAt (sendCell c s) 22 N)) else yPts P c s
/-- Before send `n`. -/
def SendSt (c : Dev nD) (n : ℕ) : sProp 𝕄 :=
  iprop((∃ W, owes (c : Thread nD τ) (OS P c n) W) ∗ bigSep Finset.univ fun s : Fin 48 => if s.val < n then sentItem P c s else sendItem P c s)

/-- One row of a matrix copied to a row of another. -/
theorem copyRow {sp sp' : Space} {e : EltTy} {n n' m o s : ℕ} (v : View sig .tc sp ⟨2, ![n, m]⟩ e) (v' : View sig .tc sp' ⟨2, ![n', m]⟩ e)
    (inb : ∀ t, (![o, 0] : Fin 2 → ℕ) t + (![1, m] : Fin 2 → ℕ) t ≤ (⟨2, ![n, m]⟩ : Shape).size t)
    (inb' : ∀ t, (![s, 0] : Fin 2 → ℕ) t + (![1, m] : Fin 2 → ℕ) t ≤ (⟨2, ![n', m]⟩ : Shape).size t)
    (f : v.ty.Contents (Elt F)) (g : v'.ty.Contents (Elt F)) (y : Fin m) (ho : o < n) (hs : s < n') :
    v.read (Elt F) ((v.slice (Rect.unit (s := ⟨2, ![n, m]⟩) ![o, 0] ![1, m] inb)).write (Elt F) f ((v'.slice (Rect.unit (s := ⟨2, ![n', m]⟩) ![s, 0] ![1, m] inb')).read (Elt F) g) Finset.univ) (ix2 ⟨o, ho⟩ y)
      = v'.read (Elt F) g (ix2 ⟨s, hs⟩ y) := by
  refine (writeBand v inb f _ ⟨o, ho⟩ y).trans ?_
  rw [dif_pos ⟨le_rfl, Nat.lt_succ_self _⟩]
  exact (readBand v' inb' g ⟨o - o, by omega⟩ y (by show s + (o - o) < n'; omega)).trans (congrArg _ (by congr 1; exact Fin.ext (show s + (o - o) = s by omega)))

theorem amount_oRow (r : Fin 64) (q : DmaSem sig) : (oRow r).view.amount (.dma q) = N := rfl

theorem landed_at (c : Dev nD) (s : Fin 48) (h : live P c s) (x : Fin 64) (y : Fin 1024) (hx : x.val = (row P c s).val) :
    (oM : Memref sig .tc .vmem S64x1024 .f32).view.read (Elt F) ((oRow (row P c s)).view.write (Elt F) (zeroB : Vec F S64x1024 .f32) ((yRow s).view.read (Elt F) (Y P c : Vec F S48x1024 .f32)) Finset.univ) (ix2 x y)
        = FIN P (tgt P c s) (ix2 x y) := by
  obtain rfl : x = row P c s := Fin.ext hx
  rw [FIN_live P h _ rfl]
  exact copyRow (F := F) (n := 64) (n' := 48) (m := 1024) (o := (row P c s).val) (s := s.val) oM.view yM.view (inbO (row P c s)) (inbY s) zeroB (Y P c) y (row P c s).2 s.2

theorem landed (c : Dev nD) (s : Fin 48) (h : live P c s) :
    ((oRow (row P c s)).view.loc (tgt P c s : Thread nD τ) ↦[(oRow (row P c s)).view.set]{fullShare}
        ((oRow (row P c s)).view.write (Elt F) (zeroB : Vec F S64x1024 .f32) ((yRow s).view.read (Elt F) (Y P c : Vec F S48x1024 .f32)) Finset.univ))
      ⊢ recvPay P (tgt P c s) (c, s) := by
  unfold recvPay outRow
  refine Entails.of_eq (pointsTo_congr fun (i : S64x1024.Idx) hi => ?_)
  rw [oRow_set, mem_oSet] at hi
  exact (congrArg _ (eq_ix2 (n0 := 64) (n1 := 1024) i)).trans ((landed_at P c s h (i 0) (i 1) hi).trans (congrArg _ (eq_ix2 (n0 := 64) (n1 := 1024) i).symm))

set_option maxHeartbeats 4000000 in
theorem step_send_op {α : Type} {Q : α → sProp 𝕄} (c : Dev nD) (s : Fin 48) (h : live P c s) {d : Dev nD} (hd : d = tgt P c s)
    {o : Memref sig .tc .vmem S1x1024 .f32} (ho : o = oRow (row P c s)) {y : Memref sig .tc .vmem S1x1024 .f32} (hy : y = yRow s) {sS : DmaSem sig} (hs : sS = sendSem s)
    {hsc : (o : Memref sig (Dev.tc d : Thread nD τ).2.kind .vmem S1x1024 .f32).view.ref.isScScratch = false}
    {hsrc : y.view.WordExact} {hdst : o.view.WordExact}
    {hsem : DmaTarget.Typed .vmem (.dma recvSem) (.remote (Dev.tc d : Thread nD τ) (o : Memref sig .tc .vmem S1x1024 .f32) (.dma sS) hsc)}
    {k : PUnit → Prog (TpuEff nD τ sig (Elt F) Λ₀ .tc) α} :
    iprop(records P κ ∗ SendSt P c s.val)
      ⊢ iprop((SendSt P c (s.val + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma y (.remote (Dev.tc d : Thread nD τ) o (.dma sS) hsc) (.dma recvSem) hsrc hdst hsem) k) Q) := by
  subst hd; subst ho; subst hy; subst hs
  unfold SendSt
  iintro ⟨#HR, ⟨%W, HO⟩, Hs⟩ Hk
  ihave Hs' := (seq_step (fun s => sendItem P c s) (fun s => sentItem P c s) s) $$ Hs
  icases Hs' with ⟨Hi, Hback⟩
  unfold sendItem slotGot
  rw [if_pos h]
  icases Hi with ⟨⟨Hrow, #Hrr⟩, Htr, Hts, #Hrs, Hy⟩
  unfold outRow yPts
  iapply (Rounds.wp_send_pointsTo 𝒱₀ ER (Rd P) (c : Thread nD τ) none (c' := (tgt P c s : Thread nD τ)) (src := yRow s) (dst := oRow (row P c s)) (sS := .dma (sendSem s)) (sem := .dma recvSem) (hsc := hsc) (hsrc := hsrc) (hdst := hdst) (hsem := hsem) (κ₁ := κ (sendCell c s)) (κ₂ := κ (recvCell (tgt P c s)))
    (r₁ := 0) (r₂ := 0) (d₁ := (c, 0)) (d₂ := (c, s)) (fd := (zeroB : Vec F S64x1024 .f32))
    (by rw [duties_send, if_pos h]; exact Finset.mem_singleton_self _)
    (by rw [duties_recv]; exact Finset.mem_filter.mpr ⟨Finset.mem_univ _, h, rfl⟩)
    21 22 N (amount_oRow _ recvSem) (amount_send P c s 0 (c, 0)) (amount_recv P (tgt P c s) 0 (c, s)) (OS P c (s.val + 1)) (OS_step P c s h) (W := W)
    (by rw [payload_send]; unfold yPts; exact Entails.refl _)
    (by rw [payload_recv]; exact landed P c s h)) $$ [HO Hrow Htr Hts Hy]
  · isplitr; · iapply (inv_send P κ c s); iexact HR
    isplitr; · iapply (inv_recv P κ (tgt P c s)); iexact HR
    isplitl [Hy]; · iexact Hy
    isplitl [Hrow]; · iexact Hrow
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  iapply Hback
  unfold sentItem; rw [if_pos h]
  iexact Hc

theorem step_send {α : Type} {Q : α → sProp 𝕄} (c : Dev nD) (s : Fin 48) {cnd : Prop} {inst : Decidable cnd} (hc : cnd ↔ live P c s) {d : cnd → Dev nD} (hd : ∀ h, d h = tgt P c s)
    {o : cnd → Memref sig .tc .vmem S1x1024 .f32} (ho : ∀ h, o h = oRow (row P c s)) {y : Memref sig .tc .vmem S1x1024 .f32} (hy : y = yRow s) {sS : DmaSem sig} (hs : sS = sendSem s)
    {hsc : ∀ h, (o h : Memref sig (Dev.tc (d h) : Thread nD τ).2.kind .vmem S1x1024 .f32).view.ref.isScScratch = false}
    {hsrc : y.view.WordExact} {hdst : ∀ h, (o h).view.WordExact}
    {hsem : ∀ h, DmaTarget.Typed .vmem (.dma recvSem) (.remote (Dev.tc (d h) : Thread nD τ) (o h : Memref sig .tc .vmem S1x1024 .f32) (.dma sS) (hsc h))}
    {k : Prog (TpuEff nD τ sig (Elt F) Λ₀ .tc) α} :
    iprop(records P κ ∗ SendSt P c s.val)
      ⊢ iprop((SendSt P c (s.val + 1) -∗ wp frame (wpE (defs₀ (F := F)) 𝒱₀ (c : Thread nD τ) none) Set.univ k Q)
        -∗ wp frame (wpE (defs₀ (F := F)) 𝒱₀ (c : Thread nD τ) none) Set.univ
          (@dite _ cnd inst (fun h => Prog.lift (.enqueueDma y (.remote (Dev.tc (d h) : Thread nD τ) (o h) (.dma sS) (hsc h)) (.dma recvSem) hsrc (hdst h) (hsem h)) >>= fun _ => k) (fun _ => k)) Q) := by
  by_cases h : cnd
  · rw [dif_pos h]
    simp only [Prog.lift, Prog.bind_op, Prog.bind_ret]
    exact step_send_op P κ (k := fun _ => k) c s (hc.mp h) (hd h) (ho h) hy hs
  · rw [dif_neg h]
    have hl : ¬ live P c s := fun h' => h (hc.mpr h')
    unfold SendSt
    iintro ⟨#HR, HO, Hs⟩ Hk
    ihave Hs' := (seq_step (fun s => sendItem P c s) (fun s => sentItem P c s) s) $$ Hs
    icases Hs' with ⟨Hi, Hback⟩
    unfold sendItem
    icases Hi with ⟨-, -, -, -, Hy⟩
    iapply Hk
    isplitl [HO]
    · rw [← OS_skip P c s hl]; iexact HO
    iapply Hback
    unfold sentItem; rw [if_neg hl]
    iexact Hy

end Cert.Route
-- ==== Proof.Rows.lean ====
/- The cutting of the result block into the rows that arrive, the handing round of those rows, and their gathering at the end. -/
module

public import proofs.«01_k».proof.Proof.Comm

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

/-! ## The block cut into the rows that arrive -/

/-- The elements no arrival writes. -/
def oRest (c : Dev nD) : Finset S64x1024.Idx := Finset.univ \ (sends P c).biUnion fun p => oSet (row P p.1 p.2)

theorem sends_disjoint (c : Dev nD) : ∀ p ∈ sends P c, ∀ p' ∈ sends P c, p ≠ p' → Disjoint (oSet (row P p.1 p.2)) (oSet (row P p'.1 p'.2)) := by
  intro p hp p' hp' hne
  rw [Finset.disjoint_left]
  intro i hi hi'
  rw [mem_oSet] at hi hi'
  have h1 := (Finset.mem_filter.mp hp).2
  have h2 := (Finset.mem_filter.mp hp').2
  obtain ⟨e1, e2⟩ := slot_inj P h1.1 h2.1 (h1.2.trans h2.2.symm) (Fin.ext (hi.symm.trans hi'))
  exact hne (Prod.ext e1 e2)

theorem outRow_eq (c : Dev nD) (r : Fin 64) (f : Vec F S64x1024 .f32) :
    (outRow c r f : sProp 𝕄) = iprop(((c : Thread nD τ).loc cc0_stg3_0) ↦[oSet r]{fullShare} f) := by
  unfold outRow; rw [oRow_set]

/-- The whole block at `f`: the rows that arrive, and the rest. -/
theorem block_split (c : Dev nD) (f : Vec F S64x1024 .f32) :
    (buf c cc0_stg3_0 f : sProp 𝕄) ⊣⊢ iprop((bigSep (sends P c) fun p => outRow c (row P p.1 p.2) f) ∗ ((c : Thread nD τ).loc cc0_stg3_0) ↦[oRest P c]{fullShare} f) := by
  rw [bigSep_congr fun p _ => outRow_eq c (row P p.1 p.2) f, ← pointsTo_biUnion (ℓ := (c : Thread nD τ).loc cc0_stg3_0) (f := f) (q := fullShare) (sends P c) (fun p => oSet (row P p.1 p.2)) (sends_disjoint P c)]
  exact pointsTo_split_subset (Finset.subset_univ _)

/-- The rows that arrive, by the device they come from. -/
theorem rows_by_dev (c : Dev nD) :
    (bigSep (sends P c) fun p => (outRow c (row P p.1 p.2) zeroB : sProp 𝕄)) = bigSep Finset.univ fun x => handRow P c x := by
  unfold sends
  rw [bigSep_filter, bigSep_univ_prod]
  rfl

theorem zero_split (c : Dev nD) :
    (buf c cc0_stg3_0 (zeroB : Vec F S64x1024 .f32) : sProp 𝕄) ⊢ iprop(handRow P c c ∗ (bigSep Finset.univ fun j : Fin 31 => handRow P c (nxt c j)) ∗ ((c : Thread nD τ).loc cc0_stg3_0) ↦[oRest P c]{fullShare} (zeroB : Vec F S64x1024 .f32)) := by
  have e : (bigSep (Finset.univ.erase c) fun x => (handRow P c x : sProp 𝕄)) = bigSep Finset.univ fun j : Fin 31 => handRow P c (nxt c j) := by
    rw [← map_nxt, bigSep_map]; rfl
  have e2 : (bigSep (sends P c) fun p => (outRow c (row P p.1 p.2) zeroB : sProp 𝕄)) = iprop(handRow P c c ∗ bigSep Finset.univ fun j : Fin 31 => handRow P c (nxt c j)) := by
    rw [rows_by_dev, bigSep_univ_at _ c, e]
  refine (block_split P c zeroB).1.trans ?_
  rw [e2]
  iintro ⟨⟨H1, H2⟩, H3⟩
  isplitl [H1]; · iexact H1
  isplitl [H2]; · iexact H2
  iexact H3

/-- The rows written and the rest: the block finished. -/
theorem fin_join (c : Dev nD) :
    iprop((bigSep (sends P c) fun p => recvPay P c p) ∗ ((c : Thread nD τ).loc cc0_stg3_0) ↦[oRest P c]{fullShare} (zeroB : Vec F S64x1024 .f32)) ⊢ (buf c cc0_stg3_0 (FIN P c) : sProp 𝕄) := by
  have e : (((c : Thread nD τ).loc cc0_stg3_0) ↦[oRest P c]{fullShare} (zeroB : Vec F S64x1024 .f32) : sProp 𝕄) = ((c : Thread nD τ).loc cc0_stg3_0) ↦[oRest P c]{fullShare} (FIN P c) := by
    refine pointsTo_congr fun (i : S64x1024.Idx) hi => ?_
    refine (FIN_none P i fun c' s hl ht hr => ?_).symm
    refine (Finset.mem_sdiff.mp hi).2 (Finset.mem_biUnion.mpr ⟨(c', s), Finset.mem_filter.mpr ⟨Finset.mem_univ _, hl, ht⟩, ?_⟩)
    rw [mem_oSet]; exact (congrArg Fin.val hr).symm
  rw [e]
  exact (block_split P c (FIN P c)).2

/-! ## The products cut into rows -/

theorem ySet_disjoint : ∀ s ∈ (Finset.univ : Finset (Fin 48)), ∀ s' ∈ (Finset.univ : Finset (Fin 48)), s ≠ s' → Disjoint (ySet s) (ySet s') := fun s _ s' _ hne => by
  rw [Finset.disjoint_left]
  intro i hi hi'
  rw [mem_ySet] at hi hi'
  exact hne (Fin.ext (hi.symm.trans hi'))
theorem ySet_cover : (Finset.univ : Finset (Fin 48)).biUnion ySet = Finset.univ :=
  Finset.eq_univ_of_forall fun i => Finset.mem_biUnion.mpr ⟨⟨(i 0).val, (i 0).isLt⟩, Finset.mem_univ _, (mem_ySet _ _).mpr rfl⟩

theorem y_rows (c : Dev nD) : (buf c cc0_scratch1 (Y P c : Vec F S48x1024 .f32) : sProp 𝕄) = bigSep Finset.univ fun s : Fin 48 => yPts P c s := by
  have h1 : (bigSep Finset.univ fun s : Fin 48 => (yPts P c s : sProp 𝕄)) = bigSep Finset.univ fun s : Fin 48 => iprop(((c : Thread nD τ).loc cc0_scratch1) ↦[ySet s]{fullShare} (Y P c : Vec F S48x1024 .f32)) :=
    bigSep_congr fun s _ => by unfold yPts; rw [yRow_set]
  have h2 : Finset.univ = (Finset.univ : Finset (Fin 48)).biUnion (fun s => (ySet s : Finset (Idx ((c : Thread nD τ).loc cc0_scratch1)))) := by
    refine (Finset.eq_univ_of_forall fun i => Finset.mem_biUnion.mpr ⟨⟨((i : S48x1024.Idx) 0).val, ((i : S48x1024.Idx) 0).isLt⟩, Finset.mem_univ _, (mem_ySet _ _).mpr rfl⟩).symm
  rw [h1, ← pointsTo_biUnion (ℓ := (c : Thread nD τ).loc cc0_scratch1) (f := (Y P c : Vec F S48x1024 .f32)) (q := fullShare) Finset.univ (fun s => ySet s) ySet_disjoint, ← h2]

theorem y_split (c : Dev nD) : YSt P c 48 ⊢ bigSep Finset.univ fun s : Fin 48 => yPts P c s := by
  rw [← y_rows]
  unfold YSt
  iintro ⟨%f, %hf, H⟩
  have hfe : f = Y P c := by
    funext i
    exact (congrArg _ (eq_ix2 (n0 := 48) (n1 := 1024) i)).trans ((hf (i 0) (i 1) (i 0).isLt).trans (congrArg _ (eq_ix2 (n0 := 48) (n1 := 1024) i).symm))
  subst hfe
  iexact H

/-! ## What the barrier hands round -/

theorem swap_univ {M : Type} [URA M] {A B : Type} [Fintype A] [Fintype B] [DecidableEq A] [DecidableEq B] (Φ : A → B → sProp M) :
    (bigSep Finset.univ fun a => bigSep Finset.univ fun b => Φ a b) = bigSep Finset.univ fun b => bigSep Finset.univ fun a => Φ a b := by
  rw [← BI.bigSep_univ_prod (fun p : A × B => Φ p.1 p.2), ← BI.bigSep_univ_prod (fun p : B × A => Φ p.2 p.1)]
  have h : (Finset.univ : Finset (A × B)) = Finset.univ.map (Equiv.prodComm B A).toEmbedding := by simp
  rw [h, BI.bigSep_map]
  rfl

/-- All that the devices handed `c`, slot by slot. -/
theorem hand_slots (c : Dev nD) : (bigSep Finset.univ fun x => handPay P x c) ⊢ bigSep Finset.univ fun s : Fin 48 => slotGot P c s := by
  have e1 : (bigSep Finset.univ fun x => (handRow P x c : sProp 𝕄))
      = bigSep Finset.univ fun s : Fin 48 => bigSep Finset.univ fun x : Dev nD => if live P c s ∧ tgt P c s = x then (outRow x (row P c s) zeroB : sProp 𝕄) else iprop(emp) :=
    swap_univ fun (x : Dev nD) (s : Fin 48) => if live P c s ∧ tgt P c s = x then (outRow x (row P c s) zeroB : sProp 𝕄) else iprop(emp)
  have e2 : (bigSep Finset.univ fun x => handPay P x c) = iprop((bigSep Finset.univ fun x => (handRow P x c : sProp 𝕄)) ∗ bigSep Finset.univ fun x : Dev nD => reached ER (recvCell x) 0) := BI.bigSep_sep _ _ _
  rw [e2, e1]
  iintro ⟨H, #Hr⟩
  iapply (bigSep_with_persistent (R := iprop(bigSep Finset.univ fun x : Dev nD => reached ER (recvCell x) 0)) (Φ := fun s : Fin 48 => bigSep Finset.univ fun x : Dev nD => if live P c s ∧ tgt P c s = x then (outRow x (row P c s) zeroB : sProp 𝕄) else iprop(emp)) fun s _ => by
    iintro ⟨#Hr, H⟩
    unfold slotGot
    by_cases h : live P c s
    · rw [if_pos h]
      have h1 : (bigSep Finset.univ fun x : Dev nD => if live P c s ∧ tgt P c s = x then (outRow x (row P c s) zeroB : sProp 𝕄) else iprop(emp)) ⊢ outRow (tgt P c s) (row P c s) zeroB := by
        refine (bigSep_elim (Finset.mem_univ (tgt P c s))).trans ?_
        rw [if_pos ⟨h, rfl⟩]
        exact Entails.refl _
      have h2 : (bigSep Finset.univ fun x : Dev nD => (reached ER (recvCell x) 0 : sProp 𝕄)) ⊢ reached ER (recvCell (tgt P c s)) 0 := bigSep_elim (Finset.mem_univ _)
      isplitl [H]; · iapply h1; iexact H
      iapply h2; iexact Hr
    · rw [if_neg h]; iempintro)
  isplitr; · iexact Hr
  iexact H

end Cert.Route
-- ==== Proof.Waits.lean ====
/- The waits: for the barrier, for the sends and for the arrivals; and the words' own copy. -/
module

public import proofs.«01_k».proof.Proof.Comm

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

variable (κ : GSem nD τ sig → ℕ)

/-! ## Waits for the sends -/

/-- What wait `s` takes, and what it leaves. -/
def waitItem (c : Dev nD) (s : Fin 48) : sProp 𝕄 := iprop(sentItem P c s ∗ atPos ER (sendCell c s) 0 ∅ 0)
def doneItem (c : Dev nD) (s : Fin 48) : sProp 𝕄 := iprop(yPts P c s ∗ semVal (sendCell c s) 0)
def WaitSt (c : Dev nD) (n : ℕ) : sProp 𝕄 :=
  iprop((∃ W, owes (c : Thread nD τ) 0 W) ∗ bigSep Finset.univ fun s : Fin 48 => if s.val < n then doneItem P c s else waitItem P c s)

theorem credit_yRow (s : Fin 48) : (yRow s).view.dmaCredit = N := rfl

theorem step_wait_op {α : Type} {Q : α → sProp 𝕄} (c : Dev nD) (s : Fin 48) (h : live P c s)
    {o : Memref sig .tc .vmem S1x1024 .f32} {y : Memref sig .tc .vmem S1x1024 .f32} (hy : y = yRow s) {sS : DmaSem sig} (hs : sS = sendSem s)
    {hsrc : o.view.WordExact} {hdst : y.view.WordExact}
    {k : PUnit → Prog (TpuEff nD τ sig (Elt F) Λ₀ .tc) α} :
    iprop(records P κ ∗ WaitSt P c s.val)
      ⊢ iprop((WaitSt P c (s.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS o y hsrc hdst) k) Q) := by
  subst hy; subst hs
  have hw : ∀ K : PUnit → sProp 𝕄, wpE (defs₀ (F := F)) 𝒱₀ (c : Thread nD τ) none Set.univ (.waitDma2 (sendSem s) o (yRow s) hsrc hdst) K = waitSpec (c : Thread nD τ) Set.univ (.dma (sendSem s)) N K :=
    fun K => (wpE_waitDma2_eq 𝒱₀ (c : Thread nD τ) none Set.univ K).trans (by rw [credit_yRow])
  have ep : (bigSep ((Rd (F := F) P).duties (sendCell c s) 0 \ ∅) fun p => ((Rd (F := F) P).payload (sendCell c s) 0 p : sProp 𝕄)) ⊢ yPts P c s := by
    rw [Finset.sdiff_empty, duties_send, if_pos h, BI.bigSep_singleton, payload_send]
  unfold WaitSt
  iintro ⟨#HR, ⟨%W, HO⟩, Hs⟩ Hk
  ihave Hs' := (seq_step (fun s => waitItem P c s) (fun s => doneItem P c s) s) $$ Hs
  icases Hs' with ⟨Hi, Hback⟩
  unfold waitItem sentItem
  rw [if_pos h]
  icases Hi with ⟨Hc, Hat⟩
  iapply (Rounds.wp_wait_rest_token 𝒱₀ ER (Rd P) (c : Thread nD τ) none (κ := κ (sendCell c s)) (sm := .dma (sendSem s)) (k' := N) hw (Set.mem_univ _) 22
      (O := 0) (W := W) (R := 0) (m := 0) (T := ∅) (by rw [expect_send P c s h, Nat.zero_add])) $$ [Hc HO Hat]
  · isplitr; · iapply (inv_send P κ c s); iexact HR
    isplitl [Hc]; · iexact Hc
    isplitl [HO]; · iexact HO
    isplitr; · rw [MayWait_zero]; iempintro
    iexact Hat
  iintro ⟨HO, Hat, -, Hpay⟩
  ihave Hp := ep $$ Hpay
  imod (Rounds.cell_close ER (Rd P) (κ := κ (sendCell c s)) (Set.mem_univ _) (fun h => h) (R := 1) (duties_later P (sendCell c s))) $$ [Hat] with Hz
  · isplitr; · iapply (inv_send P κ c s); iexact HR
    iexact Hat
  iapply Hk
  isplitl [HO]; · iexists _; iexact HO
  iapply Hback
  unfold doneItem
  isplitl [Hp]; · iexact Hp
  iexact Hz

theorem duties_none (c : Dev nD) (s : Fin 48) (h : ¬ live P c s) : ∀ r, 0 ≤ r → (Rd (F := F) P).duties (sendCell c s) r = ∅ := by
  intro r _
  rcases Nat.eq_zero_or_pos r with rfl | hr
  · rw [duties_send, if_neg h]
  · exact duties_later P _ r hr

theorem step_wait {α : Type} {Q : α → sProp 𝕄} (c : Dev nD) (s : Fin 48) {cnd : Prop} {inst : Decidable cnd} (hc : cnd ↔ live P c s)
    {o : cnd → Memref sig .tc .vmem S1x1024 .f32} {y : Memref sig .tc .vmem S1x1024 .f32} (hy : y = yRow s) {sS : DmaSem sig} (hs : sS = sendSem s)
    {hsrc : ∀ h, (o h).view.WordExact} {hdst : y.view.WordExact}
    {k : Prog (TpuEff nD τ sig (Elt F) Λ₀ .tc) α} :
    iprop(records P κ ∗ WaitSt P c s.val)
      ⊢ iprop((WaitSt P c (s.val + 1) -∗ wp frame (wpE (defs₀ (F := F)) 𝒱₀ (c : Thread nD τ) none) Set.univ k Q)
        -∗ wp frame (wpE (defs₀ (F := F)) 𝒱₀ (c : Thread nD τ) none) Set.univ
          (@dite _ cnd inst (fun h => Prog.lift (.waitDma2 sS (o h) y (hsrc h) hdst) >>= fun _ => k) (fun _ => k)) Q) := by
  by_cases h : cnd
  · rw [dif_pos h]
    simp only [Prog.lift, Prog.bind_op, Prog.bind_ret]
    exact step_wait_op P κ (k := fun _ => k) c s (hc.mp h) hy hs
  · rw [dif_neg h]
    have hl : ¬ live P c s := fun h' => h (hc.mpr h')
    unfold WaitSt
    iintro ⟨#HR, HO, Hs⟩ Hk
    ihave Hs' := (seq_step (fun s => waitItem P c s) (fun s => doneItem P c s) s) $$ Hs
    icases Hs' with ⟨Hi, Hback⟩
    unfold waitItem sentItem
    rw [if_neg hl]
    icases Hi with ⟨Hy, Hat⟩
    imod (Rounds.cell_close ER (Rd P) (κ := κ (sendCell c s)) (Set.mem_univ _) (fun h => h) (R := 0) (duties_none P c s hl)) $$ [Hat] with Hz
    · isplitr; · iapply (inv_send P κ c s); iexact HR
      iexact Hat
    iapply Hk
    isplitl [HO]; · iexact HO
    iapply Hback
    unfold doneItem
    isplitl [Hy]; · iexact Hy
    iexact Hz

/-! ## The arrivals -/

/-- Before wait `k` for an arrival. -/
def RecvSt (c : Dev nD) (k : ℕ) : sProp 𝕄 :=
  iprop(∃ T : Finset D, ∃ W, ⌜T ⊆ sends P c ∧ k * N + (sends P c \ T).card ≤ nrecv (ev P.R) c * N⌝
    ∗ atPos ER (recvCell c) 0 T (k * N) ∗ cred (tallyAt (recvCell c) 21 ((nrecv (ev P.R) c - k) * N)) ∗ (bigSep T fun p => recvPay P c p) ∗ owes (c : Thread nD τ) 0 W)

theorem recv_start (c : Dev nD) :
    iprop(atPos ER (recvCell c) 0 ∅ 0 ∗ cred (tallyAt (recvCell c) 21 (nrecv (ev P.R) c * N)) ∗ (∃ W, owes (c : Thread nD τ) 0 W)) ⊢ RecvSt P c 0 := by
  unfold RecvSt
  iintro ⟨Hat, Hc, ⟨%W, HO⟩⟩
  iexists ∅
  iexists W
  rw [Nat.zero_mul, Nat.sub_zero, BI.bigSep_empty]
  isplitr
  · ipureintro
    refine ⟨Finset.empty_subset _, ?_⟩
    rw [Finset.sdiff_empty, card_sends, Nat.zero_add]
    exact Nat.le_mul_of_pos_right _ N_pos
  isplitl [Hat]; · iexact Hat
  isplitl [Hc]; · iexact Hc
  isplitr; · iempintro
  iexact HO

theorem step_recv {α : Type} {Q : α → sProp 𝕄} (c : Dev nD) (n : ℕ) (hn : n < nrecv (ev P.R) c)
    {o y : Memref sig .tc .vmem S1x1024 .f32} (ho : o = oRow 0) {hsrc : y.view.WordExact} {hdst : o.view.WordExact}
    {k : PUnit → Prog (TpuEff nD τ sig (Elt F) Λ₀ .tc) α} :
    iprop(records P κ ∗ RecvSt P c n)
      ⊢ iprop((RecvSt P c (n + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 recvSem y o hsrc hdst) k) Q) := by
  subst ho
  have e : (cred (tallyAt (recvCell c) 21 ((nrecv (ev P.R) c - n) * N)) : sProp 𝕄)
      ⊢ iprop(cred (tallyAt (recvCell c) 21 N) ∗ cred (tallyAt (recvCell c) 21 ((nrecv (ev P.R) c - (n + 1)) * N))) := by
    have : (nrecv (ev P.R) c - n) * N = N + (nrecv (ev P.R) c - (n + 1)) * N := by
      rw [show nrecv (ev P.R) c - n = 1 + (nrecv (ev P.R) c - (n + 1)) from by omega, Nat.add_mul, Nat.one_mul]
    rw [this, ← tallyAt_add]
    exact (cred_add _ _).1
  have ej : ∀ T S : Finset D, T ⊆ S → iprop((bigSep T fun p => (recvPay P c p : sProp 𝕄)) ∗ bigSep (S \ T) fun p => (Rd (F := F) P).payload (recvCell c) 0 p) ⊢ bigSep S fun p => recvPay P c p := by
    intro T S h
    rw [bigSep_congr (s := S \ T) fun p _ => payload_recv P c 0 p]
    exact Entails.of_eq (BI.bigSep_sdiff_split h).symm
  unfold RecvSt
  iintro ⟨#HR, ⟨%T, %W, %hT, Hat, Hc, Hp, HO⟩⟩ Hk
  ihave Hc' := e $$ Hc
  icases Hc' with ⟨Hc1, Hc2⟩
  iapply (Rounds.wp_wait 𝒱₀ ER (Rd P) (c : Thread nD τ) none (κ := κ (recvCell c)) (sm := .dma recvSem) (k' := N) (wpE_waitDma2_eq 𝒱₀ (c : Thread nD τ) none Set.univ) (Set.mem_univ _)
      (cr := Finsupp.single 21 N) (O := 0) (W := W) {((SemLoc.dma recvSem : SemLoc sig), (21 : ℕ))} (R := 0) (m := n * N) (T := T) (by rw [Util.total_single])
      (image_single_subset _ _ _)) $$ [Hc1 HO Hat]
  · isplitr; · iapply (inv_recv P κ c); iexact HR
    isplitl [Hc1]; · iexact Hc1
    isplitl [HO]; · iexact HO
    isplitr; · rw [MayOwe_zero]; iempintro
    iexact Hat
  iintro %S ⟨%hS, HO, Hat, Hpay⟩
  rw [duties_recv, expect_recv] at hS
  iapply Hk
  iexists S
  iexists _
  isplitr
  · ipureintro
    refine ⟨hS.2.1, ?_⟩
    have := hS.2.2
    rw [Nat.add_mul, Nat.one_mul]; exact this
  rw [Nat.add_mul, Nat.one_mul]
  isplitl [Hat]; · iexact Hat
  isplitl [Hc2]; · iexact Hc2
  isplitr [HO]
  · iapply (ej T S hS.1)
    isplitl [Hp]; · iexact Hp
    iexact Hpay
  iexact HO

theorem recv_end (c : Dev nD) :
    iprop(records P κ ∗ RecvSt P c (nrecv (ev P.R) c)) ⊢ iprop(|={Set.univ}=> ((bigSep (sends P c) fun p => recvPay P c p) ∗ semVal (recvCell c) 0 ∗ ∃ W, owes (c : Thread nD τ) 0 W)) := by
  unfold RecvSt
  iintro ⟨#HR, ⟨%T, %W, %hT, Hat, -, Hp, HO⟩⟩
  have hTe : T = sends P c := by
    refine Finset.Subset.antisymm hT.1 ?_
    rw [← Finset.sdiff_eq_empty_iff_subset, ← Finset.card_eq_zero]
    have := hT.2; omega
  subst hTe
  imod (Rounds.fupd_skip ER (Rd P) (κ := κ (recvCell c)) (g := recvCell c) (R := 0) (m := nrecv (ev P.R) c * N) (T := sends P c) (by rw [duties_recv]) (expect_recv P c).symm (Set.mem_univ _)) $$ [Hat] with ⟨Hat, -⟩
  · isplitr; · iapply (inv_recv P κ c); iexact HR
    iexact Hat
  imod (Rounds.cell_close ER (Rd P) (κ := κ (recvCell c)) (Set.mem_univ _) (fun h => h) (R := 1) (duties_later P (recvCell c))) $$ [Hat] with Hz
  · isplitr; · iapply (inv_recv P κ c); iexact HR
    iexact Hat
  imodintro
  isplitl [Hp]; · iexact Hp
  isplitl [Hz]; · iexact Hz
  iexists W; iexact HO

/-! ## The barrier -/

theorem step_barrier {α : Type} {Q : α → sProp 𝕄} (c : Dev nD) {w : Int} (hw : w = 31)
    {k : PUnit → Prog (TpuEff nD τ sig (Elt F) Λ₀ .tc) α} :
    iprop(records P κ ∗ levAts L lv ∗ cred (tallyAt (barCell c) 20 31) ∗ atPos ER (barCell c) 0 ∅ 0 ∗ SigSt P c 31)
      ⊢ iprop((((∃ W, owes (c : Thread nD τ) (OS P c 0) W) ∗ semVal (barCell c) 0 ∗ (bigSep (Finset.univ.erase c) fun x => handPay P x c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barrier0 w) k) Q) := by
  subst hw
  have ep : (bigSep ((Rd (F := F) P).duties (barCell c) 0 \ ∅) fun p => ((Rd (F := F) P).payload (barCell c) 0 p : sProp 𝕄)) ⊢ bigSep (Finset.univ.erase c) fun x => handPay P x c := by
    rw [Finset.sdiff_empty, duties_bar, BI.bigSep_map]
    exact Entails.refl _
  unfold SigSt
  rw [OB_last, add_zero]
  iintro ⟨#HR, #Hlev, Hc, Hat, ⟨%W, HO⟩, -⟩ Hk
  iapply (Rounds.wp_wait_rest_token 𝒱₀ ER (Rd P) (c : Thread nD τ) none (κ := κ (barCell c)) (wpE_semWait_eq 𝒱₀ (c : Thread nD τ) none Set.univ) (Set.mem_univ _) 20
      (O := OS P c 0) (W := W) (R := 0) (m := 0) (T := ∅) (by rw [expect_bar])) $$ [Hc HO Hat]
  · isplitr; · iapply (inv_bar P κ c); iexact HR
    isplitl [Hc]; · iexact Hc
    isplitl [HO]; · iexact HO
    isplitr; · iapply (mayWait_OS P c (.reg barrier0) 0 20 (by decide)); iexact Hlev
    iexact Hat
  iintro ⟨HO, Hat, -, Hpay⟩
  ihave Hp := ep $$ Hpay
  imod (Rounds.cell_close ER (Rd P) (κ := κ (barCell c)) (Set.mem_univ _) (fun h => h) (R := 1) (duties_later P (barCell c))) $$ [Hat] with Hz
  · isplitr; · iapply (inv_bar P κ c); iexact HR
    iexact Hat
  iapply Hk
  isplitl [HO]; · iexists _; iexact HO
  isplitl [Hz]; · iexact Hz
  iexact Hp

/-! ## The words' own copy -/

theorem step_meta {α : Type} {Q : α → sProp 𝕄} (c : Dev nD) (f : Vec F S49x1 .i32) {hs1 hd1 hs2 hd2 hsem}
    {k : PUnit → Prog (TpuEff nD τ sig (Elt F) Λ₀ .tc) α} :
    iprop(records P κ ∗ levAts L lv ∗ buf c cc0_scratch2 (META P c) ∗ buf c cc0_scratch3 f ∗ dutyTok ER (metaCell c) 0 (c, 0) ∗ reached ER (metaCell c) 0 ∗ atPos ER (metaCell c) 0 ∅ 0
        ∗ ∃ W, owes (c : Thread nD τ) (OS P c 0 + OB c 31) W)
      ⊢ iprop(((buf c cc0_scratch2 (META P c) ∗ buf c cc0_scratch3 (META P c) ∗ semVal (metaCell c) 0 ∗ ∃ W, owes (c : Thread nD τ) (OS P c 0 + OB c 31) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma vM (.here mM) (.dma metaSem) hs1 hd1 hsem) fun _ => .op (.waitDma2 metaSem vM mM hs2 hd2) k) Q) := by
  rw [OB_last, add_zero]
  iintro ⟨#HR, #Hlev, Hv, Hm, Ht, #Hr, Hat, ⟨%W, HO⟩⟩ Hk
  have hpay : iprop(((mM : Memref sig .tc .smem S49x1 .i32).view.loc (c : Thread nD τ) ↦[(mM : Memref sig .tc .smem S49x1 .i32).view.set]{fullShare}
        ((mM : Memref sig .tc .smem S49x1 .i32).view.write (Elt F) f ((vM : Memref sig .tc .vmem S49x1 .i32).view.read (Elt F) (META P c : Vec F S49x1 .i32)) Finset.univ))
      ∗ ((vM : Memref sig .tc .vmem S49x1 .i32).view.loc (c : Thread nD τ) ↦[(vM : Memref sig .tc .vmem S49x1 .i32).view.set]{fullShare} (META P c : Vec F S49x1 .i32))) ⊢ (Rd (F := F) P).payload (metaCell c) 0 (c, 0) := by
    rw [payload_meta]; unfold metaPay
    rw [show ((mM : Memref sig .tc .smem S49x1 .i32).view.write (Elt F) f ((vM : Memref sig .tc .vmem S49x1 .i32).view.read (Elt F) (META P c : Vec F S49x1 .i32)) Finset.univ) = META P c from
      View.write_whole_univ cc0_scratch3 f (META P c)]
  have ev0 : (buf c cc0_scratch2 (META P c) : sProp 𝕄) = ((vM : Memref sig .tc .vmem S49x1 .i32).view.loc (c : Thread nD τ) ↦[(vM : Memref sig .tc .vmem S49x1 .i32).view.set]{fullShare} (META P c : Vec F S49x1 .i32)) :=
    congrArg (fun S => iprop(((c : Thread nD τ).loc cc0_scratch2) ↦[S]{fullShare} (META P c : Vec F S49x1 .i32))) (View.set_whole cc0_scratch2).symm
  have em0 : ∀ g : Vec F S49x1 .i32, (buf c cc0_scratch3 g : sProp 𝕄) = ((mM : Memref sig .tc .smem S49x1 .i32).view.loc (c : Thread nD τ) ↦[(mM : Memref sig .tc .smem S49x1 .i32).view.set]{fullShare} g) := fun g =>
    congrArg (fun S => iprop(((c : Thread nD τ).loc cc0_scratch3) ↦[S]{fullShare} g)) (View.set_whole cc0_scratch3).symm
  have ep : (bigSep ((Rd (F := F) P).duties (metaCell c) 0 \ ∅) fun p => ((Rd (F := F) P).payload (metaCell c) 0 p : sProp 𝕄)) ⊢ iprop(buf c cc0_scratch3 (META P c) ∗ buf c cc0_scratch2 (META P c)) := by
    rw [Finset.sdiff_empty, duties_meta, BI.bigSep_singleton, payload_meta, ev0, em0]
    unfold metaPay
    exact Entails.refl _
  iapply (Rounds.wp_copy_pointsTo 𝒱₀ ER (Rd P) (c : Thread nD τ) none (src := vM) (dst := mM) (sem := .dma metaSem) (r := 0) (d := (c, 0)) (κ := κ (metaCell c)) (fs := (META P c : Vec F S49x1 .i32)) (fd := f)
      (by rw [duties_meta]; exact Finset.mem_singleton_self _) 19 NM rfl (amount_meta P c 0 (c, 0)) hpay) $$ [Hv Hm Ht]
  · isplitr; · iapply (inv_meta P κ c); iexact HR
    isplitl [Hv]; · iapply (Entails.of_eq ev0); iexact Hv
    isplitl [Hm]; · iapply (Entails.of_eq (em0 f)); iexact Hm
    isplitl [Ht]; · iexact Ht
    iexact Hr
  iintro Hc
  iapply (Rounds.wp_wait_rest_token 𝒱₀ ER (Rd P) (c : Thread nD τ) none (κ := κ (metaCell c)) (sm := .dma metaSem) (k' := NM) (wpE_waitDma2_eq 𝒱₀ (c : Thread nD τ) none Set.univ) (Set.mem_univ _) 19
      (O := OS P c 0) (W := W) (R := 0) (m := 0) (T := ∅) (by rw [expect_meta, Nat.zero_add])) $$ [Hc HO Hat]
  · isplitr; · iapply (inv_meta P κ c); iexact HR
    isplitl [Hc]; · iexact Hc
    isplitl [HO]; · iexact HO
    isplitr; · iapply (mayWait_OS P c (.dma metaSem) 0 19 (by decide)); iexact Hlev
    iexact Hat
  iintro ⟨HO, Hat, -, Hpay⟩
  ihave Hp := ep $$ Hpay
  icases Hp with ⟨Hm, Hv⟩
  imod (Rounds.cell_close ER (Rd P) (κ := κ (metaCell c)) (Set.mem_univ _) (fun h => h) (R := 1) (duties_later P (metaCell c))) $$ [Hat] with Hz
  · isplitr; · iapply (inv_meta P κ c); iexact HR
    iexact Hat
  iapply Hk
  isplitl [Hv]; · iexact Hv
  isplitl [Hm]; · iexact Hm
  isplitl [Hz]; · iexact Hz
  iexists _; iexact HO

end Cert.Route
-- ==== Proof.Steps.lean ====
/- The body's steps at a row given by its number: what a line of the body does to the states of `Mem` and `Comm`. -/
module

public import proofs.«01_k».proof.Proof.Rows
public import proofs.«01_k».proof.Proof.Waits
public import Idealize.ShloMosaic.Lib.Tactic

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

theorem cast1 (v : FVec F S1x512 .f32) {h} : shapeCast S1x512 v h = v := shapeCast_self v h
theorem cast2 (v : FVec F S1x512 .f32) {h h'} : shapeCast S1x512 (shapeCast S1x512 v h) h' = v := by rw [cast1, cast1]
theorem cast3 (v : FVec F S1x512 .f32) {h h' : S1x512.ShapeCasts S1x512} : shapeCast S1x512 (shapeCast S1x512 v h) h' = v := cast2 v

theorem chk1W (c : Dev nD) (s : Fin 48) : k0_chk1 (W P c s) := chk1_ok (W_ok P c s)
theorem chk49W (c : Dev nD) (s : Fin 48) : k0_chk49 (W P c s) := chk49_ok (W_ok P c s)

theorem oSlice {off : Fin 2 → ℕ} {inb} (r : Fin 64) (h : off = ![r.val, 0]) :
    oM.slice (Rect.unit (s := S64x1024) off S1x1024.size inb) (fun _ => rfl) = oRow r := by subst h; rfl

theorem send_o (c : Dev nD) (s : Fin 48) (h : live P c s) {inb} :
    oM.slice (Rect.unit (s := S64x1024) (k0_off49 (W P c s)) S1x1024.size inb) (fun _ => rfl) = oRow (row P c s) := oSlice _ (off49_live P h)
theorem send_d (c : Dev nD) (s : Fin 48) (h : live P c s) {hlt} : (⟨k0_dev32 (W P c s), hlt⟩ : Dev nD) = tgt P c s := Fin.ext (dev32_live P h)

/-- Storing row `n` of the gathered rows. -/
theorem st_gstore {α : Type} {Q : α → sProp 𝕄} (c : Dev nD) (n m : ℕ) (s : Fin 48) (hs : s.val = n) (hm : m = n + 1) {inb} {w : Vec F S1x512 .f32} (hw : w = xRow P c s) {hx hm'}
    {k : PUnit → Prog (TpuEff nD τ sig (Elt F) Λ₀ .tc) α} :
    GSt P c n
      ⊢ iprop((GSt P c m -∗ wp frame (wpE (defs₀ (F := F)) 𝒱₀ (c : Thread nD τ) none) Set.univ (k ⟨⟩) Q)
        -∗ wp frame (wpE (defs₀ (F := F)) 𝒱₀ (c : Thread nD τ) none) Set.univ (.op (.store gM (Rect.unit (s := S48x512) ![n, 0] S1x512.size inb) w Finset.univ hx hm') k) Q) := by
  subst hs; subst hm; exact step_gstore P c s hw

/-- Storing a group's product. -/
theorem st_ystore {α : Type} {Q : α → sProp 𝕄} (c : Dev nD) (n m : ℕ) (g : Fin 4) (hs : n = 12 * g.val) (hm : m = n + 12) {inb} {w : Vec F S12x1024 .f32} (hw : w = yGroup P c g) {hx hm'}
    {k : PUnit → Prog (TpuEff nD τ sig (Elt F) Λ₀ .tc) α} :
    YSt P c n
      ⊢ iprop((YSt P c m -∗ wp frame (wpE (defs₀ (F := F)) 𝒱₀ (c : Thread nD τ) none) Set.univ (k ⟨⟩) Q)
        -∗ wp frame (wpE (defs₀ (F := F)) 𝒱₀ (c : Thread nD τ) none) Set.univ (.op (.store yM (Rect.unit (s := S48x1024) ![n, 0] S12x1024.size inb) w Finset.univ hx hm') k) Q) := by
  subst hs; subst hm; exact step_ystore P c g hw

/-- The rows of one group. -/
def gBand (c : Dev nD) (g : Fin 4) : Vec F S12x512 .f32 :=
  fun q => XG P c (ix2 ⟨12 * g.val + (q 0).val, by have h := g.2; have h' := (q 0).isLt; change _ < 12 at h'; omega⟩ (q 1))
/-- One expert. -/
def eBand (c : Dev nD) (g : Fin 4) : Vec F S1x512x1024 .f32 := fun q => P.E c (ix3 g (q 1) (q 2))
theorem yGroup_eq (c : Dev nD) (g : Fin 4) : k0_pay66 (gBand P c g) (eBand P c g) = yGroup P c g := rfl

theorem st_gband {α : Type} {Q : α → sProp 𝕄} (c : Dev nD) (n : ℕ) (g : Fin 4) (hs : n = 12 * g.val) {inb hl} {k : Vec F S12x512 .f32 → Prog (TpuEff nD τ sig (Elt F) Λ₀ .tc) α} :
    GSt P c 48 ⊢ iprop((GSt P c 48 -∗ wp frame (wpE (defs₀ (F := F)) 𝒱₀ (c : Thread nD τ) none) Set.univ (k (gBand P c g)) Q)
        -∗ wp frame (wpE (defs₀ (F := F)) 𝒱₀ (c : Thread nD τ) none) Set.univ (.op (.load gM (Rect.unit (s := S48x512) ![n, 0] S12x512.size inb).toLoadRect hl) k) Q) := by
  subst hs; exact step_gband P c g

theorem st_eload {α : Type} {Q : α → sProp 𝕄} (c : Dev nD) (n : ℕ) (g : Fin 4) (hs : n = g.val) {inb hl} {k : Vec F S1x512x1024 .f32 → Prog (TpuEff nD τ sig (Elt F) Λ₀ .tc) α} :
    buf c cc0_stg1_0 (P.E c) ⊢ iprop((buf c cc0_stg1_0 (P.E c) -∗ wp frame (wpE (defs₀ (F := F)) 𝒱₀ (c : Thread nD τ) none) Set.univ (k (eBand P c g)) Q)
        -∗ wp frame (wpE (defs₀ (F := F)) 𝒱₀ (c : Thread nD τ) none) Set.univ (.op (.load eM (Rect.unit (s := S4x512x1024) ![n, 0, 0] S1x512x1024.size inb).toLoadRect hl) k) Q) := by
  subst hs; exact step_eload P c g

/-- Reading a slot's word from the scalar memory, with the check that follows. -/
theorem st_word {α : Type} {Q : α → sProp 𝕄} (c : Dev nD) (n : ℕ) (s : Fin 48) (hs : s.val = n) {chk : BitVec 32 → Prop} (hchk : chk (W P c s)) {dec : ∀ v, Decidable (chk v)} {inb hw h1}
    {k : (v : BitVec 32) → PLift (chk v) → Prog (TpuEff nD τ sig (Elt F) Λ₀ .tc) α} :
    buf c cc0_scratch3 (META P c) ⊢ iprop((buf c cc0_scratch3 (META P c) -∗ wp frame (wpE (defs₀ (F := F)) 𝒱₀ (c : Thread nD τ) none) Set.univ (k (W P c s) ⟨hchk⟩) Q)
        -∗ wp frame (wpE (defs₀ (F := F)) 𝒱₀ (c : Thread nD τ) none) Set.univ (smemLoadElt mM (Rect.unit (s := S49x1) ![n, 0] S1x1.size inb) hw (Shape.Idx.first h1) (fun v => .op (.assume (chk v) (dec v)) (k v))) Q) := by
  subst hs
  iintro H Hk
  iapply (step_smem P c ⟨s.val, by omega⟩) $$ H; iintro H
  rw [META_slot]
  iapply (wp_assume 𝒱₀ (c : Thread nD τ) none Set.univ hchk)
  iapply Hk; iexact H

/-- Reading the count of arrivals, with the check that follows. -/
theorem st_count {α : Type} {Q : α → sProp 𝕄} (c : Dev nD) {chk : BitVec 32 → Prop} (hchk : chk (BitVec.ofNat 32 (nrecv (ev P.R) c))) {dec : ∀ v, Decidable (chk v)} {inb hw h1}
    {k : (v : BitVec 32) → PLift (chk v) → Prog (TpuEff nD τ sig (Elt F) Λ₀ .tc) α} :
    buf c cc0_scratch3 (META P c) ⊢ iprop((buf c cc0_scratch3 (META P c) -∗ wp frame (wpE (defs₀ (F := F)) 𝒱₀ (c : Thread nD τ) none) Set.univ (k (BitVec.ofNat 32 (nrecv (ev P.R) c)) ⟨hchk⟩) Q)
        -∗ wp frame (wpE (defs₀ (F := F)) 𝒱₀ (c : Thread nD τ) none) Set.univ (smemLoadElt mM (Rect.unit (s := S49x1) ![48, 0] S1x1.size inb) hw (Shape.Idx.first h1) (fun v => .op (.assume (chk v) (dec v)) (k v))) Q) := by
  iintro H Hk
  iapply (step_smem P c 48) $$ H; iintro H
  rw [META_last]
  iapply (wp_assume 𝒱₀ (c : Thread nD τ) none Set.univ hchk)
  iapply Hk; iexact H

variable (κ : GSem nD τ sig → ℕ)

theorem st_signal {α : Type} {Q : α → sProp 𝕄} (c : Dev nD) (n m : ℕ) (j : Fin 31) (hs : j.val = n) (hm : m = n + 1) {d : Dev nD} (hd : d = nxt c j) {w : Int} (hw : w = 1)
    {k : PUnit → Prog (TpuEff nD τ sig (Elt F) Λ₀ .tc) α} :
    iprop(records P κ ∗ reached ER (recvCell c) 0 ∗ SigSt P c n)
      ⊢ iprop((SigSt P c m -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d, Proc.tc) barrier0 w) k) Q) := by
  subst hs; subst hm; exact step_signal P κ c j hd hw

theorem st_send {α : Type} {Q : α → sProp 𝕄} (c : Dev nD) (n m : ℕ) (s : Fin 48) (hn : s.val = n) (hm : m = n + 1) {cnd : Prop} {inst : Decidable cnd} (hc : cnd ↔ live P c s) {d : cnd → Dev nD} (hd : ∀ h, d h = tgt P c s)
    {o : cnd → Memref sig .tc .vmem S1x1024 .f32} (ho : ∀ h, o h = oRow (row P c s)) {y : Memref sig .tc .vmem S1x1024 .f32} (hy : y = yRow s) {sS : DmaSem sig} (hs : sS = sendSem s)
    {hsc : ∀ h, (o h : Memref sig (Dev.tc (d h) : Thread nD τ).2.kind .vmem S1x1024 .f32).view.ref.isScScratch = false}
    {hsrc : y.view.WordExact} {hdst : ∀ h, (o h).view.WordExact}
    {hsem : ∀ h, DmaTarget.Typed .vmem (.dma recvSem) (.remote (Dev.tc (d h) : Thread nD τ) (o h : Memref sig .tc .vmem S1x1024 .f32) (.dma sS) (hsc h))}
    {k : Prog (TpuEff nD τ sig (Elt F) Λ₀ .tc) α} :
    iprop(records P κ ∗ SendSt P c n)
      ⊢ iprop((SendSt P c m -∗ wp frame (wpE (defs₀ (F := F)) 𝒱₀ (c : Thread nD τ) none) Set.univ k Q)
        -∗ wp frame (wpE (defs₀ (F := F)) 𝒱₀ (c : Thread nD τ) none) Set.univ
          (@dite _ cnd inst (fun h => Prog.lift (.enqueueDma y (.remote (Dev.tc (d h) : Thread nD τ) (o h) (.dma sS) (hsc h)) (.dma recvSem) hsrc (hdst h) (hsem h)) >>= fun _ => k) (fun _ => k)) Q) := by
  subst hn; subst hm; exact step_send P κ c s hc hd ho hy hs

theorem st_wait {α : Type} {Q : α → sProp 𝕄} (c : Dev nD) (n m : ℕ) (s : Fin 48) (hn : s.val = n) (hm : m = n + 1) {cnd : Prop} {inst : Decidable cnd} (hc : cnd ↔ live P c s)
    {o : cnd → Memref sig .tc .vmem S1x1024 .f32} {y : Memref sig .tc .vmem S1x1024 .f32} (hy : y = yRow s) {sS : DmaSem sig} (hs : sS = sendSem s)
    {hsrc : ∀ h, (o h).view.WordExact} {hdst : y.view.WordExact}
    {k : Prog (TpuEff nD τ sig (Elt F) Λ₀ .tc) α} :
    iprop(records P κ ∗ WaitSt P c n)
      ⊢ iprop((WaitSt P c m -∗ wp frame (wpE (defs₀ (F := F)) 𝒱₀ (c : Thread nD τ) none) Set.univ k Q)
        -∗ wp frame (wpE (defs₀ (F := F)) 𝒱₀ (c : Thread nD τ) none) Set.univ
          (@dite _ cnd inst (fun h => Prog.lift (.waitDma2 sS (o h) y (hsrc h) hdst) >>= fun _ => k) (fun _ => k)) Q) := by
  subst hn; subst hm; exact step_wait P κ c s hc hy hs

theorem st_ret {α : Type} {Q : α → sProp 𝕄} (c : Dev nD) (a : α) : Q a ⊢ wp frame (wpE (defs₀ (F := F)) 𝒱₀ (c : Thread nD τ) none) Set.univ (pure a : Prog (TpuEff nD τ sig (Elt F) Λ₀ .tc) α) Q := by
  rw [Prog.pure_eq_ret, wp_ret]
  iintro H; imodintro; iexact H

/-- With every send made, the waits begin. -/
theorem send_to_wait (c : Dev nD) :
    iprop(SendSt P c 48 ∗ bigSep Finset.univ fun s : Fin 48 => atPos ER (sendCell c s) 0 ∅ 0) ⊢ WaitSt P c 0 := by
  have e : (bigSep Finset.univ fun s : Fin 48 => if s.val < 48 then sentItem P c s else sendItem P c s) ⊢ bigSep Finset.univ fun s : Fin 48 => sentItem P c s := Entails.of_eq (seq_end _ _)
  have e2 : (bigSep Finset.univ fun s : Fin 48 => waitItem P c s) ⊢ bigSep Finset.univ fun s : Fin 48 => if s.val < 0 then doneItem P c s else waitItem P c s := Entails.of_eq (seq_start _ _)
  have e3 : iprop((bigSep Finset.univ fun s : Fin 48 => sentItem P c s) ∗ bigSep Finset.univ fun s : Fin 48 => atPos ER (sendCell c s) 0 ∅ 0) ⊢ bigSep Finset.univ fun s : Fin 48 => waitItem P c s :=
    Entails.of_eq (bigSep_sep _ _ _).symm
  unfold SendSt WaitSt
  rw [OS_last]
  iintro ⟨⟨HO, HS⟩, HA⟩
  isplitl [HO]; · iexact HO
  iapply e2
  ihave HS := e $$ HS
  iapply e3 $$ [$HS $HA]

end Cert.Route
-- ==== Proof.Facts.lean ====
/- The facts the body's lines need of the values the kernel computes: the device each signal is for, the check each word passes, the row each store writes. -/
module

public import proofs.«01_k».proof.Proof.Steps

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

/-- The barrier semaphore as the body names it. -/
abbrev barV : Sems sig S_ := SemArray.scalar (sig.barrier 0 rfl)
theorem me_eq (c : Dev nD) : Scalar.remsi (Scalar.divsi (Dev.word c) 1#32) 32#32 = BitVec.ofNat 32 c.val := by revert c; decide

theorem sig_dev1 (c : Dev nD) : (⟨k0_dev1 c, k0_dev1_lt c⟩ : Dev nD) = nxt c 0 := by revert c; decide
theorem sig_dev2 (c : Dev nD) : (⟨k0_dev2 c, k0_dev2_lt c⟩ : Dev nD) = nxt c 1 := by revert c; decide
theorem sig_dev3 (c : Dev nD) : (⟨k0_dev3 c, k0_dev3_lt c⟩ : Dev nD) = nxt c 2 := by revert c; decide
theorem sig_dev4 (c : Dev nD) : (⟨k0_dev4 c, k0_dev4_lt c⟩ : Dev nD) = nxt c 3 := by revert c; decide
theorem sig_dev5 (c : Dev nD) : (⟨k0_dev5 c, k0_dev5_lt c⟩ : Dev nD) = nxt c 4 := by revert c; decide
theorem sig_dev6 (c : Dev nD) : (⟨k0_dev6 c, k0_dev6_lt c⟩ : Dev nD) = nxt c 5 := by revert c; decide
theorem sig_dev7 (c : Dev nD) : (⟨k0_dev7 c, k0_dev7_lt c⟩ : Dev nD) = nxt c 6 := by revert c; decide
theorem sig_dev8 (c : Dev nD) : (⟨k0_dev8 c, k0_dev8_lt c⟩ : Dev nD) = nxt c 7 := by revert c; decide
theorem sig_dev9 (c : Dev nD) : (⟨k0_dev9 c, k0_dev9_lt c⟩ : Dev nD) = nxt c 8 := by revert c; decide
theorem sig_dev10 (c : Dev nD) : (⟨k0_dev10 c, k0_dev10_lt c⟩ : Dev nD) = nxt c 9 := by revert c; decide
theorem sig_dev11 (c : Dev nD) : (⟨k0_dev11 c, k0_dev11_lt c⟩ : Dev nD) = nxt c 10 := by revert c; decide
theorem sig_dev12 (c : Dev nD) : (⟨k0_dev12 c, k0_dev12_lt c⟩ : Dev nD) = nxt c 11 := by revert c; decide
theorem sig_dev13 (c : Dev nD) : (⟨k0_dev13 c, k0_dev13_lt c⟩ : Dev nD) = nxt c 12 := by revert c; decide
theorem sig_dev14 (c : Dev nD) : (⟨k0_dev14 c, k0_dev14_lt c⟩ : Dev nD) = nxt c 13 := by revert c; decide
theorem sig_dev15 (c : Dev nD) : (⟨k0_dev15 c, k0_dev15_lt c⟩ : Dev nD) = nxt c 14 := by revert c; decide
theorem sig_dev16 (c : Dev nD) : (⟨k0_dev16 c, k0_dev16_lt c⟩ : Dev nD) = nxt c 15 := by revert c; decide
theorem sig_dev17 (c : Dev nD) : (⟨k0_dev17 c, k0_dev17_lt c⟩ : Dev nD) = nxt c 16 := by revert c; decide
theorem sig_dev18 (c : Dev nD) : (⟨k0_dev18 c, k0_dev18_lt c⟩ : Dev nD) = nxt c 17 := by revert c; decide
theorem sig_dev19 (c : Dev nD) : (⟨k0_dev19 c, k0_dev19_lt c⟩ : Dev nD) = nxt c 18 := by revert c; decide
theorem sig_dev20 (c : Dev nD) : (⟨k0_dev20 c, k0_dev20_lt c⟩ : Dev nD) = nxt c 19 := by revert c; decide
theorem sig_dev21 (c : Dev nD) : (⟨k0_dev21 c, k0_dev21_lt c⟩ : Dev nD) = nxt c 20 := by revert c; decide
theorem sig_dev22 (c : Dev nD) : (⟨k0_dev22 c, k0_dev22_lt c⟩ : Dev nD) = nxt c 21 := by revert c; decide
theorem sig_dev23 (c : Dev nD) : (⟨k0_dev23 c, k0_dev23_lt c⟩ : Dev nD) = nxt c 22 := by revert c; decide
theorem sig_dev24 (c : Dev nD) : (⟨k0_dev24 c, k0_dev24_lt c⟩ : Dev nD) = nxt c 23 := by revert c; decide
theorem sig_dev25 (c : Dev nD) : (⟨k0_dev25 c, k0_dev25_lt c⟩ : Dev nD) = nxt c 24 := by revert c; decide
theorem sig_dev26 (c : Dev nD) : (⟨k0_dev26 c, k0_dev26_lt c⟩ : Dev nD) = nxt c 25 := by revert c; decide
theorem sig_dev27 (c : Dev nD) : (⟨k0_dev27 c, k0_dev27_lt c⟩ : Dev nD) = nxt c 26 := by revert c; decide
theorem sig_dev28 (c : Dev nD) : (⟨k0_dev28 c, k0_dev28_lt c⟩ : Dev nD) = nxt c 27 := by revert c; decide
theorem sig_dev29 (c : Dev nD) : (⟨k0_dev29 c, k0_dev29_lt c⟩ : Dev nD) = nxt c 28 := by revert c; decide
theorem sig_dev30 (c : Dev nD) : (⟨k0_dev30 c, k0_dev30_lt c⟩ : Dev nD) = nxt c 29 := by revert c; decide
theorem sig_dev31 (c : Dev nD) : (⟨k0_dev31 c, k0_dev31_lt c⟩ : Dev nD) = nxt c 30 := by revert c; decide

theorem chk2W (c : Dev nD) (s : Fin 48) : k0_chk2 (W P c s) := chk1W P c s
theorem chk3W (c : Dev nD) (s : Fin 48) : k0_chk3 (W P c s) := chk1W P c s
theorem chk4W (c : Dev nD) (s : Fin 48) : k0_chk4 (W P c s) := chk1W P c s
theorem chk5W (c : Dev nD) (s : Fin 48) : k0_chk5 (W P c s) := chk1W P c s
theorem chk6W (c : Dev nD) (s : Fin 48) : k0_chk6 (W P c s) := chk1W P c s
theorem chk7W (c : Dev nD) (s : Fin 48) : k0_chk7 (W P c s) := chk1W P c s
theorem chk8W (c : Dev nD) (s : Fin 48) : k0_chk8 (W P c s) := chk1W P c s
theorem chk9W (c : Dev nD) (s : Fin 48) : k0_chk9 (W P c s) := chk1W P c s
theorem chk10W (c : Dev nD) (s : Fin 48) : k0_chk10 (W P c s) := chk1W P c s
theorem chk11W (c : Dev nD) (s : Fin 48) : k0_chk11 (W P c s) := chk1W P c s
theorem chk12W (c : Dev nD) (s : Fin 48) : k0_chk12 (W P c s) := chk1W P c s
theorem chk13W (c : Dev nD) (s : Fin 48) : k0_chk13 (W P c s) := chk1W P c s
theorem chk14W (c : Dev nD) (s : Fin 48) : k0_chk14 (W P c s) := chk1W P c s
theorem chk15W (c : Dev nD) (s : Fin 48) : k0_chk15 (W P c s) := chk1W P c s
theorem chk16W (c : Dev nD) (s : Fin 48) : k0_chk16 (W P c s) := chk1W P c s
theorem chk17W (c : Dev nD) (s : Fin 48) : k0_chk17 (W P c s) := chk1W P c s
theorem chk18W (c : Dev nD) (s : Fin 48) : k0_chk18 (W P c s) := chk1W P c s
theorem chk19W (c : Dev nD) (s : Fin 48) : k0_chk19 (W P c s) := chk1W P c s
theorem chk20W (c : Dev nD) (s : Fin 48) : k0_chk20 (W P c s) := chk1W P c s
theorem chk21W (c : Dev nD) (s : Fin 48) : k0_chk21 (W P c s) := chk1W P c s
theorem chk22W (c : Dev nD) (s : Fin 48) : k0_chk22 (W P c s) := chk1W P c s
theorem chk23W (c : Dev nD) (s : Fin 48) : k0_chk23 (W P c s) := chk1W P c s
theorem chk24W (c : Dev nD) (s : Fin 48) : k0_chk24 (W P c s) := chk1W P c s
theorem chk25W (c : Dev nD) (s : Fin 48) : k0_chk25 (W P c s) := chk1W P c s
theorem chk26W (c : Dev nD) (s : Fin 48) : k0_chk26 (W P c s) := chk1W P c s
theorem chk27W (c : Dev nD) (s : Fin 48) : k0_chk27 (W P c s) := chk1W P c s
theorem chk28W (c : Dev nD) (s : Fin 48) : k0_chk28 (W P c s) := chk1W P c s
theorem chk29W (c : Dev nD) (s : Fin 48) : k0_chk29 (W P c s) := chk1W P c s
theorem chk30W (c : Dev nD) (s : Fin 48) : k0_chk30 (W P c s) := chk1W P c s
theorem chk31W (c : Dev nD) (s : Fin 48) : k0_chk31 (W P c s) := chk1W P c s
theorem chk32W (c : Dev nD) (s : Fin 48) : k0_chk32 (W P c s) := chk1W P c s
theorem chk33W (c : Dev nD) (s : Fin 48) : k0_chk33 (W P c s) := chk1W P c s
theorem chk34W (c : Dev nD) (s : Fin 48) : k0_chk34 (W P c s) := chk1W P c s
theorem chk35W (c : Dev nD) (s : Fin 48) : k0_chk35 (W P c s) := chk1W P c s
theorem chk36W (c : Dev nD) (s : Fin 48) : k0_chk36 (W P c s) := chk1W P c s
theorem chk37W (c : Dev nD) (s : Fin 48) : k0_chk37 (W P c s) := chk1W P c s
theorem chk38W (c : Dev nD) (s : Fin 48) : k0_chk38 (W P c s) := chk1W P c s
theorem chk39W (c : Dev nD) (s : Fin 48) : k0_chk39 (W P c s) := chk1W P c s
theorem chk40W (c : Dev nD) (s : Fin 48) : k0_chk40 (W P c s) := chk1W P c s
theorem chk41W (c : Dev nD) (s : Fin 48) : k0_chk41 (W P c s) := chk1W P c s
theorem chk42W (c : Dev nD) (s : Fin 48) : k0_chk42 (W P c s) := chk1W P c s
theorem chk43W (c : Dev nD) (s : Fin 48) : k0_chk43 (W P c s) := chk1W P c s
theorem chk44W (c : Dev nD) (s : Fin 48) : k0_chk44 (W P c s) := chk1W P c s
theorem chk45W (c : Dev nD) (s : Fin 48) : k0_chk45 (W P c s) := chk1W P c s
theorem chk46W (c : Dev nD) (s : Fin 48) : k0_chk46 (W P c s) := chk1W P c s
theorem chk47W (c : Dev nD) (s : Fin 48) : k0_chk47 (W P c s) := chk1W P c s
theorem chk48W (c : Dev nD) (s : Fin 48) : k0_chk48 (W P c s) := chk1W P c s
theorem chk50W (c : Dev nD) (s : Fin 48) : k0_chk50 (W P c s) := chk49W P c s
theorem chk51W (c : Dev nD) (s : Fin 48) : k0_chk51 (W P c s) := chk49W P c s
theorem chk52W (c : Dev nD) (s : Fin 48) : k0_chk52 (W P c s) := chk49W P c s
theorem chk53W (c : Dev nD) (s : Fin 48) : k0_chk53 (W P c s) := chk49W P c s
theorem chk54W (c : Dev nD) (s : Fin 48) : k0_chk54 (W P c s) := chk49W P c s
theorem chk55W (c : Dev nD) (s : Fin 48) : k0_chk55 (W P c s) := chk49W P c s
theorem chk56W (c : Dev nD) (s : Fin 48) : k0_chk56 (W P c s) := chk49W P c s
theorem chk57W (c : Dev nD) (s : Fin 48) : k0_chk57 (W P c s) := chk49W P c s
theorem chk58W (c : Dev nD) (s : Fin 48) : k0_chk58 (W P c s) := chk49W P c s
theorem chk59W (c : Dev nD) (s : Fin 48) : k0_chk59 (W P c s) := chk49W P c s
theorem chk60W (c : Dev nD) (s : Fin 48) : k0_chk60 (W P c s) := chk49W P c s
theorem chk61W (c : Dev nD) (s : Fin 48) : k0_chk61 (W P c s) := chk49W P c s
theorem chk62W (c : Dev nD) (s : Fin 48) : k0_chk62 (W P c s) := chk49W P c s
theorem chk63W (c : Dev nD) (s : Fin 48) : k0_chk63 (W P c s) := chk49W P c s
theorem chk64W (c : Dev nD) (s : Fin 48) : k0_chk64 (W P c s) := chk49W P c s
theorem chk65W (c : Dev nD) (s : Fin 48) : k0_chk65 (W P c s) := chk49W P c s
theorem chk66W (c : Dev nD) (s : Fin 48) : k0_chk66 (W P c s) := chk49W P c s
theorem chk67W (c : Dev nD) (s : Fin 48) : k0_chk67 (W P c s) := chk49W P c s
theorem chk68W (c : Dev nD) (s : Fin 48) : k0_chk68 (W P c s) := chk49W P c s
theorem chk69W (c : Dev nD) (s : Fin 48) : k0_chk69 (W P c s) := chk49W P c s
theorem chk70W (c : Dev nD) (s : Fin 48) : k0_chk70 (W P c s) := chk49W P c s
theorem chk71W (c : Dev nD) (s : Fin 48) : k0_chk71 (W P c s) := chk49W P c s
theorem chk72W (c : Dev nD) (s : Fin 48) : k0_chk72 (W P c s) := chk49W P c s
theorem chk73W (c : Dev nD) (s : Fin 48) : k0_chk73 (W P c s) := chk49W P c s
theorem chk74W (c : Dev nD) (s : Fin 48) : k0_chk74 (W P c s) := chk49W P c s
theorem chk75W (c : Dev nD) (s : Fin 48) : k0_chk75 (W P c s) := chk49W P c s
theorem chk76W (c : Dev nD) (s : Fin 48) : k0_chk76 (W P c s) := chk49W P c s
theorem chk77W (c : Dev nD) (s : Fin 48) : k0_chk77 (W P c s) := chk49W P c s
theorem chk78W (c : Dev nD) (s : Fin 48) : k0_chk78 (W P c s) := chk49W P c s
theorem chk79W (c : Dev nD) (s : Fin 48) : k0_chk79 (W P c s) := chk49W P c s
theorem chk80W (c : Dev nD) (s : Fin 48) : k0_chk80 (W P c s) := chk49W P c s
theorem chk81W (c : Dev nD) (s : Fin 48) : k0_chk81 (W P c s) := chk49W P c s
theorem chk82W (c : Dev nD) (s : Fin 48) : k0_chk82 (W P c s) := chk49W P c s
theorem chk83W (c : Dev nD) (s : Fin 48) : k0_chk83 (W P c s) := chk49W P c s
theorem chk84W (c : Dev nD) (s : Fin 48) : k0_chk84 (W P c s) := chk49W P c s
theorem chk85W (c : Dev nD) (s : Fin 48) : k0_chk85 (W P c s) := chk49W P c s
theorem chk86W (c : Dev nD) (s : Fin 48) : k0_chk86 (W P c s) := chk49W P c s
theorem chk87W (c : Dev nD) (s : Fin 48) : k0_chk87 (W P c s) := chk49W P c s
theorem chk88W (c : Dev nD) (s : Fin 48) : k0_chk88 (W P c s) := chk49W P c s
theorem chk89W (c : Dev nD) (s : Fin 48) : k0_chk89 (W P c s) := chk49W P c s
theorem chk90W (c : Dev nD) (s : Fin 48) : k0_chk90 (W P c s) := chk49W P c s
theorem chk91W (c : Dev nD) (s : Fin 48) : k0_chk91 (W P c s) := chk49W P c s
theorem chk92W (c : Dev nD) (s : Fin 48) : k0_chk92 (W P c s) := chk49W P c s
theorem chk93W (c : Dev nD) (s : Fin 48) : k0_chk93 (W P c s) := chk49W P c s
theorem chk94W (c : Dev nD) (s : Fin 48) : k0_chk94 (W P c s) := chk49W P c s
theorem chk95W (c : Dev nD) (s : Fin 48) : k0_chk95 (W P c s) := chk49W P c s
theorem chk96W (c : Dev nD) (s : Fin 48) : k0_chk96 (W P c s) := chk49W P c s

theorem pay15 (v : Vec F S1x512 .f32) : k0_pay15 v = v := cast2 v
theorem pay16 (v : Vec F S1x512 .f32) : k0_pay16 v = v := cast2 v
theorem pay17 (v : Vec F S1x512 .f32) : k0_pay17 v = v := cast2 v
theorem pay18 (v : Vec F S1x512 .f32) : k0_pay18 v = v := cast2 v
theorem pay19 (v : Vec F S1x512 .f32) : k0_pay19 v = v := cast2 v
theorem pay20 (v : Vec F S1x512 .f32) : k0_pay20 v = v := cast2 v
theorem pay21 (v : Vec F S1x512 .f32) : k0_pay21 v = v := cast2 v
theorem pay22 (v : Vec F S1x512 .f32) : k0_pay22 v = v := cast2 v
theorem pay23 (v : Vec F S1x512 .f32) : k0_pay23 v = v := cast2 v
theorem pay24 (v : Vec F S1x512 .f32) : k0_pay24 v = v := cast2 v
theorem pay25 (v : Vec F S1x512 .f32) : k0_pay25 v = v := cast2 v
theorem pay26 (v : Vec F S1x512 .f32) : k0_pay26 v = v := cast2 v
theorem pay28c (v : Vec F S1x512 .f32) : k0_pay28 (k0_pay27 v) = v := cast2 v
theorem pay29 (v : Vec F S1x512 .f32) : k0_pay29 v = v := cast2 v
theorem pay30 (v : Vec F S1x512 .f32) : k0_pay30 v = v := cast2 v
theorem pay31 (v : Vec F S1x512 .f32) : k0_pay31 v = v := cast2 v
theorem pay32 (v : Vec F S1x512 .f32) : k0_pay32 v = v := cast2 v
theorem pay33 (v : Vec F S1x512 .f32) : k0_pay33 v = v := cast2 v
theorem pay34 (v : Vec F S1x512 .f32) : k0_pay34 v = v := cast2 v
theorem pay35 (v : Vec F S1x512 .f32) : k0_pay35 v = v := cast2 v
theorem pay36 (v : Vec F S1x512 .f32) : k0_pay36 v = v := cast2 v
theorem pay37 (v : Vec F S1x512 .f32) : k0_pay37 v = v := cast2 v
theorem pay38 (v : Vec F S1x512 .f32) : k0_pay38 v = v := cast2 v
theorem pay39 (v : Vec F S1x512 .f32) : k0_pay39 v = v := cast2 v
theorem pay40 (v : Vec F S1x512 .f32) : k0_pay40 v = v := cast2 v
theorem pay41 (v : Vec F S1x512 .f32) : k0_pay41 v = v := cast2 v
theorem pay42 (v : Vec F S1x512 .f32) : k0_pay42 v = v := cast2 v
theorem pay44c (v : Vec F S1x512 .f32) : k0_pay44 (k0_pay43 v) = v := cast2 v
theorem pay45 (v : Vec F S1x512 .f32) : k0_pay45 v = v := cast2 v
theorem pay46 (v : Vec F S1x512 .f32) : k0_pay46 v = v := cast2 v
theorem pay47 (v : Vec F S1x512 .f32) : k0_pay47 v = v := cast2 v
theorem pay48 (v : Vec F S1x512 .f32) : k0_pay48 v = v := cast2 v
theorem pay49 (v : Vec F S1x512 .f32) : k0_pay49 v = v := cast2 v
theorem pay50 (v : Vec F S1x512 .f32) : k0_pay50 v = v := cast2 v
theorem pay51 (v : Vec F S1x512 .f32) : k0_pay51 v = v := cast2 v
theorem pay52 (v : Vec F S1x512 .f32) : k0_pay52 v = v := cast2 v
theorem pay53 (v : Vec F S1x512 .f32) : k0_pay53 v = v := cast2 v
theorem pay54 (v : Vec F S1x512 .f32) : k0_pay54 v = v := cast2 v
theorem pay55 (v : Vec F S1x512 .f32) : k0_pay55 v = v := cast2 v
theorem pay56 (v : Vec F S1x512 .f32) : k0_pay56 v = v := cast2 v
theorem pay57 (v : Vec F S1x512 .f32) : k0_pay57 v = v := cast2 v
theorem pay58 (v : Vec F S1x512 .f32) : k0_pay58 v = v := cast2 v
theorem pay60c (v : Vec F S1x512 .f32) : k0_pay60 (k0_pay59 v) = v := cast2 v
theorem pay61 (v : Vec F S1x512 .f32) : k0_pay61 v = v := cast2 v
theorem pay62 (v : Vec F S1x512 .f32) : k0_pay62 v = v := cast2 v
theorem pay63 (v : Vec F S1x512 .f32) : k0_pay63 v = v := cast2 v
theorem pay64 (v : Vec F S1x512 .f32) : k0_pay64 v = v := cast2 v
theorem pay65 (v : Vec F S1x512 .f32) : k0_pay65 v = v := cast2 v

end Cert.Route
-- ==== Proof.Setup.lean ====
/- The parts of the printed body that are not of one kind: the first stores and signal, the routing words, the barrier, the groups' last products. -/
module

public import proofs.«01_k».proof.Proof.Facts

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)
variable {h0 : (xM : Memref sig .tc .vmem S2048x512 .f32).IsWhole} {h1 : (eM : Memref sig .tc .vmem S4x512x1024 .f32).IsWhole} {h2 : (rM : Memref sig .tc .vmem S1x2048 .i32).IsWhole}
  {h3 : (oM : Memref sig .tc .vmem S64x1024 .f32).IsWhole} {h4 : (gM : Memref sig .tc .vmem S48x512 .f32).IsWhole} {h5 : (yM : Memref sig .tc .vmem S48x1024 .f32).IsWhole}
  {h6 : (vM : Memref sig .tc .vmem S49x1 .i32).IsWhole} {h7 : (mM : Memref sig .tc .smem S49x1 .i32).IsWhole}
variable (κ : GSem nD τ sig → ℕ)

theorem gst_zero (c : Dev nD) (f : Vec F S48x512 .f32) : (buf c cc0_scratch0 f : sProp 𝕄) ⊢ GSt P c 0 := by
  unfold GSt
  iintro H; iexists f
  isplitr; · ipureintro; intro u v h; exact absurd h (Nat.not_lt_zero _)
  iexact H
theorem yst_zero (c : Dev nD) (f : Vec F S48x1024 .f32) : (buf c cc0_scratch1 f : sProp 𝕄) ⊢ YSt P c 0 := by
  unfold YSt
  iintro H; iexists f
  isplitr; · ipureintro; intro u v h; exact absurd h (Nat.not_lt_zero _)
  iexact H

/-- A buffer of rows written whole. -/
theorem write_all {n m : ℕ} {sp : Space} {e : EltTy} (v : View sig .tc sp ⟨2, ![n, m]⟩ e)
    (inb : ∀ t, (![0, 0] : Fin 2 → ℕ) t + (![n, m] : Fin 2 → ℕ) t ≤ (⟨2, ![n, m]⟩ : Shape).size t)
    (f : v.ty.Contents (Elt F)) (w : (⟨2, ![n, m]⟩ : Shape).Idx → Elt F e) :
    v.read (Elt F) ((v.slice (Rect.unit (s := ⟨2, ![n, m]⟩) ![0, 0] ![n, m] inb)).write (Elt F) f w Finset.univ) = w := by
  funext j
  have h := writeBand v inb f w (j 0) (j 1)
  rw [dif_pos ⟨Nat.zero_le _, by have h0 := (j 0).isLt; change _ < n at h0; omega⟩] at h
  exact (congrArg _ (eq_ix2 j)).trans (h.trans (congrArg w (eq_ix2 j).symm))

/-- A buffer of rows read whole. -/
theorem read_all {n m : ℕ} {sp : Space} {e : EltTy} (v : View sig .tc sp ⟨2, ![n, m]⟩ e)
    (inb : ∀ t, (![0, 0] : Fin 2 → ℕ) t + (![n, m] : Fin 2 → ℕ) t ≤ (⟨2, ![n, m]⟩ : Shape).size t)
    (f : v.ty.Contents (Elt F)) :
    v.readAt (Elt F) (Rect.unit (s := ⟨2, ![n, m]⟩) ![0, 0] ![n, m] inb).toLoadRect f = v.read (Elt F) f := by
  funext j
  have h0 := (j 0).isLt; change _ < n at h0
  have h := readBand v inb f (j 0) (j 1) (by omega)
  have e : (ix2 ⟨0 + (j 0).val, by omega⟩ (j 1) : (⟨2, ![n, m]⟩ : Shape).Idx) = ix2 (j 0) (j 1) := congrArg (fun x => ix2 x (j 1)) (Fin.ext (Nat.zero_add _))
  exact (congrArg _ (eq_ix2 j)).trans (h.trans ((congrArg _ e).trans (congrArg _ (eq_ix2 j).symm)))

theorem write_all_eq {n m : ℕ} {sp : Space} {e : EltTy} (v : View sig .tc sp ⟨2, ![n, m]⟩ e) {sz : Fin 2 → ℕ} (hz : sz = ![n, m]) (r : Rect ⟨2, ![n, m]⟩) (inb) (hr : r = Rect.unit (s := ⟨2, ![n, m]⟩) ![0, 0] sz inb)
    (f w' : v.ty.Contents (Elt F)) (w : r.shape.Idx → Elt F e) (hv : ∀ f g : v.ty.Contents (Elt F), v.read (Elt F) f = v.read (Elt F) g → f = g) (hw : HEq (v.read (Elt F) w') w) :
    (v.slice r).write (Elt F) f w Finset.univ = w' := by
  subst hr; subst hz
  obtain rfl := eq_of_heq hw
  exact hv _ _ (write_all v inb f _)

theorem out_store (f w : Vec F S64x1024 .f32) {inb} :
    ((oM : Memref sig .tc .vmem S64x1024 .f32).access (Rect.unit (s := S64x1024) ![0, 0] S64x1024.size inb)).write (Elt F) f w Finset.univ = w :=
  write_all_eq (n := 64) (m := 1024) (oM : Memref sig .tc .vmem S64x1024 .f32).view (sz := S64x1024.size) rfl _ inb rfl f w w (fun _ _ h => h) HEq.rfl

theorem zero_store (f : Vec F S64x1024 .f32) {inb} :
    ((oM : Memref sig .tc .vmem S64x1024 .f32).access (Rect.unit (s := S64x1024) ![0, 0] S64x1024.size inb)).write (Elt F) f (k0_pay1 (F := F)) Finset.univ = (zeroB : Vec F S64x1024 .f32) := out_store f _

theorem row_load (f : Vec F S1x2048 .i32) {inb} :
    (rM : Memref sig .tc .vmem S1x2048 .i32).view.readAt (Elt F) (Rect.unit (s := S1x2048) ![0, 0] S1x2048.size inb).toLoadRect f = f :=
  read_all (F := F) (n := 1) (m := 2048) rM.view inb f

/-- What the device holds for its signals before the first. -/
def SigPre (c : Dev nD) : sProp 𝕄 :=
  iprop((∃ W, owes (c : Thread nD τ) (OS P c 0 + OB c 0) W) ∗ bigSep Finset.univ fun j : Fin 31 => dutyTok ER (barCell (nxt c j)) 0 (c, 0))

theorem sig_start (c : Dev nD) : iprop(SigPre P c ∗ bigSep Finset.univ fun j : Fin 31 => handRow P c (nxt c j)) ⊢ SigSt P c 0 := by
  have e1 : iprop((bigSep Finset.univ fun j : Fin 31 => dutyTok ER (barCell (nxt c j)) 0 ((c, 0) : Dev nD × Fin 48)) ∗ bigSep Finset.univ fun j : Fin 31 => (handRow P c (nxt c j) : sProp 𝕄)) ⊢ bigSep Finset.univ fun j : Fin 31 => sigItem P c j :=
    Entails.of_eq (bigSep_sep _ _ _).symm
  have e2 : (bigSep Finset.univ fun j : Fin 31 => sigItem P c j) ⊢ bigSep Finset.univ fun j : Fin 31 => if j.val < 0 then iprop(emp) else sigItem P c j := Entails.of_eq (seq_start _ _)
  unfold SigPre SigSt
  iintro ⟨⟨HO, HT⟩, HH⟩
  isplitl [HO]; · iexact HO
  iapply e2; iapply e1; iframe

theorem sig_end (c : Dev nD) : SigSt P c 31 ⊢ iprop(∃ W, owes (c : Thread nD τ) (OS P c 0 + OB c 31) W) := by
  unfold SigSt; iintro ⟨HO, -⟩; iexact HO
theorem sig_back (c : Dev nD) : iprop(∃ W, owes (c : Thread nD τ) (OS P c 0 + OB c 31) W) ⊢ SigSt P c 31 := by
  have e2 : (iprop(emp) : sProp 𝕄) ⊢ bigSep Finset.univ fun j : Fin 31 => if j.val < 31 then iprop(emp) else sigItem P c j := by
    rw [seq_end]; exact Entails.of_eq (bigSep_emp_const _).symm
  unfold SigSt; iintro HO
  isplitl [HO]; · iexact HO
  iapply e2; iempintro

theorem part1 {Q : (Σ' (d0 : Dev nD) (v2 : BitVec 32), Sems sig S_) → sProp 𝕄} (c : Dev nD) (f : Vec F S64x1024 .f32) :
    iprop(records P κ ∗ reached ER (recvCell c) 0 ∗ buf c cc0_stg3_0 f ∗ SigPre P c)
      ⊢ iprop(((SigSt P c 1 ∗ handRow P c c ∗ ((c : Thread nD τ).loc cc0_stg3_0) ↦[oRest P c]{fullShare} (zeroB : Vec F S64x1024 .f32)) -∗ Q ⟨c, BitVec.ofNat 32 c.val, barV⟩)
        -∗ wp frame (wpE (defs₀ (F := F)) 𝒱₀ (c : Thread nD τ) none) Set.univ (k0_part1 xM h0 eM h1 rM h2 oM h3 gM h4 yM h5 vM h6 mM h7 cc0_scratch4 cc0_scratch5 cc0_scratch6) Q) := by
  rw [k0_part1_eq_skeleton]; unfold k0_part1_skel
  simp only [semSignalWord, Prog.lift, Prog.bind_op, Prog.bind_ret, Prog.pure_eq_ret, wp_deviceId]
  rw [me_eq]
  iintro ⟨#HR, #HC, HO, HP⟩ Hk
  iapply (wp_load 𝒱₀ (c : Thread nD τ) none Set.univ (m := oM) (S := Finset.univ) (Finset.subset_univ _)) $$ HO; iintro HO
  iapply (wp_store 𝒱₀ (c : Thread nD τ) none Set.univ (m := oM) (r := Rect.unit (s := S64x1024) ![0, 0] S64x1024.size inb_S64x1024_S64x1024_0_0) (Mk := Finset.univ) (Finset.subset_univ _)) $$ HO; iintro HO
  rw [zero_store]
  ihave HO := (zero_split P c) $$ HO
  icases HO with ⟨H0, H1, H2⟩
  ihave HS := (sig_start P c) $$ [$HP $H1]
  iapply (st_signal P κ c 0 1 0 rfl rfl (sig_dev1 c) (by decide)) $$ [$HR $HC $HS]; iintro HS
  rw [wp_ret]; imodintro; iapply Hk; iframe

theorem part13 {Q : (Σ' (v410 : IVec S1x2048 32) (v418 : IVec S4x2048 32) (v419 : IVec S4x2048 32), IVec S4x2048 32) → sProp 𝕄} (c : Dev nD) {v385 v386 : BitVec 32} {v387 : BitVec 1} {c0 : BitVec 32} :
    iprop(records P κ ∗ reached ER (recvCell c) 0 ∗ SigSt P c 29 ∗ buf c cc0_stg2_0 P.R)
      ⊢ iprop(((SigSt P c 31 ∗ buf c cc0_stg2_0 P.R) -∗ Q ⟨k0_pay2 P.R, k0_pay3 (BitVec.ofNat 32 c.val) P.R, iota .tc S4x2048 32 [1] iota_S4x2048_d1_w32, k0_pay4 (BitVec.ofNat 32 c.val) P.R⟩)
        -∗ wp frame (wpE (defs₀ (F := F)) 𝒱₀ (c : Thread nD τ) none) Set.univ (k0_part13 xM h0 eM h1 rM h2 oM h3 gM h4 yM h5 vM h6 mM h7 cc0_scratch4 cc0_scratch5 cc0_scratch6 c (BitVec.ofNat 32 c.val) barV v385 v386 v387 c0) Q) := by
  rw [k0_part13_eq_skeleton]; unfold k0_part13_skel
  simp only [semSignalWord, Prog.lift, Prog.bind_op, Prog.bind_ret, Prog.pure_eq_ret]
  iintro ⟨#HR, #HC, HS, HI⟩ Hk
  iapply (st_signal P κ c 29 30 29 rfl rfl (sig_dev30 c) (by decide)) $$ [$HR $HC $HS]; iintro HS
  iapply (st_signal P κ c 30 31 30 rfl rfl (sig_dev31 c) (by decide)) $$ [$HR $HC $HS]; iintro HS
  iapply (wp_load 𝒱₀ (c : Thread nD τ) none Set.univ (m := rM) (S := Finset.univ) (Finset.subset_univ _)) $$ HI; iintro HI
  rw [row_load]
  rw [wp_ret]; imodintro; iapply Hk; iframe

theorem part14 {Q : (Σ' (v467 : IVec S4x2048 32), IVec S4x2048 32) → sProp 𝕄} (c : Dev nD) {a b d : IVec S4x2048 32} :
    Q ⟨k0_pay5 a b d, k0_pay6 a b d⟩ ⊢ wp frame (wpE (defs₀ (F := F)) 𝒱₀ (c : Thread nD τ) none) Set.univ (k0_part14 xM h0 eM h1 rM h2 oM h3 gM h4 yM h5 vM h6 mM h7 cc0_scratch4 cc0_scratch5 cc0_scratch6 a b d) Q := by
  rw [k0_part14_eq_skeleton]; unfold k0_part14_skel
  exact st_ret c _
theorem part15 {Q : (Σ' (v507 : IVec S4x2048 32) (v510 : BitVec 32) (v512 : IVec S48x1 32) (v514 : IVec S48x1 1), IVec S48x1 1) → sProp 𝕄} (c : Dev nD) {a b d : IVec S4x2048 32} :
    Q ⟨k0_pay7 a b d, Scalar.select (Scalar.cmpi .eq 12#32 0#32) 1#32 12#32, k0_pay8, k0_pay9, k0_pay10⟩ ⊢ wp frame (wpE (defs₀ (F := F)) 𝒱₀ (c : Thread nD τ) none) Set.univ (k0_part15 xM h0 eM h1 rM h2 oM h3 gM h4 yM h5 vM h6 mM h7 cc0_scratch4 cc0_scratch5 cc0_scratch6 a b d) Q := by
  rw [k0_part15_eq_skeleton]; unfold k0_part15_skel
  exact st_ret c _
theorem part16 {Q : (Σ' (v548 : IVec S48x1 32), IVec S128x2048 32) → sProp 𝕄} (c : Dev nD) {v2 v410 v418 v507 v510 v512 v514 v520} :
    Q ⟨k0_pay11 v418 v507 v510 v512 v514 v520, k0_pay12 v2 v410⟩ ⊢ wp frame (wpE (defs₀ (F := F)) 𝒱₀ (c : Thread nD τ) none) Set.univ (k0_part16 xM h0 eM h1 rM h2 oM h3 gM h4 yM h5 vM h6 mM h7 cc0_scratch4 cc0_scratch5 cc0_scratch6 v2 v410 v418 v507 v510 v512 v514 v520) Q := by
  rw [k0_part16_eq_skeleton]; unfold k0_part16_skel
  exact st_ret c _

theorem pay13 (v : IVec S48x1 32) : k0_pay13 v = v := shapeCast_self v _

theorem part17 {Q : (Σ' (v598 : Elt F .i32), k0_chk2 v598) → sProp 𝕄} (c : Dev nD) {v548 : IVec S48x1 32} {v568 : IVec S128x2048 32} (h48 : ∀ s : Fin 48, v548 (ix2 s 0) = W P c s)
    (hn : k0_pay14 v568 (ix2 0 0) = BitVec.ofNat 32 (nrecv (ev P.R) c)) (fv : Vec F S49x1 .i32) (fm : Vec F S49x1 .i32) :
    iprop(records P κ ∗ levAts L lv ∗ buf c cc0_scratch2 fv ∗ buf c cc0_scratch3 fm ∗ dutyTok ER (metaCell c) 0 (c, 0) ∗ reached ER (metaCell c) 0 ∗ atPos ER (metaCell c) 0 ∅ 0
        ∗ SigSt P c 31 ∗ buf c cc0_stg0_0 (P.X c) ∗ GSt P c 0)
      ⊢ iprop((∀ h : k0_chk2 (W P c 1), (buf c cc0_scratch2 (META P c) ∗ semVal (metaCell c) 0 ∗ SigSt P c 31 ∗ buf c cc0_stg0_0 (P.X c) ∗ buf c cc0_scratch3 (META P c) ∗ GSt P c 1) -∗ Q ⟨W P c 1, h⟩)
        -∗ wp frame (wpE (defs₀ (F := F)) 𝒱₀ (c : Thread nD τ) none) Set.univ (k0_part17 xM h0 eM h1 rM h2 oM h3 gM h4 yM h5 vM h6 mM h7 cc0_scratch4 cc0_scratch5 cc0_scratch6 v548 v568) Q) := by
  rw [k0_part17_eq_skeleton]; unfold k0_part17_skel
  simp only [smemLoad, smemLoadElt_bind, Prog.lift, Prog.bind_op, Prog.bind_ret, Prog.pure_eq_ret]
  iintro ⟨#HR, #HL, HV, HM, HT, #HC, HA, HS, HX, HG⟩ Hk
  iapply (wp_load 𝒱₀ (c : Thread nD τ) none Set.univ (m := vM) (S := Finset.univ) (Finset.subset_univ _)) $$ HV; iintro HV
  iapply (wp_store 𝒱₀ (c : Thread nD τ) none Set.univ (m := vM) (r := Rect.unit (s := S49x1) ![0, 0] S48x1.size inb_S49x1_S48x1_0_0) (Mk := Finset.univ) (Finset.subset_univ _)) $$ HV; iintro HV
  iapply (wp_load 𝒱₀ (c : Thread nD τ) none Set.univ (m := vM) (S := Finset.univ) (Finset.subset_univ _)) $$ HV; iintro HV
  iapply (wp_store 𝒱₀ (c : Thread nD τ) none Set.univ (m := vM) (r := Rect.unit (s := S49x1) ![48, 0] S1x1.size inb_S49x1_S1x1_48_0) (Mk := Finset.univ) (Finset.subset_univ _)) $$ HV; iintro HV
  rw [meta_eq P c fv (k0_pay13 v548) (k0_pay14 v568) (fun s => by rw [pay13]; exact h48 s) hn]
  ihave HO := (sig_end P c) $$ HS
  iapply (step_meta P κ c fm) $$ [$HR $HL $HV $HM $HT $HC $HA $HO]
  iintro ⟨HV, HM, HA, HO⟩
  ihave HS := (sig_back P c) $$ HO
  iapply (st_word P c 0 0 rfl (chk := k0_chk1) (chk1W P c 0)) $$ HM; iintro HM
  iapply (step_xload P c 0 (off := k0_off1 (W P c 0)) (off1_src P c 0)) $$ HX; iintro HX
  iapply (step_gload P c 0) $$ HG; iintro %_ HG
  iapply (st_gstore P c 0 1 0 rfl rfl (w := k0_pay15 (xRow P c 0)) (pay15 (xRow P c 0))) $$ HG; iintro HG
  iapply (st_word P c 1 1 rfl (chk := k0_chk2) (chk2W P c 1)) $$ HM; iintro HM
  rw [wp_ret]; imodintro; iapply Hk; iframe

theorem part31 {Q : (Σ' (v1002 : Elt F .i32) (k0_hw49 : k0_chk49 v1002) (v1004 : BitVec 32) (v1005 : Elt F .i32) (k0_hw50 : k0_chk50 v1005) (v1007 : BitVec 32) (v1008 : Elt F .i32) (k0_hw51 : k0_chk51 v1008) (v1010 : BitVec 32) (v1011 : Elt F .i32) (k0_hw52 : k0_chk52 v1011), BitVec 32) → sProp 𝕄} (c : Dev nD) :
    iprop(records P κ ∗ levAts L lv ∗ cred (tallyAt (barCell c) 20 31) ∗ atPos ER (barCell c) 0 ∅ 0 ∗ SigSt P c 31 ∗ buf c cc0_scratch3 (META P c) ∗ GSt P c 48 ∗ buf c cc0_stg1_0 (P.E c) ∗ YSt P c 24)
      ⊢ iprop((∀ (k0_hw49 : k0_chk49 (W P c 0)) (r2 : BitVec 32) (k0_hw50 : k0_chk50 (W P c 1)) (r5 : BitVec 32) (k0_hw51 : k0_chk51 (W P c 2)) (r8 : BitVec 32) (k0_hw52 : k0_chk52 (W P c 3)) (r11 : BitVec 32), ((∃ W, owes (c : Thread nD τ) (OS P c 0) W) ∗ semVal (barCell c) 0 ∗ (bigSep (Finset.univ.erase c) fun x => handPay P x c) ∗ buf c cc0_scratch3 (META P c) ∗ GSt P c 48 ∗ buf c cc0_stg1_0 (P.E c) ∗ YSt P c 48) -∗ Q ⟨W P c 0, k0_hw49, r2, W P c 1, k0_hw50, r5, W P c 2, k0_hw51, r8, W P c 3, k0_hw52, r11⟩) -∗ wp frame (wpE (defs₀ (F := F)) 𝒱₀ (c : Thread nD τ) none) Set.univ (k0_part31 xM h0 eM h1 rM h2 oM h3 gM h4 yM h5 vM h6 mM h7 cc0_scratch4 cc0_scratch5 cc0_scratch6 barV (gBand P c 2)) Q) := by
  rw [k0_part31_eq_skeleton]; unfold k0_part31_skel
  simp only [semSignalWord, semWaitWord, smemLoad, smemLoadElt_bind, Prog.lift, Prog.bind_op, Prog.bind_ret, Prog.pure_eq_ret]
  iintro ⟨#HR, #HL, HB, HA, HS, HM, HG, HE, HY⟩ Hk
  iapply (st_eload P c 2 2 rfl) $$ HE; iintro HE
  iapply (step_yload P c 24) $$ HY; iintro %_ HY
  iapply (st_ystore P c 24 36 2 rfl rfl (w := k0_pay68 (gBand P c 2) (eBand P c 2)) (yGroup_eq P c 2)) $$ HY; iintro HY
  iapply (st_gband P c 36 3 rfl) $$ HG; iintro HG
  iapply (st_eload P c 3 3 rfl) $$ HE; iintro HE
  iapply (step_yload P c 36) $$ HY; iintro %_ HY
  iapply (st_ystore P c 36 48 3 rfl rfl (w := k0_pay69 (gBand P c 3) (eBand P c 3)) (yGroup_eq P c 3)) $$ HY; iintro HY
  iapply (step_barrier P κ c (w := (31#32 : BitVec 32).toInt) (by decide)) $$ [$HR $HL $HB $HA $HS]; iintro ⟨HO, HA, HH⟩
  iapply (st_word P c 0 0 rfl (chk := k0_chk49) (chk49W P c 0)) $$ HM; iintro HM
  iapply (st_word P c 1 1 rfl (chk := k0_chk50) (chk50W P c 1)) $$ HM; iintro HM
  iapply (st_word P c 2 2 rfl (chk := k0_chk51) (chk51W P c 2)) $$ HM; iintro HM
  iapply (st_word P c 3 3 rfl (chk := k0_chk52) (chk52W P c 3)) $$ HM; iintro HM
  rw [wp_ret]; imodintro; iapply Hk; iframe

end Cert.Route
-- ==== Proof.Gathers.lean ====
/- The gathers, part by part of the printed body. -/
module

public import proofs.«01_k».proof.Proof.Facts

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)
variable {h0 : (xM : Memref sig .tc .vmem S2048x512 .f32).IsWhole} {h1 : (eM : Memref sig .tc .vmem S4x512x1024 .f32).IsWhole} {h2 : (rM : Memref sig .tc .vmem S1x2048 .i32).IsWhole}
  {h3 : (oM : Memref sig .tc .vmem S64x1024 .f32).IsWhole} {h4 : (gM : Memref sig .tc .vmem S48x512 .f32).IsWhole} {h5 : (yM : Memref sig .tc .vmem S48x1024 .f32).IsWhole}
  {h6 : (vM : Memref sig .tc .vmem S49x1 .i32).IsWhole} {h7 : (mM : Memref sig .tc .smem S49x1 .i32).IsWhole}
variable (κ : GSem nD τ sig → ℕ)

theorem part18 {Q : (Σ' (v630 : Elt F .i32), k0_chk6 v630) → sProp 𝕄} (c : Dev nD) {k0_hw2 : k0_chk2 (W P c 1)} :
    iprop(buf c cc0_stg0_0 (P.X c) ∗ buf c cc0_scratch3 (META P c) ∗ GSt P c 1)
      ⊢ iprop((∀ (k0_hw6 : k0_chk6 (W P c 5)), (buf c cc0_stg0_0 (P.X c) ∗ buf c cc0_scratch3 (META P c) ∗ GSt P c 5) -∗ Q ⟨W P c 5, k0_hw6⟩) -∗ wp frame (wpE (defs₀ (F := F)) 𝒱₀ (c : Thread nD τ) none) Set.univ (k0_part18 xM h0 eM h1 rM h2 oM h3 gM h4 yM h5 vM h6 mM h7 cc0_scratch4 cc0_scratch5 cc0_scratch6 (W P c 1) k0_hw2) Q) := by
  rw [k0_part18_eq_skeleton]; unfold k0_part18_skel
  simp only [semSignalWord, semWaitWord, smemLoad, smemLoadElt_bind, Prog.lift, Prog.bind_op, Prog.bind_ret, Prog.pure_eq_ret]
  iintro ⟨HX, HM, HG⟩ Hk
  iapply (step_xload P c 1 (off := k0_off2 (W P c 1)) (off1_src P c 1)) $$ HX; iintro HX
  iapply (step_gload P c 1) $$ HG; iintro %_ HG
  iapply (st_gstore P c 1 2 1 rfl rfl (w := k0_pay16 (xRow P c 1)) (pay16 (xRow P c 1))) $$ HG; iintro HG
  iapply (st_word P c 2 2 rfl (chk := k0_chk3) (chk3W P c 2)) $$ HM; iintro HM
  iapply (step_xload P c 2 (off := k0_off3 (W P c 2)) (off1_src P c 2)) $$ HX; iintro HX
  iapply (step_gload P c 2) $$ HG; iintro %_ HG
  iapply (st_gstore P c 2 3 2 rfl rfl (w := k0_pay17 (xRow P c 2)) (pay17 (xRow P c 2))) $$ HG; iintro HG
  iapply (st_word P c 3 3 rfl (chk := k0_chk4) (chk4W P c 3)) $$ HM; iintro HM
  iapply (step_xload P c 3 (off := k0_off4 (W P c 3)) (off1_src P c 3)) $$ HX; iintro HX
  iapply (step_gload P c 3) $$ HG; iintro %_ HG
  iapply (st_gstore P c 3 4 3 rfl rfl (w := k0_pay18 (xRow P c 3)) (pay18 (xRow P c 3))) $$ HG; iintro HG
  iapply (st_word P c 4 4 rfl (chk := k0_chk5) (chk5W P c 4)) $$ HM; iintro HM
  iapply (step_xload P c 4 (off := k0_off5 (W P c 4)) (off1_src P c 4)) $$ HX; iintro HX
  iapply (step_gload P c 4) $$ HG; iintro %_ HG
  iapply (st_gstore P c 4 5 4 rfl rfl (w := k0_pay19 (xRow P c 4)) (pay19 (xRow P c 4))) $$ HG; iintro HG
  iapply (st_word P c 5 5 rfl (chk := k0_chk6) (chk6W P c 5)) $$ HM; iintro HM
  rw [wp_ret]; imodintro; iapply Hk; iframe

theorem part19 {Q : (PUnit) → sProp 𝕄} (c : Dev nD) {k0_hw6 : k0_chk6 (W P c 5)} :
    iprop(buf c cc0_stg0_0 (P.X c) ∗ buf c cc0_scratch3 (META P c) ∗ GSt P c 5)
      ⊢ iprop(((buf c cc0_stg0_0 (P.X c) ∗ buf c cc0_scratch3 (META P c) ∗ GSt P c 9) -∗ Q ⟨⟩) -∗ wp frame (wpE (defs₀ (F := F)) 𝒱₀ (c : Thread nD τ) none) Set.univ (k0_part19 xM h0 eM h1 rM h2 oM h3 gM h4 yM h5 vM h6 mM h7 cc0_scratch4 cc0_scratch5 cc0_scratch6 (W P c 5) k0_hw6) Q) := by
  rw [k0_part19_eq_skeleton]; unfold k0_part19_skel
  simp only [semSignalWord, semWaitWord, smemLoad, smemLoadElt_bind, Prog.lift, Prog.bind_op, Prog.bind_ret, Prog.pure_eq_ret]
  iintro ⟨HX, HM, HG⟩ Hk
  iapply (step_xload P c 5 (off := k0_off6 (W P c 5)) (off1_src P c 5)) $$ HX; iintro HX
  iapply (step_gload P c 5) $$ HG; iintro %_ HG
  iapply (st_gstore P c 5 6 5 rfl rfl (w := k0_pay20 (xRow P c 5)) (pay20 (xRow P c 5))) $$ HG; iintro HG
  iapply (st_word P c 6 6 rfl (chk := k0_chk7) (chk7W P c 6)) $$ HM; iintro HM
  iapply (step_xload P c 6 (off := k0_off7 (W P c 6)) (off1_src P c 6)) $$ HX; iintro HX
  iapply (step_gload P c 6) $$ HG; iintro %_ HG
  iapply (st_gstore P c 6 7 6 rfl rfl (w := k0_pay21 (xRow P c 6)) (pay21 (xRow P c 6))) $$ HG; iintro HG
  iapply (st_word P c 7 7 rfl (chk := k0_chk8) (chk8W P c 7)) $$ HM; iintro HM
  iapply (step_xload P c 7 (off := k0_off8 (W P c 7)) (off1_src P c 7)) $$ HX; iintro HX
  iapply (step_gload P c 7) $$ HG; iintro %_ HG
  iapply (st_gstore P c 7 8 7 rfl rfl (w := k0_pay22 (xRow P c 7)) (pay22 (xRow P c 7))) $$ HG; iintro HG
  iapply (st_word P c 8 8 rfl (chk := k0_chk9) (chk9W P c 8)) $$ HM; iintro HM
  iapply (step_xload P c 8 (off := k0_off9 (W P c 8)) (off1_src P c 8)) $$ HX; iintro HX
  iapply (step_gload P c 8) $$ HG; iintro %_ HG
  iapply (st_gstore P c 8 9 8 rfl rfl (w := k0_pay23 (xRow P c 8)) (pay23 (xRow P c 8))) $$ HG; iintro HG
  rw [wp_ret]; imodintro; iapply Hk; iframe

theorem part20 {Q : (FVec F S1x512 .f32) → sProp 𝕄} (c : Dev nD) :
    iprop(buf c cc0_stg0_0 (P.X c) ∗ buf c cc0_scratch3 (META P c) ∗ GSt P c 9)
      ⊢ iprop(((buf c cc0_stg0_0 (P.X c) ∗ buf c cc0_scratch3 (META P c) ∗ GSt P c 12) -∗ Q (k0_pay27 (xRow P c 12))) -∗ wp frame (wpE (defs₀ (F := F)) 𝒱₀ (c : Thread nD τ) none) Set.univ (k0_part20 xM h0 eM h1 rM h2 oM h3 gM h4 yM h5 vM h6 mM h7 cc0_scratch4 cc0_scratch5 cc0_scratch6) Q) := by
  rw [k0_part20_eq_skeleton]; unfold k0_part20_skel
  simp only [semSignalWord, semWaitWord, smemLoad, smemLoadElt_bind, Prog.lift, Prog.bind_op, Prog.bind_ret, Prog.pure_eq_ret]
  iintro ⟨HX, HM, HG⟩ Hk
  iapply (st_word P c 9 9 rfl (chk := k0_chk10) (chk10W P c 9)) $$ HM; iintro HM
  iapply (step_xload P c 9 (off := k0_off10 (W P c 9)) (off1_src P c 9)) $$ HX; iintro HX
  iapply (step_gload P c 9) $$ HG; iintro %_ HG
  iapply (st_gstore P c 9 10 9 rfl rfl (w := k0_pay24 (xRow P c 9)) (pay24 (xRow P c 9))) $$ HG; iintro HG
  iapply (st_word P c 10 10 rfl (chk := k0_chk11) (chk11W P c 10)) $$ HM; iintro HM
  iapply (step_xload P c 10 (off := k0_off11 (W P c 10)) (off1_src P c 10)) $$ HX; iintro HX
  iapply (step_gload P c 10) $$ HG; iintro %_ HG
  iapply (st_gstore P c 10 11 10 rfl rfl (w := k0_pay25 (xRow P c 10)) (pay25 (xRow P c 10))) $$ HG; iintro HG
  iapply (st_word P c 11 11 rfl (chk := k0_chk12) (chk12W P c 11)) $$ HM; iintro HM
  iapply (step_xload P c 11 (off := k0_off12 (W P c 11)) (off1_src P c 11)) $$ HX; iintro HX
  iapply (step_gload P c 11) $$ HG; iintro %_ HG
  iapply (st_gstore P c 11 12 11 rfl rfl (w := k0_pay26 (xRow P c 11)) (pay26 (xRow P c 11))) $$ HG; iintro HG
  iapply (st_word P c 12 12 rfl (chk := k0_chk13) (chk13W P c 12)) $$ HM; iintro HM
  iapply (step_xload P c 12 (off := k0_off13 (W P c 12)) (off1_src P c 12)) $$ HX; iintro HX
  rw [wp_ret]; imodintro; iapply Hk; iframe

theorem part21 {Q : (Σ' (v718 : Elt F .i32), k0_chk17 v718) → sProp 𝕄} (c : Dev nD) :
    iprop(buf c cc0_stg0_0 (P.X c) ∗ buf c cc0_scratch3 (META P c) ∗ GSt P c 12)
      ⊢ iprop((∀ (k0_hw17 : k0_chk17 (W P c 16)), (buf c cc0_stg0_0 (P.X c) ∗ buf c cc0_scratch3 (META P c) ∗ GSt P c 16) -∗ Q ⟨W P c 16, k0_hw17⟩) -∗ wp frame (wpE (defs₀ (F := F)) 𝒱₀ (c : Thread nD τ) none) Set.univ (k0_part21 xM h0 eM h1 rM h2 oM h3 gM h4 yM h5 vM h6 mM h7 cc0_scratch4 cc0_scratch5 cc0_scratch6 (k0_pay27 (xRow P c 12))) Q) := by
  rw [k0_part21_eq_skeleton]; unfold k0_part21_skel
  simp only [semSignalWord, semWaitWord, smemLoad, smemLoadElt_bind, Prog.lift, Prog.bind_op, Prog.bind_ret, Prog.pure_eq_ret]
  iintro ⟨HX, HM, HG⟩ Hk
  iapply (step_gload P c 12) $$ HG; iintro %_ HG
  iapply (st_gstore P c 12 13 12 rfl rfl (w := k0_pay28 (k0_pay27 (xRow P c 12))) (pay28c (xRow P c 12))) $$ HG; iintro HG
  iapply (st_word P c 13 13 rfl (chk := k0_chk14) (chk14W P c 13)) $$ HM; iintro HM
  iapply (step_xload P c 13 (off := k0_off14 (W P c 13)) (off1_src P c 13)) $$ HX; iintro HX
  iapply (step_gload P c 13) $$ HG; iintro %_ HG
  iapply (st_gstore P c 13 14 13 rfl rfl (w := k0_pay29 (xRow P c 13)) (pay29 (xRow P c 13))) $$ HG; iintro HG
  iapply (st_word P c 14 14 rfl (chk := k0_chk15) (chk15W P c 14)) $$ HM; iintro HM
  iapply (step_xload P c 14 (off := k0_off15 (W P c 14)) (off1_src P c 14)) $$ HX; iintro HX
  iapply (step_gload P c 14) $$ HG; iintro %_ HG
  iapply (st_gstore P c 14 15 14 rfl rfl (w := k0_pay30 (xRow P c 14)) (pay30 (xRow P c 14))) $$ HG; iintro HG
  iapply (st_word P c 15 15 rfl (chk := k0_chk16) (chk16W P c 15)) $$ HM; iintro HM
  iapply (step_xload P c 15 (off := k0_off16 (W P c 15)) (off1_src P c 15)) $$ HX; iintro HX
  iapply (step_gload P c 15) $$ HG; iintro %_ HG
  iapply (st_gstore P c 15 16 15 rfl rfl (w := k0_pay31 (xRow P c 15)) (pay31 (xRow P c 15))) $$ HG; iintro HG
  iapply (st_word P c 16 16 rfl (chk := k0_chk17) (chk17W P c 16)) $$ HM; iintro HM
  rw [wp_ret]; imodintro; iapply Hk; iframe

theorem part22 {Q : (Σ' (v750 : Elt F .i32), k0_chk21 v750) → sProp 𝕄} (c : Dev nD) {k0_hw17 : k0_chk17 (W P c 16)} :
    iprop(buf c cc0_stg0_0 (P.X c) ∗ buf c cc0_scratch3 (META P c) ∗ GSt P c 16)
      ⊢ iprop((∀ (k0_hw21 : k0_chk21 (W P c 20)), (buf c cc0_stg0_0 (P.X c) ∗ buf c cc0_scratch3 (META P c) ∗ GSt P c 20) -∗ Q ⟨W P c 20, k0_hw21⟩) -∗ wp frame (wpE (defs₀ (F := F)) 𝒱₀ (c : Thread nD τ) none) Set.univ (k0_part22 xM h0 eM h1 rM h2 oM h3 gM h4 yM h5 vM h6 mM h7 cc0_scratch4 cc0_scratch5 cc0_scratch6 (W P c 16) k0_hw17) Q) := by
  rw [k0_part22_eq_skeleton]; unfold k0_part22_skel
  simp only [semSignalWord, semWaitWord, smemLoad, smemLoadElt_bind, Prog.lift, Prog.bind_op, Prog.bind_ret, Prog.pure_eq_ret]
  iintro ⟨HX, HM, HG⟩ Hk
  iapply (step_xload P c 16 (off := k0_off17 (W P c 16)) (off1_src P c 16)) $$ HX; iintro HX
  iapply (step_gload P c 16) $$ HG; iintro %_ HG
  iapply (st_gstore P c 16 17 16 rfl rfl (w := k0_pay32 (xRow P c 16)) (pay32 (xRow P c 16))) $$ HG; iintro HG
  iapply (st_word P c 17 17 rfl (chk := k0_chk18) (chk18W P c 17)) $$ HM; iintro HM
  iapply (step_xload P c 17 (off := k0_off18 (W P c 17)) (off1_src P c 17)) $$ HX; iintro HX
  iapply (step_gload P c 17) $$ HG; iintro %_ HG
  iapply (st_gstore P c 17 18 17 rfl rfl (w := k0_pay33 (xRow P c 17)) (pay33 (xRow P c 17))) $$ HG; iintro HG
  iapply (st_word P c 18 18 rfl (chk := k0_chk19) (chk19W P c 18)) $$ HM; iintro HM
  iapply (step_xload P c 18 (off := k0_off19 (W P c 18)) (off1_src P c 18)) $$ HX; iintro HX
  iapply (step_gload P c 18) $$ HG; iintro %_ HG
  iapply (st_gstore P c 18 19 18 rfl rfl (w := k0_pay34 (xRow P c 18)) (pay34 (xRow P c 18))) $$ HG; iintro HG
  iapply (st_word P c 19 19 rfl (chk := k0_chk20) (chk20W P c 19)) $$ HM; iintro HM
  iapply (step_xload P c 19 (off := k0_off20 (W P c 19)) (off1_src P c 19)) $$ HX; iintro HX
  iapply (step_gload P c 19) $$ HG; iintro %_ HG
  iapply (st_gstore P c 19 20 19 rfl rfl (w := k0_pay35 (xRow P c 19)) (pay35 (xRow P c 19))) $$ HG; iintro HG
  iapply (st_word P c 20 20 rfl (chk := k0_chk21) (chk21W P c 20)) $$ HM; iintro HM
  rw [wp_ret]; imodintro; iapply Hk; iframe

theorem part23 {Q : (PUnit) → sProp 𝕄} (c : Dev nD) {k0_hw21 : k0_chk21 (W P c 20)} :
    iprop(buf c cc0_stg0_0 (P.X c) ∗ buf c cc0_scratch3 (META P c) ∗ GSt P c 20)
      ⊢ iprop(((buf c cc0_stg0_0 (P.X c) ∗ buf c cc0_scratch3 (META P c) ∗ GSt P c 24) -∗ Q ⟨⟩) -∗ wp frame (wpE (defs₀ (F := F)) 𝒱₀ (c : Thread nD τ) none) Set.univ (k0_part23 xM h0 eM h1 rM h2 oM h3 gM h4 yM h5 vM h6 mM h7 cc0_scratch4 cc0_scratch5 cc0_scratch6 (W P c 20) k0_hw21) Q) := by
  rw [k0_part23_eq_skeleton]; unfold k0_part23_skel
  simp only [semSignalWord, semWaitWord, smemLoad, smemLoadElt_bind, Prog.lift, Prog.bind_op, Prog.bind_ret, Prog.pure_eq_ret]
  iintro ⟨HX, HM, HG⟩ Hk
  iapply (step_xload P c 20 (off := k0_off21 (W P c 20)) (off1_src P c 20)) $$ HX; iintro HX
  iapply (step_gload P c 20) $$ HG; iintro %_ HG
  iapply (st_gstore P c 20 21 20 rfl rfl (w := k0_pay36 (xRow P c 20)) (pay36 (xRow P c 20))) $$ HG; iintro HG
  iapply (st_word P c 21 21 rfl (chk := k0_chk22) (chk22W P c 21)) $$ HM; iintro HM
  iapply (step_xload P c 21 (off := k0_off22 (W P c 21)) (off1_src P c 21)) $$ HX; iintro HX
  iapply (step_gload P c 21) $$ HG; iintro %_ HG
  iapply (st_gstore P c 21 22 21 rfl rfl (w := k0_pay37 (xRow P c 21)) (pay37 (xRow P c 21))) $$ HG; iintro HG
  iapply (st_word P c 22 22 rfl (chk := k0_chk23) (chk23W P c 22)) $$ HM; iintro HM
  iapply (step_xload P c 22 (off := k0_off23 (W P c 22)) (off1_src P c 22)) $$ HX; iintro HX
  iapply (step_gload P c 22) $$ HG; iintro %_ HG
  iapply (st_gstore P c 22 23 22 rfl rfl (w := k0_pay38 (xRow P c 22)) (pay38 (xRow P c 22))) $$ HG; iintro HG
  iapply (st_word P c 23 23 rfl (chk := k0_chk24) (chk24W P c 23)) $$ HM; iintro HM
  iapply (step_xload P c 23 (off := k0_off24 (W P c 23)) (off1_src P c 23)) $$ HX; iintro HX
  iapply (step_gload P c 23) $$ HG; iintro %_ HG
  iapply (st_gstore P c 23 24 23 rfl rfl (w := k0_pay39 (xRow P c 23)) (pay39 (xRow P c 23))) $$ HG; iintro HG
  rw [wp_ret]; imodintro; iapply Hk; iframe

theorem part24 {Q : (FVec F S1x512 .f32) → sProp 𝕄} (c : Dev nD) :
    iprop(buf c cc0_stg0_0 (P.X c) ∗ buf c cc0_scratch3 (META P c) ∗ GSt P c 24)
      ⊢ iprop(((buf c cc0_stg0_0 (P.X c) ∗ buf c cc0_scratch3 (META P c) ∗ GSt P c 27) -∗ Q (k0_pay43 (xRow P c 27))) -∗ wp frame (wpE (defs₀ (F := F)) 𝒱₀ (c : Thread nD τ) none) Set.univ (k0_part24 xM h0 eM h1 rM h2 oM h3 gM h4 yM h5 vM h6 mM h7 cc0_scratch4 cc0_scratch5 cc0_scratch6) Q) := by
  rw [k0_part24_eq_skeleton]; unfold k0_part24_skel
  simp only [semSignalWord, semWaitWord, smemLoad, smemLoadElt_bind, Prog.lift, Prog.bind_op, Prog.bind_ret, Prog.pure_eq_ret]
  iintro ⟨HX, HM, HG⟩ Hk
  iapply (st_word P c 24 24 rfl (chk := k0_chk25) (chk25W P c 24)) $$ HM; iintro HM
  iapply (step_xload P c 24 (off := k0_off25 (W P c 24)) (off1_src P c 24)) $$ HX; iintro HX
  iapply (step_gload P c 24) $$ HG; iintro %_ HG
  iapply (st_gstore P c 24 25 24 rfl rfl (w := k0_pay40 (xRow P c 24)) (pay40 (xRow P c 24))) $$ HG; iintro HG
  iapply (st_word P c 25 25 rfl (chk := k0_chk26) (chk26W P c 25)) $$ HM; iintro HM
  iapply (step_xload P c 25 (off := k0_off26 (W P c 25)) (off1_src P c 25)) $$ HX; iintro HX
  iapply (step_gload P c 25) $$ HG; iintro %_ HG
  iapply (st_gstore P c 25 26 25 rfl rfl (w := k0_pay41 (xRow P c 25)) (pay41 (xRow P c 25))) $$ HG; iintro HG
  iapply (st_word P c 26 26 rfl (chk := k0_chk27) (chk27W P c 26)) $$ HM; iintro HM
  iapply (step_xload P c 26 (off := k0_off27 (W P c 26)) (off1_src P c 26)) $$ HX; iintro HX
  iapply (step_gload P c 26) $$ HG; iintro %_ HG
  iapply (st_gstore P c 26 27 26 rfl rfl (w := k0_pay42 (xRow P c 26)) (pay42 (xRow P c 26))) $$ HG; iintro HG
  iapply (st_word P c 27 27 rfl (chk := k0_chk28) (chk28W P c 27)) $$ HM; iintro HM
  iapply (step_xload P c 27 (off := k0_off28 (W P c 27)) (off1_src P c 27)) $$ HX; iintro HX
  rw [wp_ret]; imodintro; iapply Hk; iframe

theorem part25 {Q : (Σ' (v838 : Elt F .i32), k0_chk32 v838) → sProp 𝕄} (c : Dev nD) :
    iprop(buf c cc0_stg0_0 (P.X c) ∗ buf c cc0_scratch3 (META P c) ∗ GSt P c 27)
      ⊢ iprop((∀ (k0_hw32 : k0_chk32 (W P c 31)), (buf c cc0_stg0_0 (P.X c) ∗ buf c cc0_scratch3 (META P c) ∗ GSt P c 31) -∗ Q ⟨W P c 31, k0_hw32⟩) -∗ wp frame (wpE (defs₀ (F := F)) 𝒱₀ (c : Thread nD τ) none) Set.univ (k0_part25 xM h0 eM h1 rM h2 oM h3 gM h4 yM h5 vM h6 mM h7 cc0_scratch4 cc0_scratch5 cc0_scratch6 (k0_pay43 (xRow P c 27))) Q) := by
  rw [k0_part25_eq_skeleton]; unfold k0_part25_skel
  simp only [semSignalWord, semWaitWord, smemLoad, smemLoadElt_bind, Prog.lift, Prog.bind_op, Prog.bind_ret, Prog.pure_eq_ret]
  iintro ⟨HX, HM, HG⟩ Hk
  iapply (step_gload P c 27) $$ HG; iintro %_ HG
  iapply (st_gstore P c 27 28 27 rfl rfl (w := k0_pay44 (k0_pay43 (xRow P c 27))) (pay44c (xRow P c 27))) $$ HG; iintro HG
  iapply (st_word P c 28 28 rfl (chk := k0_chk29) (chk29W P c 28)) $$ HM; iintro HM
  iapply (step_xload P c 28 (off := k0_off29 (W P c 28)) (off1_src P c 28)) $$ HX; iintro HX
  iapply (step_gload P c 28) $$ HG; iintro %_ HG
  iapply (st_gstore P c 28 29 28 rfl rfl (w := k0_pay45 (xRow P c 28)) (pay45 (xRow P c 28))) $$ HG; iintro HG
  iapply (st_word P c 29 29 rfl (chk := k0_chk30) (chk30W P c 29)) $$ HM; iintro HM
  iapply (step_xload P c 29 (off := k0_off30 (W P c 29)) (off1_src P c 29)) $$ HX; iintro HX
  iapply (step_gload P c 29) $$ HG; iintro %_ HG
  iapply (st_gstore P c 29 30 29 rfl rfl (w := k0_pay46 (xRow P c 29)) (pay46 (xRow P c 29))) $$ HG; iintro HG
  iapply (st_word P c 30 30 rfl (chk := k0_chk31) (chk31W P c 30)) $$ HM; iintro HM
  iapply (step_xload P c 30 (off := k0_off31 (W P c 30)) (off1_src P c 30)) $$ HX; iintro HX
  iapply (step_gload P c 30) $$ HG; iintro %_ HG
  iapply (st_gstore P c 30 31 30 rfl rfl (w := k0_pay47 (xRow P c 30)) (pay47 (xRow P c 30))) $$ HG; iintro HG
  iapply (st_word P c 31 31 rfl (chk := k0_chk32) (chk32W P c 31)) $$ HM; iintro HM
  rw [wp_ret]; imodintro; iapply Hk; iframe

theorem part26 {Q : (Σ' (v870 : Elt F .i32), k0_chk36 v870) → sProp 𝕄} (c : Dev nD) {k0_hw32 : k0_chk32 (W P c 31)} :
    iprop(buf c cc0_stg0_0 (P.X c) ∗ buf c cc0_scratch3 (META P c) ∗ GSt P c 31)
      ⊢ iprop((∀ (k0_hw36 : k0_chk36 (W P c 35)), (buf c cc0_stg0_0 (P.X c) ∗ buf c cc0_scratch3 (META P c) ∗ GSt P c 35) -∗ Q ⟨W P c 35, k0_hw36⟩) -∗ wp frame (wpE (defs₀ (F := F)) 𝒱₀ (c : Thread nD τ) none) Set.univ (k0_part26 xM h0 eM h1 rM h2 oM h3 gM h4 yM h5 vM h6 mM h7 cc0_scratch4 cc0_scratch5 cc0_scratch6 (W P c 31) k0_hw32) Q) := by
  rw [k0_part26_eq_skeleton]; unfold k0_part26_skel
  simp only [semSignalWord, semWaitWord, smemLoad, smemLoadElt_bind, Prog.lift, Prog.bind_op, Prog.bind_ret, Prog.pure_eq_ret]
  iintro ⟨HX, HM, HG⟩ Hk
  iapply (step_xload P c 31 (off := k0_off32 (W P c 31)) (off1_src P c 31)) $$ HX; iintro HX
  iapply (step_gload P c 31) $$ HG; iintro %_ HG
  iapply (st_gstore P c 31 32 31 rfl rfl (w := k0_pay48 (xRow P c 31)) (pay48 (xRow P c 31))) $$ HG; iintro HG
  iapply (st_word P c 32 32 rfl (chk := k0_chk33) (chk33W P c 32)) $$ HM; iintro HM
  iapply (step_xload P c 32 (off := k0_off33 (W P c 32)) (off1_src P c 32)) $$ HX; iintro HX
  iapply (step_gload P c 32) $$ HG; iintro %_ HG
  iapply (st_gstore P c 32 33 32 rfl rfl (w := k0_pay49 (xRow P c 32)) (pay49 (xRow P c 32))) $$ HG; iintro HG
  iapply (st_word P c 33 33 rfl (chk := k0_chk34) (chk34W P c 33)) $$ HM; iintro HM
  iapply (step_xload P c 33 (off := k0_off34 (W P c 33)) (off1_src P c 33)) $$ HX; iintro HX
  iapply (step_gload P c 33) $$ HG; iintro %_ HG
  iapply (st_gstore P c 33 34 33 rfl rfl (w := k0_pay50 (xRow P c 33)) (pay50 (xRow P c 33))) $$ HG; iintro HG
  iapply (st_word P c 34 34 rfl (chk := k0_chk35) (chk35W P c 34)) $$ HM; iintro HM
  iapply (step_xload P c 34 (off := k0_off35 (W P c 34)) (off1_src P c 34)) $$ HX; iintro HX
  iapply (step_gload P c 34) $$ HG; iintro %_ HG
  iapply (st_gstore P c 34 35 34 rfl rfl (w := k0_pay51 (xRow P c 34)) (pay51 (xRow P c 34))) $$ HG; iintro HG
  iapply (st_word P c 35 35 rfl (chk := k0_chk36) (chk36W P c 35)) $$ HM; iintro HM
  rw [wp_ret]; imodintro; iapply Hk; iframe

theorem part27 {Q : (PUnit) → sProp 𝕄} (c : Dev nD) {k0_hw36 : k0_chk36 (W P c 35)} :
    iprop(buf c cc0_stg0_0 (P.X c) ∗ buf c cc0_scratch3 (META P c) ∗ GSt P c 35)
      ⊢ iprop(((buf c cc0_stg0_0 (P.X c) ∗ buf c cc0_scratch3 (META P c) ∗ GSt P c 39) -∗ Q ⟨⟩) -∗ wp frame (wpE (defs₀ (F := F)) 𝒱₀ (c : Thread nD τ) none) Set.univ (k0_part27 xM h0 eM h1 rM h2 oM h3 gM h4 yM h5 vM h6 mM h7 cc0_scratch4 cc0_scratch5 cc0_scratch6 (W P c 35) k0_hw36) Q) := by
  rw [k0_part27_eq_skeleton]; unfold k0_part27_skel
  simp only [semSignalWord, semWaitWord, smemLoad, smemLoadElt_bind, Prog.lift, Prog.bind_op, Prog.bind_ret, Prog.pure_eq_ret]
  iintro ⟨HX, HM, HG⟩ Hk
  iapply (step_xload P c 35 (off := k0_off36 (W P c 35)) (off1_src P c 35)) $$ HX; iintro HX
  iapply (step_gload P c 35) $$ HG; iintro %_ HG
  iapply (st_gstore P c 35 36 35 rfl rfl (w := k0_pay52 (xRow P c 35)) (pay52 (xRow P c 35))) $$ HG; iintro HG
  iapply (st_word P c 36 36 rfl (chk := k0_chk37) (chk37W P c 36)) $$ HM; iintro HM
  iapply (step_xload P c 36 (off := k0_off37 (W P c 36)) (off1_src P c 36)) $$ HX; iintro HX
  iapply (step_gload P c 36) $$ HG; iintro %_ HG
  iapply (st_gstore P c 36 37 36 rfl rfl (w := k0_pay53 (xRow P c 36)) (pay53 (xRow P c 36))) $$ HG; iintro HG
  iapply (st_word P c 37 37 rfl (chk := k0_chk38) (chk38W P c 37)) $$ HM; iintro HM
  iapply (step_xload P c 37 (off := k0_off38 (W P c 37)) (off1_src P c 37)) $$ HX; iintro HX
  iapply (step_gload P c 37) $$ HG; iintro %_ HG
  iapply (st_gstore P c 37 38 37 rfl rfl (w := k0_pay54 (xRow P c 37)) (pay54 (xRow P c 37))) $$ HG; iintro HG
  iapply (st_word P c 38 38 rfl (chk := k0_chk39) (chk39W P c 38)) $$ HM; iintro HM
  iapply (step_xload P c 38 (off := k0_off39 (W P c 38)) (off1_src P c 38)) $$ HX; iintro HX
  iapply (step_gload P c 38) $$ HG; iintro %_ HG
  iapply (st_gstore P c 38 39 38 rfl rfl (w := k0_pay55 (xRow P c 38)) (pay55 (xRow P c 38))) $$ HG; iintro HG
  rw [wp_ret]; imodintro; iapply Hk; iframe

theorem part28 {Q : (FVec F S1x512 .f32) → sProp 𝕄} (c : Dev nD) :
    iprop(buf c cc0_stg0_0 (P.X c) ∗ buf c cc0_scratch3 (META P c) ∗ GSt P c 39)
      ⊢ iprop(((buf c cc0_stg0_0 (P.X c) ∗ buf c cc0_scratch3 (META P c) ∗ GSt P c 42) -∗ Q (k0_pay59 (xRow P c 42))) -∗ wp frame (wpE (defs₀ (F := F)) 𝒱₀ (c : Thread nD τ) none) Set.univ (k0_part28 xM h0 eM h1 rM h2 oM h3 gM h4 yM h5 vM h6 mM h7 cc0_scratch4 cc0_scratch5 cc0_scratch6) Q) := by
  rw [k0_part28_eq_skeleton]; unfold k0_part28_skel
  simp only [semSignalWord, semWaitWord, smemLoad, smemLoadElt_bind, Prog.lift, Prog.bind_op, Prog.bind_ret, Prog.pure_eq_ret]
  iintro ⟨HX, HM, HG⟩ Hk
  iapply (st_word P c 39 39 rfl (chk := k0_chk40) (chk40W P c 39)) $$ HM; iintro HM
  iapply (step_xload P c 39 (off := k0_off40 (W P c 39)) (off1_src P c 39)) $$ HX; iintro HX
  iapply (step_gload P c 39) $$ HG; iintro %_ HG
  iapply (st_gstore P c 39 40 39 rfl rfl (w := k0_pay56 (xRow P c 39)) (pay56 (xRow P c 39))) $$ HG; iintro HG
  iapply (st_word P c 40 40 rfl (chk := k0_chk41) (chk41W P c 40)) $$ HM; iintro HM
  iapply (step_xload P c 40 (off := k0_off41 (W P c 40)) (off1_src P c 40)) $$ HX; iintro HX
  iapply (step_gload P c 40) $$ HG; iintro %_ HG
  iapply (st_gstore P c 40 41 40 rfl rfl (w := k0_pay57 (xRow P c 40)) (pay57 (xRow P c 40))) $$ HG; iintro HG
  iapply (st_word P c 41 41 rfl (chk := k0_chk42) (chk42W P c 41)) $$ HM; iintro HM
  iapply (step_xload P c 41 (off := k0_off42 (W P c 41)) (off1_src P c 41)) $$ HX; iintro HX
  iapply (step_gload P c 41) $$ HG; iintro %_ HG
  iapply (st_gstore P c 41 42 41 rfl rfl (w := k0_pay58 (xRow P c 41)) (pay58 (xRow P c 41))) $$ HG; iintro HG
  iapply (st_word P c 42 42 rfl (chk := k0_chk43) (chk43W P c 42)) $$ HM; iintro HM
  iapply (step_xload P c 42 (off := k0_off43 (W P c 42)) (off1_src P c 42)) $$ HX; iintro HX
  rw [wp_ret]; imodintro; iapply Hk; iframe

theorem part29 {Q : (Σ' (v958 : Elt F .i32), k0_chk47 v958) → sProp 𝕄} (c : Dev nD) :
    iprop(buf c cc0_stg0_0 (P.X c) ∗ buf c cc0_scratch3 (META P c) ∗ GSt P c 42)
      ⊢ iprop((∀ (k0_hw47 : k0_chk47 (W P c 46)), (buf c cc0_stg0_0 (P.X c) ∗ buf c cc0_scratch3 (META P c) ∗ GSt P c 46) -∗ Q ⟨W P c 46, k0_hw47⟩) -∗ wp frame (wpE (defs₀ (F := F)) 𝒱₀ (c : Thread nD τ) none) Set.univ (k0_part29 xM h0 eM h1 rM h2 oM h3 gM h4 yM h5 vM h6 mM h7 cc0_scratch4 cc0_scratch5 cc0_scratch6 (k0_pay59 (xRow P c 42))) Q) := by
  rw [k0_part29_eq_skeleton]; unfold k0_part29_skel
  simp only [semSignalWord, semWaitWord, smemLoad, smemLoadElt_bind, Prog.lift, Prog.bind_op, Prog.bind_ret, Prog.pure_eq_ret]
  iintro ⟨HX, HM, HG⟩ Hk
  iapply (step_gload P c 42) $$ HG; iintro %_ HG
  iapply (st_gstore P c 42 43 42 rfl rfl (w := k0_pay60 (k0_pay59 (xRow P c 42))) (pay60c (xRow P c 42))) $$ HG; iintro HG
  iapply (st_word P c 43 43 rfl (chk := k0_chk44) (chk44W P c 43)) $$ HM; iintro HM
  iapply (step_xload P c 43 (off := k0_off44 (W P c 43)) (off1_src P c 43)) $$ HX; iintro HX
  iapply (step_gload P c 43) $$ HG; iintro %_ HG
  iapply (st_gstore P c 43 44 43 rfl rfl (w := k0_pay61 (xRow P c 43)) (pay61 (xRow P c 43))) $$ HG; iintro HG
  iapply (st_word P c 44 44 rfl (chk := k0_chk45) (chk45W P c 44)) $$ HM; iintro HM
  iapply (step_xload P c 44 (off := k0_off45 (W P c 44)) (off1_src P c 44)) $$ HX; iintro HX
  iapply (step_gload P c 44) $$ HG; iintro %_ HG
  iapply (st_gstore P c 44 45 44 rfl rfl (w := k0_pay62 (xRow P c 44)) (pay62 (xRow P c 44))) $$ HG; iintro HG
  iapply (st_word P c 45 45 rfl (chk := k0_chk46) (chk46W P c 45)) $$ HM; iintro HM
  iapply (step_xload P c 45 (off := k0_off46 (W P c 45)) (off1_src P c 45)) $$ HX; iintro HX
  iapply (step_gload P c 45) $$ HG; iintro %_ HG
  iapply (st_gstore P c 45 46 45 rfl rfl (w := k0_pay63 (xRow P c 45)) (pay63 (xRow P c 45))) $$ HG; iintro HG
  iapply (st_word P c 46 46 rfl (chk := k0_chk47) (chk47W P c 46)) $$ HM; iintro HM
  rw [wp_ret]; imodintro; iapply Hk; iframe

theorem part30 {Q : (Vec F S12x512 .f32) → sProp 𝕄} (c : Dev nD) {k0_hw47 : k0_chk47 (W P c 46)} :
    iprop(buf c cc0_stg0_0 (P.X c) ∗ buf c cc0_scratch3 (META P c) ∗ GSt P c 46 ∗ buf c cc0_stg1_0 (P.E c) ∗ YSt P c 0)
      ⊢ iprop(((buf c cc0_stg0_0 (P.X c) ∗ buf c cc0_scratch3 (META P c) ∗ GSt P c 48 ∗ buf c cc0_stg1_0 (P.E c) ∗ YSt P c 24) -∗ Q (gBand P c 2)) -∗ wp frame (wpE (defs₀ (F := F)) 𝒱₀ (c : Thread nD τ) none) Set.univ (k0_part30 xM h0 eM h1 rM h2 oM h3 gM h4 yM h5 vM h6 mM h7 cc0_scratch4 cc0_scratch5 cc0_scratch6 (W P c 46) k0_hw47) Q) := by
  rw [k0_part30_eq_skeleton]; unfold k0_part30_skel
  simp only [semSignalWord, semWaitWord, smemLoad, smemLoadElt_bind, Prog.lift, Prog.bind_op, Prog.bind_ret, Prog.pure_eq_ret]
  iintro ⟨HX, HM, HG, HE, HY⟩ Hk
  iapply (step_xload P c 46 (off := k0_off47 (W P c 46)) (off1_src P c 46)) $$ HX; iintro HX
  iapply (step_gload P c 46) $$ HG; iintro %_ HG
  iapply (st_gstore P c 46 47 46 rfl rfl (w := k0_pay64 (xRow P c 46)) (pay64 (xRow P c 46))) $$ HG; iintro HG
  iapply (st_word P c 47 47 rfl (chk := k0_chk48) (chk48W P c 47)) $$ HM; iintro HM
  iapply (step_xload P c 47 (off := k0_off48 (W P c 47)) (off1_src P c 47)) $$ HX; iintro HX
  iapply (step_gload P c 47) $$ HG; iintro %_ HG
  iapply (st_gstore P c 47 48 47 rfl rfl (w := k0_pay65 (xRow P c 47)) (pay65 (xRow P c 47))) $$ HG; iintro HG
  iapply (st_gband P c 0 0 rfl) $$ HG; iintro HG
  iapply (st_eload P c 0 0 rfl) $$ HE; iintro HE
  iapply (step_yload P c 0) $$ HY; iintro %_ HY
  iapply (st_ystore P c 0 12 0 rfl rfl (w := k0_pay66 (gBand P c 0) (eBand P c 0)) (yGroup_eq P c 0)) $$ HY; iintro HY
  iapply (st_gband P c 12 1 rfl) $$ HG; iintro HG
  iapply (st_eload P c 1 1 rfl) $$ HE; iintro HE
  iapply (step_yload P c 12) $$ HY; iintro %_ HY
  iapply (st_ystore P c 12 24 1 rfl rfl (w := k0_pay67 (gBand P c 1) (eBand P c 1)) (yGroup_eq P c 1)) $$ HY; iintro HY
  iapply (st_gband P c 24 2 rfl) $$ HG; iintro HG
  rw [wp_ret]; imodintro; iapply Hk; iframe

end Cert.Route
-- ==== Proof.Words.lean ====
/- The words read for the sends, part by part of the printed body. -/
module

public import proofs.«01_k».proof.Proof.Facts

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)
variable {h0 : (xM : Memref sig .tc .vmem S2048x512 .f32).IsWhole} {h1 : (eM : Memref sig .tc .vmem S4x512x1024 .f32).IsWhole} {h2 : (rM : Memref sig .tc .vmem S1x2048 .i32).IsWhole}
  {h3 : (oM : Memref sig .tc .vmem S64x1024 .f32).IsWhole} {h4 : (gM : Memref sig .tc .vmem S48x512 .f32).IsWhole} {h5 : (yM : Memref sig .tc .vmem S48x1024 .f32).IsWhole}
  {h6 : (vM : Memref sig .tc .vmem S49x1 .i32).IsWhole} {h7 : (mM : Memref sig .tc .smem S49x1 .i32).IsWhole}
variable (κ : GSem nD τ sig → ℕ)

theorem part32 {Q : (Σ' (v1013 : BitVec 32) (v1014 : Elt F .i32) (k0_hw53 : k0_chk53 v1014) (v1016 : BitVec 32) (v1017 : Elt F .i32) (k0_hw54 : k0_chk54 v1017) (v1019 : BitVec 32) (v1020 : Elt F .i32) (k0_hw55 : k0_chk55 v1020) (v1022 : BitVec 32) (v1023 : Elt F .i32) (k0_hw56 : k0_chk56 v1023) (v1025 : BitVec 32) (v1026 : Elt F .i32) (k0_hw57 : k0_chk57 v1026) (v1028 : BitVec 32) (v1029 : Elt F .i32) (k0_hw58 : k0_chk58 v1029) (v1031 : BitVec 32) (v1032 : Elt F .i32) (k0_hw59 : k0_chk59 v1032), BitVec 32) → sProp 𝕄} (c : Dev nD) {c64_i32_613 : BitVec 32} :
    buf c cc0_scratch3 (META P c)
      ⊢ iprop((∀ (r0 : BitVec 32) (k0_hw53 : k0_chk53 (W P c 4)) (r3 : BitVec 32) (k0_hw54 : k0_chk54 (W P c 5)) (r6 : BitVec 32) (k0_hw55 : k0_chk55 (W P c 6)) (r9 : BitVec 32) (k0_hw56 : k0_chk56 (W P c 7)) (r12 : BitVec 32) (k0_hw57 : k0_chk57 (W P c 8)) (r15 : BitVec 32) (k0_hw58 : k0_chk58 (W P c 9)) (r18 : BitVec 32) (k0_hw59 : k0_chk59 (W P c 10)) (r21 : BitVec 32), buf c cc0_scratch3 (META P c) -∗ Q ⟨r0, W P c 4, k0_hw53, r3, W P c 5, k0_hw54, r6, W P c 6, k0_hw55, r9, W P c 7, k0_hw56, r12, W P c 8, k0_hw57, r15, W P c 9, k0_hw58, r18, W P c 10, k0_hw59, r21⟩) -∗ wp frame (wpE (defs₀ (F := F)) 𝒱₀ (c : Thread nD τ) none) Set.univ (k0_part32 xM h0 eM h1 rM h2 oM h3 gM h4 yM h5 vM h6 mM h7 cc0_scratch4 cc0_scratch5 cc0_scratch6 (W P c 3) c64_i32_613) Q) := by
  rw [k0_part32_eq_skeleton]; unfold k0_part32_skel
  simp only [semSignalWord, semWaitWord, smemLoad, smemLoadElt_bind, Prog.lift, Prog.bind_op, Prog.bind_ret, Prog.pure_eq_ret]
  iintro HM Hk
  iapply (st_word P c 4 4 rfl (chk := k0_chk53) (chk53W P c 4)) $$ HM; iintro HM
  iapply (st_word P c 5 5 rfl (chk := k0_chk54) (chk54W P c 5)) $$ HM; iintro HM
  iapply (st_word P c 6 6 rfl (chk := k0_chk55) (chk55W P c 6)) $$ HM; iintro HM
  iapply (st_word P c 7 7 rfl (chk := k0_chk56) (chk56W P c 7)) $$ HM; iintro HM
  iapply (st_word P c 8 8 rfl (chk := k0_chk57) (chk57W P c 8)) $$ HM; iintro HM
  iapply (st_word P c 9 9 rfl (chk := k0_chk58) (chk58W P c 9)) $$ HM; iintro HM
  iapply (st_word P c 10 10 rfl (chk := k0_chk59) (chk59W P c 10)) $$ HM; iintro HM
  rw [wp_ret]; imodintro; iapply Hk; iexact HM

theorem part33 {Q : (Σ' (v1035 : Elt F .i32) (k0_hw60 : k0_chk60 v1035) (v1037 : BitVec 32) (v1038 : Elt F .i32) (k0_hw61 : k0_chk61 v1038) (v1040 : BitVec 32) (v1041 : Elt F .i32) (k0_hw62 : k0_chk62 v1041) (v1043 : BitVec 32) (v1044 : Elt F .i32) (k0_hw63 : k0_chk63 v1044) (v1046 : BitVec 32) (v1047 : Elt F .i32) (k0_hw64 : k0_chk64 v1047) (v1049 : BitVec 32) (v1050 : Elt F .i32) (k0_hw65 : k0_chk65 v1050) (v1052 : BitVec 32) (v1053 : Elt F .i32) (k0_hw66 : k0_chk66 v1053) (v1055 : BitVec 32) (v1056 : Elt F .i32) (k0_hw67 : k0_chk67 v1056), BitVec 32) → sProp 𝕄} (c : Dev nD) :
    buf c cc0_scratch3 (META P c)
      ⊢ iprop((∀ (k0_hw60 : k0_chk60 (W P c 11)) (r2 : BitVec 32) (k0_hw61 : k0_chk61 (W P c 12)) (r5 : BitVec 32) (k0_hw62 : k0_chk62 (W P c 13)) (r8 : BitVec 32) (k0_hw63 : k0_chk63 (W P c 14)) (r11 : BitVec 32) (k0_hw64 : k0_chk64 (W P c 15)) (r14 : BitVec 32) (k0_hw65 : k0_chk65 (W P c 16)) (r17 : BitVec 32) (k0_hw66 : k0_chk66 (W P c 17)) (r20 : BitVec 32) (k0_hw67 : k0_chk67 (W P c 18)) (r23 : BitVec 32), buf c cc0_scratch3 (META P c) -∗ Q ⟨W P c 11, k0_hw60, r2, W P c 12, k0_hw61, r5, W P c 13, k0_hw62, r8, W P c 14, k0_hw63, r11, W P c 15, k0_hw64, r14, W P c 16, k0_hw65, r17, W P c 17, k0_hw66, r20, W P c 18, k0_hw67, r23⟩) -∗ wp frame (wpE (defs₀ (F := F)) 𝒱₀ (c : Thread nD τ) none) Set.univ (k0_part33 xM h0 eM h1 rM h2 oM h3 gM h4 yM h5 vM h6 mM h7 cc0_scratch4 cc0_scratch5 cc0_scratch6) Q) := by
  rw [k0_part33_eq_skeleton]; unfold k0_part33_skel
  simp only [semSignalWord, semWaitWord, smemLoad, smemLoadElt_bind, Prog.lift, Prog.bind_op, Prog.bind_ret, Prog.pure_eq_ret]
  iintro HM Hk
  iapply (st_word P c 11 11 rfl (chk := k0_chk60) (chk60W P c 11)) $$ HM; iintro HM
  iapply (st_word P c 12 12 rfl (chk := k0_chk61) (chk61W P c 12)) $$ HM; iintro HM
  iapply (st_word P c 13 13 rfl (chk := k0_chk62) (chk62W P c 13)) $$ HM; iintro HM
  iapply (st_word P c 14 14 rfl (chk := k0_chk63) (chk63W P c 14)) $$ HM; iintro HM
  iapply (st_word P c 15 15 rfl (chk := k0_chk64) (chk64W P c 15)) $$ HM; iintro HM
  iapply (st_word P c 16 16 rfl (chk := k0_chk65) (chk65W P c 16)) $$ HM; iintro HM
  iapply (st_word P c 17 17 rfl (chk := k0_chk66) (chk66W P c 17)) $$ HM; iintro HM
  iapply (st_word P c 18 18 rfl (chk := k0_chk67) (chk67W P c 18)) $$ HM; iintro HM
  rw [wp_ret]; imodintro; iapply Hk; iexact HM

theorem part34 {Q : (Σ' (v1058 : BitVec 32) (v1059 : Elt F .i32) (k0_hw68 : k0_chk68 v1059) (v1061 : BitVec 32) (v1062 : Elt F .i32) (k0_hw69 : k0_chk69 v1062) (v1064 : BitVec 32) (v1065 : Elt F .i32) (k0_hw70 : k0_chk70 v1065) (v1067 : BitVec 32) (v1068 : Elt F .i32) (k0_hw71 : k0_chk71 v1068) (v1070 : BitVec 32) (v1071 : Elt F .i32) (k0_hw72 : k0_chk72 v1071) (v1073 : BitVec 32) (v1074 : Elt F .i32) (k0_hw73 : k0_chk73 v1074) (v1076 : BitVec 32) (v1077 : Elt F .i32) (k0_hw74 : k0_chk74 v1077), BitVec 32) → sProp 𝕄} (c : Dev nD) {c64_i32_673 : BitVec 32} :
    buf c cc0_scratch3 (META P c)
      ⊢ iprop((∀ (r0 : BitVec 32) (k0_hw68 : k0_chk68 (W P c 19)) (r3 : BitVec 32) (k0_hw69 : k0_chk69 (W P c 20)) (r6 : BitVec 32) (k0_hw70 : k0_chk70 (W P c 21)) (r9 : BitVec 32) (k0_hw71 : k0_chk71 (W P c 22)) (r12 : BitVec 32) (k0_hw72 : k0_chk72 (W P c 23)) (r15 : BitVec 32) (k0_hw73 : k0_chk73 (W P c 24)) (r18 : BitVec 32) (k0_hw74 : k0_chk74 (W P c 25)) (r21 : BitVec 32), buf c cc0_scratch3 (META P c) -∗ Q ⟨r0, W P c 19, k0_hw68, r3, W P c 20, k0_hw69, r6, W P c 21, k0_hw70, r9, W P c 22, k0_hw71, r12, W P c 23, k0_hw72, r15, W P c 24, k0_hw73, r18, W P c 25, k0_hw74, r21⟩) -∗ wp frame (wpE (defs₀ (F := F)) 𝒱₀ (c : Thread nD τ) none) Set.univ (k0_part34 xM h0 eM h1 rM h2 oM h3 gM h4 yM h5 vM h6 mM h7 cc0_scratch4 cc0_scratch5 cc0_scratch6 (W P c 18) c64_i32_673) Q) := by
  rw [k0_part34_eq_skeleton]; unfold k0_part34_skel
  simp only [semSignalWord, semWaitWord, smemLoad, smemLoadElt_bind, Prog.lift, Prog.bind_op, Prog.bind_ret, Prog.pure_eq_ret]
  iintro HM Hk
  iapply (st_word P c 19 19 rfl (chk := k0_chk68) (chk68W P c 19)) $$ HM; iintro HM
  iapply (st_word P c 20 20 rfl (chk := k0_chk69) (chk69W P c 20)) $$ HM; iintro HM
  iapply (st_word P c 21 21 rfl (chk := k0_chk70) (chk70W P c 21)) $$ HM; iintro HM
  iapply (st_word P c 22 22 rfl (chk := k0_chk71) (chk71W P c 22)) $$ HM; iintro HM
  iapply (st_word P c 23 23 rfl (chk := k0_chk72) (chk72W P c 23)) $$ HM; iintro HM
  iapply (st_word P c 24 24 rfl (chk := k0_chk73) (chk73W P c 24)) $$ HM; iintro HM
  iapply (st_word P c 25 25 rfl (chk := k0_chk74) (chk74W P c 25)) $$ HM; iintro HM
  rw [wp_ret]; imodintro; iapply Hk; iexact HM

theorem part35 {Q : (Σ' (v1080 : Elt F .i32) (k0_hw75 : k0_chk75 v1080) (v1082 : BitVec 32) (v1083 : Elt F .i32) (k0_hw76 : k0_chk76 v1083) (v1085 : BitVec 32) (v1086 : Elt F .i32) (k0_hw77 : k0_chk77 v1086) (v1088 : BitVec 32) (v1089 : Elt F .i32) (k0_hw78 : k0_chk78 v1089) (v1091 : BitVec 32) (v1092 : Elt F .i32) (k0_hw79 : k0_chk79 v1092) (v1094 : BitVec 32) (v1095 : Elt F .i32) (k0_hw80 : k0_chk80 v1095) (v1097 : BitVec 32) (v1098 : Elt F .i32) (k0_hw81 : k0_chk81 v1098) (v1100 : BitVec 32) (v1101 : Elt F .i32) (k0_hw82 : k0_chk82 v1101), BitVec 32) → sProp 𝕄} (c : Dev nD) :
    buf c cc0_scratch3 (META P c)
      ⊢ iprop((∀ (k0_hw75 : k0_chk75 (W P c 26)) (r2 : BitVec 32) (k0_hw76 : k0_chk76 (W P c 27)) (r5 : BitVec 32) (k0_hw77 : k0_chk77 (W P c 28)) (r8 : BitVec 32) (k0_hw78 : k0_chk78 (W P c 29)) (r11 : BitVec 32) (k0_hw79 : k0_chk79 (W P c 30)) (r14 : BitVec 32) (k0_hw80 : k0_chk80 (W P c 31)) (r17 : BitVec 32) (k0_hw81 : k0_chk81 (W P c 32)) (r20 : BitVec 32) (k0_hw82 : k0_chk82 (W P c 33)) (r23 : BitVec 32), buf c cc0_scratch3 (META P c) -∗ Q ⟨W P c 26, k0_hw75, r2, W P c 27, k0_hw76, r5, W P c 28, k0_hw77, r8, W P c 29, k0_hw78, r11, W P c 30, k0_hw79, r14, W P c 31, k0_hw80, r17, W P c 32, k0_hw81, r20, W P c 33, k0_hw82, r23⟩) -∗ wp frame (wpE (defs₀ (F := F)) 𝒱₀ (c : Thread nD τ) none) Set.univ (k0_part35 xM h0 eM h1 rM h2 oM h3 gM h4 yM h5 vM h6 mM h7 cc0_scratch4 cc0_scratch5 cc0_scratch6) Q) := by
  rw [k0_part35_eq_skeleton]; unfold k0_part35_skel
  simp only [semSignalWord, semWaitWord, smemLoad, smemLoadElt_bind, Prog.lift, Prog.bind_op, Prog.bind_ret, Prog.pure_eq_ret]
  iintro HM Hk
  iapply (st_word P c 26 26 rfl (chk := k0_chk75) (chk75W P c 26)) $$ HM; iintro HM
  iapply (st_word P c 27 27 rfl (chk := k0_chk76) (chk76W P c 27)) $$ HM; iintro HM
  iapply (st_word P c 28 28 rfl (chk := k0_chk77) (chk77W P c 28)) $$ HM; iintro HM
  iapply (st_word P c 29 29 rfl (chk := k0_chk78) (chk78W P c 29)) $$ HM; iintro HM
  iapply (st_word P c 30 30 rfl (chk := k0_chk79) (chk79W P c 30)) $$ HM; iintro HM
  iapply (st_word P c 31 31 rfl (chk := k0_chk80) (chk80W P c 31)) $$ HM; iintro HM
  iapply (st_word P c 32 32 rfl (chk := k0_chk81) (chk81W P c 32)) $$ HM; iintro HM
  iapply (st_word P c 33 33 rfl (chk := k0_chk82) (chk82W P c 33)) $$ HM; iintro HM
  rw [wp_ret]; imodintro; iapply Hk; iexact HM

theorem part36 {Q : (Σ' (v1103 : BitVec 32) (v1104 : Elt F .i32) (k0_hw83 : k0_chk83 v1104) (v1106 : BitVec 32) (v1107 : Elt F .i32) (k0_hw84 : k0_chk84 v1107) (v1109 : BitVec 32) (v1110 : Elt F .i32) (k0_hw85 : k0_chk85 v1110) (v1112 : BitVec 32) (v1113 : Elt F .i32) (k0_hw86 : k0_chk86 v1113) (v1115 : BitVec 32) (v1116 : Elt F .i32) (k0_hw87 : k0_chk87 v1116) (v1118 : BitVec 32) (v1119 : Elt F .i32) (k0_hw88 : k0_chk88 v1119) (v1121 : BitVec 32) (v1122 : Elt F .i32) (k0_hw89 : k0_chk89 v1122), BitVec 32) → sProp 𝕄} (c : Dev nD) {c64_i32_733 : BitVec 32} :
    buf c cc0_scratch3 (META P c)
      ⊢ iprop((∀ (r0 : BitVec 32) (k0_hw83 : k0_chk83 (W P c 34)) (r3 : BitVec 32) (k0_hw84 : k0_chk84 (W P c 35)) (r6 : BitVec 32) (k0_hw85 : k0_chk85 (W P c 36)) (r9 : BitVec 32) (k0_hw86 : k0_chk86 (W P c 37)) (r12 : BitVec 32) (k0_hw87 : k0_chk87 (W P c 38)) (r15 : BitVec 32) (k0_hw88 : k0_chk88 (W P c 39)) (r18 : BitVec 32) (k0_hw89 : k0_chk89 (W P c 40)) (r21 : BitVec 32), buf c cc0_scratch3 (META P c) -∗ Q ⟨r0, W P c 34, k0_hw83, r3, W P c 35, k0_hw84, r6, W P c 36, k0_hw85, r9, W P c 37, k0_hw86, r12, W P c 38, k0_hw87, r15, W P c 39, k0_hw88, r18, W P c 40, k0_hw89, r21⟩) -∗ wp frame (wpE (defs₀ (F := F)) 𝒱₀ (c : Thread nD τ) none) Set.univ (k0_part36 xM h0 eM h1 rM h2 oM h3 gM h4 yM h5 vM h6 mM h7 cc0_scratch4 cc0_scratch5 cc0_scratch6 (W P c 33) c64_i32_733) Q) := by
  rw [k0_part36_eq_skeleton]; unfold k0_part36_skel
  simp only [semSignalWord, semWaitWord, smemLoad, smemLoadElt_bind, Prog.lift, Prog.bind_op, Prog.bind_ret, Prog.pure_eq_ret]
  iintro HM Hk
  iapply (st_word P c 34 34 rfl (chk := k0_chk83) (chk83W P c 34)) $$ HM; iintro HM
  iapply (st_word P c 35 35 rfl (chk := k0_chk84) (chk84W P c 35)) $$ HM; iintro HM
  iapply (st_word P c 36 36 rfl (chk := k0_chk85) (chk85W P c 36)) $$ HM; iintro HM
  iapply (st_word P c 37 37 rfl (chk := k0_chk86) (chk86W P c 37)) $$ HM; iintro HM
  iapply (st_word P c 38 38 rfl (chk := k0_chk87) (chk87W P c 38)) $$ HM; iintro HM
  iapply (st_word P c 39 39 rfl (chk := k0_chk88) (chk88W P c 39)) $$ HM; iintro HM
  iapply (st_word P c 40 40 rfl (chk := k0_chk89) (chk89W P c 40)) $$ HM; iintro HM
  rw [wp_ret]; imodintro; iapply Hk; iexact HM

theorem part37 {Q : (Σ' (v1125 : Elt F .i32) (k0_hw90 : k0_chk90 v1125) (v1127 : BitVec 32) (v1128 : Elt F .i32) (k0_hw91 : k0_chk91 v1128) (v1130 : BitVec 32) (v1131 : Elt F .i32) (k0_hw92 : k0_chk92 v1131) (v1133 : BitVec 32) (v1134 : Elt F .i32) (k0_hw93 : k0_chk93 v1134) (v1136 : BitVec 32) (v1137 : Elt F .i32) (k0_hw94 : k0_chk94 v1137) (v1139 : BitVec 32) (v1140 : Elt F .i32) (k0_hw95 : k0_chk95 v1140) (v1142 : BitVec 32) (v1143 : Elt F .i32) (k0_hw96 : k0_chk96 v1143) (v1145 : BitVec 32) (v1147 : BitVec 32), BitVec 32) → sProp 𝕄} (c : Dev nD) :
    buf c cc0_scratch3 (META P c)
      ⊢ iprop((∀ (k0_hw90 : k0_chk90 (W P c 41)) (r2 : BitVec 32) (k0_hw91 : k0_chk91 (W P c 42)) (r5 : BitVec 32) (k0_hw92 : k0_chk92 (W P c 43)) (r8 : BitVec 32) (k0_hw93 : k0_chk93 (W P c 44)) (r11 : BitVec 32) (k0_hw94 : k0_chk94 (W P c 45)) (r14 : BitVec 32) (k0_hw95 : k0_chk95 (W P c 46)) (r17 : BitVec 32) (k0_hw96 : k0_chk96 (W P c 47)) (r20 : BitVec 32) (r21 : BitVec 32) (r22 : BitVec 32), buf c cc0_scratch3 (META P c) -∗ Q ⟨W P c 41, k0_hw90, r2, W P c 42, k0_hw91, r5, W P c 43, k0_hw92, r8, W P c 44, k0_hw93, r11, W P c 45, k0_hw94, r14, W P c 46, k0_hw95, r17, W P c 47, k0_hw96, r20, r21, r22⟩) -∗ wp frame (wpE (defs₀ (F := F)) 𝒱₀ (c : Thread nD τ) none) Set.univ (k0_part37 xM h0 eM h1 rM h2 oM h3 gM h4 yM h5 vM h6 mM h7 cc0_scratch4 cc0_scratch5 cc0_scratch6 (W P c 0)) Q) := by
  rw [k0_part37_eq_skeleton]; unfold k0_part37_skel
  simp only [semSignalWord, semWaitWord, smemLoad, smemLoadElt_bind, Prog.lift, Prog.bind_op, Prog.bind_ret, Prog.pure_eq_ret]
  iintro HM Hk
  iapply (st_word P c 41 41 rfl (chk := k0_chk90) (chk90W P c 41)) $$ HM; iintro HM
  iapply (st_word P c 42 42 rfl (chk := k0_chk91) (chk91W P c 42)) $$ HM; iintro HM
  iapply (st_word P c 43 43 rfl (chk := k0_chk92) (chk92W P c 43)) $$ HM; iintro HM
  iapply (st_word P c 44 44 rfl (chk := k0_chk93) (chk93W P c 44)) $$ HM; iintro HM
  iapply (st_word P c 45 45 rfl (chk := k0_chk94) (chk94W P c 45)) $$ HM; iintro HM
  iapply (st_word P c 46 46 rfl (chk := k0_chk95) (chk95W P c 46)) $$ HM; iintro HM
  iapply (st_word P c 47 47 rfl (chk := k0_chk96) (chk96W P c 47)) $$ HM; iintro HM
  rw [wp_ret]; imodintro; iapply Hk; iexact HM

end Cert.Route
-- ==== Proof.Sends.lean ====
/- The sends and the waits for them, part by part of the printed body. -/
module

public import proofs.«01_k».proof.Proof.Facts

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)
variable {h0 : (xM : Memref sig .tc .vmem S2048x512 .f32).IsWhole} {h1 : (eM : Memref sig .tc .vmem S4x512x1024 .f32).IsWhole} {h2 : (rM : Memref sig .tc .vmem S1x2048 .i32).IsWhole}
  {h3 : (oM : Memref sig .tc .vmem S64x1024 .f32).IsWhole} {h4 : (gM : Memref sig .tc .vmem S48x512 .f32).IsWhole} {h5 : (yM : Memref sig .tc .vmem S48x1024 .f32).IsWhole}
  {h6 : (vM : Memref sig .tc .vmem S49x1 .i32).IsWhole} {h7 : (mM : Memref sig .tc .smem S49x1 .i32).IsWhole}
variable (κ : GSem nD τ sig → ℕ)

theorem part38 {Q : (BitVec 1) → sProp 𝕄} (c : Dev nD) {k0_hw49 : k0_chk49 (W P c 0)} {v1004 : BitVec 32} {k0_hw50 : k0_chk50 (W P c 1)} {v1007 : BitVec 32} {k0_hw51 : k0_chk51 (W P c 2)} {v1010 : BitVec 32} {k0_hw52 : k0_chk52 (W P c 3)} {v1013 : BitVec 32} {k0_hw53 : k0_chk53 (W P c 4)} {v1016 : BitVec 32} {k0_hw54 : k0_chk54 (W P c 5)} {v1019 : BitVec 32} {k0_hw55 : k0_chk55 (W P c 6)} {v1022 : BitVec 32} {k0_hw56 : k0_chk56 (W P c 7)} {v1025 : BitVec 32} {k0_hw57 : k0_chk57 (W P c 8)} {v1028 : BitVec 32} {v1147 : BitVec 32} {c0_i32_793 : BitVec 32} :
    iprop(records P κ ∗ SendSt P c 0)
      ⊢ iprop((∀ (r : BitVec 1), SendSt P c 9 -∗ Q r) -∗ wp frame (wpE (defs₀ (F := F)) 𝒱₀ (c : Thread nD τ) none) Set.univ (k0_part38 xM h0 eM h1 rM h2 oM h3 gM h4 yM h5 vM h6 mM h7 cc0_scratch4 cc0_scratch5 cc0_scratch6 (W P c 0) k0_hw49 v1004 (W P c 1) k0_hw50 v1007 (W P c 2) k0_hw51 v1010 (W P c 3) k0_hw52 v1013 (W P c 4) k0_hw53 v1016 (W P c 5) k0_hw54 v1019 (W P c 6) k0_hw55 v1022 (W P c 7) k0_hw56 v1025 (W P c 8) k0_hw57 v1028 (W P c 9) v1147 c0_i32_793) Q) := by
  rw [k0_part38_eq_skeleton]; unfold k0_part38_skel
  iintro ⟨#HR, HD⟩ Hk
  iapply (st_send P κ c 0 1 0 rfl rfl (cnd := k0_cond1 (W P c 0) = 1#1) Iff.rfl (d := fun h => ⟨k0_dev32 (W P c 0), k0_dev32_lt (W P c 0) k0_hw49 h⟩) (fun h => send_d P c 0 h)
    (o := fun h => oM.slice (Rect.unit (s := S64x1024) (k0_off49 (W P c 0)) S1x1024.size (k0_off49_inb (W P c 0) k0_hw49 h)) (fun _ => rfl)) (fun h => send_o P c 0 h) (y := yRow 0) rfl (sS := sendSem 0) rfl) $$ [$HR $HD]; iintro HD
  iapply (st_send P κ c 1 2 1 rfl rfl (cnd := k0_cond2 (W P c 1) = 1#1) Iff.rfl (d := fun h => ⟨k0_dev33 (W P c 1), k0_dev33_lt (W P c 1) k0_hw50 h⟩) (fun h => send_d P c 1 h)
    (o := fun h => oM.slice (Rect.unit (s := S64x1024) (k0_off50 (W P c 1)) S1x1024.size (k0_off50_inb (W P c 1) k0_hw50 h)) (fun _ => rfl)) (fun h => send_o P c 1 h) (y := yRow 1) rfl (sS := sendSem 1) rfl) $$ [$HR $HD]; iintro HD
  iapply (st_send P κ c 2 3 2 rfl rfl (cnd := k0_cond3 (W P c 2) = 1#1) Iff.rfl (d := fun h => ⟨k0_dev34 (W P c 2), k0_dev34_lt (W P c 2) k0_hw51 h⟩) (fun h => send_d P c 2 h)
    (o := fun h => oM.slice (Rect.unit (s := S64x1024) (k0_off51 (W P c 2)) S1x1024.size (k0_off51_inb (W P c 2) k0_hw51 h)) (fun _ => rfl)) (fun h => send_o P c 2 h) (y := yRow 2) rfl (sS := sendSem 2) rfl) $$ [$HR $HD]; iintro HD
  iapply (st_send P κ c 3 4 3 rfl rfl (cnd := k0_cond4 (W P c 3) = 1#1) Iff.rfl (d := fun h => ⟨k0_dev35 (W P c 3), k0_dev35_lt (W P c 3) k0_hw52 h⟩) (fun h => send_d P c 3 h)
    (o := fun h => oM.slice (Rect.unit (s := S64x1024) (k0_off52 (W P c 3)) S1x1024.size (k0_off52_inb (W P c 3) k0_hw52 h)) (fun _ => rfl)) (fun h => send_o P c 3 h) (y := yRow 3) rfl (sS := sendSem 3) rfl) $$ [$HR $HD]; iintro HD
  iapply (st_send P κ c 4 5 4 rfl rfl (cnd := k0_cond5 (W P c 4) = 1#1) Iff.rfl (d := fun h => ⟨k0_dev36 (W P c 4), k0_dev36_lt (W P c 4) k0_hw53 h⟩) (fun h => send_d P c 4 h)
    (o := fun h => oM.slice (Rect.unit (s := S64x1024) (k0_off53 (W P c 4)) S1x1024.size (k0_off53_inb (W P c 4) k0_hw53 h)) (fun _ => rfl)) (fun h => send_o P c 4 h) (y := yRow 4) rfl (sS := sendSem 4) rfl) $$ [$HR $HD]; iintro HD
  iapply (st_send P κ c 5 6 5 rfl rfl (cnd := k0_cond6 (W P c 5) = 1#1) Iff.rfl (d := fun h => ⟨k0_dev37 (W P c 5), k0_dev37_lt (W P c 5) k0_hw54 h⟩) (fun h => send_d P c 5 h)
    (o := fun h => oM.slice (Rect.unit (s := S64x1024) (k0_off54 (W P c 5)) S1x1024.size (k0_off54_inb (W P c 5) k0_hw54 h)) (fun _ => rfl)) (fun h => send_o P c 5 h) (y := yRow 5) rfl (sS := sendSem 5) rfl) $$ [$HR $HD]; iintro HD
  iapply (st_send P κ c 6 7 6 rfl rfl (cnd := k0_cond7 (W P c 6) = 1#1) Iff.rfl (d := fun h => ⟨k0_dev38 (W P c 6), k0_dev38_lt (W P c 6) k0_hw55 h⟩) (fun h => send_d P c 6 h)
    (o := fun h => oM.slice (Rect.unit (s := S64x1024) (k0_off55 (W P c 6)) S1x1024.size (k0_off55_inb (W P c 6) k0_hw55 h)) (fun _ => rfl)) (fun h => send_o P c 6 h) (y := yRow 6) rfl (sS := sendSem 6) rfl) $$ [$HR $HD]; iintro HD
  iapply (st_send P κ c 7 8 7 rfl rfl (cnd := k0_cond8 (W P c 7) = 1#1) Iff.rfl (d := fun h => ⟨k0_dev39 (W P c 7), k0_dev39_lt (W P c 7) k0_hw56 h⟩) (fun h => send_d P c 7 h)
    (o := fun h => oM.slice (Rect.unit (s := S64x1024) (k0_off56 (W P c 7)) S1x1024.size (k0_off56_inb (W P c 7) k0_hw56 h)) (fun _ => rfl)) (fun h => send_o P c 7 h) (y := yRow 7) rfl (sS := sendSem 7) rfl) $$ [$HR $HD]; iintro HD
  iapply (st_send P κ c 8 9 8 rfl rfl (cnd := k0_cond9 (W P c 8) = 1#1) Iff.rfl (d := fun h => ⟨k0_dev40 (W P c 8), k0_dev40_lt (W P c 8) k0_hw57 h⟩) (fun h => send_d P c 8 h)
    (o := fun h => oM.slice (Rect.unit (s := S64x1024) (k0_off57 (W P c 8)) S1x1024.size (k0_off57_inb (W P c 8) k0_hw57 h)) (fun _ => rfl)) (fun h => send_o P c 8 h) (y := yRow 8) rfl (sS := sendSem 8) rfl) $$ [$HR $HD]; iintro HD
  iapply st_ret; iapply Hk; iexact HD

theorem part39 {Q : (PUnit) → sProp 𝕄} (c : Dev nD) {k0_hw58 : k0_chk58 (W P c 9)} {v1031 : BitVec 32} {k0_hw59 : k0_chk59 (W P c 10)} {v1034 : BitVec 32} {k0_hw60 : k0_chk60 (W P c 11)} {v1037 : BitVec 32} {k0_hw61 : k0_chk61 (W P c 12)} {v1040 : BitVec 32} {k0_hw62 : k0_chk62 (W P c 13)} {v1043 : BitVec 32} {k0_hw63 : k0_chk63 (W P c 14)} {v1046 : BitVec 32} {k0_hw64 : k0_chk64 (W P c 15)} {v1049 : BitVec 32} {k0_hw65 : k0_chk65 (W P c 16)} {v1052 : BitVec 32} {v1173 : BitVec 1} :
    iprop(records P κ ∗ SendSt P c 9)
      ⊢ iprop((SendSt P c 17 -∗ Q ⟨⟩) -∗ wp frame (wpE (defs₀ (F := F)) 𝒱₀ (c : Thread nD τ) none) Set.univ (k0_part39 xM h0 eM h1 rM h2 oM h3 gM h4 yM h5 vM h6 mM h7 cc0_scratch4 cc0_scratch5 cc0_scratch6 (W P c 9) k0_hw58 v1031 (W P c 10) k0_hw59 v1034 (W P c 11) k0_hw60 v1037 (W P c 12) k0_hw61 v1040 (W P c 13) k0_hw62 v1043 (W P c 14) k0_hw63 v1046 (W P c 15) k0_hw64 v1049 (W P c 16) k0_hw65 v1052 (W P c 17) v1173) Q) := by
  rw [k0_part39_eq_skeleton]; unfold k0_part39_skel
  iintro ⟨#HR, HD⟩ Hk
  iapply (st_send P κ c 9 10 9 rfl rfl (cnd := k0_cond10 (W P c 9) = 1#1) Iff.rfl (d := fun h => ⟨k0_dev41 (W P c 9), k0_dev41_lt (W P c 9) k0_hw58 h⟩) (fun h => send_d P c 9 h)
    (o := fun h => oM.slice (Rect.unit (s := S64x1024) (k0_off58 (W P c 9)) S1x1024.size (k0_off58_inb (W P c 9) k0_hw58 h)) (fun _ => rfl)) (fun h => send_o P c 9 h) (y := yRow 9) rfl (sS := sendSem 9) rfl) $$ [$HR $HD]; iintro HD
  iapply (st_send P κ c 10 11 10 rfl rfl (cnd := k0_cond11 (W P c 10) = 1#1) Iff.rfl (d := fun h => ⟨k0_dev42 (W P c 10), k0_dev42_lt (W P c 10) k0_hw59 h⟩) (fun h => send_d P c 10 h)
    (o := fun h => oM.slice (Rect.unit (s := S64x1024) (k0_off59 (W P c 10)) S1x1024.size (k0_off59_inb (W P c 10) k0_hw59 h)) (fun _ => rfl)) (fun h => send_o P c 10 h) (y := yRow 10) rfl (sS := sendSem 10) rfl) $$ [$HR $HD]; iintro HD
  iapply (st_send P κ c 11 12 11 rfl rfl (cnd := k0_cond12 (W P c 11) = 1#1) Iff.rfl (d := fun h => ⟨k0_dev43 (W P c 11), k0_dev43_lt (W P c 11) k0_hw60 h⟩) (fun h => send_d P c 11 h)
    (o := fun h => oM.slice (Rect.unit (s := S64x1024) (k0_off60 (W P c 11)) S1x1024.size (k0_off60_inb (W P c 11) k0_hw60 h)) (fun _ => rfl)) (fun h => send_o P c 11 h) (y := yRow 11) rfl (sS := sendSem 11) rfl) $$ [$HR $HD]; iintro HD
  iapply (st_send P κ c 12 13 12 rfl rfl (cnd := k0_cond13 (W P c 12) = 1#1) Iff.rfl (d := fun h => ⟨k0_dev44 (W P c 12), k0_dev44_lt (W P c 12) k0_hw61 h⟩) (fun h => send_d P c 12 h)
    (o := fun h => oM.slice (Rect.unit (s := S64x1024) (k0_off61 (W P c 12)) S1x1024.size (k0_off61_inb (W P c 12) k0_hw61 h)) (fun _ => rfl)) (fun h => send_o P c 12 h) (y := yRow 12) rfl (sS := sendSem 12) rfl) $$ [$HR $HD]; iintro HD
  iapply (st_send P κ c 13 14 13 rfl rfl (cnd := k0_cond14 (W P c 13) = 1#1) Iff.rfl (d := fun h => ⟨k0_dev45 (W P c 13), k0_dev45_lt (W P c 13) k0_hw62 h⟩) (fun h => send_d P c 13 h)
    (o := fun h => oM.slice (Rect.unit (s := S64x1024) (k0_off62 (W P c 13)) S1x1024.size (k0_off62_inb (W P c 13) k0_hw62 h)) (fun _ => rfl)) (fun h => send_o P c 13 h) (y := yRow 13) rfl (sS := sendSem 13) rfl) $$ [$HR $HD]; iintro HD
  iapply (st_send P κ c 14 15 14 rfl rfl (cnd := k0_cond15 (W P c 14) = 1#1) Iff.rfl (d := fun h => ⟨k0_dev46 (W P c 14), k0_dev46_lt (W P c 14) k0_hw63 h⟩) (fun h => send_d P c 14 h)
    (o := fun h => oM.slice (Rect.unit (s := S64x1024) (k0_off63 (W P c 14)) S1x1024.size (k0_off63_inb (W P c 14) k0_hw63 h)) (fun _ => rfl)) (fun h => send_o P c 14 h) (y := yRow 14) rfl (sS := sendSem 14) rfl) $$ [$HR $HD]; iintro HD
  iapply (st_send P κ c 15 16 15 rfl rfl (cnd := k0_cond16 (W P c 15) = 1#1) Iff.rfl (d := fun h => ⟨k0_dev47 (W P c 15), k0_dev47_lt (W P c 15) k0_hw64 h⟩) (fun h => send_d P c 15 h)
    (o := fun h => oM.slice (Rect.unit (s := S64x1024) (k0_off64 (W P c 15)) S1x1024.size (k0_off64_inb (W P c 15) k0_hw64 h)) (fun _ => rfl)) (fun h => send_o P c 15 h) (y := yRow 15) rfl (sS := sendSem 15) rfl) $$ [$HR $HD]; iintro HD
  iapply (st_send P κ c 16 17 16 rfl rfl (cnd := k0_cond17 (W P c 16) = 1#1) Iff.rfl (d := fun h => ⟨k0_dev48 (W P c 16), k0_dev48_lt (W P c 16) k0_hw65 h⟩) (fun h => send_d P c 16 h)
    (o := fun h => oM.slice (Rect.unit (s := S64x1024) (k0_off65 (W P c 16)) S1x1024.size (k0_off65_inb (W P c 16) k0_hw65 h)) (fun _ => rfl)) (fun h => send_o P c 16 h) (y := yRow 16) rfl (sS := sendSem 16) rfl) $$ [$HR $HD]; iintro HD
  iapply st_ret; iapply Hk; iexact HD

theorem part40 {Q : (BitVec 32) → sProp 𝕄} (c : Dev nD) {k0_hw66 : k0_chk66 (W P c 17)} {v1055 : BitVec 32} {k0_hw67 : k0_chk67 (W P c 18)} {v1058 : BitVec 32} {k0_hw68 : k0_chk68 (W P c 19)} {v1061 : BitVec 32} {k0_hw69 : k0_chk69 (W P c 20)} {v1064 : BitVec 32} {k0_hw70 : k0_chk70 (W P c 21)} {v1067 : BitVec 32} {k0_hw71 : k0_chk71 (W P c 22)} {v1070 : BitVec 32} {k0_hw72 : k0_chk72 (W P c 23)} {v1073 : BitVec 32} {k0_hw73 : k0_chk73 (W P c 24)} {v1076 : BitVec 32} {k0_hw74 : k0_chk74 (W P c 25)} {v1079 : BitVec 32} :
    iprop(records P κ ∗ SendSt P c 17)
      ⊢ iprop((∀ (r : BitVec 32), SendSt P c 26 -∗ Q r) -∗ wp frame (wpE (defs₀ (F := F)) 𝒱₀ (c : Thread nD τ) none) Set.univ (k0_part40 xM h0 eM h1 rM h2 oM h3 gM h4 yM h5 vM h6 mM h7 cc0_scratch4 cc0_scratch5 cc0_scratch6 (W P c 17) k0_hw66 v1055 (W P c 18) k0_hw67 v1058 (W P c 19) k0_hw68 v1061 (W P c 20) k0_hw69 v1064 (W P c 21) k0_hw70 v1067 (W P c 22) k0_hw71 v1070 (W P c 23) k0_hw72 v1073 (W P c 24) k0_hw73 v1076 (W P c 25) k0_hw74 v1079 (W P c 26)) Q) := by
  rw [k0_part40_eq_skeleton]; unfold k0_part40_skel
  iintro ⟨#HR, HD⟩ Hk
  iapply (st_send P κ c 17 18 17 rfl rfl (cnd := k0_cond18 (W P c 17) = 1#1) Iff.rfl (d := fun h => ⟨k0_dev49 (W P c 17), k0_dev49_lt (W P c 17) k0_hw66 h⟩) (fun h => send_d P c 17 h)
    (o := fun h => oM.slice (Rect.unit (s := S64x1024) (k0_off66 (W P c 17)) S1x1024.size (k0_off66_inb (W P c 17) k0_hw66 h)) (fun _ => rfl)) (fun h => send_o P c 17 h) (y := yRow 17) rfl (sS := sendSem 17) rfl) $$ [$HR $HD]; iintro HD
  iapply (st_send P κ c 18 19 18 rfl rfl (cnd := k0_cond19 (W P c 18) = 1#1) Iff.rfl (d := fun h => ⟨k0_dev50 (W P c 18), k0_dev50_lt (W P c 18) k0_hw67 h⟩) (fun h => send_d P c 18 h)
    (o := fun h => oM.slice (Rect.unit (s := S64x1024) (k0_off67 (W P c 18)) S1x1024.size (k0_off67_inb (W P c 18) k0_hw67 h)) (fun _ => rfl)) (fun h => send_o P c 18 h) (y := yRow 18) rfl (sS := sendSem 18) rfl) $$ [$HR $HD]; iintro HD
  iapply (st_send P κ c 19 20 19 rfl rfl (cnd := k0_cond20 (W P c 19) = 1#1) Iff.rfl (d := fun h => ⟨k0_dev51 (W P c 19), k0_dev51_lt (W P c 19) k0_hw68 h⟩) (fun h => send_d P c 19 h)
    (o := fun h => oM.slice (Rect.unit (s := S64x1024) (k0_off68 (W P c 19)) S1x1024.size (k0_off68_inb (W P c 19) k0_hw68 h)) (fun _ => rfl)) (fun h => send_o P c 19 h) (y := yRow 19) rfl (sS := sendSem 19) rfl) $$ [$HR $HD]; iintro HD
  iapply (st_send P κ c 20 21 20 rfl rfl (cnd := k0_cond21 (W P c 20) = 1#1) Iff.rfl (d := fun h => ⟨k0_dev52 (W P c 20), k0_dev52_lt (W P c 20) k0_hw69 h⟩) (fun h => send_d P c 20 h)
    (o := fun h => oM.slice (Rect.unit (s := S64x1024) (k0_off69 (W P c 20)) S1x1024.size (k0_off69_inb (W P c 20) k0_hw69 h)) (fun _ => rfl)) (fun h => send_o P c 20 h) (y := yRow 20) rfl (sS := sendSem 20) rfl) $$ [$HR $HD]; iintro HD
  iapply (st_send P κ c 21 22 21 rfl rfl (cnd := k0_cond22 (W P c 21) = 1#1) Iff.rfl (d := fun h => ⟨k0_dev53 (W P c 21), k0_dev53_lt (W P c 21) k0_hw70 h⟩) (fun h => send_d P c 21 h)
    (o := fun h => oM.slice (Rect.unit (s := S64x1024) (k0_off70 (W P c 21)) S1x1024.size (k0_off70_inb (W P c 21) k0_hw70 h)) (fun _ => rfl)) (fun h => send_o P c 21 h) (y := yRow 21) rfl (sS := sendSem 21) rfl) $$ [$HR $HD]; iintro HD
  iapply (st_send P κ c 22 23 22 rfl rfl (cnd := k0_cond23 (W P c 22) = 1#1) Iff.rfl (d := fun h => ⟨k0_dev54 (W P c 22), k0_dev54_lt (W P c 22) k0_hw71 h⟩) (fun h => send_d P c 22 h)
    (o := fun h => oM.slice (Rect.unit (s := S64x1024) (k0_off71 (W P c 22)) S1x1024.size (k0_off71_inb (W P c 22) k0_hw71 h)) (fun _ => rfl)) (fun h => send_o P c 22 h) (y := yRow 22) rfl (sS := sendSem 22) rfl) $$ [$HR $HD]; iintro HD
  iapply (st_send P κ c 23 24 23 rfl rfl (cnd := k0_cond24 (W P c 23) = 1#1) Iff.rfl (d := fun h => ⟨k0_dev55 (W P c 23), k0_dev55_lt (W P c 23) k0_hw72 h⟩) (fun h => send_d P c 23 h)
    (o := fun h => oM.slice (Rect.unit (s := S64x1024) (k0_off72 (W P c 23)) S1x1024.size (k0_off72_inb (W P c 23) k0_hw72 h)) (fun _ => rfl)) (fun h => send_o P c 23 h) (y := yRow 23) rfl (sS := sendSem 23) rfl) $$ [$HR $HD]; iintro HD
  iapply (st_send P κ c 24 25 24 rfl rfl (cnd := k0_cond25 (W P c 24) = 1#1) Iff.rfl (d := fun h => ⟨k0_dev56 (W P c 24), k0_dev56_lt (W P c 24) k0_hw73 h⟩) (fun h => send_d P c 24 h)
    (o := fun h => oM.slice (Rect.unit (s := S64x1024) (k0_off73 (W P c 24)) S1x1024.size (k0_off73_inb (W P c 24) k0_hw73 h)) (fun _ => rfl)) (fun h => send_o P c 24 h) (y := yRow 24) rfl (sS := sendSem 24) rfl) $$ [$HR $HD]; iintro HD
  iapply (st_send P κ c 25 26 25 rfl rfl (cnd := k0_cond26 (W P c 25) = 1#1) Iff.rfl (d := fun h => ⟨k0_dev57 (W P c 25), k0_dev57_lt (W P c 25) k0_hw74 h⟩) (fun h => send_d P c 25 h)
    (o := fun h => oM.slice (Rect.unit (s := S64x1024) (k0_off74 (W P c 25)) S1x1024.size (k0_off74_inb (W P c 25) k0_hw74 h)) (fun _ => rfl)) (fun h => send_o P c 25 h) (y := yRow 25) rfl (sS := sendSem 25) rfl) $$ [$HR $HD]; iintro HD
  iapply st_ret; iapply Hk; iexact HD

theorem part41 {Q : (PUnit) → sProp 𝕄} (c : Dev nD) {k0_hw75 : k0_chk75 (W P c 26)} {v1082 : BitVec 32} {k0_hw76 : k0_chk76 (W P c 27)} {v1085 : BitVec 32} {k0_hw77 : k0_chk77 (W P c 28)} {v1088 : BitVec 32} {k0_hw78 : k0_chk78 (W P c 29)} {v1091 : BitVec 32} {k0_hw79 : k0_chk79 (W P c 30)} {v1094 : BitVec 32} {k0_hw80 : k0_chk80 (W P c 31)} {v1097 : BitVec 32} {k0_hw81 : k0_chk81 (W P c 32)} {v1100 : BitVec 32} {k0_hw82 : k0_chk82 (W P c 33)} {v1103 : BitVec 32} {k0_hw83 : k0_chk83 (W P c 34)} {v1106 : BitVec 32} {v1225 : BitVec 32} :
    iprop(records P κ ∗ SendSt P c 26)
      ⊢ iprop((SendSt P c 35 -∗ Q ⟨⟩) -∗ wp frame (wpE (defs₀ (F := F)) 𝒱₀ (c : Thread nD τ) none) Set.univ (k0_part41 xM h0 eM h1 rM h2 oM h3 gM h4 yM h5 vM h6 mM h7 cc0_scratch4 cc0_scratch5 cc0_scratch6 (W P c 26) k0_hw75 v1082 (W P c 27) k0_hw76 v1085 (W P c 28) k0_hw77 v1088 (W P c 29) k0_hw78 v1091 (W P c 30) k0_hw79 v1094 (W P c 31) k0_hw80 v1097 (W P c 32) k0_hw81 v1100 (W P c 33) k0_hw82 v1103 (W P c 34) k0_hw83 v1106 v1225) Q) := by
  rw [k0_part41_eq_skeleton]; unfold k0_part41_skel
  iintro ⟨#HR, HD⟩ Hk
  iapply (st_send P κ c 26 27 26 rfl rfl (cnd := k0_cond27 (W P c 26) = 1#1) Iff.rfl (d := fun h => ⟨k0_dev58 (W P c 26), k0_dev58_lt (W P c 26) k0_hw75 h⟩) (fun h => send_d P c 26 h)
    (o := fun h => oM.slice (Rect.unit (s := S64x1024) (k0_off75 (W P c 26)) S1x1024.size (k0_off75_inb (W P c 26) k0_hw75 h)) (fun _ => rfl)) (fun h => send_o P c 26 h) (y := yRow 26) rfl (sS := sendSem 26) rfl) $$ [$HR $HD]; iintro HD
  iapply (st_send P κ c 27 28 27 rfl rfl (cnd := k0_cond28 (W P c 27) = 1#1) Iff.rfl (d := fun h => ⟨k0_dev59 (W P c 27), k0_dev59_lt (W P c 27) k0_hw76 h⟩) (fun h => send_d P c 27 h)
    (o := fun h => oM.slice (Rect.unit (s := S64x1024) (k0_off76 (W P c 27)) S1x1024.size (k0_off76_inb (W P c 27) k0_hw76 h)) (fun _ => rfl)) (fun h => send_o P c 27 h) (y := yRow 27) rfl (sS := sendSem 27) rfl) $$ [$HR $HD]; iintro HD
  iapply (st_send P κ c 28 29 28 rfl rfl (cnd := k0_cond29 (W P c 28) = 1#1) Iff.rfl (d := fun h => ⟨k0_dev60 (W P c 28), k0_dev60_lt (W P c 28) k0_hw77 h⟩) (fun h => send_d P c 28 h)
    (o := fun h => oM.slice (Rect.unit (s := S64x1024) (k0_off77 (W P c 28)) S1x1024.size (k0_off77_inb (W P c 28) k0_hw77 h)) (fun _ => rfl)) (fun h => send_o P c 28 h) (y := yRow 28) rfl (sS := sendSem 28) rfl) $$ [$HR $HD]; iintro HD
  iapply (st_send P κ c 29 30 29 rfl rfl (cnd := k0_cond30 (W P c 29) = 1#1) Iff.rfl (d := fun h => ⟨k0_dev61 (W P c 29), k0_dev61_lt (W P c 29) k0_hw78 h⟩) (fun h => send_d P c 29 h)
    (o := fun h => oM.slice (Rect.unit (s := S64x1024) (k0_off78 (W P c 29)) S1x1024.size (k0_off78_inb (W P c 29) k0_hw78 h)) (fun _ => rfl)) (fun h => send_o P c 29 h) (y := yRow 29) rfl (sS := sendSem 29) rfl) $$ [$HR $HD]; iintro HD
  iapply (st_send P κ c 30 31 30 rfl rfl (cnd := k0_cond31 (W P c 30) = 1#1) Iff.rfl (d := fun h => ⟨k0_dev62 (W P c 30), k0_dev62_lt (W P c 30) k0_hw79 h⟩) (fun h => send_d P c 30 h)
    (o := fun h => oM.slice (Rect.unit (s := S64x1024) (k0_off79 (W P c 30)) S1x1024.size (k0_off79_inb (W P c 30) k0_hw79 h)) (fun _ => rfl)) (fun h => send_o P c 30 h) (y := yRow 30) rfl (sS := sendSem 30) rfl) $$ [$HR $HD]; iintro HD
  iapply (st_send P κ c 31 32 31 rfl rfl (cnd := k0_cond32 (W P c 31) = 1#1) Iff.rfl (d := fun h => ⟨k0_dev63 (W P c 31), k0_dev63_lt (W P c 31) k0_hw80 h⟩) (fun h => send_d P c 31 h)
    (o := fun h => oM.slice (Rect.unit (s := S64x1024) (k0_off80 (W P c 31)) S1x1024.size (k0_off80_inb (W P c 31) k0_hw80 h)) (fun _ => rfl)) (fun h => send_o P c 31 h) (y := yRow 31) rfl (sS := sendSem 31) rfl) $$ [$HR $HD]; iintro HD
  iapply (st_send P κ c 32 33 32 rfl rfl (cnd := k0_cond33 (W P c 32) = 1#1) Iff.rfl (d := fun h => ⟨k0_dev64 (W P c 32), k0_dev64_lt (W P c 32) k0_hw81 h⟩) (fun h => send_d P c 32 h)
    (o := fun h => oM.slice (Rect.unit (s := S64x1024) (k0_off81 (W P c 32)) S1x1024.size (k0_off81_inb (W P c 32) k0_hw81 h)) (fun _ => rfl)) (fun h => send_o P c 32 h) (y := yRow 32) rfl (sS := sendSem 32) rfl) $$ [$HR $HD]; iintro HD
  iapply (st_send P κ c 33 34 33 rfl rfl (cnd := k0_cond34 (W P c 33) = 1#1) Iff.rfl (d := fun h => ⟨k0_dev65 (W P c 33), k0_dev65_lt (W P c 33) k0_hw82 h⟩) (fun h => send_d P c 33 h)
    (o := fun h => oM.slice (Rect.unit (s := S64x1024) (k0_off82 (W P c 33)) S1x1024.size (k0_off82_inb (W P c 33) k0_hw82 h)) (fun _ => rfl)) (fun h => send_o P c 33 h) (y := yRow 33) rfl (sS := sendSem 33) rfl) $$ [$HR $HD]; iintro HD
  iapply (st_send P κ c 34 35 34 rfl rfl (cnd := k0_cond35 (W P c 34) = 1#1) Iff.rfl (d := fun h => ⟨k0_dev66 (W P c 34), k0_dev66_lt (W P c 34) k0_hw83 h⟩) (fun h => send_d P c 34 h)
    (o := fun h => oM.slice (Rect.unit (s := S64x1024) (k0_off83 (W P c 34)) S1x1024.size (k0_off83_inb (W P c 34) k0_hw83 h)) (fun _ => rfl)) (fun h => send_o P c 34 h) (y := yRow 34) rfl (sS := sendSem 34) rfl) $$ [$HR $HD]; iintro HD
  iapply st_ret; iapply Hk; iexact HD

theorem part42 {Q : (BitVec 32) → sProp 𝕄} (c : Dev nD) {k0_hw84 : k0_chk84 (W P c 35)} {v1109 : BitVec 32} {k0_hw85 : k0_chk85 (W P c 36)} {v1112 : BitVec 32} {k0_hw86 : k0_chk86 (W P c 37)} {v1115 : BitVec 32} {k0_hw87 : k0_chk87 (W P c 38)} {v1118 : BitVec 32} {k0_hw88 : k0_chk88 (W P c 39)} {v1121 : BitVec 32} {k0_hw89 : k0_chk89 (W P c 40)} {v1124 : BitVec 32} {k0_hw90 : k0_chk90 (W P c 41)} {v1127 : BitVec 32} {k0_hw91 : k0_chk91 (W P c 42)} {v1130 : BitVec 32} :
    iprop(records P κ ∗ SendSt P c 35)
      ⊢ iprop((∀ (r : BitVec 32), SendSt P c 43 -∗ Q r) -∗ wp frame (wpE (defs₀ (F := F)) 𝒱₀ (c : Thread nD τ) none) Set.univ (k0_part42 xM h0 eM h1 rM h2 oM h3 gM h4 yM h5 vM h6 mM h7 cc0_scratch4 cc0_scratch5 cc0_scratch6 (W P c 35) k0_hw84 v1109 (W P c 36) k0_hw85 v1112 (W P c 37) k0_hw86 v1115 (W P c 38) k0_hw87 v1118 (W P c 39) k0_hw88 v1121 (W P c 40) k0_hw89 v1124 (W P c 41) k0_hw90 v1127 (W P c 42) k0_hw91 v1130 (W P c 43)) Q) := by
  rw [k0_part42_eq_skeleton]; unfold k0_part42_skel
  iintro ⟨#HR, HD⟩ Hk
  iapply (st_send P κ c 35 36 35 rfl rfl (cnd := k0_cond36 (W P c 35) = 1#1) Iff.rfl (d := fun h => ⟨k0_dev67 (W P c 35), k0_dev67_lt (W P c 35) k0_hw84 h⟩) (fun h => send_d P c 35 h)
    (o := fun h => oM.slice (Rect.unit (s := S64x1024) (k0_off84 (W P c 35)) S1x1024.size (k0_off84_inb (W P c 35) k0_hw84 h)) (fun _ => rfl)) (fun h => send_o P c 35 h) (y := yRow 35) rfl (sS := sendSem 35) rfl) $$ [$HR $HD]; iintro HD
  iapply (st_send P κ c 36 37 36 rfl rfl (cnd := k0_cond37 (W P c 36) = 1#1) Iff.rfl (d := fun h => ⟨k0_dev68 (W P c 36), k0_dev68_lt (W P c 36) k0_hw85 h⟩) (fun h => send_d P c 36 h)
    (o := fun h => oM.slice (Rect.unit (s := S64x1024) (k0_off85 (W P c 36)) S1x1024.size (k0_off85_inb (W P c 36) k0_hw85 h)) (fun _ => rfl)) (fun h => send_o P c 36 h) (y := yRow 36) rfl (sS := sendSem 36) rfl) $$ [$HR $HD]; iintro HD
  iapply (st_send P κ c 37 38 37 rfl rfl (cnd := k0_cond38 (W P c 37) = 1#1) Iff.rfl (d := fun h => ⟨k0_dev69 (W P c 37), k0_dev69_lt (W P c 37) k0_hw86 h⟩) (fun h => send_d P c 37 h)
    (o := fun h => oM.slice (Rect.unit (s := S64x1024) (k0_off86 (W P c 37)) S1x1024.size (k0_off86_inb (W P c 37) k0_hw86 h)) (fun _ => rfl)) (fun h => send_o P c 37 h) (y := yRow 37) rfl (sS := sendSem 37) rfl) $$ [$HR $HD]; iintro HD
  iapply (st_send P κ c 38 39 38 rfl rfl (cnd := k0_cond39 (W P c 38) = 1#1) Iff.rfl (d := fun h => ⟨k0_dev70 (W P c 38), k0_dev70_lt (W P c 38) k0_hw87 h⟩) (fun h => send_d P c 38 h)
    (o := fun h => oM.slice (Rect.unit (s := S64x1024) (k0_off87 (W P c 38)) S1x1024.size (k0_off87_inb (W P c 38) k0_hw87 h)) (fun _ => rfl)) (fun h => send_o P c 38 h) (y := yRow 38) rfl (sS := sendSem 38) rfl) $$ [$HR $HD]; iintro HD
  iapply (st_send P κ c 39 40 39 rfl rfl (cnd := k0_cond40 (W P c 39) = 1#1) Iff.rfl (d := fun h => ⟨k0_dev71 (W P c 39), k0_dev71_lt (W P c 39) k0_hw88 h⟩) (fun h => send_d P c 39 h)
    (o := fun h => oM.slice (Rect.unit (s := S64x1024) (k0_off88 (W P c 39)) S1x1024.size (k0_off88_inb (W P c 39) k0_hw88 h)) (fun _ => rfl)) (fun h => send_o P c 39 h) (y := yRow 39) rfl (sS := sendSem 39) rfl) $$ [$HR $HD]; iintro HD
  iapply (st_send P κ c 40 41 40 rfl rfl (cnd := k0_cond41 (W P c 40) = 1#1) Iff.rfl (d := fun h => ⟨k0_dev72 (W P c 40), k0_dev72_lt (W P c 40) k0_hw89 h⟩) (fun h => send_d P c 40 h)
    (o := fun h => oM.slice (Rect.unit (s := S64x1024) (k0_off89 (W P c 40)) S1x1024.size (k0_off89_inb (W P c 40) k0_hw89 h)) (fun _ => rfl)) (fun h => send_o P c 40 h) (y := yRow 40) rfl (sS := sendSem 40) rfl) $$ [$HR $HD]; iintro HD
  iapply (st_send P κ c 41 42 41 rfl rfl (cnd := k0_cond42 (W P c 41) = 1#1) Iff.rfl (d := fun h => ⟨k0_dev73 (W P c 41), k0_dev73_lt (W P c 41) k0_hw90 h⟩) (fun h => send_d P c 41 h)
    (o := fun h => oM.slice (Rect.unit (s := S64x1024) (k0_off90 (W P c 41)) S1x1024.size (k0_off90_inb (W P c 41) k0_hw90 h)) (fun _ => rfl)) (fun h => send_o P c 41 h) (y := yRow 41) rfl (sS := sendSem 41) rfl) $$ [$HR $HD]; iintro HD
  iapply (st_send P κ c 42 43 42 rfl rfl (cnd := k0_cond43 (W P c 42) = 1#1) Iff.rfl (d := fun h => ⟨k0_dev74 (W P c 42), k0_dev74_lt (W P c 42) k0_hw91 h⟩) (fun h => send_d P c 42 h)
    (o := fun h => oM.slice (Rect.unit (s := S64x1024) (k0_off91 (W P c 42)) S1x1024.size (k0_off91_inb (W P c 42) k0_hw91 h)) (fun _ => rfl)) (fun h => send_o P c 42 h) (y := yRow 42) rfl (sS := sendSem 42) rfl) $$ [$HR $HD]; iintro HD
  iapply st_ret; iapply Hk; iexact HD

theorem part43 {Q : (BitVec 32) → sProp 𝕄} (c : Dev nD) {k0_hw49 : k0_chk49 (W P c 0)} {k0_hw50 : k0_chk50 (W P c 1)} {k0_hw51 : k0_chk51 (W P c 2)} {k0_hw52 : k0_chk52 (W P c 3)} {k0_hw92 : k0_chk92 (W P c 43)} {v1133 : BitVec 32} {k0_hw93 : k0_chk93 (W P c 44)} {v1136 : BitVec 32} {k0_hw94 : k0_chk94 (W P c 45)} {v1139 : BitVec 32} {k0_hw95 : k0_chk95 (W P c 46)} {v1142 : BitVec 32} {k0_hw96 : k0_chk96 (W P c 47)} {v1145 : BitVec 32} {v1276 : BitVec 32} :
    iprop(records P κ ∗ SendSt P c 43 ∗ bigSep Finset.univ fun s : Fin 48 => atPos ER (sendCell c s) 0 ∅ 0)
      ⊢ iprop((∀ (r : BitVec 32), WaitSt P c 4 -∗ Q r) -∗ wp frame (wpE (defs₀ (F := F)) 𝒱₀ (c : Thread nD τ) none) Set.univ (k0_part43 xM h0 eM h1 rM h2 oM h3 gM h4 yM h5 vM h6 mM h7 cc0_scratch4 cc0_scratch5 cc0_scratch6 (W P c 0) k0_hw49 (W P c 1) k0_hw50 (W P c 2) k0_hw51 (W P c 3) k0_hw52 (W P c 43) k0_hw92 v1133 (W P c 44) k0_hw93 v1136 (W P c 45) k0_hw94 v1139 (W P c 46) k0_hw95 v1142 (W P c 47) k0_hw96 v1145 v1276) Q) := by
  rw [k0_part43_eq_skeleton]; unfold k0_part43_skel
  iintro ⟨#HR, HD, HP⟩ Hk
  iapply (st_send P κ c 43 44 43 rfl rfl (cnd := k0_cond44 (W P c 43) = 1#1) Iff.rfl (d := fun h => ⟨k0_dev75 (W P c 43), k0_dev75_lt (W P c 43) k0_hw92 h⟩) (fun h => send_d P c 43 h)
    (o := fun h => oM.slice (Rect.unit (s := S64x1024) (k0_off92 (W P c 43)) S1x1024.size (k0_off92_inb (W P c 43) k0_hw92 h)) (fun _ => rfl)) (fun h => send_o P c 43 h) (y := yRow 43) rfl (sS := sendSem 43) rfl) $$ [$HR $HD]; iintro HD
  iapply (st_send P κ c 44 45 44 rfl rfl (cnd := k0_cond45 (W P c 44) = 1#1) Iff.rfl (d := fun h => ⟨k0_dev76 (W P c 44), k0_dev76_lt (W P c 44) k0_hw93 h⟩) (fun h => send_d P c 44 h)
    (o := fun h => oM.slice (Rect.unit (s := S64x1024) (k0_off93 (W P c 44)) S1x1024.size (k0_off93_inb (W P c 44) k0_hw93 h)) (fun _ => rfl)) (fun h => send_o P c 44 h) (y := yRow 44) rfl (sS := sendSem 44) rfl) $$ [$HR $HD]; iintro HD
  iapply (st_send P κ c 45 46 45 rfl rfl (cnd := k0_cond46 (W P c 45) = 1#1) Iff.rfl (d := fun h => ⟨k0_dev77 (W P c 45), k0_dev77_lt (W P c 45) k0_hw94 h⟩) (fun h => send_d P c 45 h)
    (o := fun h => oM.slice (Rect.unit (s := S64x1024) (k0_off94 (W P c 45)) S1x1024.size (k0_off94_inb (W P c 45) k0_hw94 h)) (fun _ => rfl)) (fun h => send_o P c 45 h) (y := yRow 45) rfl (sS := sendSem 45) rfl) $$ [$HR $HD]; iintro HD
  iapply (st_send P κ c 46 47 46 rfl rfl (cnd := k0_cond47 (W P c 46) = 1#1) Iff.rfl (d := fun h => ⟨k0_dev78 (W P c 46), k0_dev78_lt (W P c 46) k0_hw95 h⟩) (fun h => send_d P c 46 h)
    (o := fun h => oM.slice (Rect.unit (s := S64x1024) (k0_off95 (W P c 46)) S1x1024.size (k0_off95_inb (W P c 46) k0_hw95 h)) (fun _ => rfl)) (fun h => send_o P c 46 h) (y := yRow 46) rfl (sS := sendSem 46) rfl) $$ [$HR $HD]; iintro HD
  iapply (st_send P κ c 47 48 47 rfl rfl (cnd := k0_cond48 (W P c 47) = 1#1) Iff.rfl (d := fun h => ⟨k0_dev79 (W P c 47), k0_dev79_lt (W P c 47) k0_hw96 h⟩) (fun h => send_d P c 47 h)
    (o := fun h => oM.slice (Rect.unit (s := S64x1024) (k0_off96 (W P c 47)) S1x1024.size (k0_off96_inb (W P c 47) k0_hw96 h)) (fun _ => rfl)) (fun h => send_o P c 47 h) (y := yRow 47) rfl (sS := sendSem 47) rfl) $$ [$HR $HD]; iintro HD
  ihave HD := (send_to_wait P c) $$ [$HD $HP]
  iapply (st_wait P κ c 0 1 0 rfl rfl (cnd := k0_cond49 (W P c 0) = 1#1) Iff.rfl
    (o := fun h => oM.slice (Rect.unit (s := S64x1024) (k0_off97 (W P c 0)) S1x1024.size (k0_off97_inb (W P c 0) k0_hw49 h)) (fun _ => rfl)) (y := yRow 0) rfl (sS := sendSem 0) rfl) $$ [$HR $HD]; iintro HD
  iapply (st_wait P κ c 1 2 1 rfl rfl (cnd := k0_cond50 (W P c 1) = 1#1) Iff.rfl
    (o := fun h => oM.slice (Rect.unit (s := S64x1024) (k0_off98 (W P c 1)) S1x1024.size (k0_off98_inb (W P c 1) k0_hw50 h)) (fun _ => rfl)) (y := yRow 1) rfl (sS := sendSem 1) rfl) $$ [$HR $HD]; iintro HD
  iapply (st_wait P κ c 2 3 2 rfl rfl (cnd := k0_cond51 (W P c 2) = 1#1) Iff.rfl
    (o := fun h => oM.slice (Rect.unit (s := S64x1024) (k0_off99 (W P c 2)) S1x1024.size (k0_off99_inb (W P c 2) k0_hw51 h)) (fun _ => rfl)) (y := yRow 2) rfl (sS := sendSem 2) rfl) $$ [$HR $HD]; iintro HD
  iapply (st_wait P κ c 3 4 3 rfl rfl (cnd := k0_cond52 (W P c 3) = 1#1) Iff.rfl
    (o := fun h => oM.slice (Rect.unit (s := S64x1024) (k0_off100 (W P c 3)) S1x1024.size (k0_off100_inb (W P c 3) k0_hw52 h)) (fun _ => rfl)) (y := yRow 3) rfl (sS := sendSem 3) rfl) $$ [$HR $HD]; iintro HD
  iapply st_ret; iapply Hk; iexact HD

theorem part44 {Q : (Σ' (v1327 : BitVec 32), BitVec 32) → sProp 𝕄} (c : Dev nD) {k0_hw53 : k0_chk53 (W P c 4)} {k0_hw54 : k0_chk54 (W P c 5)} {k0_hw55 : k0_chk55 (W P c 6)} {k0_hw56 : k0_chk56 (W P c 7)} {k0_hw57 : k0_chk57 (W P c 8)} {k0_hw58 : k0_chk58 (W P c 9)} {k0_hw59 : k0_chk59 (W P c 10)} {k0_hw60 : k0_chk60 (W P c 11)} {c0_i32_932 : BitVec 32} :
    iprop(records P κ ∗ WaitSt P c 4)
      ⊢ iprop((∀ (r0 : BitVec 32) (r1 : BitVec 32), WaitSt P c 12 -∗ Q ⟨r0, r1⟩) -∗ wp frame (wpE (defs₀ (F := F)) 𝒱₀ (c : Thread nD τ) none) Set.univ (k0_part44 xM h0 eM h1 rM h2 oM h3 gM h4 yM h5 vM h6 mM h7 cc0_scratch4 cc0_scratch5 cc0_scratch6 (W P c 4) k0_hw53 (W P c 5) k0_hw54 (W P c 6) k0_hw55 (W P c 7) k0_hw56 (W P c 8) k0_hw57 (W P c 9) k0_hw58 (W P c 10) k0_hw59 (W P c 11) k0_hw60 (W P c 12) c0_i32_932) Q) := by
  rw [k0_part44_eq_skeleton]; unfold k0_part44_skel
  iintro ⟨#HR, HD⟩ Hk
  iapply (st_wait P κ c 4 5 4 rfl rfl (cnd := k0_cond53 (W P c 4) = 1#1) Iff.rfl
    (o := fun h => oM.slice (Rect.unit (s := S64x1024) (k0_off101 (W P c 4)) S1x1024.size (k0_off101_inb (W P c 4) k0_hw53 h)) (fun _ => rfl)) (y := yRow 4) rfl (sS := sendSem 4) rfl) $$ [$HR $HD]; iintro HD
  iapply (st_wait P κ c 5 6 5 rfl rfl (cnd := k0_cond54 (W P c 5) = 1#1) Iff.rfl
    (o := fun h => oM.slice (Rect.unit (s := S64x1024) (k0_off102 (W P c 5)) S1x1024.size (k0_off102_inb (W P c 5) k0_hw54 h)) (fun _ => rfl)) (y := yRow 5) rfl (sS := sendSem 5) rfl) $$ [$HR $HD]; iintro HD
  iapply (st_wait P κ c 6 7 6 rfl rfl (cnd := k0_cond55 (W P c 6) = 1#1) Iff.rfl
    (o := fun h => oM.slice (Rect.unit (s := S64x1024) (k0_off103 (W P c 6)) S1x1024.size (k0_off103_inb (W P c 6) k0_hw55 h)) (fun _ => rfl)) (y := yRow 6) rfl (sS := sendSem 6) rfl) $$ [$HR $HD]; iintro HD
  iapply (st_wait P κ c 7 8 7 rfl rfl (cnd := k0_cond56 (W P c 7) = 1#1) Iff.rfl
    (o := fun h => oM.slice (Rect.unit (s := S64x1024) (k0_off104 (W P c 7)) S1x1024.size (k0_off104_inb (W P c 7) k0_hw56 h)) (fun _ => rfl)) (y := yRow 7) rfl (sS := sendSem 7) rfl) $$ [$HR $HD]; iintro HD
  iapply (st_wait P κ c 8 9 8 rfl rfl (cnd := k0_cond57 (W P c 8) = 1#1) Iff.rfl
    (o := fun h => oM.slice (Rect.unit (s := S64x1024) (k0_off105 (W P c 8)) S1x1024.size (k0_off105_inb (W P c 8) k0_hw57 h)) (fun _ => rfl)) (y := yRow 8) rfl (sS := sendSem 8) rfl) $$ [$HR $HD]; iintro HD
  iapply (st_wait P κ c 9 10 9 rfl rfl (cnd := k0_cond58 (W P c 9) = 1#1) Iff.rfl
    (o := fun h => oM.slice (Rect.unit (s := S64x1024) (k0_off106 (W P c 9)) S1x1024.size (k0_off106_inb (W P c 9) k0_hw58 h)) (fun _ => rfl)) (y := yRow 9) rfl (sS := sendSem 9) rfl) $$ [$HR $HD]; iintro HD
  iapply (st_wait P κ c 10 11 10 rfl rfl (cnd := k0_cond59 (W P c 10) = 1#1) Iff.rfl
    (o := fun h => oM.slice (Rect.unit (s := S64x1024) (k0_off107 (W P c 10)) S1x1024.size (k0_off107_inb (W P c 10) k0_hw59 h)) (fun _ => rfl)) (y := yRow 10) rfl (sS := sendSem 10) rfl) $$ [$HR $HD]; iintro HD
  iapply (st_wait P κ c 11 12 11 rfl rfl (cnd := k0_cond60 (W P c 11) = 1#1) Iff.rfl
    (o := fun h => oM.slice (Rect.unit (s := S64x1024) (k0_off108 (W P c 11)) S1x1024.size (k0_off108_inb (W P c 11) k0_hw60 h)) (fun _ => rfl)) (y := yRow 11) rfl (sS := sendSem 11) rfl) $$ [$HR $HD]; iintro HD
  iapply st_ret; iapply Hk; iexact HD

theorem part45 {Q : (BitVec 1) → sProp 𝕄} (c : Dev nD) {k0_hw61 : k0_chk61 (W P c 12)} {k0_hw62 : k0_chk62 (W P c 13)} {k0_hw63 : k0_chk63 (W P c 14)} {k0_hw64 : k0_chk64 (W P c 15)} {k0_hw65 : k0_chk65 (W P c 16)} {k0_hw66 : k0_chk66 (W P c 17)} {k0_hw67 : k0_chk67 (W P c 18)} {k0_hw68 : k0_chk68 (W P c 19)} {k0_hw69 : k0_chk69 (W P c 20)} {v1327 : BitVec 32} {c0_i32_958 : BitVec 32} :
    iprop(records P κ ∗ WaitSt P c 12)
      ⊢ iprop((∀ (r : BitVec 1), WaitSt P c 21 -∗ Q r) -∗ wp frame (wpE (defs₀ (F := F)) 𝒱₀ (c : Thread nD τ) none) Set.univ (k0_part45 xM h0 eM h1 rM h2 oM h3 gM h4 yM h5 vM h6 mM h7 cc0_scratch4 cc0_scratch5 cc0_scratch6 (W P c 12) k0_hw61 (W P c 13) k0_hw62 (W P c 14) k0_hw63 (W P c 15) k0_hw64 (W P c 16) k0_hw65 (W P c 17) k0_hw66 (W P c 18) k0_hw67 (W P c 19) k0_hw68 (W P c 20) k0_hw69 (W P c 21) v1327 c0_i32_958) Q) := by
  rw [k0_part45_eq_skeleton]; unfold k0_part45_skel
  iintro ⟨#HR, HD⟩ Hk
  iapply (st_wait P κ c 12 13 12 rfl rfl (cnd := k0_cond61 (W P c 12) = 1#1) Iff.rfl
    (o := fun h => oM.slice (Rect.unit (s := S64x1024) (k0_off109 (W P c 12)) S1x1024.size (k0_off109_inb (W P c 12) k0_hw61 h)) (fun _ => rfl)) (y := yRow 12) rfl (sS := sendSem 12) rfl) $$ [$HR $HD]; iintro HD
  iapply (st_wait P κ c 13 14 13 rfl rfl (cnd := k0_cond62 (W P c 13) = 1#1) Iff.rfl
    (o := fun h => oM.slice (Rect.unit (s := S64x1024) (k0_off110 (W P c 13)) S1x1024.size (k0_off110_inb (W P c 13) k0_hw62 h)) (fun _ => rfl)) (y := yRow 13) rfl (sS := sendSem 13) rfl) $$ [$HR $HD]; iintro HD
  iapply (st_wait P κ c 14 15 14 rfl rfl (cnd := k0_cond63 (W P c 14) = 1#1) Iff.rfl
    (o := fun h => oM.slice (Rect.unit (s := S64x1024) (k0_off111 (W P c 14)) S1x1024.size (k0_off111_inb (W P c 14) k0_hw63 h)) (fun _ => rfl)) (y := yRow 14) rfl (sS := sendSem 14) rfl) $$ [$HR $HD]; iintro HD
  iapply (st_wait P κ c 15 16 15 rfl rfl (cnd := k0_cond64 (W P c 15) = 1#1) Iff.rfl
    (o := fun h => oM.slice (Rect.unit (s := S64x1024) (k0_off112 (W P c 15)) S1x1024.size (k0_off112_inb (W P c 15) k0_hw64 h)) (fun _ => rfl)) (y := yRow 15) rfl (sS := sendSem 15) rfl) $$ [$HR $HD]; iintro HD
  iapply (st_wait P κ c 16 17 16 rfl rfl (cnd := k0_cond65 (W P c 16) = 1#1) Iff.rfl
    (o := fun h => oM.slice (Rect.unit (s := S64x1024) (k0_off113 (W P c 16)) S1x1024.size (k0_off113_inb (W P c 16) k0_hw65 h)) (fun _ => rfl)) (y := yRow 16) rfl (sS := sendSem 16) rfl) $$ [$HR $HD]; iintro HD
  iapply (st_wait P κ c 17 18 17 rfl rfl (cnd := k0_cond66 (W P c 17) = 1#1) Iff.rfl
    (o := fun h => oM.slice (Rect.unit (s := S64x1024) (k0_off114 (W P c 17)) S1x1024.size (k0_off114_inb (W P c 17) k0_hw66 h)) (fun _ => rfl)) (y := yRow 17) rfl (sS := sendSem 17) rfl) $$ [$HR $HD]; iintro HD
  iapply (st_wait P κ c 18 19 18 rfl rfl (cnd := k0_cond67 (W P c 18) = 1#1) Iff.rfl
    (o := fun h => oM.slice (Rect.unit (s := S64x1024) (k0_off115 (W P c 18)) S1x1024.size (k0_off115_inb (W P c 18) k0_hw67 h)) (fun _ => rfl)) (y := yRow 18) rfl (sS := sendSem 18) rfl) $$ [$HR $HD]; iintro HD
  iapply (st_wait P κ c 19 20 19 rfl rfl (cnd := k0_cond68 (W P c 19) = 1#1) Iff.rfl
    (o := fun h => oM.slice (Rect.unit (s := S64x1024) (k0_off116 (W P c 19)) S1x1024.size (k0_off116_inb (W P c 19) k0_hw68 h)) (fun _ => rfl)) (y := yRow 19) rfl (sS := sendSem 19) rfl) $$ [$HR $HD]; iintro HD
  iapply (st_wait P κ c 20 21 20 rfl rfl (cnd := k0_cond69 (W P c 20) = 1#1) Iff.rfl
    (o := fun h => oM.slice (Rect.unit (s := S64x1024) (k0_off117 (W P c 20)) S1x1024.size (k0_off117_inb (W P c 20) k0_hw69 h)) (fun _ => rfl)) (y := yRow 20) rfl (sS := sendSem 20) rfl) $$ [$HR $HD]; iintro HD
  iapply st_ret; iapply Hk; iexact HD

theorem part46 {Q : (PUnit) → sProp 𝕄} (c : Dev nD) {k0_hw70 : k0_chk70 (W P c 21)} {k0_hw71 : k0_chk71 (W P c 22)} {k0_hw72 : k0_chk72 (W P c 23)} {k0_hw73 : k0_chk73 (W P c 24)} {k0_hw74 : k0_chk74 (W P c 25)} {k0_hw75 : k0_chk75 (W P c 26)} {k0_hw76 : k0_chk76 (W P c 27)} {k0_hw77 : k0_chk77 (W P c 28)} {v1353 : BitVec 1} :
    iprop(records P κ ∗ WaitSt P c 21)
      ⊢ iprop((WaitSt P c 29 -∗ Q ⟨⟩) -∗ wp frame (wpE (defs₀ (F := F)) 𝒱₀ (c : Thread nD τ) none) Set.univ (k0_part46 xM h0 eM h1 rM h2 oM h3 gM h4 yM h5 vM h6 mM h7 cc0_scratch4 cc0_scratch5 cc0_scratch6 (W P c 21) k0_hw70 (W P c 22) k0_hw71 (W P c 23) k0_hw72 (W P c 24) k0_hw73 (W P c 25) k0_hw74 (W P c 26) k0_hw75 (W P c 27) k0_hw76 (W P c 28) k0_hw77 (W P c 29) v1353) Q) := by
  rw [k0_part46_eq_skeleton]; unfold k0_part46_skel
  iintro ⟨#HR, HD⟩ Hk
  iapply (st_wait P κ c 21 22 21 rfl rfl (cnd := k0_cond70 (W P c 21) = 1#1) Iff.rfl
    (o := fun h => oM.slice (Rect.unit (s := S64x1024) (k0_off118 (W P c 21)) S1x1024.size (k0_off118_inb (W P c 21) k0_hw70 h)) (fun _ => rfl)) (y := yRow 21) rfl (sS := sendSem 21) rfl) $$ [$HR $HD]; iintro HD
  iapply (st_wait P κ c 22 23 22 rfl rfl (cnd := k0_cond71 (W P c 22) = 1#1) Iff.rfl
    (o := fun h => oM.slice (Rect.unit (s := S64x1024) (k0_off119 (W P c 22)) S1x1024.size (k0_off119_inb (W P c 22) k0_hw71 h)) (fun _ => rfl)) (y := yRow 22) rfl (sS := sendSem 22) rfl) $$ [$HR $HD]; iintro HD
  iapply (st_wait P κ c 23 24 23 rfl rfl (cnd := k0_cond72 (W P c 23) = 1#1) Iff.rfl
    (o := fun h => oM.slice (Rect.unit (s := S64x1024) (k0_off120 (W P c 23)) S1x1024.size (k0_off120_inb (W P c 23) k0_hw72 h)) (fun _ => rfl)) (y := yRow 23) rfl (sS := sendSem 23) rfl) $$ [$HR $HD]; iintro HD
  iapply (st_wait P κ c 24 25 24 rfl rfl (cnd := k0_cond73 (W P c 24) = 1#1) Iff.rfl
    (o := fun h => oM.slice (Rect.unit (s := S64x1024) (k0_off121 (W P c 24)) S1x1024.size (k0_off121_inb (W P c 24) k0_hw73 h)) (fun _ => rfl)) (y := yRow 24) rfl (sS := sendSem 24) rfl) $$ [$HR $HD]; iintro HD
  iapply (st_wait P κ c 25 26 25 rfl rfl (cnd := k0_cond74 (W P c 25) = 1#1) Iff.rfl
    (o := fun h => oM.slice (Rect.unit (s := S64x1024) (k0_off122 (W P c 25)) S1x1024.size (k0_off122_inb (W P c 25) k0_hw74 h)) (fun _ => rfl)) (y := yRow 25) rfl (sS := sendSem 25) rfl) $$ [$HR $HD]; iintro HD
  iapply (st_wait P κ c 26 27 26 rfl rfl (cnd := k0_cond75 (W P c 26) = 1#1) Iff.rfl
    (o := fun h => oM.slice (Rect.unit (s := S64x1024) (k0_off123 (W P c 26)) S1x1024.size (k0_off123_inb (W P c 26) k0_hw75 h)) (fun _ => rfl)) (y := yRow 26) rfl (sS := sendSem 26) rfl) $$ [$HR $HD]; iintro HD
  iapply (st_wait P κ c 27 28 27 rfl rfl (cnd := k0_cond76 (W P c 27) = 1#1) Iff.rfl
    (o := fun h => oM.slice (Rect.unit (s := S64x1024) (k0_off124 (W P c 27)) S1x1024.size (k0_off124_inb (W P c 27) k0_hw76 h)) (fun _ => rfl)) (y := yRow 27) rfl (sS := sendSem 27) rfl) $$ [$HR $HD]; iintro HD
  iapply (st_wait P κ c 28 29 28 rfl rfl (cnd := k0_cond77 (W P c 28) = 1#1) Iff.rfl
    (o := fun h => oM.slice (Rect.unit (s := S64x1024) (k0_off125 (W P c 28)) S1x1024.size (k0_off125_inb (W P c 28) k0_hw77 h)) (fun _ => rfl)) (y := yRow 28) rfl (sS := sendSem 28) rfl) $$ [$HR $HD]; iintro HD
  iapply st_ret; iapply Hk; iexact HD

theorem part47 {Q : (BitVec 32) → sProp 𝕄} (c : Dev nD) {k0_hw78 : k0_chk78 (W P c 29)} {k0_hw79 : k0_chk79 (W P c 30)} {k0_hw80 : k0_chk80 (W P c 31)} {k0_hw81 : k0_chk81 (W P c 32)} {k0_hw82 : k0_chk82 (W P c 33)} {k0_hw83 : k0_chk83 (W P c 34)} {k0_hw84 : k0_chk84 (W P c 35)} {k0_hw85 : k0_chk85 (W P c 36)} {k0_hw86 : k0_chk86 (W P c 37)} :
    iprop(records P κ ∗ WaitSt P c 29)
      ⊢ iprop((∀ (r : BitVec 32), WaitSt P c 38 -∗ Q r) -∗ wp frame (wpE (defs₀ (F := F)) 𝒱₀ (c : Thread nD τ) none) Set.univ (k0_part47 xM h0 eM h1 rM h2 oM h3 gM h4 yM h5 vM h6 mM h7 cc0_scratch4 cc0_scratch5 cc0_scratch6 (W P c 29) k0_hw78 (W P c 30) k0_hw79 (W P c 31) k0_hw80 (W P c 32) k0_hw81 (W P c 33) k0_hw82 (W P c 34) k0_hw83 (W P c 35) k0_hw84 (W P c 36) k0_hw85 (W P c 37) k0_hw86 (W P c 38)) Q) := by
  rw [k0_part47_eq_skeleton]; unfold k0_part47_skel
  iintro ⟨#HR, HD⟩ Hk
  iapply (st_wait P κ c 29 30 29 rfl rfl (cnd := k0_cond78 (W P c 29) = 1#1) Iff.rfl
    (o := fun h => oM.slice (Rect.unit (s := S64x1024) (k0_off126 (W P c 29)) S1x1024.size (k0_off126_inb (W P c 29) k0_hw78 h)) (fun _ => rfl)) (y := yRow 29) rfl (sS := sendSem 29) rfl) $$ [$HR $HD]; iintro HD
  iapply (st_wait P κ c 30 31 30 rfl rfl (cnd := k0_cond79 (W P c 30) = 1#1) Iff.rfl
    (o := fun h => oM.slice (Rect.unit (s := S64x1024) (k0_off127 (W P c 30)) S1x1024.size (k0_off127_inb (W P c 30) k0_hw79 h)) (fun _ => rfl)) (y := yRow 30) rfl (sS := sendSem 30) rfl) $$ [$HR $HD]; iintro HD
  iapply (st_wait P κ c 31 32 31 rfl rfl (cnd := k0_cond80 (W P c 31) = 1#1) Iff.rfl
    (o := fun h => oM.slice (Rect.unit (s := S64x1024) (k0_off128 (W P c 31)) S1x1024.size (k0_off128_inb (W P c 31) k0_hw80 h)) (fun _ => rfl)) (y := yRow 31) rfl (sS := sendSem 31) rfl) $$ [$HR $HD]; iintro HD
  iapply (st_wait P κ c 32 33 32 rfl rfl (cnd := k0_cond81 (W P c 32) = 1#1) Iff.rfl
    (o := fun h => oM.slice (Rect.unit (s := S64x1024) (k0_off129 (W P c 32)) S1x1024.size (k0_off129_inb (W P c 32) k0_hw81 h)) (fun _ => rfl)) (y := yRow 32) rfl (sS := sendSem 32) rfl) $$ [$HR $HD]; iintro HD
  iapply (st_wait P κ c 33 34 33 rfl rfl (cnd := k0_cond82 (W P c 33) = 1#1) Iff.rfl
    (o := fun h => oM.slice (Rect.unit (s := S64x1024) (k0_off130 (W P c 33)) S1x1024.size (k0_off130_inb (W P c 33) k0_hw82 h)) (fun _ => rfl)) (y := yRow 33) rfl (sS := sendSem 33) rfl) $$ [$HR $HD]; iintro HD
  iapply (st_wait P κ c 34 35 34 rfl rfl (cnd := k0_cond83 (W P c 34) = 1#1) Iff.rfl
    (o := fun h => oM.slice (Rect.unit (s := S64x1024) (k0_off131 (W P c 34)) S1x1024.size (k0_off131_inb (W P c 34) k0_hw83 h)) (fun _ => rfl)) (y := yRow 34) rfl (sS := sendSem 34) rfl) $$ [$HR $HD]; iintro HD
  iapply (st_wait P κ c 35 36 35 rfl rfl (cnd := k0_cond84 (W P c 35) = 1#1) Iff.rfl
    (o := fun h => oM.slice (Rect.unit (s := S64x1024) (k0_off132 (W P c 35)) S1x1024.size (k0_off132_inb (W P c 35) k0_hw84 h)) (fun _ => rfl)) (y := yRow 35) rfl (sS := sendSem 35) rfl) $$ [$HR $HD]; iintro HD
  iapply (st_wait P κ c 36 37 36 rfl rfl (cnd := k0_cond85 (W P c 36) = 1#1) Iff.rfl
    (o := fun h => oM.slice (Rect.unit (s := S64x1024) (k0_off133 (W P c 36)) S1x1024.size (k0_off133_inb (W P c 36) k0_hw85 h)) (fun _ => rfl)) (y := yRow 36) rfl (sS := sendSem 36) rfl) $$ [$HR $HD]; iintro HD
  iapply (st_wait P κ c 37 38 37 rfl rfl (cnd := k0_cond86 (W P c 37) = 1#1) Iff.rfl
    (o := fun h => oM.slice (Rect.unit (s := S64x1024) (k0_off134 (W P c 37)) S1x1024.size (k0_off134_inb (W P c 37) k0_hw86 h)) (fun _ => rfl)) (y := yRow 37) rfl (sS := sendSem 37) rfl) $$ [$HR $HD]; iintro HD
  iapply st_ret; iapply Hk; iexact HD

theorem part48 {Q : (PUnit) → sProp 𝕄} (c : Dev nD) {k0_hw87 : k0_chk87 (W P c 38)} {k0_hw88 : k0_chk88 (W P c 39)} {k0_hw89 : k0_chk89 (W P c 40)} {k0_hw90 : k0_chk90 (W P c 41)} {k0_hw91 : k0_chk91 (W P c 42)} {k0_hw92 : k0_chk92 (W P c 43)} {k0_hw93 : k0_chk93 (W P c 44)} {k0_hw94 : k0_chk94 (W P c 45)} {k0_hw95 : k0_chk95 (W P c 46)} {v1405 : BitVec 32} :
    iprop(records P κ ∗ WaitSt P c 38)
      ⊢ iprop((WaitSt P c 47 -∗ Q ⟨⟩) -∗ wp frame (wpE (defs₀ (F := F)) 𝒱₀ (c : Thread nD τ) none) Set.univ (k0_part48 xM h0 eM h1 rM h2 oM h3 gM h4 yM h5 vM h6 mM h7 cc0_scratch4 cc0_scratch5 cc0_scratch6 (W P c 38) k0_hw87 (W P c 39) k0_hw88 (W P c 40) k0_hw89 (W P c 41) k0_hw90 (W P c 42) k0_hw91 (W P c 43) k0_hw92 (W P c 44) k0_hw93 (W P c 45) k0_hw94 (W P c 46) k0_hw95 v1405) Q) := by
  rw [k0_part48_eq_skeleton]; unfold k0_part48_skel
  iintro ⟨#HR, HD⟩ Hk
  iapply (st_wait P κ c 38 39 38 rfl rfl (cnd := k0_cond87 (W P c 38) = 1#1) Iff.rfl
    (o := fun h => oM.slice (Rect.unit (s := S64x1024) (k0_off135 (W P c 38)) S1x1024.size (k0_off135_inb (W P c 38) k0_hw87 h)) (fun _ => rfl)) (y := yRow 38) rfl (sS := sendSem 38) rfl) $$ [$HR $HD]; iintro HD
  iapply (st_wait P κ c 39 40 39 rfl rfl (cnd := k0_cond88 (W P c 39) = 1#1) Iff.rfl
    (o := fun h => oM.slice (Rect.unit (s := S64x1024) (k0_off136 (W P c 39)) S1x1024.size (k0_off136_inb (W P c 39) k0_hw88 h)) (fun _ => rfl)) (y := yRow 39) rfl (sS := sendSem 39) rfl) $$ [$HR $HD]; iintro HD
  iapply (st_wait P κ c 40 41 40 rfl rfl (cnd := k0_cond89 (W P c 40) = 1#1) Iff.rfl
    (o := fun h => oM.slice (Rect.unit (s := S64x1024) (k0_off137 (W P c 40)) S1x1024.size (k0_off137_inb (W P c 40) k0_hw89 h)) (fun _ => rfl)) (y := yRow 40) rfl (sS := sendSem 40) rfl) $$ [$HR $HD]; iintro HD
  iapply (st_wait P κ c 41 42 41 rfl rfl (cnd := k0_cond90 (W P c 41) = 1#1) Iff.rfl
    (o := fun h => oM.slice (Rect.unit (s := S64x1024) (k0_off138 (W P c 41)) S1x1024.size (k0_off138_inb (W P c 41) k0_hw90 h)) (fun _ => rfl)) (y := yRow 41) rfl (sS := sendSem 41) rfl) $$ [$HR $HD]; iintro HD
  iapply (st_wait P κ c 42 43 42 rfl rfl (cnd := k0_cond91 (W P c 42) = 1#1) Iff.rfl
    (o := fun h => oM.slice (Rect.unit (s := S64x1024) (k0_off139 (W P c 42)) S1x1024.size (k0_off139_inb (W P c 42) k0_hw91 h)) (fun _ => rfl)) (y := yRow 42) rfl (sS := sendSem 42) rfl) $$ [$HR $HD]; iintro HD
  iapply (st_wait P κ c 43 44 43 rfl rfl (cnd := k0_cond92 (W P c 43) = 1#1) Iff.rfl
    (o := fun h => oM.slice (Rect.unit (s := S64x1024) (k0_off140 (W P c 43)) S1x1024.size (k0_off140_inb (W P c 43) k0_hw92 h)) (fun _ => rfl)) (y := yRow 43) rfl (sS := sendSem 43) rfl) $$ [$HR $HD]; iintro HD
  iapply (st_wait P κ c 44 45 44 rfl rfl (cnd := k0_cond93 (W P c 44) = 1#1) Iff.rfl
    (o := fun h => oM.slice (Rect.unit (s := S64x1024) (k0_off141 (W P c 44)) S1x1024.size (k0_off141_inb (W P c 44) k0_hw93 h)) (fun _ => rfl)) (y := yRow 44) rfl (sS := sendSem 44) rfl) $$ [$HR $HD]; iintro HD
  iapply (st_wait P κ c 45 46 45 rfl rfl (cnd := k0_cond94 (W P c 45) = 1#1) Iff.rfl
    (o := fun h => oM.slice (Rect.unit (s := S64x1024) (k0_off142 (W P c 45)) S1x1024.size (k0_off142_inb (W P c 45) k0_hw94 h)) (fun _ => rfl)) (y := yRow 45) rfl (sS := sendSem 45) rfl) $$ [$HR $HD]; iintro HD
  iapply (st_wait P κ c 46 47 46 rfl rfl (cnd := k0_cond95 (W P c 46) = 1#1) Iff.rfl
    (o := fun h => oM.slice (Rect.unit (s := S64x1024) (k0_off143 (W P c 46)) S1x1024.size (k0_off143_inb (W P c 46) k0_hw95 h)) (fun _ => rfl)) (y := yRow 46) rfl (sS := sendSem 46) rfl) $$ [$HR $HD]; iintro HD
  iapply st_ret; iapply Hk; iexact HD

end Cert.Route
-- ==== Proof.Signals.lean ====
/- The signals, part by part of the printed body. -/
module

public import proofs.«01_k».proof.Proof.Facts

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)
variable {h0 : (xM : Memref sig .tc .vmem S2048x512 .f32).IsWhole} {h1 : (eM : Memref sig .tc .vmem S4x512x1024 .f32).IsWhole} {h2 : (rM : Memref sig .tc .vmem S1x2048 .i32).IsWhole}
  {h3 : (oM : Memref sig .tc .vmem S64x1024 .f32).IsWhole} {h4 : (gM : Memref sig .tc .vmem S48x512 .f32).IsWhole} {h5 : (yM : Memref sig .tc .vmem S48x1024 .f32).IsWhole}
  {h6 : (vM : Memref sig .tc .vmem S49x1 .i32).IsWhole} {h7 : (mM : Memref sig .tc .smem S49x1 .i32).IsWhole}
variable (κ : GSem nD τ sig → ℕ)

theorem part2 {Q : (Σ' (v60 : BitVec 32) (v61 : BitVec 32) (v62 : BitVec 1), BitVec 32) → sProp 𝕄} (c : Dev nD) :
    iprop(records P κ ∗ reached ER (recvCell c) 0 ∗ SigSt P c 1)
      ⊢ iprop((∀ (r0 : BitVec 32) (r1 : BitVec 32) (r2 : BitVec 1) (r3 : BitVec 32), SigSt P c 4 -∗ Q ⟨r0, r1, r2, r3⟩) -∗ wp frame (wpE (defs₀ (F := F)) 𝒱₀ (c : Thread nD τ) none) Set.univ (k0_part2 xM h0 eM h1 rM h2 oM h3 gM h4 yM h5 vM h6 mM h7 cc0_scratch4 cc0_scratch5 cc0_scratch6 c (BitVec.ofNat 32 c.val) barV) Q) := by
  rw [k0_part2_eq_skeleton]; unfold k0_part2_skel
  simp only [semSignalWord, semWaitWord, smemLoad, smemLoadElt_bind, Prog.lift, Prog.bind_op, Prog.bind_ret, Prog.pure_eq_ret]
  iintro ⟨#HR, #HC, HS⟩ Hk
  iapply (st_signal P κ c 1 2 1 rfl rfl (sig_dev2 c) (by decide)) $$ [$HR $HC $HS]; iintro HS
  iapply (st_signal P κ c 2 3 2 rfl rfl (sig_dev3 c) (by decide)) $$ [$HR $HC $HS]; iintro HS
  iapply (st_signal P κ c 3 4 3 rfl rfl (sig_dev4 c) (by decide)) $$ [$HR $HC $HS]; iintro HS
  rw [wp_ret]; imodintro; iapply Hk; iexact HS

theorem part3 {Q : (PUnit) → sProp 𝕄} (c : Dev nD) {v60 : BitVec 32} {v61 : BitVec 32} {v62 : BitVec 1} {c0_i32_41 : BitVec 32} :
    iprop(records P κ ∗ reached ER (recvCell c) 0 ∗ SigSt P c 4)
      ⊢ iprop((SigSt P c 6 -∗ Q ⟨⟩) -∗ wp frame (wpE (defs₀ (F := F)) 𝒱₀ (c : Thread nD τ) none) Set.univ (k0_part3 xM h0 eM h1 rM h2 oM h3 gM h4 yM h5 vM h6 mM h7 cc0_scratch4 cc0_scratch5 cc0_scratch6 c (BitVec.ofNat 32 c.val) barV v60 v61 v62 c0_i32_41) Q) := by
  rw [k0_part3_eq_skeleton]; unfold k0_part3_skel
  simp only [semSignalWord, semWaitWord, smemLoad, smemLoadElt_bind, Prog.lift, Prog.bind_op, Prog.bind_ret, Prog.pure_eq_ret]
  iintro ⟨#HR, #HC, HS⟩ Hk
  iapply (st_signal P κ c 4 5 4 rfl rfl (sig_dev5 c) (by decide)) $$ [$HR $HC $HS]; iintro HS
  iapply (st_signal P κ c 5 6 5 rfl rfl (sig_dev6 c) (by decide)) $$ [$HR $HC $HS]; iintro HS
  rw [wp_ret]; imodintro; iapply Hk; iexact HS

theorem part4 {Q : (Σ' (v125 : BitVec 32) (v126 : BitVec 32) (v127 : BitVec 1), BitVec 32) → sProp 𝕄} (c : Dev nD) :
    iprop(records P κ ∗ reached ER (recvCell c) 0 ∗ SigSt P c 6)
      ⊢ iprop((∀ (r0 : BitVec 32) (r1 : BitVec 32) (r2 : BitVec 1) (r3 : BitVec 32), SigSt P c 9 -∗ Q ⟨r0, r1, r2, r3⟩) -∗ wp frame (wpE (defs₀ (F := F)) 𝒱₀ (c : Thread nD τ) none) Set.univ (k0_part4 xM h0 eM h1 rM h2 oM h3 gM h4 yM h5 vM h6 mM h7 cc0_scratch4 cc0_scratch5 cc0_scratch6 c (BitVec.ofNat 32 c.val) barV) Q) := by
  rw [k0_part4_eq_skeleton]; unfold k0_part4_skel
  simp only [semSignalWord, semWaitWord, smemLoad, smemLoadElt_bind, Prog.lift, Prog.bind_op, Prog.bind_ret, Prog.pure_eq_ret]
  iintro ⟨#HR, #HC, HS⟩ Hk
  iapply (st_signal P κ c 6 7 6 rfl rfl (sig_dev7 c) (by decide)) $$ [$HR $HC $HS]; iintro HS
  iapply (st_signal P κ c 7 8 7 rfl rfl (sig_dev8 c) (by decide)) $$ [$HR $HC $HS]; iintro HS
  iapply (st_signal P κ c 8 9 8 rfl rfl (sig_dev9 c) (by decide)) $$ [$HR $HC $HS]; iintro HS
  rw [wp_ret]; imodintro; iapply Hk; iexact HS

theorem part5 {Q : (PUnit) → sProp 𝕄} (c : Dev nD) {v125 : BitVec 32} {v126 : BitVec 32} {v127 : BitVec 1} {c0_i32_86 : BitVec 32} :
    iprop(records P κ ∗ reached ER (recvCell c) 0 ∗ SigSt P c 9)
      ⊢ iprop((SigSt P c 11 -∗ Q ⟨⟩) -∗ wp frame (wpE (defs₀ (F := F)) 𝒱₀ (c : Thread nD τ) none) Set.univ (k0_part5 xM h0 eM h1 rM h2 oM h3 gM h4 yM h5 vM h6 mM h7 cc0_scratch4 cc0_scratch5 cc0_scratch6 c (BitVec.ofNat 32 c.val) barV v125 v126 v127 c0_i32_86) Q) := by
  rw [k0_part5_eq_skeleton]; unfold k0_part5_skel
  simp only [semSignalWord, semWaitWord, smemLoad, smemLoadElt_bind, Prog.lift, Prog.bind_op, Prog.bind_ret, Prog.pure_eq_ret]
  iintro ⟨#HR, #HC, HS⟩ Hk
  iapply (st_signal P κ c 9 10 9 rfl rfl (sig_dev10 c) (by decide)) $$ [$HR $HC $HS]; iintro HS
  iapply (st_signal P κ c 10 11 10 rfl rfl (sig_dev11 c) (by decide)) $$ [$HR $HC $HS]; iintro HS
  rw [wp_ret]; imodintro; iapply Hk; iexact HS

theorem part6 {Q : (Σ' (v190 : BitVec 32) (v191 : BitVec 32) (v192 : BitVec 1), BitVec 32) → sProp 𝕄} (c : Dev nD) :
    iprop(records P κ ∗ reached ER (recvCell c) 0 ∗ SigSt P c 11)
      ⊢ iprop((∀ (r0 : BitVec 32) (r1 : BitVec 32) (r2 : BitVec 1) (r3 : BitVec 32), SigSt P c 14 -∗ Q ⟨r0, r1, r2, r3⟩) -∗ wp frame (wpE (defs₀ (F := F)) 𝒱₀ (c : Thread nD τ) none) Set.univ (k0_part6 xM h0 eM h1 rM h2 oM h3 gM h4 yM h5 vM h6 mM h7 cc0_scratch4 cc0_scratch5 cc0_scratch6 c (BitVec.ofNat 32 c.val) barV) Q) := by
  rw [k0_part6_eq_skeleton]; unfold k0_part6_skel
  simp only [semSignalWord, semWaitWord, smemLoad, smemLoadElt_bind, Prog.lift, Prog.bind_op, Prog.bind_ret, Prog.pure_eq_ret]
  iintro ⟨#HR, #HC, HS⟩ Hk
  iapply (st_signal P κ c 11 12 11 rfl rfl (sig_dev12 c) (by decide)) $$ [$HR $HC $HS]; iintro HS
  iapply (st_signal P κ c 12 13 12 rfl rfl (sig_dev13 c) (by decide)) $$ [$HR $HC $HS]; iintro HS
  iapply (st_signal P κ c 13 14 13 rfl rfl (sig_dev14 c) (by decide)) $$ [$HR $HC $HS]; iintro HS
  rw [wp_ret]; imodintro; iapply Hk; iexact HS

theorem part7 {Q : (PUnit) → sProp 𝕄} (c : Dev nD) {v190 : BitVec 32} {v191 : BitVec 32} {v192 : BitVec 1} {c0_i32_131 : BitVec 32} :
    iprop(records P κ ∗ reached ER (recvCell c) 0 ∗ SigSt P c 14)
      ⊢ iprop((SigSt P c 16 -∗ Q ⟨⟩) -∗ wp frame (wpE (defs₀ (F := F)) 𝒱₀ (c : Thread nD τ) none) Set.univ (k0_part7 xM h0 eM h1 rM h2 oM h3 gM h4 yM h5 vM h6 mM h7 cc0_scratch4 cc0_scratch5 cc0_scratch6 c (BitVec.ofNat 32 c.val) barV v190 v191 v192 c0_i32_131) Q) := by
  rw [k0_part7_eq_skeleton]; unfold k0_part7_skel
  simp only [semSignalWord, semWaitWord, smemLoad, smemLoadElt_bind, Prog.lift, Prog.bind_op, Prog.bind_ret, Prog.pure_eq_ret]
  iintro ⟨#HR, #HC, HS⟩ Hk
  iapply (st_signal P κ c 14 15 14 rfl rfl (sig_dev15 c) (by decide)) $$ [$HR $HC $HS]; iintro HS
  iapply (st_signal P κ c 15 16 15 rfl rfl (sig_dev16 c) (by decide)) $$ [$HR $HC $HS]; iintro HS
  rw [wp_ret]; imodintro; iapply Hk; iexact HS

theorem part8 {Q : (Σ' (v255 : BitVec 32) (v256 : BitVec 32) (v257 : BitVec 1), BitVec 32) → sProp 𝕄} (c : Dev nD) :
    iprop(records P κ ∗ reached ER (recvCell c) 0 ∗ SigSt P c 16)
      ⊢ iprop((∀ (r0 : BitVec 32) (r1 : BitVec 32) (r2 : BitVec 1) (r3 : BitVec 32), SigSt P c 19 -∗ Q ⟨r0, r1, r2, r3⟩) -∗ wp frame (wpE (defs₀ (F := F)) 𝒱₀ (c : Thread nD τ) none) Set.univ (k0_part8 xM h0 eM h1 rM h2 oM h3 gM h4 yM h5 vM h6 mM h7 cc0_scratch4 cc0_scratch5 cc0_scratch6 c (BitVec.ofNat 32 c.val) barV) Q) := by
  rw [k0_part8_eq_skeleton]; unfold k0_part8_skel
  simp only [semSignalWord, semWaitWord, smemLoad, smemLoadElt_bind, Prog.lift, Prog.bind_op, Prog.bind_ret, Prog.pure_eq_ret]
  iintro ⟨#HR, #HC, HS⟩ Hk
  iapply (st_signal P κ c 16 17 16 rfl rfl (sig_dev17 c) (by decide)) $$ [$HR $HC $HS]; iintro HS
  iapply (st_signal P κ c 17 18 17 rfl rfl (sig_dev18 c) (by decide)) $$ [$HR $HC $HS]; iintro HS
  iapply (st_signal P κ c 18 19 18 rfl rfl (sig_dev19 c) (by decide)) $$ [$HR $HC $HS]; iintro HS
  rw [wp_ret]; imodintro; iapply Hk; iexact HS

theorem part9 {Q : (PUnit) → sProp 𝕄} (c : Dev nD) {v255 : BitVec 32} {v256 : BitVec 32} {v257 : BitVec 1} {c0_i32_176 : BitVec 32} :
    iprop(records P κ ∗ reached ER (recvCell c) 0 ∗ SigSt P c 19)
      ⊢ iprop((SigSt P c 21 -∗ Q ⟨⟩) -∗ wp frame (wpE (defs₀ (F := F)) 𝒱₀ (c : Thread nD τ) none) Set.univ (k0_part9 xM h0 eM h1 rM h2 oM h3 gM h4 yM h5 vM h6 mM h7 cc0_scratch4 cc0_scratch5 cc0_scratch6 c (BitVec.ofNat 32 c.val) barV v255 v256 v257 c0_i32_176) Q) := by
  rw [k0_part9_eq_skeleton]; unfold k0_part9_skel
  simp only [semSignalWord, semWaitWord, smemLoad, smemLoadElt_bind, Prog.lift, Prog.bind_op, Prog.bind_ret, Prog.pure_eq_ret]
  iintro ⟨#HR, #HC, HS⟩ Hk
  iapply (st_signal P κ c 19 20 19 rfl rfl (sig_dev20 c) (by decide)) $$ [$HR $HC $HS]; iintro HS
  iapply (st_signal P κ c 20 21 20 rfl rfl (sig_dev21 c) (by decide)) $$ [$HR $HC $HS]; iintro HS
  rw [wp_ret]; imodintro; iapply Hk; iexact HS

theorem part10 {Q : (Σ' (v320 : BitVec 32) (v321 : BitVec 32) (v322 : BitVec 1), BitVec 32) → sProp 𝕄} (c : Dev nD) :
    iprop(records P κ ∗ reached ER (recvCell c) 0 ∗ SigSt P c 21)
      ⊢ iprop((∀ (r0 : BitVec 32) (r1 : BitVec 32) (r2 : BitVec 1) (r3 : BitVec 32), SigSt P c 24 -∗ Q ⟨r0, r1, r2, r3⟩) -∗ wp frame (wpE (defs₀ (F := F)) 𝒱₀ (c : Thread nD τ) none) Set.univ (k0_part10 xM h0 eM h1 rM h2 oM h3 gM h4 yM h5 vM h6 mM h7 cc0_scratch4 cc0_scratch5 cc0_scratch6 c (BitVec.ofNat 32 c.val) barV) Q) := by
  rw [k0_part10_eq_skeleton]; unfold k0_part10_skel
  simp only [semSignalWord, semWaitWord, smemLoad, smemLoadElt_bind, Prog.lift, Prog.bind_op, Prog.bind_ret, Prog.pure_eq_ret]
  iintro ⟨#HR, #HC, HS⟩ Hk
  iapply (st_signal P κ c 21 22 21 rfl rfl (sig_dev22 c) (by decide)) $$ [$HR $HC $HS]; iintro HS
  iapply (st_signal P κ c 22 23 22 rfl rfl (sig_dev23 c) (by decide)) $$ [$HR $HC $HS]; iintro HS
  iapply (st_signal P κ c 23 24 23 rfl rfl (sig_dev24 c) (by decide)) $$ [$HR $HC $HS]; iintro HS
  rw [wp_ret]; imodintro; iapply Hk; iexact HS

theorem part11 {Q : (PUnit) → sProp 𝕄} (c : Dev nD) {v320 : BitVec 32} {v321 : BitVec 32} {v322 : BitVec 1} {c0_i32_221 : BitVec 32} :
    iprop(records P κ ∗ reached ER (recvCell c) 0 ∗ SigSt P c 24)
      ⊢ iprop((SigSt P c 26 -∗ Q ⟨⟩) -∗ wp frame (wpE (defs₀ (F := F)) 𝒱₀ (c : Thread nD τ) none) Set.univ (k0_part11 xM h0 eM h1 rM h2 oM h3 gM h4 yM h5 vM h6 mM h7 cc0_scratch4 cc0_scratch5 cc0_scratch6 c (BitVec.ofNat 32 c.val) barV v320 v321 v322 c0_i32_221) Q) := by
  rw [k0_part11_eq_skeleton]; unfold k0_part11_skel
  simp only [semSignalWord, semWaitWord, smemLoad, smemLoadElt_bind, Prog.lift, Prog.bind_op, Prog.bind_ret, Prog.pure_eq_ret]
  iintro ⟨#HR, #HC, HS⟩ Hk
  iapply (st_signal P κ c 24 25 24 rfl rfl (sig_dev25 c) (by decide)) $$ [$HR $HC $HS]; iintro HS
  iapply (st_signal P κ c 25 26 25 rfl rfl (sig_dev26 c) (by decide)) $$ [$HR $HC $HS]; iintro HS
  rw [wp_ret]; imodintro; iapply Hk; iexact HS

theorem part12 {Q : (Σ' (v385 : BitVec 32) (v386 : BitVec 32) (v387 : BitVec 1), BitVec 32) → sProp 𝕄} (c : Dev nD) :
    iprop(records P κ ∗ reached ER (recvCell c) 0 ∗ SigSt P c 26)
      ⊢ iprop((∀ (r0 : BitVec 32) (r1 : BitVec 32) (r2 : BitVec 1) (r3 : BitVec 32), SigSt P c 29 -∗ Q ⟨r0, r1, r2, r3⟩) -∗ wp frame (wpE (defs₀ (F := F)) 𝒱₀ (c : Thread nD τ) none) Set.univ (k0_part12 xM h0 eM h1 rM h2 oM h3 gM h4 yM h5 vM h6 mM h7 cc0_scratch4 cc0_scratch5 cc0_scratch6 c (BitVec.ofNat 32 c.val) barV) Q) := by
  rw [k0_part12_eq_skeleton]; unfold k0_part12_skel
  simp only [semSignalWord, semWaitWord, smemLoad, smemLoadElt_bind, Prog.lift, Prog.bind_op, Prog.bind_ret, Prog.pure_eq_ret]
  iintro ⟨#HR, #HC, HS⟩ Hk
  iapply (st_signal P κ c 26 27 26 rfl rfl (sig_dev27 c) (by decide)) $$ [$HR $HC $HS]; iintro HS
  iapply (st_signal P κ c 27 28 27 rfl rfl (sig_dev28 c) (by decide)) $$ [$HR $HC $HS]; iintro HS
  iapply (st_signal P κ c 28 29 28 rfl rfl (sig_dev29 c) (by decide)) $$ [$HR $HC $HS]; iintro HS
  rw [wp_ret]; imodintro; iapply Hk; iexact HS

end Cert.Route
-- ==== Proof.Body.lean ====
/- The whole body on one device, its parts put together. -/
module

public import proofs.«01_k».proof.Proof.Setup
public import proofs.«01_k».proof.Proof.Gathers
public import proofs.«01_k».proof.Proof.Words
public import proofs.«01_k».proof.Proof.Sends
public import proofs.«01_k».proof.Proof.Signals

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)
variable {h0 : (xM : Memref sig .tc .vmem S2048x512 .f32).IsWhole} {h1 : (eM : Memref sig .tc .vmem S4x512x1024 .f32).IsWhole} {h2 : (rM : Memref sig .tc .vmem S1x2048 .i32).IsWhole}
  {h3 : (oM : Memref sig .tc .vmem S64x1024 .f32).IsWhole} {h4 : (gM : Memref sig .tc .vmem S48x512 .f32).IsWhole} {h5 : (yM : Memref sig .tc .vmem S48x1024 .f32).IsWhole}
  {h6 : (vM : Memref sig .tc .vmem S49x1 .i32).IsWhole} {h7 : (mM : Memref sig .tc .smem S49x1 .i32).IsWhole}
variable (κ : GSem nD τ sig → ℕ)

/-- Running a program and then the rest. -/
theorem seq_bind {α β : Type} {Q : β → sProp 𝕄} (c : Dev nD) (p : Prog (TpuEff nD τ sig (Elt F) Λ₀ .tc) α) (k : α → Prog (TpuEff nD τ sig (Elt F) Λ₀ .tc) β) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q := Entails.of_eq (wp_bind ..).symm

/-! ## The loops -/

theorem nrecv_le (c : Dev nD) : nrecv (ev P.R) c ≤ 1536 := by
  rw [← card_sends]
  refine (Finset.card_le_univ _).trans (le_of_eq ?_)
  rw [Fintype.card_prod, Fintype.card_fin, Fintype.card_fin]; rfl

theorem word_count (w : BitVec 32) : Scalar.addi 0#32 (Scalar.muli (Scalar.divsi (Scalar.subi w 0#32) 1#32) 1#32) = w := by
  have h : Scalar.subi w 0#32 = w := by show w - 0#32 = w; simp
  have h2 : Scalar.divsi w 1#32 = w := by
    show (if IntOp.SDivCorner w 1#32 then IntOp.cornerWord ArithUnit.scalar IntCorner.divsi w 1#32 else w.sdiv 1#32) = w
    rw [if_neg (by simp [IntOp.SDivCorner])]; simp
  rw [h, h2]
  show 0#32 + w * 1#32 = w
  simp

theorem loop1 (w : BitVec 32) : k0_t1_loop w = ⟨0#32, w, 1#32⟩ := by
  show Scf.Loop.mk _ _ _ = _
  rw [word_count]

theorem loop2 (w : BitVec 32) : k0_t2_loop w = ⟨w, w, 1#32⟩ := by
  show Scf.Loop.mk _ _ _ = _
  rw [word_count]
  congr 1
  simp [Scalar.addi, Scalar.subi, IntOp.addi, IntOp.subi]

theorem toInt_small {n : ℕ} (h : n ≤ 1536) : (BitVec.ofNat 32 n).toInt = n := by
  rw [BitVec.toInt_eq_toNat_of_lt (by rw [BitVec.toNat_ofNat]; omega), BitVec.toNat_ofNat, Nat.mod_eq_of_lt (by omega)]

theorem one_int : (1#32).toInt = 1 := by decide
theorem zero_int : (0#32).toInt = 0 := by decide

theorem trips1 {n : ℕ} (h : n ≤ 1536) : (k0_t1_loop (BitVec.ofNat 32 n)).trips = n := by
  rw [loop1]
  show Scf.trips _ _ _ = _
  unfold Scf.trips
  rw [toInt_small h, one_int, zero_int]
  omega

theorem trips2 {n : ℕ} (h : n ≤ 1536) : (k0_t2_loop (BitVec.ofNat 32 n)).trips = 0 := by
  rw [loop2]
  show Scf.trips _ _ _ = _
  unfold Scf.trips
  rw [toInt_small h, one_int]
  omega

theorem chk97_of {n : ℕ} (h : n ≤ 1536) : k0_chk97 (BitVec.ofNat 32 n) := by
  unfold k0_chk97
  have h1 := trips1 h
  have h2 := trips2 h
  rw [loop1] at h1 ⊢
  rw [loop2] at h2 ⊢
  refine ⟨⟨?_, ?_⟩, ⟨?_, ?_⟩⟩
  · show 0 < (1#32).toInt; rw [one_int]; omega
  · show (0#32).toInt + ((Scf.Loop.trips ⟨0#32, BitVec.ofNat 32 n, 1#32⟩ : ℕ) : Int) * (1#32).toInt < _
    rw [h1, one_int, zero_int]; norm_num; omega
  · show 0 < (1#32).toInt; rw [one_int]; omega
  · show (BitVec.ofNat 32 n).toInt + ((Scf.Loop.trips ⟨BitVec.ofNat 32 n, BitVec.ofNat 32 n, 1#32⟩ : ℕ) : Int) * (1#32).toInt < _
    rw [h2, one_int, toInt_small h]; norm_num; omega

theorem chk97 (c : Dev nD) : k0_chk97 (BitVec.ofNat 32 (nrecv (ev P.R) c)) := chk97_of (nrecv_le P c)

/-! ## All that comes before the loops -/

/-- What lasts: the cells' records, the levels, the first round reached. -/
def Lasting (c : Dev nD) : sProp 𝕄 :=
  iprop(records P κ ∗ levAts L lv ∗ reached ER (recvCell c) 0 ∗ reached ER (metaCell c) 0 ∗ bigSep Finset.univ fun s : Fin 48 => reached ER (sendCell c s) 0)

instance lasting_persistent (c : Dev nD) : BI.Persistent (Lasting P κ c) := by
  unfold Lasting; infer_instance

/-- What the body takes of the launch's: places, tokens, credits, debts. -/
def Talk (c : Dev nD) : sProp 𝕄 :=
  iprop(SigPre P c ∗ dutyTok ER (metaCell c) 0 ((c, 0) : D) ∗ atPos ER (metaCell c) 0 ∅ 0 ∗ cred (tallyAt (barCell c) 20 31) ∗ atPos ER (barCell c) 0 ∅ 0
    ∗ cred (tallyAt (recvCell c) 21 (nrecv (ev P.R) c * N)) ∗ atPos ER (recvCell c) 0 ∅ 0
    ∗ (bigSep Finset.univ fun s : Fin 48 => atPos ER (sendCell c s) 0 ∅ 0)
    ∗ (bigSep Finset.univ fun s : Fin 48 => dutyTok ER (recvCell (tgt P c s)) 0 ((c, s) : D))
    ∗ (bigSep Finset.univ fun s : Fin 48 => dutyTok ER (sendCell c s) 0 ((c, 0) : D)))

/-- The send items, put together. -/
theorem send_items (c : Dev nD) :
    iprop((bigSep Finset.univ fun x => handPay P x c) ∗ (bigSep Finset.univ fun s : Fin 48 => dutyTok ER (recvCell (tgt P c s)) 0 ((c, s) : D))
        ∗ (bigSep Finset.univ fun s : Fin 48 => dutyTok ER (sendCell c s) 0 ((c, 0) : D)) ∗ (bigSep Finset.univ fun s : Fin 48 => reached ER (sendCell c s) 0) ∗ YSt P c 48)
      ⊢ bigSep Finset.univ fun s : Fin 48 => sendItem P c s := by
  have e : (bigSep Finset.univ fun s : Fin 48 => sendItem P c s)
      = iprop((bigSep Finset.univ fun s : Fin 48 => slotGot P c s) ∗ (bigSep Finset.univ fun s : Fin 48 => dutyTok ER (recvCell (tgt P c s)) 0 ((c, s) : D))
        ∗ (bigSep Finset.univ fun s : Fin 48 => dutyTok ER (sendCell c s) 0 ((c, 0) : D)) ∗ (bigSep Finset.univ fun s : Fin 48 => reached ER (sendCell c s) 0) ∗ (bigSep Finset.univ fun s : Fin 48 => yPts P c s)) := by
    unfold sendItem
    exact (BI.bigSep_sep _ _ _).trans (congrArg _ ((BI.bigSep_sep _ _ _).trans (congrArg _ ((BI.bigSep_sep _ _ _).trans (congrArg _ (BI.bigSep_sep _ _ _))))))
  rw [e]
  iintro ⟨Hh, Ht, Hs, Hr, Hy⟩
  ihave Hh := (hand_slots P c) $$ Hh
  ihave Hy := (y_split P c) $$ Hy
  iframe

/-- The signals' payments and the device's own hand-over are all the hand-overs. -/
theorem hand_all (c : Dev nD) :
    iprop((bigSep (Finset.univ.erase c) fun x => handPay P x c) ∗ handRow P c c ∗ reached ER (recvCell c) 0) ⊢ bigSep Finset.univ fun x => handPay P x c := by
  have e1 : iprop(handRow P c c ∗ reached ER (recvCell c) 0) ⊢ handPay P c c := by unfold handPay; exact Entails.of_eq rfl
  have e : iprop(handPay P c c ∗ bigSep (Finset.univ.erase c) fun x => handPay P x c) ⊢ bigSep Finset.univ fun x => handPay P x c := by
    refine Entails.of_eq ?_
    refine (BI.bigSep_insert (Φ := fun x => handPay P x c) (Finset.notMem_erase c Finset.univ)).symm.trans ?_
    rw [Finset.insert_erase (Finset.mem_univ c)]
  iintro ⟨H, H1, H2⟩
  iapply e
  isplitl [H1 H2]
  · iapply e1 $$ [$H1 $H2]
  iexact H

theorem send_start (c : Dev nD) : iprop((∃ W, owes (c : Thread nD τ) (OS P c 0) W) ∗ bigSep Finset.univ fun s : Fin 48 => sendItem P c s) ⊢ SendSt P c 0 := by
  unfold SendSt
  rw [seq_start (fun s : Fin 48 => sendItem P c s) (fun s : Fin 48 => sentItem P c s)]

theorem wait_end (c : Dev nD) : WaitSt P c 48 ⊢ iprop((∃ W, owes (c : Thread nD τ) 0 W) ∗ buf c cc0_scratch1 (Y P c : Vec F S48x1024 .f32) ∗ bigSep Finset.univ fun s : Fin 48 => semVal (sendCell c s) 0) := by
  have e : (bigSep Finset.univ fun s : Fin 48 => if s.val < 48 then doneItem P c s else waitItem P c s)
      = iprop((bigSep Finset.univ fun s : Fin 48 => yPts P c s) ∗ bigSep Finset.univ fun s : Fin 48 => semVal (sendCell c s) 0) := by
    rw [seq_end (fun s : Fin 48 => waitItem P c s) (fun s : Fin 48 => doneItem P c s)]; unfold doneItem; exact BI.bigSep_sep _ _ _
  unfold WaitSt
  rw [e, y_rows]

/-- What is left before the loops. -/
def Mid (c : Dev nD) : sProp 𝕄 :=
  iprop(buf c cc0_stg0_0 (P.X c) ∗ buf c cc0_stg1_0 (P.E c) ∗ buf c cc0_stg2_0 P.R ∗ (((c : Thread nD τ).loc cc0_stg3_0) ↦[oRest P c]{fullShare} (zeroB : Vec F S64x1024 .f32))
    ∗ GSt P c 48 ∗ buf c cc0_scratch1 (Y P c : Vec F S48x1024 .f32) ∗ buf c cc0_scratch2 (META P c) ∗ buf c cc0_scratch3 (META P c)
    ∗ semVal (metaCell c) 0 ∗ semVal (barCell c) 0 ∗ (bigSep Finset.univ fun s : Fin 48 => semVal (sendCell c s) 0)
    ∗ RecvSt P c 0)

theorem part49 {Q : (Σ' (v2 : BitVec 32) (v1434 : Elt F .i32), k0_chk97 v1434) → sProp 𝕄} (c : Dev nD) (f : Vec F S64x1024 .f32) (fg : Vec F S48x512 .f32) (fy : Vec F S48x1024 .f32) (fv fm : Vec F S49x1 .i32) :
    iprop(Lasting P κ c ∗ Talk P c ∗ buf c cc0_stg0_0 (P.X c) ∗ buf c cc0_stg1_0 (P.E c) ∗ buf c cc0_stg2_0 P.R ∗ buf c cc0_stg3_0 f
        ∗ buf c cc0_scratch0 fg ∗ buf c cc0_scratch1 fy ∗ buf c cc0_scratch2 fv ∗ buf c cc0_scratch3 fm)
      ⊢ iprop((∀ h : k0_chk97 (BitVec.ofNat 32 (nrecv (ev P.R) c)), Mid P c -∗ Q ⟨BitVec.ofNat 32 c.val, BitVec.ofNat 32 (nrecv (ev P.R) c), h⟩)
        -∗ wp frame (wpE (defs₀ (F := F)) 𝒱₀ (c : Thread nD τ) none) Set.univ (k0_part49 xM h0 eM h1 rM h2 oM h3 gM h4 yM h5 vM h6 mM h7 cc0_scratch4 cc0_scratch5 cc0_scratch6) Q) := by
  rw [k0_part49_eq_skeleton]; unfold k0_part49_skel Lasting Talk
  iintro ⟨⟨#HR, #HL, #HC, #HCm, #HCs⟩, ⟨HSP, HTm, HAm, HcB, HaB, HcR, HaR, HaS, Htr, Hts⟩, HX, HE, HRr, HO, HG0, HY0, HV, HM⟩ Hk
  ihave HG := (gst_zero P c fg) $$ HG0
  ihave HY := (yst_zero P c fy) $$ HY0
  iapply (seq_bind c)
  iapply (part1 P κ c f) $$ [$HR $HC $HO $HSP]
  iintro ⟨HS, HH, HZ⟩
  iapply (seq_bind c)
  iapply (part2 P κ c) $$ [$HR $HC $HS]
  iintro %z2_0 %z2_1 %z2_2 %z2_3 HS
  iapply (seq_bind c)
  iapply (part3 P κ c) $$ [$HR $HC $HS]
  iintro HS
  iapply (seq_bind c)
  iapply (part4 P κ c) $$ [$HR $HC $HS]
  iintro %z4_0 %z4_1 %z4_2 %z4_3 HS
  iapply (seq_bind c)
  iapply (part5 P κ c) $$ [$HR $HC $HS]
  iintro HS
  iapply (seq_bind c)
  iapply (part6 P κ c) $$ [$HR $HC $HS]
  iintro %z6_0 %z6_1 %z6_2 %z6_3 HS
  iapply (seq_bind c)
  iapply (part7 P κ c) $$ [$HR $HC $HS]
  iintro HS
  iapply (seq_bind c)
  iapply (part8 P κ c) $$ [$HR $HC $HS]
  iintro %z8_0 %z8_1 %z8_2 %z8_3 HS
  iapply (seq_bind c)
  iapply (part9 P κ c) $$ [$HR $HC $HS]
  iintro HS
  iapply (seq_bind c)
  iapply (part10 P κ c) $$ [$HR $HC $HS]
  iintro %z10_0 %z10_1 %z10_2 %z10_3 HS
  iapply (seq_bind c)
  iapply (part11 P κ c) $$ [$HR $HC $HS]
  iintro HS
  iapply (seq_bind c)
  iapply (part12 P κ c) $$ [$HR $HC $HS]
  iintro %z12_0 %z12_1 %z12_2 %z12_3 HS
  iapply (seq_bind c)
  iapply (part13 P κ c) $$ [$HR $HC $HS $HRr]
  iintro ⟨HS, HRr⟩
  iapply (seq_bind c)
  iapply (part14 c)
  iapply (seq_bind c)
  iapply (part15 c)
  iapply (seq_bind c)
  iapply (part16 c)
  iapply (seq_bind c)
  iapply (part17 P κ c (tok_at P.R c.val) (recv_at P.R c.val c.2) fv fm) $$ [$HR $HL $HV $HM $HTm $HCm $HAm $HS $HX $HG]
  iintro %z17_0 ⟨HV, Hsm, HS, HX, HM, HG⟩
  iapply (seq_bind c)
  iapply (part18 P c) $$ [$HX $HM $HG]
  iintro %z18_0 ⟨HX, HM, HG⟩
  iapply (seq_bind c)
  iapply (part19 P c) $$ [$HX $HM $HG]
  iintro ⟨HX, HM, HG⟩
  iapply (seq_bind c)
  iapply (part20 P c) $$ [$HX $HM $HG]
  iintro ⟨HX, HM, HG⟩
  iapply (seq_bind c)
  iapply (part21 P c) $$ [$HX $HM $HG]
  iintro %z21_0 ⟨HX, HM, HG⟩
  iapply (seq_bind c)
  iapply (part22 P c) $$ [$HX $HM $HG]
  iintro %z22_0 ⟨HX, HM, HG⟩
  iapply (seq_bind c)
  iapply (part23 P c) $$ [$HX $HM $HG]
  iintro ⟨HX, HM, HG⟩
  iapply (seq_bind c)
  iapply (part24 P c) $$ [$HX $HM $HG]
  iintro ⟨HX, HM, HG⟩
  iapply (seq_bind c)
  iapply (part25 P c) $$ [$HX $HM $HG]
  iintro %z25_0 ⟨HX, HM, HG⟩
  iapply (seq_bind c)
  iapply (part26 P c) $$ [$HX $HM $HG]
  iintro %z26_0 ⟨HX, HM, HG⟩
  iapply (seq_bind c)
  iapply (part27 P c) $$ [$HX $HM $HG]
  iintro ⟨HX, HM, HG⟩
  iapply (seq_bind c)
  iapply (part28 P c) $$ [$HX $HM $HG]
  iintro ⟨HX, HM, HG⟩
  iapply (seq_bind c)
  iapply (part29 P c) $$ [$HX $HM $HG]
  iintro %z29_0 ⟨HX, HM, HG⟩
  iapply (seq_bind c)
  iapply (part30 P c) $$ [$HX $HM $HG $HE $HY]
  iintro ⟨HX, HM, HG, HE, HY⟩
  iapply (seq_bind c)
  iapply (part31 P κ c) $$ [$HR $HL $HcB $HaB $HS $HM $HG $HE $HY]
  iintro %z31_0 %z31_1 %z31_2 %z31_3 %z31_4 %z31_5 %z31_6 %z31_7 ⟨HW, Hsb, Hhand, HM, HG, HE, HY⟩
  iapply (seq_bind c)
  iapply (part32 P c) $$ [$HM]
  iintro %z32_0 %z32_1 %z32_2 %z32_3 %z32_4 %z32_5 %z32_6 %z32_7 %z32_8 %z32_9 %z32_10 %z32_11 %z32_12 %z32_13 %z32_14 HM
  iapply (seq_bind c)
  iapply (part33 P c) $$ [$HM]
  iintro %z33_0 %z33_1 %z33_2 %z33_3 %z33_4 %z33_5 %z33_6 %z33_7 %z33_8 %z33_9 %z33_10 %z33_11 %z33_12 %z33_13 %z33_14 %z33_15 HM
  iapply (seq_bind c)
  iapply (part34 P c) $$ [$HM]
  iintro %z34_0 %z34_1 %z34_2 %z34_3 %z34_4 %z34_5 %z34_6 %z34_7 %z34_8 %z34_9 %z34_10 %z34_11 %z34_12 %z34_13 %z34_14 HM
  iapply (seq_bind c)
  iapply (part35 P c) $$ [$HM]
  iintro %z35_0 %z35_1 %z35_2 %z35_3 %z35_4 %z35_5 %z35_6 %z35_7 %z35_8 %z35_9 %z35_10 %z35_11 %z35_12 %z35_13 %z35_14 %z35_15 HM
  iapply (seq_bind c)
  iapply (part36 P c) $$ [$HM]
  iintro %z36_0 %z36_1 %z36_2 %z36_3 %z36_4 %z36_5 %z36_6 %z36_7 %z36_8 %z36_9 %z36_10 %z36_11 %z36_12 %z36_13 %z36_14 HM
  iapply (seq_bind c)
  iapply (part37 P c) $$ [$HM]
  iintro %z37_0 %z37_1 %z37_2 %z37_3 %z37_4 %z37_5 %z37_6 %z37_7 %z37_8 %z37_9 %z37_10 %z37_11 %z37_12 %z37_13 %z37_14 %z37_15 HM
  ihave Hhand := (hand_all P c) $$ [$Hhand $HH $HC]
  ihave Hitems := (send_items P c) $$ [$Hhand $Htr $Hts $HCs $HY]
  ihave HD := (send_start P c) $$ [$HW $Hitems]
  iapply (seq_bind c)
  iapply (part38 P κ c) $$ [$HR $HD]
  iintro %z38_0 HD
  iapply (seq_bind c)
  iapply (part39 P κ c) $$ [$HR $HD]
  iintro HD
  iapply (seq_bind c)
  iapply (part40 P κ c) $$ [$HR $HD]
  iintro %z40_0 HD
  iapply (seq_bind c)
  iapply (part41 P κ c) $$ [$HR $HD]
  iintro HD
  iapply (seq_bind c)
  iapply (part42 P κ c) $$ [$HR $HD]
  iintro %z42_0 HD
  iapply (seq_bind c)
  iapply (part43 P κ c) $$ [$HR $HD $HaS]
  iintro %z43_0 HD
  iapply (seq_bind c)
  iapply (part44 P κ c) $$ [$HR $HD]
  iintro %z44_0 %z44_1 HD
  iapply (seq_bind c)
  iapply (part45 P κ c) $$ [$HR $HD]
  iintro %z45_0 HD
  iapply (seq_bind c)
  iapply (part46 P κ c) $$ [$HR $HD]
  iintro HD
  iapply (seq_bind c)
  iapply (part47 P κ c) $$ [$HR $HD]
  iintro %z47_0 HD
  iapply (seq_bind c)
  iapply (part48 P κ c) $$ [$HR $HD]
  iintro HD
  iapply (st_wait P κ c 47 48 47 rfl rfl (cnd := k0_cond96 (W P c 47) = 1#1) Iff.rfl
    (o := fun h => oM.slice (Rect.unit (s := S64x1024) (k0_off144 (W P c 47)) S1x1024.size (k0_off144_inb (W P c 47) (chk96W P c 47) h)) (fun _ => rfl)) (y := yRow 47) rfl (sS := sendSem 47) rfl) $$ [$HR $HD]
  iintro HD
  simp only [smemLoad, smemLoadElt_bind, Prog.lift, Prog.bind_op, Prog.bind_ret, Prog.pure_eq_ret]
  iapply (st_count P c (chk := k0_chk97) (chk97 P c)) $$ HM; iintro HM
  rw [wp_ret]; imodintro
  ihave ⟨HW, HY, Hss⟩ := (wait_end P c) $$ HD
  ihave HRv := (recv_start P c) $$ [$HaR $HcR $HW]
  iapply Hk
  unfold Mid
  iframe

/-! ## The loops and the whole body -/

/-- What the body leaves. -/
def Left (c : Dev nD) : sProp 𝕄 :=
  iprop(buf c cc0_stg0_0 (P.X c) ∗ buf c cc0_stg1_0 (P.E c) ∗ buf c cc0_stg2_0 P.R ∗ buf c cc0_stg3_0 (FIN P c)
    ∗ (∃ f : Vec F S48x512 .f32, buf c cc0_scratch0 f) ∗ (∃ f : Vec F S48x1024 .f32, buf c cc0_scratch1 f) ∗ (∃ f : Vec F S49x1 .i32, buf c cc0_scratch2 f) ∗ (∃ f : Vec F S49x1 .i32, buf c cc0_scratch3 f)
    ∗ semVal (metaCell c) 0 ∗ semVal (barCell c) 0 ∗ (bigSep Finset.univ fun s : Fin 48 => semVal (sendCell c s) 0) ∗ semVal (recvCell c) 0
    ∗ ∃ W, owes (c : Thread nD τ) 0 W)

theorem gst_any (c : Dev nD) (n : ℕ) : GSt P c n ⊢ iprop(∃ f : Vec F S48x512 .f32, buf c cc0_scratch0 f) := by
  unfold GSt
  iintro ⟨%f, -, H⟩
  iexists f; iexact H

theorem sound_body {Q : PUnit → sProp 𝕄} (c : Dev nD) (f : Vec F S64x1024 .f32) (fg : Vec F S48x512 .f32) (fy : Vec F S48x1024 .f32) (fv fm : Vec F S49x1 .i32) :
    iprop(Lasting P κ c ∗ Talk P c ∗ buf c cc0_stg0_0 (P.X c) ∗ buf c cc0_stg1_0 (P.E c) ∗ buf c cc0_stg2_0 P.R ∗ buf c cc0_stg3_0 f
        ∗ buf c cc0_scratch0 fg ∗ buf c cc0_scratch1 fy ∗ buf c cc0_scratch2 fv ∗ buf c cc0_scratch3 fm)
      ⊢ iprop((Left P c -∗ Q ⟨⟩)
        -∗ wp frame (wpE (defs₀ (F := F)) 𝒱₀ (c : Thread nD τ) none) Set.univ (cc0__body xM h0 eM h1 rM h2 oM h3 gM h4 yM h5 vM h6 mM h7 cc0_scratch4 cc0_scratch5 cc0_scratch6) Q) := by
  rw [cc0__body_eq_skeleton]; unfold cc0__body_skel
  have hL : Lasting P κ c ⊢ records P κ := by
    unfold Lasting
    iintro ⟨H, -⟩
    iexact H
  iintro ⟨#HL, H⟩ Hk
  ihave #HR := hL $$ HL
  iapply (seq_bind c)
  iapply (part49 P κ c f fg fy fv fm) $$ [$HL $H]
  iintro %h HM
  unfold Mid
  icases HM with ⟨HX, HE, HRr, HZ, HG, HY, HV, HM, Hsm, Hsb, Hss, HRv⟩
  dsimp only
  iapply (Scf.wp_for_bind _ _ _ _ _ _ _ _ _ (fun n _ => iprop(records P κ ∗ RecvSt P c n)) (fun k acc => by
    have hk : k.val < nrecv (ev P.R) c := lt_of_lt_of_eq k.2 (trips1 (nrecv_le P c))
    unfold k0_t1_body
    simp only [Prog.lift, Prog.bind_op, Prog.bind_ret, Prog.pure_eq_ret]
    iintro ⟨#HR, H⟩
    iapply (step_recv P κ c k.val hk rfl) $$ [$HR $H]
    iintro H
    rw [wp_ret]; imodintro
    isplitr; · iexact HR
    iexact H)) $$ [$HR $HRv]
  iintro %_ ⟨-, HRv⟩
  iapply (Scf.wp_for_bind _ _ _ _ _ _ _ _ _ (fun _ _ => iprop(emp)) (fun k acc => absurd k.2 (by
    have := trips2 (nrecv_le P c)
    intro h; exact absurd (lt_of_lt_of_eq h this) (Nat.not_lt_zero _)))) $$ []
  · iempintro
  iintro %_ -
  have ht : Scf.trips (k0_t1_loop (BitVec.ofNat 32 (nrecv (ev P.R) c))).lb (k0_t1_loop (BitVec.ofNat 32 (nrecv (ev P.R) c))).ub (k0_t1_loop (BitVec.ofNat 32 (nrecv (ev P.R) c))).st = nrecv (ev P.R) c := trips1 (nrecv_le P c)
  have e : RecvSt P c (Scf.trips (k0_t1_loop (BitVec.ofNat 32 (nrecv (ev P.R) c))).lb (k0_t1_loop (BitVec.ofNat 32 (nrecv (ev P.R) c))).ub (k0_t1_loop (BitVec.ofNat 32 (nrecv (ev P.R) c))).st) ⊢ RecvSt P c (nrecv (ev P.R) c) :=
    Entails.of_eq (congrArg _ ht)
  ihave HRv := e $$ HRv
  imod (recv_end P κ c) $$ [$HR $HRv] with ⟨Hp, Hsr, HW⟩
  iapply st_ret
  iapply Hk
  unfold Left
  ihave HO := (fin_join P c) $$ [$Hp $HZ]
  ihave HG := (gst_any P c 48) $$ HG
  iframe
  isplitl [HY]; · iexists _; iexact HY
  isplitl [HV]; · iexists _; iexact HV
  iexists _; iexact HM

end Cert.Route
-- ==== Proof.Region.lean ====
/- The call: what enters it, what leaves it, its body. -/
module

public import proofs.«01_k».proof.Proof.Body
public import Idealize.ShloMosaic.Lib.Pipeline.RegionTalk

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

variable (m : (ℓ : Loc nD τ sig) → Buf (Elt F) ℓ)

/-! ## The buffers along @main -/

/-- Device `c`'s buffers at the launch, after the all-gather, after the reshape. -/
abbrev V₀ (c : Dev nD) : Valuation τ sig (Elt F) := fun b => m ((c : Dev nD), b)
abbrev V₁ (c : Dev nD) : Valuation τ sig (Elt F) := ag0.after₀ ag0_cores (V₀ m) c
def V₂ (c : Dev nD) : Valuation τ sig (Elt F) := StableHlo.after hostOps1 (V₁ m c)

theorem V₁_of_ne (c : Dev nD) (b : Ref sig .tc) (h : (Proc.devRef .tc b : DevRef τ sig) ≠ Proc.devRef .tc main_v1) : V₁ m c b = m ((c : Thread nD τ).loc b) :=
  ag0.after₀_of_ne ag0_cores (V₀ m) c h
theorem V₂_of_ne (c : Dev nD) (b : Ref sig .tc) (h : b ≠ main_v2) : V₂ m c b = V₁ m c b := by
  unfold V₂
  show StableHlo.after hostOps1 (V₁ m c) (Proc.devRef .tc b) = _
  rw [StableHlo.after_cons, StableHlo.after_nil]
  exact StableHlo.reshape_result_ne' _ _ _ _ _ h

/-- A device's place in the ring is its number. -/
theorem peer_val : ∀ (d : Dev nD) (o : Fin ag0.m), ((ag0.peer d o : Dev nD) : Fin nD).val = (ag0.partOf d o).val := by
  decide +kernel
theorem peer_part (d : Dev nD) (j : Fin ag0.n) :
    ((ag0.peer d ((ag0.partEquiv ag0_cores d).symm j) : Dev nD) : Fin nD).val = j.val := by
  rw [peer_val]
  exact congrArg Fin.val ((ag0.partEquiv ag0_cores d).apply_symm_apply j)

/-- Every device gathers the same. -/
theorem gathered_same (c d : Dev nD) : V₁ m c main_v1 = V₁ m d main_v1 := by
  show ag0.after₀ ag0_cores (V₀ m) c ag0.result = ag0.after₀ ag0_cores (V₀ m) d ag0.result
  rw [ag0.after₀_result, ag0.after₀_result]
  unfold AllGather.Cfg.gatheredOf
  congr 1
  funext j
  have : (ag0.peer c ((ag0.partEquiv ag0_cores c).symm j) : Dev nD) = ag0.peer d ((ag0.partEquiv ag0_cores d).symm j) :=
    Fin.ext ((peer_part c j).trans (peer_part d j).symm)
  rw [this]

theorem V₂_v2 (c : Dev nD) : V₂ m c main_v2 = shapeCast S1x2048 (V₁ m c main_v1 : Vec F S2048x1 .i32) shapeCasts_S2048x1_S1x2048 := by
  unfold V₂
  show StableHlo.after hostOps1 (V₁ m c) (Proc.devRef .tc main_v2) = _
  rw [StableHlo.after_cons, StableHlo.after_nil]
  exact StableHlo.reshape_result' _ _ _ _ _

/-- What the kernel is given. -/
def inp : Inp F where
  X c := m ((c : Thread nD τ).loc main_arg0)
  E c := m ((c : Thread nD τ).loc main_arg3)
  R := V₂ m 0 main_v2

theorem V₂_route (c : Dev nD) : V₂ m c main_v2 = (inp m).R := by
  show V₂ m c main_v2 = V₂ m 0 main_v2
  rw [V₂_v2, V₂_v2, gathered_same m c 0]
theorem V₂_x (c : Dev nD) : V₂ m c main_arg0 = (inp m).X c := by
  rw [V₂_of_ne m c _ (by decide), V₁_of_ne m c _ (by decide)]; rfl
theorem V₂_e (c : Dev nD) : V₂ m c main_arg3 = (inp m).E c := by
  rw [V₂_of_ne m c _ (by decide), V₁_of_ne m c _ (by decide)]; rfl

/-- The buffers at the end: the result block filled. -/
def V₃ (c : Dev nD) : Valuation τ sig (Elt F) := Function.update (V₂ m c) (Proc.devRef .tc main_v3) (FIN (inp m) c)
theorem V₃_out (c : Dev nD) : V₃ m c main_v3 = FIN (inp m) c := Function.update_self ..
theorem V₃_of_ne (c : Dev nD) (b : Ref sig .tc) (h : (Proc.devRef .tc b : DevRef τ sig) ≠ Proc.devRef .tc main_v3) : V₃ m c b = V₂ m c b :=
  Function.update_of_ne h ..

/-! ## What enters the call and what leaves it -/

/-- Places, tokens and credits. -/
def Toks (c : Dev nD) : sProp 𝕄 :=
  iprop((bigSep Finset.univ fun j : Fin 31 => dutyTok ER (barCell (nxt c j)) 0 ((c, 0) : D)) ∗ dutyTok ER (metaCell c) 0 ((c, 0) : D)
    ∗ (bigSep Finset.univ fun s : Fin 48 => dutyTok ER (recvCell (tgt P c s)) 0 ((c, s) : D))
    ∗ (bigSep Finset.univ fun s : Fin 48 => dutyTok ER (sendCell c s) 0 ((c, 0) : D)))
def Creds (c : Dev nD) : sProp 𝕄 :=
  iprop(cred (tallyAt (barCell c) 20 31) ∗ cred (tallyAt (recvCell c) 21 (nrecv (ev P.R) c * N)))
def Places (c : Dev nD) : sProp 𝕄 :=
  iprop(atPos ER (metaCell c) 0 ∅ 0 ∗ atPos ER (recvCell c) 0 ∅ 0 ∗ (bigSep Finset.univ fun s : Fin 48 => atPos ER (sendCell c s) 0 ∅ 0))

/-- At the call's door, its own semaphores still closed; and open. -/
def Tk (c : Dev nD) : sProp 𝕄 :=
  iprop((∃ κ, records P κ) ∗ (bigSep Finset.univ fun k : Fin 50 => openTok ER ((c : Thread nD τ), osem k)) ∗ atPos ER (barCell c) 0 ∅ 0 ∗ Toks P c ∗ Creds P c)
def Xk (c : Dev nD) : sProp 𝕄 :=
  iprop((∃ κ, Lasting P κ c) ∗ Places c ∗ atPos ER (barCell c) 0 ∅ 0 ∗ Toks P c ∗ Creds P c)

theorem split50 (Φ : Fin 50 → sProp 𝕄) :
    bigSep Finset.univ Φ = iprop((bigSep Finset.univ fun s : Fin 48 => Φ ⟨s.val, by omega⟩) ∗ Φ 48 ∗ Φ 49) := by
  rw [BI.bigSep_univ_equiv (finSumFinEquiv : Fin 48 ⊕ Fin 2 ≃ Fin 50) Φ, BI.bigSep_univ_sum, BI.bigSep_fin_two]
  rfl

theorem ownSems_eq (c : Dev nD) : (Pipeline.ownSems0 osem c : sProp 𝕄)
    = iprop((bigSep Finset.univ fun s : Fin 48 => semVal (sendCell c s) 0) ∗ semVal (recvCell c) 0 ∗ semVal (metaCell c) 0) := by
  unfold Pipeline.ownSems0
  exact split50 fun k => semVal ((c : Thread nD τ), osem k) 0

/-- Its own semaphores opened. -/
theorem own_open (κ : GSem nD τ sig → ℕ) (c : Dev nD) :
    iprop(records P κ ∗ bigSep Finset.univ fun k : Fin 50 => iprop(openTok ER ((c : Thread nD τ), osem k) ∗ semVal ((c : Thread nD τ), osem k) 0))
      ⊢ (|={Set.univ}=> bigSep Finset.univ fun k : Fin 50 => iprop(atPos ER ((c : Thread nD τ), osem k) 0 ∅ 0 ∗ reached ER ((c : Thread nD τ), osem k) 0) : sProp 𝕄) := by
  refine BIBase.Entails.trans ?_ (bigSep_fupd Finset.univ _)
  refine bigSep_with_persistent fun k _ => ?_
  iintro ⟨#HR, Ho, Hv⟩
  iapply (Rounds.cell_open ER (Rd P) (g := ((c : Thread nD τ), osem k)) (Set.mem_univ (κ ((c : Thread nD τ), osem k))))
  isplitr; · iapply (inv_of P κ (own_mem c k)); iexact HR
  isplitl [Ho]; · iexact Ho
  iexact Hv

theorem hopen (c : Dev nD) : iprop(Tk P c ∗ Pipeline.ownSems0 osem c ∗ levAts L lv) ⊢ (|={Set.univ}=> Xk P c : sProp 𝕄) := by
  unfold Tk Xk
  have e1 : iprop((bigSep Finset.univ fun k : Fin 50 => openTok ER ((c : Thread nD τ), osem k)) ∗ Pipeline.ownSems0 osem c)
      ⊢ (bigSep Finset.univ fun k : Fin 50 => iprop(openTok ER ((c : Thread nD τ), osem k) ∗ semVal ((c : Thread nD τ), osem k) 0) : sProp 𝕄) := by
    unfold Pipeline.ownSems0
    exact Entails.of_eq (BI.bigSep_sep _ _ _).symm
  have e2 : (bigSep Finset.univ fun k : Fin 50 => iprop(atPos ER ((c : Thread nD τ), osem k) 0 ∅ 0 ∗ reached ER ((c : Thread nD τ), osem k) 0))
      ⊢ (iprop(((bigSep Finset.univ fun s : Fin 48 => atPos ER (sendCell c s) 0 ∅ 0) ∗ atPos ER (recvCell c) 0 ∅ 0 ∗ atPos ER (metaCell c) 0 ∅ 0)
        ∗ ((bigSep Finset.univ fun s : Fin 48 => reached ER (sendCell c s) 0) ∗ reached ER (recvCell c) 0 ∗ reached ER (metaCell c) 0)) : sProp 𝕄) :=
    (Entails.of_eq (BI.bigSep_sep _ _ _)).trans (Entails.of_eq (congrArg₂ _
      (split50 fun k => atPos ER ((c : Thread nD τ), osem k) 0 ∅ 0) (split50 fun k => reached ER ((c : Thread nD τ), osem k) 0)))
  iintro ⟨⟨⟨%κ, #HR⟩, Ho, HaB, HT, HC⟩, Hv, #HL⟩
  ihave H := e1 $$ [$Ho $Hv]
  imod (own_open P κ c) $$ [H] with H
  · isplitr; · iexact HR
    iexact H
  ihave H := e2 $$ H
  icases H with ⟨⟨Has, Har, Ham⟩, ⟨#Hrs, #Hrr, #Hrm⟩⟩
  imodintro
  isplitr
  · iexists κ; unfold Lasting
    isplitr; · iexact HR
    isplitr; · iexact HL
    isplitr; · iexact Hrr
    isplitr; · iexact Hrm
    iexact Hrs
  isplitl [Has Har Ham]
  · unfold Places
    isplitl [Ham]; · iexact Ham
    isplitl [Har]; · iexact Har
    iexact Has
  isplitl [HaB]; · iexact HaB
  isplitl [HT]; · iexact HT
  iexact HC

/-! ## The call's data -/

/-- Its scratch buffers, whatever they hold. -/
def Scr (c : Dev nD) : sProp 𝕄 :=
  iprop((∃ f, buf c cc0_scratch0 f) ∗ (∃ f, buf c cc0_scratch1 f) ∗ (∃ f, buf c cc0_scratch2 f) ∗ (∃ f, buf c cc0_scratch3 f))

theorem scr_eq (c : Dev nD) : (Pipeline.scopedRest (Ix := ℕ) (Name := ℕ) (U := UU) (Lvl := ℕ) (Val := Elt F) spec0 c : sProp 𝕄) = Scr c := scopedRest0_eq c

/-- Window `w`'s block after the body. -/
def dat0 (c : Dev nD) : Pipeline.Dat τ (Elt F) ℕ ℕ UU ℕ cfg0 c where
  A w := V₂ m c (Proc.devRef .tc (Pipeline.arrRef spec0 w))
  after w _ := match w with
    | ⟨0, _⟩ => (inp m).X c
    | ⟨1, _⟩ => (inp m).E c
    | ⟨2, _⟩ => (inp m).R
    | ⟨3, _⟩ => FIN (inp m) c
  Φ t := if t.val = 0 then iprop(Xk (inp m) c ∗ Scr c ∗ ∃ r, prngReg c r)
    else iprop(semVal (barCell c) 0 ∗ Pipeline.ownSems0 osem c ∗ Scr c ∗ ∃ r, prngReg c r)
  q _ := fullShare
  owed t := if t.val = 0 then O₀ (inp m) c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

theorem Φ_first (c : Dev nD) : (dat0 m c).Φ t0_0.castSucc = iprop(Xk (inp m) c ∗ Scr c ∗ ∃ r, prngReg c r) := rfl
theorem Φ_last (c : Dev nD) : (dat0 m c).Φ t0_0.succ = iprop(semVal (barCell c) 0 ∗ Pipeline.ownSems0 osem c ∗ Scr c ∗ ∃ r, prngReg c r) := rfl
theorem owed_first (c : Dev nD) : (dat0 m c).owed t0_0.castSucc = O₀ (inp m) c := rfl
theorem owed_last (c : Dev nD) : (dat0 m c).owed t0_0.succ = 0 := rfl

theorem owesAt_intro (c : Dev nD) (t : Fin (cfg0.N + 1)) (O : CellTallies nD τ sig ℕ) (h0 : (dat0 m c).owed t = O) (W : Waits sig ℕ) :
    (owes (c : Thread nD τ) O W : sProp 𝕄) ⊢ (dat0 m c).owesAt 0 t := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig ℕ) (h0 : (dat0 m c).owed t = O) :
    ((dat0 m c).owesAt 0 t : sProp 𝕄) ⊢ iprop(∃ W, owes (c : Thread nD τ) O W) := by
  unfold Dat.owesAt Pipeline.owesWithin; rw [h0]
  iintro ⟨%W, -, HO⟩; iexists W; iexact HO

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window that is its whole array: the block read is the array. -/
theorem emb_blk0 (i : S2048x512.Idx) : ((cfg0.win 0).blk t0_0).view.emb i = i := by
  funext a
  apply Fin.ext
  have h : (cfg0.win 0).kind.off ((cfg0.win 0).index t0_0 a) ((cfg0.win 0).size a) = 0 := by fin_cases a <;> rfl
  show (cfg0.win 0).kind.off ((cfg0.win 0).index t0_0 a) ((cfg0.win 0).size a) + 1 * (i a).val = (i a).val
  rw [h, Nat.zero_add, Nat.one_mul]
theorem emb_blk1 (i : S4x512x1024.Idx) : ((cfg0.win 1).blk t0_0).view.emb i = i := by
  funext a
  apply Fin.ext
  have h : (cfg0.win 1).kind.off ((cfg0.win 1).index t0_0 a) ((cfg0.win 1).size a) = 0 := by fin_cases a <;> rfl
  show (cfg0.win 1).kind.off ((cfg0.win 1).index t0_0 a) ((cfg0.win 1).size a) + 1 * (i a).val = (i a).val
  rw [h, Nat.zero_add, Nat.one_mul]
theorem emb_blk2 (i : S1x2048.Idx) : ((cfg0.win 2).blk t0_0).view.emb i = i := by
  funext a
  apply Fin.ext
  have h : (cfg0.win 2).kind.off ((cfg0.win 2).index t0_0 a) ((cfg0.win 2).size a) = 0 := by fin_cases a <;> rfl
  show (cfg0.win 2).kind.off ((cfg0.win 2).index t0_0 a) ((cfg0.win 2).size a) + 1 * (i a).val = (i a).val
  rw [h, Nat.zero_add, Nat.one_mul]
theorem emb_blk3 (i : S64x1024.Idx) : ((cfg0.win 3).blk t0_0).view.emb i = i := by
  funext a
  apply Fin.ext
  have h : (cfg0.win 3).kind.off ((cfg0.win 3).index t0_0 a) ((cfg0.win 3).size a) = 0 := by fin_cases a <;> rfl
  show (cfg0.win 3).kind.off ((cfg0.win 3).index t0_0 a) ((cfg0.win 3).size a) + 1 * (i a).val = (i a).val
  rw [h, Nat.zero_add, Nat.one_mul]

theorem before_0 (c : Dev nD) (d : (cfg0.win 0).block.Idx → Elt F (cfg0.win 0).elt) : (dat0 m c).before 0 t0_0 d = (inp m).X c := by
  unfold Pipeline.Dat.before; rw [if_pos (by decide)]
  refine Eq.trans (funext fun i => ?_) (V₂_x m c)
  exact congrArg (V₂ m c main_arg0) (emb_blk0 i)
theorem before_1 (c : Dev nD) (d : (cfg0.win 1).block.Idx → Elt F (cfg0.win 1).elt) : (dat0 m c).before 1 t0_0 d = (inp m).E c := by
  unfold Pipeline.Dat.before; rw [if_pos (by decide)]
  refine Eq.trans (funext fun i => ?_) (V₂_e m c)
  exact congrArg (V₂ m c main_arg3) (emb_blk1 i)
theorem before_2 (c : Dev nD) (d : (cfg0.win 2).block.Idx → Elt F (cfg0.win 2).elt) : (dat0 m c).before 2 t0_0 d = (inp m).R := by
  unfold Pipeline.Dat.before; rw [if_pos (by decide)]
  refine Eq.trans (funext fun i => ?_) (V₂_route m c)
  exact congrArg (V₂ m c main_v2) (emb_blk2 i)

/-- The body's obligation. -/
theorem body_obligation (c : Dev nD) : BodyObligation (dat0 (F := F) m c) (defs₀ (F := F)) 𝒱₀ 0 Set.univ := fun t => by
  obtain rfl := fin_N0 t
  rw [bigSep_W0, bigSep_W0]
  simp only [owns_whole_eq]
  rw [Φ_first, Φ_last]
  have eT : iprop((∃ W, owes (c : Thread nD τ) (O₀ (inp m) c) W) ∗ Places c ∗ atPos ER (barCell c) 0 ∅ 0 ∗ Toks (inp m) c ∗ Creds (inp m) c) ⊢ (Talk (inp m) c : sProp 𝕄) := by
    unfold Places Toks Creds Talk SigPre O₀
    iintro ⟨HO, ⟨Ham, Har, Has⟩, HaB, ⟨Htb, Htm, Htr, Hts⟩, ⟨HcB, HcR⟩⟩
    isplitl [HO Htb]; · isplitl [HO] <;> iassumption
    isplitl [Htm]; · iexact Htm
    isplitl [Ham]; · iexact Ham
    isplitl [HcB]; · iexact HcB
    isplitl [HaB]; · iexact HaB
    isplitl [HcR]; · iexact HcR
    isplitl [Har]; · iexact Har
    isplitl [Has]; · iexact Has
    isplitl [Htr]; · iexact Htr
    iexact Hts
  have eX : Xk (inp m) c ⊢ (iprop((∃ κ, Lasting (inp m) κ c) ∗ Places c ∗ atPos ER (barCell c) 0 ∅ 0 ∗ Toks (inp m) c ∗ Creds (inp m) c) : sProp 𝕄) := by
    unfold Xk; exact .rfl
  have eS : Scr c ⊢ (iprop((∃ f, buf c cc0_scratch0 f) ∗ (∃ f, buf c cc0_scratch1 f) ∗ (∃ f, buf c cc0_scratch2 f) ∗ (∃ f, buf c cc0_scratch3 f)) : sProp 𝕄) := by
    unfold Scr; exact .rfl
  iintro ⟨⟨HX, HS, Hp⟩, HO, ⟨%d0, %f0, %hf0, H0⟩, ⟨%d1, %f1, %hf1, H1⟩, ⟨%d2, %f2, %hf2, H2⟩, ⟨%d3, %f3, %hf3, H3⟩⟩
  rw [before_0] at hf0
  rw [before_1] at hf1
  rw [before_2] at hf2
  subst hf0; subst hf1; subst hf2
  ihave HX := eX $$ HX
  icases HX with ⟨⟨%κ, #HL⟩, HP, HaB, HT, HC⟩
  ihave HO := (owesAt_elim m c _ (O₀ (inp m) c) (owed_first m c)) $$ HO
  ihave HT := eT $$ [$HO $HP $HaB $HT $HC]
  ihave HS := eS $$ HS
  icases HS with ⟨⟨%fg, Hg⟩, ⟨%fy, Hy⟩, ⟨%fv, Hv⟩, ⟨%fm, Hm⟩⟩
  iapply (sound_body (inp m) κ c f3 fg fy fv fm) $$ [$HL $HT $H0 $H1 $H2 $H3 $Hg $Hy $Hv $Hm]
  unfold Left
  iintro ⟨H0, H1, H2, H3, Hg, Hy, Hv, Hm, Hsm, Hsb, Hss, Hsr, ⟨%W, HO⟩⟩
  isplitl [Hsb Hss Hsr Hsm Hg Hy Hv Hm Hp]
  · rw [ownSems_eq]
    unfold Scr
    isplitl [Hsb]; · iexact Hsb
    isplitl [Hss Hsr Hsm]
    · isplitl [Hss]; · iexact Hss
      isplitl [Hsr]; · iexact Hsr
      iexact Hsm
    isplitl [Hg Hy Hv Hm]
    · isplitl [Hg]; · iexact Hg
      isplitl [Hy]; · iexact Hy
      isplitl [Hv]; · iexact Hv
      iexact Hm
    iexact Hp
  isplitl [HO]
  · iapply (owesAt_intro m c _ 0 (owed_last m c) W); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl
/-! ## What the arrays hold after the region -/

theorem flushed_eq (c : Dev nD) (t : Fin cfg0.N) :
    (dat0 (F := F) m c).flushed 3 t = ((cfg0.win 3).blk t).view.read (Elt F) (FIN (inp m) c) := by
  obtain rfl := fin_N0 t
  refine Eq.trans (b := FIN (inp m) c) rfl ?_
  funext i
  exact (congrArg (FIN (inp m) c) (emb_blk3 i)).symm

theorem cover (i : S64x1024.Idx) : ∃ t, (cfg0.win 3).flush t = true ∧ i ∈ ((cfg0.win 3).blk t).view.set :=
  ⟨t0_0, by decide, Finset.mem_map.mpr ⟨i, Finset.mem_univ _, emb_blk3 i⟩⟩

theorem final_out (c : Dev nD) : (dat0 (F := F) m c).arrAt 3 cfg0.N = FIN (inp m) c :=
  (dat0 m c).arrAt_eq_of_cover 3 (FIN (inp m) c) (fun t _ => flushed_eq m c t) cover
theorem final_0 (c : Dev nD) : (dat0 (F := F) m c).arrAt 0 cfg0.N = V₂ m c main_arg0 := (dat0 m c).arrAt_in 0 rfl _
theorem final_1 (c : Dev nD) : (dat0 (F := F) m c).arrAt 1 cfg0.N = V₂ m c main_arg3 := (dat0 m c).arrAt_in 1 rfl _
theorem final_2 (c : Dev nD) : (dat0 (F := F) m c).arrAt 2 cfg0.N = V₂ m c main_v2 := (dat0 m c).arrAt_in 2 rfl _

/-! ## The region -/

/-- The pipeline library's component, and the all-gather's. -/
def EP : Emb (UR sig nD τ) (MT nD τ sig ℕ (Elt F) ℕ UU ℕ) :=
  ((Emb.inl : Emb (UR sig nD τ) (UR sig nD τ × Sites.UC)).trans (Emb.inl : Emb (UR sig nD τ × Sites.UC) UU)).trans
    (uEmb (nD := nD) (sig := sig) (Ix := ℕ) (Val := Elt F) (Name := ℕ) (U := UU) (Lvl := ℕ)).toEmb
def EC : Emb Sites.UC (MT nD τ sig ℕ (Elt F) ℕ UU ℕ) :=
  ((Emb.inr : Emb Sites.UC (UR sig nD τ × Sites.UC)).trans (Emb.inl : Emb (UR sig nD τ × Sites.UC) UU)).trans
    (uEmb (nD := nD) (sig := sig) (Ix := ℕ) (Val := Elt F) (Name := ℕ) (U := UU) (Lvl := ℕ)).toEmb
instance EP_landsIn : (EP : Emb (UR sig nD τ) 𝕄).LandsIn (upEmb : UEmb _ 𝕄) := by unfold EP; infer_instance
instance EC_landsIn : (EC : Emb Sites.UC 𝕄).LandsIn (upEmb : UEmb _ 𝕄) := by unfold EC; infer_instance

/-- The record of the all-gather's cells. -/
def invs : sProp 𝕄 := iprop(∃ κ, (AllGather.Dat.once (U := UU) ag0 (V₀ m) ag0_cores).cellInvs EC κ)

/-- A buffer of device `c` at the full share. -/
abbrev pl (c : Dev nD) (b : Ref sig .tc) (f : b.ty.Contents (Elt F)) : sProp 𝕄 := ((c : Thread nD τ).loc b) ↦{fullShare} f

/-- What passes the region by: the arrays it stages nothing of, and what the all-gather leaves. -/
def Er (c : Dev nD) : sProp 𝕄 :=
  iprop(pl c main_arg1 (m ((c : Thread nD τ).loc main_arg1)) ∗ pl c main_arg2 (m ((c : Thread nD τ).loc main_arg2))
    ∗ invs m ∗ ag0.ghostAfter EC c ∗ ag0.pcells EC c)
def Yk (c : Dev nD) : sProp 𝕄 := semVal (barCell c) 0

theorem hin (c : Dev nD) : iprop(Pipeline.scopedRest (Pipeline.pin (pcfgs (F := F)) adm 0).spec c ∗ (∃ r, prngReg c r)
      ∗ StableHlo.held (c.tc : Thread nD τ) ∅ (V₂ m c) ∗ Xk (inp m) c) ⊢ (pdats m 0 c).Φ 0 := by
  rw [show (pdats m 0 c).Φ 0 = iprop(Xk (inp m) c ∗ Scr c ∗ ∃ r, prngReg c r) from rfl]
  have e : (Pipeline.scopedRest (Pipeline.pin (pcfgs (F := F)) adm 0).spec c : sProp 𝕄) ⊢ Scr c := Entails.of_eq (scr_eq c)
  iintro ⟨HS, Hp, -, HX⟩
  isplitl [HX]; · iexact HX
  isplitl [HS]; · iapply e; iexact HS
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₃ m c) ∗ Pipeline.ownSems0 osem c ∗ Yk c) := by
  rw [show (pdats m 0 c).Φ (Fin.last _) = iprop(semVal (barCell c) 0 ∗ Pipeline.ownSems0 osem c ∗ Scr c ∗ ∃ r, prngReg c r) from rfl]
  have e : Scr c ⊢ (Pipeline.scopedRest (Pipeline.pin (pcfgs (F := F)) adm 0).spec c : sProp 𝕄) := Entails.of_eq (scr_eq c).symm
  unfold Yk
  iintro ⟨Hb, Ho, HS, Hp⟩
  isplitl [HS]; · iapply e; iexact HS
  isplitl [Hp]; · iexact Hp
  isplitr; · unfold StableHlo.held; rw [BI.bigSep_empty]; iempintro
  isplitl [Ho]; · iexact Ho
  iexact Hb

theorem kitP : Pipeline.PLaunchFacts (nD := nD) (τ := τ) (pcfgs (F := F)) 0 where
  cellOf_inj a := by rw [Subsingleton.elim a adm]; exact cellOf_inj
  win := launch0.win
  pre := Pipeline.PreFacts.none _
  block_pos := launch0.block_pos
  arr_whole := launch0.arr_whole
  stage_whole := launch0.stage_whole

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ (inp m) c else 0 := rfl
  rw [e] at h
  split at h
  · have hp := O₀_pos (inp m) h
    exact ⟨hp.1, by show 0 < i; omega⟩
  · exact absurd h (Nat.lt_irrefl 0)

theorem hW' (c : Dev nD) (w : Fin 4) : (dat0 (F := F) m c).arrAt w cfg0.N = V₃ m c (Proc.devRef .tc (Pipeline.arrRef spec0 w)) :=
  match w with
  | ⟨0, _⟩ => (final_0 m c).trans (V₃_of_ne m c main_arg0 (by decide)).symm
  | ⟨1, _⟩ => (final_1 m c).trans (V₃_of_ne m c main_arg3 (by decide)).symm
  | ⟨2, _⟩ => (final_2 m c).trans (V₃_of_ne m c main_v2 (by decide)).symm
  | ⟨3, _⟩ => (final_out m c).trans (V₃_out m c).symm

local notation "ℝ𝕊" => Pipeline.RegionSeg (pcfgs (F := F)) adm (pdats m) 0 defs₀ 𝒱₀ L lv

set_option backward.isDefEq.respectTransparency.types false in
/-- The call, as a segment of the program. -/
def reg0 : ℝ𝕊 0 :=
  Pipeline.RegionSeg.ofTalk (pcfgs (F := F)) adm (pdats m) 0 defs₀ 𝒱₀ L lv 0 osem (by decide : Pipeline.OwnSemFacts spec0 osem)
    ∅ ∅ (Finset.Subset.refl _) kitP rfl (fun c => (body_obligation m c).loose)
    (fun _ => 0) (O₀ (inp m)) (fun c => (show (pdats m 0 c).owed 0 = O₀ (inp m) c from rfl).trans (zero_add _).symm) (fun c => rfl) (fun _ => rfl)
    (fun c => (pdats m 0 c).share_full fun _ => rfl)
    (V₂ m) (V₃ m) (fun _ b hb => absurd hb (by rw [Finset.sdiff_self]; exact Finset.notMem_empty b))
    (Tk (inp m)) Yk (Xk (inp m)) Yk (hopen (inp m)) (hin m) (hout m)
    (fun c => by iintro H; imodintro; iexact H)
    (fun _ => 0)
    ⟨fun c w s => mem_L c _ (by decide), fun _ _ _ => le_refl _, fun c t g i h => cutD m c t g i h⟩
    (Er m) (fun _ _ => rfl) (hW' m)

end Cert.Route
-- ==== Proof.Credits.lean ====
/- What the launch deals: the credits of the waits, the tokens of the signals and of the arrivals, the cells. -/
module

public import proofs.«01_k».proof.Proof.Region

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

/-! ## What the launch deals for what is owed -/

theorem tally_smul (g : GSem nD τ sig) (i a n : ℕ) : n • (tallyAt g i a : CellTallies nD τ sig ℕ) = tallyAt g i (n * a) := by
  induction n with
  | zero => rw [zero_smul, Nat.zero_mul, tallyAt_zero]
  | succ n ih => rw [succ_nsmul, ih, tallyAt_add, Nat.succ_mul]

/-- What device `c`'s waits take. -/
def TC (c : Dev nD) : CellTallies nD τ sig ℕ := tallyAt (barCell c) 20 31 + tallyAt (recvCell c) 21 (nrecv (ev P.R) c * N)

theorem OB_sum : (∑ d : Dev nD, OB d 0) = ∑ c : Dev nD, (tallyAt (barCell c) 20 31 : CellTallies nD τ sig ℕ) := by
  have e : ∀ d : Dev nD, OB d 0 = ∑ x : Dev nD, if d = x then (0 : CellTallies nD τ sig ℕ) else tallyAt (barCell x) 20 1 := fun d => by
    unfold OB
    rw [Finset.sum_congr rfl (fun j _ => if_pos (Nat.zero_le _))]
    have h := Finset.sum_map (Finset.univ : Finset (Fin 31)) (nxtEmb d) (fun x => (tallyAt (barCell x) 20 1 : CellTallies nD τ sig ℕ))
    rw [map_nxt] at h
    rw [← Finset.sum_erase_add _ _ (Finset.mem_univ d), if_pos rfl, add_zero]
    refine h.symm.trans (Finset.sum_congr rfl fun x hx => ?_)
    rw [if_neg (Finset.ne_of_mem_erase hx).symm]
  rw [Finset.sum_congr rfl (fun d _ => e d), Finset.sum_comm]
  refine Finset.sum_congr rfl fun x _ => ?_
  rw [← Finset.sum_erase_add _ _ (Finset.mem_univ x), if_pos rfl, add_zero,
    Finset.sum_congr rfl (fun d hd => if_neg (Finset.ne_of_mem_erase hd)), Finset.sum_const, tally_smul,
    Finset.card_erase_of_mem (Finset.mem_univ _)]
  rfl

theorem OS_sum : (∑ d : Dev nD, OS P d 0) = ∑ c : Dev nD, (tallyAt (recvCell c) 21 (nrecv (ev P.R) c * N) : CellTallies nD τ sig ℕ) := by
  have e : (∑ d : Dev nD, OS P d 0)
      = ∑ p : Dev nD × Fin 48, if live P p.1 p.2 then (tallyAt (recvCell (tgt P p.1 p.2)) 21 N : CellTallies nD τ sig ℕ) else 0 := by
    rw [Fintype.sum_prod_type]
    refine Finset.sum_congr rfl fun d _ => ?_
    unfold OS
    refine Finset.sum_congr rfl fun s _ => ?_
    by_cases h : live P d s
    · rw [if_pos ⟨Nat.zero_le _, h⟩, if_pos h]
    · rw [if_neg (fun h' => h h'.2), if_neg h]
  rw [e, ← Finset.sum_fiberwise Finset.univ (fun p : Dev nD × Fin 48 => tgt P p.1 p.2)]
  refine Finset.sum_congr rfl fun c _ => ?_
  rw [← card_sends, ← tally_smul, ← Finset.sum_const, ← Finset.sum_filter]
  have hs : (Finset.univ.filter fun p : Dev nD × Fin 48 => tgt P p.1 p.2 = c).filter (fun p => live P p.1 p.2) = sends P c := by
    refine Finset.ext fun p => ?_
    unfold sends
    rw [Finset.mem_filter, Finset.mem_filter, Finset.mem_filter]
    exact ⟨fun h => ⟨Finset.mem_univ _, h.2, h.1.2⟩, fun h => ⟨⟨Finset.mem_univ _, h.2.2⟩, h.2.1⟩⟩
  rw [hs]
  refine Finset.sum_congr rfl fun p hp => ?_
  rw [(Finset.mem_filter.mp hp).2.2]

theorem creds (c : Dev nD) : (Pipeline.launchCred (O₀ P) c : sProp 𝕄) ⊢ Creds P c := by
  have h : (Pipeline.launchCred (O₀ P) c : sProp 𝕄) = cred (TC P c) := by
    refine Pipeline.launchCred_of_sum (O₀ P) (TC P) ?_ (fun d g h => ?_) c
    · unfold O₀ TC
      rw [Finset.sum_add_distrib, Finset.sum_add_distrib, OS_sum, OB_sum, add_comm]
    · by_contra hn
      refine h ?_
      unfold TC
      refine Finsupp.ext fun i => ?_
      rw [Pi.add_apply, Finsupp.add_apply, tallyAt_apply, tallyAt_apply, if_neg, if_neg]; · rfl
      · rintro ⟨rfl, -⟩; exact hn rfl
      · rintro ⟨rfl, -⟩; exact hn rfl
  rw [h]
  unfold TC Creds
  exact (cred_add _ _).1

/-! ## The tokens -/

abbrev TokK : Type := Fin 31 ⊕ Unit ⊕ Fin 48 ⊕ Fin 48
def tokOf (x : Dev nD × TokK) : GSem nD τ sig × ℕ × D :=
  match x with
  | (c, .inl j) => (barCell (nxt c j), 0, (c, 0))
  | (c, .inr (.inl _)) => (metaCell c, 0, (c, 0))
  | (c, .inr (.inr (.inl s))) => (recvCell (tgt P c s), 0, (c, s))
  | (c, .inr (.inr (.inr s))) => (sendCell c s, 0, (c, 0))

/-- The semaphore a token is of. -/
def tokSem : TokK → SemLoc sig
  | .inl _ => .reg barrier0
  | .inr (.inl _) => .dma metaSem
  | .inr (.inr (.inl _)) => .dma recvSem
  | .inr (.inr (.inr s)) => .dma (sendSem s)
theorem tokOf_sem (x : Dev nD × TokK) : (tokOf P x).1.2 = tokSem x.2 := by
  rcases x with ⟨c, (j | u | s | s)⟩ <;> rfl
theorem tokOf_dev (x : Dev nD × TokK) : (tokOf P x).2.2.1 = x.1 := by
  rcases x with ⟨c, (j | u | s | s)⟩ <;> rfl
def semCode : SemLoc sig → ℕ
  | .reg _ => 0
  | .dma q => q.val + 1
def tokCode : TokK → ℕ
  | .inl _ => 0
  | .inr (.inl _) => 64
  | .inr (.inr (.inl _)) => 63
  | .inr (.inr (.inr s)) => 15 + s.val
theorem semCode_tok (k : TokK) : semCode (tokSem k) = tokCode k := by
  rcases k with j | u | s | s
  · rfl
  · exact congrArg (· + 1) metaSem_val
  · exact congrArg (· + 1) recvSem_val
  · show 14 + s.val + 1 = 15 + s.val; omega

theorem tokOf_inj : Function.Injective (tokOf P) := by
  intro x y h
  have hd : (tokOf P x).2.2.1 = (tokOf P y).2.2.1 := congrArg (fun z : GSem nD τ sig × ℕ × D => z.2.2.1) h
  have hc : semCode (tokOf P x).1.2 = semCode (tokOf P y).1.2 := congrArg (fun z : GSem nD τ sig × ℕ × D => semCode z.1.2) h
  rw [tokOf_dev, tokOf_dev] at hd
  rw [tokOf_sem, tokOf_sem, semCode_tok, semCode_tok] at hc
  obtain ⟨c, k⟩ := x
  obtain ⟨c', k'⟩ := y
  dsimp only at hd hc
  subst hd
  rcases k with j | u | s | s <;> rcases k' with j' | u' | s' | s' <;> dsimp only [tokCode] at hc <;> first | (exfalso; omega) | skip
  · have h1 : nxt c j = nxt c j' := congrArg (fun z : GSem nD τ sig × ℕ × D => z.1.1.1) h
    rw [nxt_inj c h1]
  · rfl
  · have h1 : s = s' := congrArg (fun z : GSem nD τ sig × ℕ × D => z.2.2.2) h
    rw [h1]
  · have h2 : s = s' := Fin.ext (by omega)
    rw [h2]

def toks : Finset (GSem nD τ sig × ℕ × D) := Finset.univ.map ⟨tokOf P, tokOf_inj P⟩

theorem toks_split : (bigSep (toks P) fun x => dutyTok ER x.1 x.2.1 x.2.2) ⊢ (bigSep Finset.univ (Toks P) : sProp 𝕄) := by
  unfold toks
  rw [BI.bigSep_map, BI.bigSep_univ_prod]
  refine bigSep_mono fun c _ => ?_
  rw [BI.bigSep_univ_sum, BI.bigSep_univ_sum, BI.bigSep_univ_sum, Finset.univ_unique (α := Unit), BI.bigSep_singleton]
  exact BI.Entails.refl _

/-! ## The cells opened for the launch -/

theorem bars (Φ : GSem nD τ sig → sProp 𝕄) : bigSep barCells Φ = bigSep Finset.univ fun c : Dev nD => Φ (barCell c) := BI.bigSep_map _
theorem scs (Φ : GSem nD τ sig → sProp 𝕄) :
    bigSep scCells Φ = bigSep Finset.univ fun c : Dev nD => bigSep Finset.univ fun k : Fin 50 => Φ ((c : Thread nD τ), osem k) :=
  (BI.bigSep_map _).trans (BI.bigSep_univ_prod _)
theorem cells_disj : Disjoint barCells scCells := by
  rw [Finset.disjoint_left]
  intro g h1 h2
  obtain ⟨c, -, rfl⟩ := Finset.mem_map.mp h1
  obtain ⟨⟨d, k⟩, -, h⟩ := Finset.mem_map.mp h2
  have h3 := congrArg Prod.snd h
  cases h3

/-- The cells' own launch: every device its place at the barrier, its closed cells, its tokens; the records for all. -/
theorem fund_cells :
    iprop((bigSep Finset.univ fun c : Dev nD => semVal (barCell c) 0) ∗ BI.own (ER (launchOf barCells scCells (toks P))))
      ⊢ (|={Set.univ}=> iprop((∃ κ, records P κ) ∗ (bigSep Finset.univ fun c : Dev nD => atPos ER (barCell c) 0 ∅ 0)
        ∗ (bigSep Finset.univ fun c : Dev nD => bigSep Finset.univ fun k : Fin 50 => openTok ER ((c : Thread nD τ), osem k))
        ∗ bigSep Finset.univ (Toks P)) : sProp 𝕄) := by
  have hf := Rounds.fund_launch ER (Rd P) cells_disj (fun g _ h => h) (toks P) (Es := Set.univ)
  rw [bars (fun g => semVal g 0), bars (fun g => atPos ER g 0 ∅ 0), scs (fun g => openTok ER g)] at hf
  refine hf.trans ?_
  iintro >⟨%κ, -, Hinv, Hr, Hat, Ho, Ht⟩
  imodintro
  isplitl [Hinv Hr]
  · iexists κ; unfold records; isplitl [Hinv] <;> iassumption
  isplitl [Hat]; · iexact Hat
  isplitl [Ho]; · iexact Ho
  iapply (toks_split P); iexact Ht

end Cert.Route
-- ==== Proof.Segs.lean ====
/- The program as three segments: the gather of the routing, its reshape, the call. -/
module

public import proofs.«01_k».proof.Proof.Region

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

variable (m : (ℓ : Loc nD τ sig) → Buf (Elt F) ℓ)

local notation "ℍ" => Pipeline.HostSeg (Ix := ℕ) (Name := ℕ) (U := UU) (Lvl := ℕ) (pcfgs (F := F)) defs₀ 𝒱₀ L lv

/-! ## The gather's waits -/

theorem hbar (P : Inp F) (c : Dev nD) : (levAts L lv : sProp 𝕄) ⊢ MayOwe (c : Thread nD τ) (ag0.barrierWaits Sites.ι0) (O₀ P c + ag0.iterDue Sites.ι0 c 0) :=
  MayOwe.of_cut (lev := lv) 1
    (fun p hp => by
      rw [ag0.barrierWaits_one Sites.ι0 ag0_cores, Finset.mem_insert, Finset.mem_singleton] at hp
      rcases hp with rfl | rfl <;> exact mem_L _ _ (by decide : (1 : ℕ) < 23))
    (fun g i hg => by
      rw [Pi.add_apply, Finsupp.add_apply] at hg
      rcases Nat.add_pos_iff_pos_or_pos.mp hg with h | h
      · exact (O₀_pos P h).1
      · obtain ⟨_, _, _, _, j', rfl, -, hj, hi⟩ := ag0.iterDue_pos Sites.ι0 h
        have hn := ag0_iters
        rcases hi with rfl | rfl <;> exact mem_L _ _ (by show 2 + j' < 23; omega))
    (fun p hp => by
      rw [ag0.barrierWaits_one Sites.ι0 ag0_cores, Finset.mem_insert, Finset.mem_singleton] at hp
      rcases hp with rfl | rfl <;> exact le_refl _)
    (fun g i hg => by
      rw [Pi.add_apply, Finsupp.add_apply] at hg
      rcases Nat.add_pos_iff_pos_or_pos.mp hg with h | h
      · have := (O₀_pos P h).2; show 1 < i; omega
      · obtain ⟨_, _, _, _, j', rfl, -, -, hi⟩ := ag0.iterDue_pos Sites.ι0 h
        rcases hi with rfl | rfl <;> (show (1 : ℕ) < 2 + j'; omega))
theorem hloop (P : Inp F) (c : Dev nD) : (levAts L lv : sProp 𝕄) ⊢ ag0.mayWaitsFrom Sites.ι0 c (O₀ P c) 0 :=
  ag0.mayWaitsFrom_intro Sites.ι0 ag0_cores L lv c _ fun i hi c' _ =>
    have hn := ag0_iters
    MayOwe.of_cut (lev := lv) (2 + i)
      (fun p hp => by rw [Finset.mem_singleton.mp hp]; exact mem_L _ _ (by show 2 + i < 23; omega))
      (fun g k hg => by
        rw [Pi.add_apply, Finsupp.add_apply] at hg
        rcases Nat.add_pos_iff_pos_or_pos.mp hg with h | h
        · exact (O₀_pos P h).1
        · obtain ⟨_, _, _, _, j', rfl, -, hj, hk⟩ := ag0.iterDue_pos Sites.ι0 h
          rcases hk with rfl | rfl <;> exact mem_L _ _ (by show 2 + j' < 23; omega))
      (fun p hp => by rw [Finset.mem_singleton.mp hp]; exact le_refl _)
      (fun g k hg => by
        rw [Pi.add_apply, Finsupp.add_apply] at hg
        rcases Nat.add_pos_iff_pos_or_pos.mp hg with h | h
        · have := (O₀_pos P h).2; show 2 + i < k; omega
        · obtain ⟨_, _, _, _, j', rfl, hj0, -, hk⟩ := ag0.iterDue_pos Sites.ι0 h
          rcases hk with rfl | rfl <;> (show 2 + i < 2 + j'; omega))
theorem hsnd (P : Inp F) (c : Dev nD) : (levAts L lv : sProp 𝕄) ⊢ MayWait (c : Thread nD τ) (.dma ag0.send) 18 (O₀ P c) :=
  mayWait_O₀ P c (.dma ag0.send) 18 (by decide)
theorem hcpy (P : Inp F) (c : Dev nD) : (levAts L lv : sProp 𝕄) ⊢ MayWait (c : Thread nD τ) (.dma ag0.copySem) 18 (O₀ P c) :=
  mayWait_O₀ P c (.dma ag0.copySem) 18 (by decide)

/-! ## The two host segments -/

/-- What rides beside the gather. -/
def RestA (c : Dev nD) : sProp 𝕄 :=
  iprop((pl c main_arg0 (m ((c : Thread nD τ).loc main_arg0)) ∗ pl c main_arg1 (m ((c : Thread nD τ).loc main_arg1)) ∗ pl c main_arg3 (m ((c : Thread nD τ).loc main_arg3))
      ∗ pl c main_v2 (m ((c : Thread nD τ).loc main_v2)) ∗ pl c main_v3 (m ((c : Thread nD τ).loc main_v3)))
    ∗ (∃ r, prngReg c r) ∗ invs m ∗ Tk (inp m) c)
def segG : ℍ := collSeg0 EC 𝒱₀ L lv (V₀ m) (O₀ (inp m)) Sites.ι0 (hbar (inp m)) (hloop (inp m)) (hsnd (inp m)) (hcpy (inp m)) (RestA m)

/-- The two buffers of the reshape. -/
abbrev SR : Finset (DevRef τ sig) := {Proc.devRef .tc main_v1, Proc.devRef .tc main_v2}
/-- What rides beside it. -/
def RestH (c : Dev nD) : sProp 𝕄 :=
  iprop((pl c main_arg0 (m ((c : Thread nD τ).loc main_arg0)) ∗ pl c main_arg3 (m ((c : Thread nD τ).loc main_arg3)) ∗ pl c main_v3 (m ((c : Thread nD τ).loc main_v3)))
    ∗ (∃ r, prngReg c r) ∗ Er m c ∗ Tk (inp m) c ∗ ∃ W, owes (c : Thread nD τ) (O₀ (inp m) c) W)
theorem sub_SR : ∀ op ∈ (hostOps1 : List (HloOp τ sig (Elt F))), op.bufs ⊆ SR := by
  intro op hop
  rw [List.mem_singleton.mp hop]
  exact Finset.Subset.refl _
def segH : ℍ := Pipeline.HostSeg.ofOps (pcfgs (F := F)) defs₀ 𝒱₀ L lv SR hostOps1 sub_SR (fun op hop => by rw [List.mem_singleton.mp hop]; rfl) (V₁ m) (RestH m)

theorem held_SR (c : Dev nD) (V : Valuation τ sig (Elt F)) :
    (StableHlo.held (c.tc : Thread nD τ) SR V : sProp 𝕄) = iprop(pl c main_v1 (V main_v1) ∗ pl c main_v2 (V main_v2)) := by
  unfold StableHlo.held
  rw [bigSep_eq_bigSepL_of_eq [Proc.devRef .tc main_v1, Proc.devRef .tc main_v2] (by decide) (by decide)]
  rfl
theorem held_arr (c : Dev nD) (V : Valuation τ sig (Elt F)) :
    (StableHlo.held (c.tc : Thread nD τ) (Pipeline.arrRefs spec0) V : sProp 𝕄)
      = iprop(pl c main_arg0 (V main_arg0) ∗ pl c main_arg3 (V main_arg3) ∗ pl c main_v2 (V main_v2) ∗ pl c main_v3 (V main_v3)) := by
  unfold StableHlo.held
  rw [bigSep_eq_bigSepL_of_eq [Proc.devRef .tc main_arg0, Proc.devRef .tc main_arg3, Proc.devRef .tc main_v2, Proc.devRef .tc main_v3] (by decide) (by decide)]
  rfl
theorem bufs7 (c : Dev nD) (V : (b : Ref sig .tc) → Buf (Elt F) ((c : Thread nD τ).loc b)) :
    (unscopedBufs c V : sProp 𝕄)
      = iprop(pl c main_arg0 (V main_arg0) ∗ pl c main_arg1 (V main_arg1) ∗ pl c main_arg2 (V main_arg2) ∗ pl c main_arg3 (V main_arg3)
        ∗ pl c main_v1 (V main_v1) ∗ pl c main_v2 (V main_v2) ∗ pl c main_v3 (V main_v3)) := by
  unfold unscopedBufs
  rw [bigSep_eq_bigSepL_of_eq [main_arg0, main_arg1, main_arg2, main_arg3, main_v1, main_v2, main_v3] (by decide) (by decide)]
  rfl

/-- From the gather to the reshape. -/
theorem link1 (c : Dev nD) : (segG m).post c ⊢ (segH m).pre c := by
  have e1 : V₁ m c main_arg2 = m ((c : Thread nD τ).loc main_arg2) := V₁_of_ne m c main_arg2 (by decide)
  have e2 : V₁ m c main_v2 = m ((c : Thread nD τ).loc main_v2) := V₁_of_ne m c main_v2 (by decide)
  have ea : (segG m).post c ⊢ iprop((pl c main_v1 (V₁ m c main_v1) ∗ pl c main_arg2 (m ((c : Thread nD τ).loc main_arg2)))
      ∗ (ag0.ghostAfter EC c ∗ ag0.pcells EC c) ∗ (∃ W, owes (c : Thread nD τ) (O₀ (inp m) c) W) ∗ RestA m c) := by
    dsimp only [segG, collSeg0, AllGather.hostSegHeld₀]
    rw [AllGather.Cfg.held_siteRefs, ← e1]
  have eb : iprop((pl c main_v1 (V₁ m c main_v1) ∗ pl c main_v2 (m ((c : Thread nD τ).loc main_v2))) ∗ RestH m c) ⊢ (segH m).pre c := by
    dsimp only [segH, Pipeline.HostSeg.ofOps]
    rw [held_SR, e2]
  refine ea.trans (BIBase.Entails.trans ?_ eb)
  unfold RestA RestH Er
  iintro ⟨⟨H1, Ha2⟩, ⟨Hg, Hp⟩, HO, ⟨Ha0, Ha1, Ha3, H2, H3⟩, Hr, Hi, HT⟩
  isplitl [H1 H2]; · isplitl [H1] <;> iassumption
  isplitl [Ha0 Ha3 H3]
  · isplitl [Ha0]; · iexact Ha0
    isplitl [Ha3]; · iexact Ha3
    iexact H3
  isplitl [Hr]; · iexact Hr
  isplitl [Ha1 Ha2 Hi Hg Hp]
  · isplitl [Ha1]; · iexact Ha1
    isplitl [Ha2]; · iexact Ha2
    isplitl [Hi]; · iexact Hi
    isplitl [Hg] <;> iassumption
  isplitl [HT]; · iexact HT
  iexact HO

theorem V₂_keep (c : Dev nD) (b : Ref sig .tc) (h1 : b ≠ main_v2) (h2 : (Proc.devRef .tc b : DevRef τ sig) ≠ Proc.devRef .tc main_v1) :
    V₂ m c b = m ((c : Thread nD τ).loc b) := (V₂_of_ne m c b h1).trans (V₁_of_ne m c b h2)

/-- From the reshape to the call. -/
theorem link2 (c : Dev nD) : (segH m).post c ⊢ (reg0 m).pre c := by
  have ea : (segH m).post c ⊢ iprop((pl c main_v1 (V₂ m c main_v1) ∗ pl c main_v2 (V₂ m c main_v2)) ∗ RestH m c) := by
    dsimp only [segH, Pipeline.HostSeg.ofOps]
    rw [held_SR]
    exact BI.Entails.refl _
  have eb : iprop((pl c main_arg0 (m ((c : Thread nD τ).loc main_arg0)) ∗ pl c main_arg3 (m ((c : Thread nD τ).loc main_arg3)) ∗ pl c main_v2 (V₂ m c main_v2)
        ∗ pl c main_v3 (m ((c : Thread nD τ).loc main_v3)))
      ∗ (∃ r, prngReg c r) ∗ (iprop(emp) ∗ Er m c) ∗ Tk (inp m) c ∗ ∃ W, owes (c : Thread nD τ) (0 + O₀ (inp m) c) W) ⊢ (reg0 m).pre c := by
    dsimp only [reg0, Pipeline.RegionSeg.ofTalk]
    rw [held_arr, V₂_keep m c main_arg0 (by decide) (by decide),
      V₂_keep m c main_arg3 (by decide) (by decide), V₂_keep m c main_v3 (by decide) (by decide)]
    unfold StableHlo.held
    rw [BI.bigSep_empty]
    exact BI.Entails.refl _
  refine ea.trans (BIBase.Entails.trans ?_ eb)
  rw [zero_add]
  unfold RestH
  iintro ⟨⟨-, H2⟩, ⟨Ha0, Ha3, H3⟩, Hr, HE, HT, HO⟩
  isplitl [Ha0 Ha3 H2 H3]
  · isplitl [Ha0]; · iexact Ha0
    isplitl [Ha3]; · iexact Ha3
    isplitl [H2]; · iexact H2
    iexact H3
  isplitl [Hr]; · iexact Hr
  isplitl [HE]
  · isplitr; · iempintro
    iexact HE
  isplitl [HT]; · iexact HT
  iexact HO

/-- The state at the end. -/
def Tₙ (c : Dev nD) : sProp 𝕄 :=
  iprop((pl c main_arg0 (m ((c : Thread nD τ).loc main_arg0)) ∗ pl c main_arg1 (m ((c : Thread nD τ).loc main_arg1)) ∗ pl c main_arg2 (m ((c : Thread nD τ).loc main_arg2))
      ∗ pl c main_arg3 (m ((c : Thread nD τ).loc main_arg3)) ∗ pl c main_v3 (FIN (inp m) c))
    ∗ (invs m ∗ ag0.ghostAfter EC c ∗ ag0.pcells EC c) ∗ semVal (barCell c) 0)

theorem link3 (c : Dev nD) : (reg0 m).post c ⊢ iprop(Tₙ m c ∗ ∃ W, owes (c : Thread nD τ) (0 : CellTallies nD τ sig ℕ) W) := by
  have e0 : V₃ m c main_arg0 = m ((c : Thread nD τ).loc main_arg0) := (V₃_of_ne m c main_arg0 (by decide)).trans (V₂_keep m c main_arg0 (by decide) (by decide))
  have e3 : V₃ m c main_arg3 = m ((c : Thread nD τ).loc main_arg3) := (V₃_of_ne m c main_arg3 (by decide)).trans (V₂_keep m c main_arg3 (by decide) (by decide))
  have eb : (reg0 m).post c ⊢ iprop((pl c main_arg0 (m ((c : Thread nD τ).loc main_arg0)) ∗ pl c main_arg3 (m ((c : Thread nD τ).loc main_arg3)) ∗ pl c main_v2 (V₃ m c main_v2)
        ∗ pl c main_v3 (FIN (inp m) c))
      ∗ (∃ r, prngReg c r) ∗ (iprop(emp) ∗ Er m c) ∗ Yk c ∗ ∃ W, owes (c : Thread nD τ) (0 : CellTallies nD τ sig ℕ) W) := by
    dsimp only [reg0, Pipeline.RegionSeg.ofTalk]
    rw [held_arr, e0, e3, V₃_out]
    unfold StableHlo.held
    rw [BI.bigSep_empty]
    exact BI.Entails.refl _
  refine eb.trans ?_
  unfold Er Tₙ Yk
  iintro ⟨⟨Ha0, Ha3, -, H3⟩, -, ⟨-, Ha1, Ha2, HI⟩, Hb, HO⟩
  isplitr [HO]
  · isplitl [Ha0 Ha1 Ha2 Ha3 H3]
    · isplitl [Ha0]; · iexact Ha0
      isplitl [Ha1]; · iexact Ha1
      isplitl [Ha2]; · iexact Ha2
      isplitl [Ha3]; · iexact Ha3
      iexact H3
    isplitl [HI]; · iexact HI
    iexact Hb
  iexact HO

/-- The program as its segments. -/
def segs : List (Pipeline.Seg (pcfgs (F := F)) adm (pdats m) 0 defs₀ 𝒱₀ L lv) := [.host (segG m), .host (segH m), .region (reg0 m)]
theorem main_eq (c : Dev nD) : main (F := F) c = Pipeline.Seg.run (segs m) := main_segs adm (pdats m) 0 𝒱₀ L lv (segH m) (segG m) (reg0 m) rfl rfl c

end Cert.Route
-- ==== Proof.Run.lean ====
/- The launch, and the run of the whole program. -/
module

public import proofs.«01_k».proof.Proof.Credits
public import proofs.«01_k».proof.Proof.Segs
public import Idealize.ShloMosaic.Lib.Pipeline.SiteBlocks

@[expose] public section

noncomputable section

namespace Cert.Route

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (P : Inp F)

variable (m : (ℓ : Loc nD τ sig) → Buf (Elt F) ℓ) (ρ : Dev nD → PrngReg)

/-! ## The launch element -/

theorem own_three (a : UR sig nD τ) (b : Sites.UC) (e : UE) :
    (ownU (((a, b), e) : UU) : sProp 𝕄) ⊢ iprop(BI.own (EP a) ∗ BI.own (EC b) ∗ BI.own (ER e)) := by
  have h1 : (BI.own ((embL : Emb (UR sig nD τ × Sites.UC) 𝕄) (a, b)) : sProp 𝕄) ⊢ iprop(BI.own (EP a) ∗ BI.own (EC b)) :=
    BI.own_op_elim ((embL : Emb (UR sig nD τ × Sites.UC) 𝕄).op_of_mem (Prod.mk_mem_op (URA.mem_op_one a) (URA.mem_one_op b)))
  iintro H
  ihave H := (ownU_pair (a, b) e) $$ H
  icases H with ⟨HL, HR⟩
  ihave HL := h1 $$ HL
  icases HL with ⟨HP, HC⟩
  isplitl [HP]; · iexact HP
  isplitl [HC] <;> iassumption

/-- The gather's launch data. -/
abbrev agDat : AllGather.Dat (τ := τ) (Elt F) UU ag0 := AllGather.Dat.once (U := UU) ag0 (V₀ m) ag0_cores

def u₀ : UU :=
  ((initOf (Pipeline.cells (Pipeline.pin (pcfgs (F := F)) adm) cellOf_inj) (Pipeline.launchToks (Pipeline.pin (pcfgs (F := F)) adm) cellOf_inj),
    (initOf ag0.cells (agDat m).launchToks : Sites.UC)), launchOf barCells scCells (toks (inp m)))

/-- The gather's part and the call's, both parked on one device. -/
def GX : sProp 𝕄 := iprop(BI.own (EC (initOf ag0.cells (agDat m).launchToks : Sites.UC)) ∗ BI.own (ER (launchOf barCells scCells (toks (inp m)))))
abbrev Gp (c : Dev nD) : sProp 𝕄 := SiteBlocks.onDev (0 : Dev nD) (GX m) c

theorem hu₀ : (ownU (u₀ m) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (Gp m)) := by
  rw [SiteBlocks.bigSep_onDev]
  unfold u₀ GX
  iintro H
  ihave H := (own_three _ _ _) $$ H
  imodintro
  iexact H

/-! ## What each device owes and is dealt -/

abbrev OT (c : Dev nD) : CellTallies nD τ sig ℕ := O₀ (inp m) c + ag0.execDue Sites.ι0 c

def T₀ (c : Dev nD) : sProp 𝕄 := (segG m).pre c

/-- The gather's own cells, closed, with its credit. -/
def agCells (c : Dev nD) : sProp 𝕄 :=
  iprop((semVal (ag0.barrierCell c) 0 ∗ semVal (ag0.sendCell c) 0 ∗ semVal (ag0.copyCell c) 0
      ∗ bigSep Finset.univ fun cp : AllGather.Dir × AllGather.Parity × Bool => semVal (ag0.recvCell c cp.1 cp.2.1 cp.2.2) 0)
    ∗ Pipeline.launchCred (fun d => ag0.execDue Sites.ι0 d) c)
/-- What a device keeps for itself. -/
def keep (c : Dev nD) : sProp 𝕄 :=
  iprop(unscopedBufs c (fun b => m ((c : Thread nD τ).loc b)) ∗ owes (c : Thread nD τ) (OT m c) ∅ ∗ Creds (inp m) c ∗ prngReg c (ρ c))

theorem deal (c : Dev nD) :
    iprop(unscopedBufs c (fun b => m ((c : Thread nD τ).loc b)) ∗ unscopedSems0 c
        ∗ owes (c : Thread nD τ) (OT m c) ∅ ∗ Pipeline.launchCred (OT m) c ∗ prngReg c (ρ c) ∗ Gp m c)
      ⊢ (iprop(agCells c ∗ semVal (barCell c) 0 ∗ Gp m c ∗ keep m ρ c) : sProp 𝕄) := by
  rw [Sites.sems_eq, show OT m = (fun d => O₀ (inp m) d + (fun e => ag0.execDue Sites.ι0 e) d) from rfl, Pipeline.launchCred_add]
  unfold agCells keep
  rw [Sites.recvs_eq0]
  iintro ⟨Hub, ⟨Hb, Hs, Hc, H1, H2, H3, H4, H5, H6, H7, H8, HB⟩, HO, ⟨HC, HA⟩, Hp, HG⟩
  isplitl [Hb Hs Hc H1 H2 H3 H4 H5 H6 H7 H8 HA]
  · isplitr [HA]
    · isplitl [Hb]; · iexact Hb
      isplitl [Hs]; · iexact Hs
      isplitl [Hc]; · iexact Hc
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact HA
  isplitl [HB]; · iexact HB
  isplitl [HG]; · iexact HG
  isplitl [Hub]; · iexact Hub
  isplitl [HO]; · iexact HO
  isplitl [HC]; · iapply (creds (inp m) c); iexact HC
  iexact Hp

instance invs_pers : Persistent (invs m) := by unfold invs; infer_instance

/-- One device's first state from what it was dealt. -/
theorem first (c : Dev nD) :
    iprop((∃ κ, records (inp m) κ) ∗ ((agDat m).rides EC Sites.ι0 c ∗ atPos ER (barCell c) 0 ∅ 0
        ∗ (bigSep Finset.univ fun k : Fin 50 => openTok ER ((c : Thread nD τ), osem k)) ∗ Toks (inp m) c ∗ keep m ρ c))
      ⊢ T₀ m c := by
  have ei : (agDat m).rides EC Sites.ι0 c ⊢ invs m := by
    unfold AllGather.Dat.rides invs; iintro ⟨Hi, -⟩; iexact Hi
  have eT : iprop((pl c main_v1 (m ((c : Thread nD τ).loc main_v1)) ∗ pl c main_arg2 (m ((c : Thread nD τ).loc main_arg2)))
      ∗ (agDat m).rides EC Sites.ι0 c ∗ (∃ W, owes (c : Thread nD τ) (OT m c) W) ∗ RestA m c) ⊢ T₀ m c := by
    unfold T₀
    dsimp only [segG, collSeg0, AllGather.hostSegHeld₀]
    rw [AllGather.Cfg.held_siteRefs]
  refine BIBase.Entails.trans ?_ eT
  unfold keep
  rw [bufs7]
  unfold RestA Tk
  iintro ⟨Hκ, Hrd, Hat, Ho, Ht, ⟨⟨Ha0, Ha1, Ha2, Ha3, H1, H2, H3⟩, HO, HC, Hp⟩⟩
  ihave #Hi := ei $$ Hrd
  isplitl [H1 Ha2]; · isplitl [H1] <;> iassumption
  isplitl [Hrd]; · iexact Hrd
  isplitl [HO]; · iexists _; iexact HO
  isplitl [Ha0 Ha1 Ha3 H2 H3]
  · isplitl [Ha0]; · iexact Ha0
    isplitl [Ha1]; · iexact Ha1
    isplitl [Ha3]; · iexact Ha3
    isplitl [H2] <;> iassumption
  isplitl [Hp]; · iexists _; iexact Hp
  isplitr; · iexact Hi
  isplitl [Hκ]; · iexact Hκ
  isplitl [Ho]; · iexact Ho
  isplitl [Hat]; · iexact Hat
  isplitl [Ht]; · iexact Ht
  iexact HC

theorem init :
    iprop((bigSep Finset.univ fun c : Dev nD => iprop(unscopedBufs c (fun b => m ((c : Thread nD τ).loc b)) ∗ unscopedSems0 c
          ∗ owes (c : Thread nD τ) (OT m c) ∅ ∗ Pipeline.launchCred (OT m) c ∗ prngReg c (ρ c) ∗ Gp m c)) ∗ levAts L lv)
      ⊢ (|={Set.univ}=> bigSep Finset.univ (T₀ m) : sProp 𝕄) := by
  have e1 : (bigSep Finset.univ fun c : Dev nD => iprop(unscopedBufs c (fun b => m ((c : Thread nD τ).loc b)) ∗ unscopedSems0 c
          ∗ owes (c : Thread nD τ) (OT m c) ∅ ∗ Pipeline.launchCred (OT m) c ∗ prngReg c (ρ c) ∗ Gp m c))
      ⊢ (iprop((bigSep Finset.univ fun c : Dev nD => agCells c) ∗ (bigSep Finset.univ fun c : Dev nD => semVal (barCell c) 0)
        ∗ GX m ∗ bigSep Finset.univ fun c : Dev nD => keep m ρ c) : sProp 𝕄) := by
    rw [← SiteBlocks.bigSep_onDev (0 : Dev nD) (GX m), ← bigSep_sep', ← bigSep_sep', ← bigSep_sep']
    exact bigSep_mono fun c _ => deal m ρ c
  have e2 : iprop((bigSep Finset.univ fun c : Dev nD => agCells c) ∗ BI.own (EC (initOf ag0.cells (agDat m).launchToks : Sites.UC)))
      ⊢ (|={Set.univ}=> bigSep Finset.univ (fun d => (agDat m).rides EC Sites.ι0 d) : sProp 𝕄) :=
    (agDat m).fund_rides EC Sites.ι0 (Es := Set.univ)
  have e3 : iprop((∃ κ, records (inp m) κ) ∗ ((bigSep Finset.univ fun d : Dev nD => (agDat m).rides EC Sites.ι0 d)
        ∗ (bigSep Finset.univ fun c : Dev nD => atPos ER (barCell c) 0 ∅ 0)
        ∗ (bigSep Finset.univ fun c : Dev nD => bigSep Finset.univ fun k : Fin 50 => openTok ER ((c : Thread nD τ), osem k))
        ∗ (bigSep Finset.univ fun c : Dev nD => Toks (inp m) c) ∗ bigSep Finset.univ fun c : Dev nD => keep m ρ c))
      ⊢ bigSep Finset.univ (T₀ m) := by
    rw [← bigSep_sep', ← bigSep_sep', ← bigSep_sep', ← bigSep_sep']
    exact bigSep_with_persistent fun c _ => first m ρ c
  have e4 : GX m ⊢ iprop(BI.own (EC (initOf ag0.cells (agDat m).launchToks : Sites.UC)) ∗ BI.own (ER (launchOf barCells scCells (toks (inp m))))) := by
    unfold GX; exact BI.Entails.refl _
  iintro ⟨H, -⟩
  ihave H := e1 $$ H
  icases H with ⟨Hag, Hb, HG, Hk⟩
  ihave HG := e4 $$ HG
  icases HG with ⟨HGa, HGr⟩
  imod e2 $$ [Hag HGa] with Hr
  · isplitl [Hag] <;> iassumption
  imod (fund_cells (inp m)) $$ [Hb HGr] with ⟨Hκ, Hat, Ho, Ht⟩
  · isplitl [Hb] <;> iassumption
  imodintro
  iapply e3
  isplitl [Hκ]; · iexact Hκ
  isplitl [Hr]; · iexact Hr
  isplitl [Hat]; · iexact Hat
  isplitl [Ho]; · iexact Ho
  isplitl [Ht]; · iexact Ht
  iexact Hk

/-! ## The run -/

/-- What is read at the end of one device. -/
def QY (c : Dev nD) (s : MemSt nD τ sig (Elt F)) : Prop :=
  (s.mem ((c : Thread nD τ).loc main_v3) = FIN (inp m) c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3))
  ∧ s.sem (barCell c) = 0
  ∧ (s.sem (ag0.barrierCell c) = 0 ∧ s.sem (ag0.sendCell c) = 0 ∧ s.sem (ag0.copyCell c) = 0
    ∧ ∀ (d : AllGather.Dir) (p : AllGather.Parity) (b : Bool), s.sem (ag0.recvCell c d p b) = 0)

theorem fin_read (c : Dev nD) (s' : Phys nD τ sig (Elt F)) : iprop(Tₙ m c ∗ SI s') ⊢ (|={Set.univ}=> iprop(⌜QY m c s'.mem⌝ ∗ SI s') : sProp 𝕄) := by
  unfold Tₙ invs QY
  iintro ⟨⟨⟨H0, H1, H2, H3, HV⟩, He, Hb⟩, HSI⟩
  icombine HSI H0 gives %h0
  icombine HSI H1 gives %h1
  icombine HSI H2 gives %h2
  icombine HSI H3 gives %h3
  icombine HSI HV gives %hv
  icombine HSI Hb gives %hb
  imod (AllGather.Dat.ghostAfter_read EC ag0_cores (V₀ m) c s') $$ [He HSI] with ⟨%hz, HSI⟩
  · isplitl [He] <;> iassumption
  imodintro
  isplitr
  · ipureintro
    exact ⟨⟨Buf.eq_of_forall_mem_univ hv, Buf.eq_of_forall_mem_univ h0, Buf.eq_of_forall_mem_univ h1, Buf.eq_of_forall_mem_univ h2, Buf.eq_of_forall_mem_univ h3⟩,
      by simpa using hb, hz⟩
  iexact HSI

theorem sems_list : ∀ sm : SemLoc sig, sm.isScoped .tc = false → sm = .reg ag0_barrier ∨ sm = .dma ag0_send ∨ sm = .dma ag0_copy
    ∨ sm = .dma ag0_recv_cw_0_ring ∨ sm = .dma ag0_recv_cw_0_partner ∨ sm = .dma ag0_recv_cw_1_ring ∨ sm = .dma ag0_recv_cw_1_partner
    ∨ sm = .dma ag0_recv_ccw_0_ring ∨ sm = .dma ag0_recv_ccw_0_partner ∨ sm = .dma ag0_recv_ccw_1_ring ∨ sm = .dma ag0_recv_ccw_1_partner
    ∨ sm = .reg barrier0 := by decide

set_option backward.isDefEq.respectTransparency.types false in
/-- Every fair run of the program ends; every device's result is `FIN`, its arguments as they were, every counter at zero. -/
theorem run_main : θ_run defs (onTc (τ := τ) (main (F := F))) (s₀ m ρ)
    (fun r => (∀ c : Dev nD, r.2.mem ((c : Thread nD τ).loc main_v3) = FIN (inp m) c ∧ r.2.mem ((c : Thread nD τ).loc main_arg0) = m ((c : Thread nD τ).loc main_arg0)
      ∧ r.2.mem ((c : Thread nD τ).loc main_arg1) = m ((c : Thread nD τ).loc main_arg1) ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := OT m) (hL := L_of_ne) (G := Gp m) (u₀ := u₀ m) (hu₀ := hu₀ m) (T₀ := T₀ m) (Tₙ := Tₙ m)
    (hch := ⟨fun c => BI.Entails.refl _, fun c => link1 m c, fun c => link2 m c, fun c => link3 m c⟩)
    (hinit := init m ρ)
    (QY := QY m)
    (hfin := fin_read m)
    (hQ := fun s h hs => ⟨fun c => (h c).1, sem_eq_zero hs fun c sm hsm => by
      have hq := (h c).2
      rcases sems_list sm hsm with rfl | rfl | rfl | rfl | rfl | rfl | rfl | rfl | rfl | rfl | rfl | rfl
      exacts [hq.2.1, hq.2.2.1, hq.2.2.2.1, hq.2.2.2.2 .cw 0 false, hq.2.2.2.2 .cw 0 true, hq.2.2.2.2 .cw 1 false, hq.2.2.2.2 .cw 1 true,
        hq.2.2.2.2 .ccw 0 false, hq.2.2.2.2 .ccw 0 true, hq.2.2.2.2 .ccw 1 false, hq.2.2.2.2 .ccw 1 true, hq.1]⟩)

end Cert.Route
-- ==== Proof.Same.lean ====
/- The printed program and its idealization are one text: each window of the kernel's body, the body, the
   body table and the entry point are equal, definition by definition. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

attribute [local instance] Cert.Kernel.Gen.facts Cert.KernelIdeal.Gen.facts
variable {F : FTy → Type} [FloatOps F]

theorem part1_eq : Cert.Kernel.k0_part1 (F := F) = Cert.KernelIdeal.k0_part1 (F := F) := rfl
theorem part2_eq : Cert.Kernel.k0_part2 (F := F) = Cert.KernelIdeal.k0_part2 (F := F) := rfl
theorem part3_eq : Cert.Kernel.k0_part3 (F := F) = Cert.KernelIdeal.k0_part3 (F := F) := rfl
theorem part4_eq : Cert.Kernel.k0_part4 (F := F) = Cert.KernelIdeal.k0_part4 (F := F) := rfl
theorem part5_eq : Cert.Kernel.k0_part5 (F := F) = Cert.KernelIdeal.k0_part5 (F := F) := rfl
theorem part6_eq : Cert.Kernel.k0_part6 (F := F) = Cert.KernelIdeal.k0_part6 (F := F) := rfl
theorem part7_eq : Cert.Kernel.k0_part7 (F := F) = Cert.KernelIdeal.k0_part7 (F := F) := rfl
theorem part8_eq : Cert.Kernel.k0_part8 (F := F) = Cert.KernelIdeal.k0_part8 (F := F) := rfl
theorem part9_eq : Cert.Kernel.k0_part9 (F := F) = Cert.KernelIdeal.k0_part9 (F := F) := rfl
theorem part10_eq : Cert.Kernel.k0_part10 (F := F) = Cert.KernelIdeal.k0_part10 (F := F) := rfl
theorem part11_eq : Cert.Kernel.k0_part11 (F := F) = Cert.KernelIdeal.k0_part11 (F := F) := rfl
theorem part12_eq : Cert.Kernel.k0_part12 (F := F) = Cert.KernelIdeal.k0_part12 (F := F) := rfl
theorem part13_eq : Cert.Kernel.k0_part13 (F := F) = Cert.KernelIdeal.k0_part13 (F := F) := rfl
theorem part14_eq : Cert.Kernel.k0_part14 (F := F) = Cert.KernelIdeal.k0_part14 (F := F) := rfl
theorem part15_eq : Cert.Kernel.k0_part15 (F := F) = Cert.KernelIdeal.k0_part15 (F := F) := rfl
theorem part16_eq : Cert.Kernel.k0_part16 (F := F) = Cert.KernelIdeal.k0_part16 (F := F) := rfl
theorem part17_eq : Cert.Kernel.k0_part17 (F := F) = Cert.KernelIdeal.k0_part17 (F := F) := rfl
theorem part18_eq : Cert.Kernel.k0_part18 (F := F) = Cert.KernelIdeal.k0_part18 (F := F) := rfl
theorem part19_eq : Cert.Kernel.k0_part19 (F := F) = Cert.KernelIdeal.k0_part19 (F := F) := rfl
theorem part20_eq : Cert.Kernel.k0_part20 (F := F) = Cert.KernelIdeal.k0_part20 (F := F) := rfl
theorem part21_eq : Cert.Kernel.k0_part21 (F := F) = Cert.KernelIdeal.k0_part21 (F := F) := rfl
theorem part22_eq : Cert.Kernel.k0_part22 (F := F) = Cert.KernelIdeal.k0_part22 (F := F) := rfl
theorem part23_eq : Cert.Kernel.k0_part23 (F := F) = Cert.KernelIdeal.k0_part23 (F := F) := rfl
theorem part24_eq : Cert.Kernel.k0_part24 (F := F) = Cert.KernelIdeal.k0_part24 (F := F) := rfl
theorem part25_eq : Cert.Kernel.k0_part25 (F := F) = Cert.KernelIdeal.k0_part25 (F := F) := rfl
theorem part26_eq : Cert.Kernel.k0_part26 (F := F) = Cert.KernelIdeal.k0_part26 (F := F) := rfl
theorem part27_eq : Cert.Kernel.k0_part27 (F := F) = Cert.KernelIdeal.k0_part27 (F := F) := rfl
theorem part28_eq : Cert.Kernel.k0_part28 (F := F) = Cert.KernelIdeal.k0_part28 (F := F) := rfl
theorem part29_eq : Cert.Kernel.k0_part29 (F := F) = Cert.KernelIdeal.k0_part29 (F := F) := rfl
theorem part30_eq : Cert.Kernel.k0_part30 (F := F) = Cert.KernelIdeal.k0_part30 (F := F) := rfl
theorem part31_eq : Cert.Kernel.k0_part31 (F := F) = Cert.KernelIdeal.k0_part31 (F := F) := rfl
theorem part32_eq : Cert.Kernel.k0_part32 (F := F) = Cert.KernelIdeal.k0_part32 (F := F) := rfl
theorem part33_eq : Cert.Kernel.k0_part33 (F := F) = Cert.KernelIdeal.k0_part33 (F := F) := rfl
theorem part34_eq : Cert.Kernel.k0_part34 (F := F) = Cert.KernelIdeal.k0_part34 (F := F) := rfl
theorem part35_eq : Cert.Kernel.k0_part35 (F := F) = Cert.KernelIdeal.k0_part35 (F := F) := rfl
theorem part36_eq : Cert.Kernel.k0_part36 (F := F) = Cert.KernelIdeal.k0_part36 (F := F) := rfl
theorem part37_eq : Cert.Kernel.k0_part37 (F := F) = Cert.KernelIdeal.k0_part37 (F := F) := rfl
theorem part38_eq : Cert.Kernel.k0_part38 (F := F) = Cert.KernelIdeal.k0_part38 (F := F) := rfl
theorem part39_eq : Cert.Kernel.k0_part39 (F := F) = Cert.KernelIdeal.k0_part39 (F := F) := rfl
theorem part40_eq : Cert.Kernel.k0_part40 (F := F) = Cert.KernelIdeal.k0_part40 (F := F) := rfl
theorem part41_eq : Cert.Kernel.k0_part41 (F := F) = Cert.KernelIdeal.k0_part41 (F := F) := rfl
theorem part42_eq : Cert.Kernel.k0_part42 (F := F) = Cert.KernelIdeal.k0_part42 (F := F) := rfl
theorem part43_eq : Cert.Kernel.k0_part43 (F := F) = Cert.KernelIdeal.k0_part43 (F := F) := rfl
theorem part44_eq : Cert.Kernel.k0_part44 (F := F) = Cert.KernelIdeal.k0_part44 (F := F) := rfl
theorem part45_eq : Cert.Kernel.k0_part45 (F := F) = Cert.KernelIdeal.k0_part45 (F := F) := rfl
theorem part46_eq : Cert.Kernel.k0_part46 (F := F) = Cert.KernelIdeal.k0_part46 (F := F) := rfl
theorem part47_eq : Cert.Kernel.k0_part47 (F := F) = Cert.KernelIdeal.k0_part47 (F := F) := rfl
theorem part48_eq : Cert.Kernel.k0_part48 (F := F) = Cert.KernelIdeal.k0_part48 (F := F) := rfl

theorem part49_eq : Cert.Kernel.k0_part49 (F := F) = Cert.KernelIdeal.k0_part49 (F := F) := by
  unfold Cert.Kernel.k0_part49 Cert.KernelIdeal.k0_part49
  simp only [part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq]
  rfl

theorem body_eq : Cert.Kernel.cc0__body (F := F) = Cert.KernelIdeal.cc0__body (F := F) := by
  unfold Cert.Kernel.cc0__body Cert.KernelIdeal.cc0__body
  simp only [part49_eq]
  rfl

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => dsimp only; rw [body_eq]
  | ⟨n + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [defs₀_eq]
  rfl

theorem main_eq : Cert.Kernel.main (F := F) = Cert.KernelIdeal.main (F := F) := rfl

end Cert.Same

end
-- ==== Proof.RefValue.lean ====
/- The reference's value at an index: a token's row is its expert's product when the token is among the first twelve
   of its expert, and zero otherwise. -/
module

public import proofs.«01_k».proof.Proof.Gen.ReferenceIdeal.Read
public import proofs.«01_k».proof.Proof.Routing
public import Idealize.ShloMosaic.Lib.Routing.OpsOne

@[expose] public section

noncomputable section

namespace Cert.RefValue

open Cert.ReferenceIdeal Cert.ReferenceIdeal.Gen Cert.ReferenceIdeal.Read
open Idealize.ShloMosaic hiding ix0 ix1 ix2 ix3
open Idealize.ShloMosaic.TcCoe Idealize.ShloMosaic.ValueIdx
open Cert.Route (cnt cnt_succ cnt_le sum_bits fold_addi)

variable (x0 : (⟨S2048x512, .f32⟩ : BufTy).Contents (Elt Ideal)) (x2 : (⟨S2048x1, .i32⟩ : BufTy).Contents (Elt Ideal))
  (x3 : (⟨S128x512x1024, .f32⟩ : BufTy).Contents (Elt Ideal))

/-- The expert words as a function of the token. -/
def er (l : ℕ) : BitVec 32 := if h : l < 2048 then x2 (ix2 ⟨l, h⟩ 0) else 0

theorem er_at (l : Fin 2048) : x2 (ix2 l 0) = er x2 l := by rw [er, dif_pos l.2]

theorem v0_at (i : Fin 2048) : val_main_v0 (F := Ideal) x2 (ix1 i) = er x2 i := by
  rw [val_main_v0_apply, ← er_at]
  refine congrArg x2 (funext fun a => Fin.ext ?_)
  match a with
  | ⟨0, _⟩ => exact Nat.div_one _
  | ⟨1, _⟩ => rfl

theorem onehot_at (i : Fin 2048) (a : Fin 128) :
    val_main_v7 (F := Ideal) x2 (ix2 i a) = if er x2 i = BitVec.ofNat 32 a then 1#32 else 0#32 := by
  rw [val_main_v7_apply, val_main_v6_apply, val_main_v4_apply, val_main_v1_apply, val_main_v5_apply, val_main_v3_apply, val_main_v2_apply]
  have h0 : val_main_v0 (F := Ideal) x2 (idx_main_v1 (idx_main_v4 (ix2 i a))) = er x2 i := by
    rw [← v0_at]
    exact congrArg (val_main_v0 (F := Ideal) x2) (funext fun b => by match b with | ⟨0, _⟩ => rfl)
  rw [h0]
  show (IntOp.cmpi .eq (er x2 i) (BitVec.ofNat 32 a.val)).setWidth 32 = _
  by_cases h : er x2 i = BitVec.ofNat 32 a
  · rw [if_pos h, h]; simp [IntOp.cmpi]
  · rw [if_neg h]; simp only [IntOp.cmpi]; rw [beq_eq_false_iff_ne.2 h]; rfl

theorem list_sum (f : ℕ → ℕ) (n : ℕ) : ((List.range n).map f).sum = ∑ j ∈ Finset.range n, f j := by
  induction n with
  | zero => rfl
  | succ n ih => rw [List.range_succ, List.map_append, List.sum_append, ih, Finset.sum_range_succ]; simp

/-- The running count. -/
theorem cum_at (i : Fin 2048) (a : Fin 128) :
    val_main_v8 (F := Ideal) x2 (ix2 i a) = BitVec.ofNat 32 (cnt (er x2) (BitVec.ofNat 32 a) (i + 1)) := by
  unfold val_main_v8
  refine (Routing.cumsum_rows (R := 2048) (Rm1 := 2047) (C := 128) rfl (val_main_v7 (F := Ideal) x2) (fun i c => if er x2 i = BitVec.ofNat 32 c then 1 else 0)
    (fun i c => ?_) _ ?_ _ _ i a).trans ?_
  · rw [onehot_at]; split <;> rfl
  · rw [val_main_call0_call0_v0_apply]; rfl
  · rw [list_sum, sum_bits]

/-- A token's rank within its expert, counted from one; zero when the word names no expert. -/
def rk (i : ℕ) : ℕ := if (er x2 i).toNat < 128 then cnt (er x2) (er x2 i) (i + 1) else 0

theorem rank_at (i : Fin 2048) : val_main_v10 (F := Ideal) x2 (ix1 i) = BitVec.ofNat 32 (rk x2 i) := by
  have hr : S2048x128.Reduces [1] S2048 := by decide
  haveI : Std.Commutative (IntOp.addi (w := 32)) := ⟨fun a b => BitVec.add_comm a b⟩
  haveI : Std.Associative (IntOp.addi (w := 32)) := ⟨fun a b c => BitVec.add_assoc a b c⟩
  unfold val_main_v10
  rw [Host.reduce_eq_fold_single IntOp.addi _ _ reducesTo_S2048x128_S2048_d1 hr]
  have hl : ∀ a : Fin 128, hr.lift (ix1 i) a = ix2 i a := fun a => by
    funext b; apply Fin.ext
    match b with
    | ⟨0, _⟩ => rfl
    | ⟨1, _⟩ => rfl
  have hg : ∀ a : Fin 128, (val_main_v9 (F := Ideal) x2 ∘ hr.lift (ix1 i)) a
      = BitVec.ofNat 32 (if er x2 i = BitVec.ofNat 32 a then cnt (er x2) (er x2 i) (i + 1) else 0) := fun a => by
    refine (congrArg (val_main_v9 (F := Ideal) x2) (hl a)).trans ?_
    rw [val_main_v9_apply, cum_at, onehot_at]
    by_cases h : er x2 i = BitVec.ofNat 32 a
    · rw [if_pos h, if_pos h, ← h]; exact BitVec.mul_one _
    · rw [if_neg h, if_neg h]; exact BitVec.mul_zero
  refine (fold_addi (n := 128) _ _ hg).trans (congrArg _ ?_)
  unfold rk
  have hw : ∀ a : Fin 128, er x2 i = BitVec.ofNat 32 a ↔ (er x2 i).toNat = a := fun a => by
    have ha := a.2
    rw [← BitVec.toNat_inj, BitVec.toNat_ofNat, Nat.mod_eq_of_lt (by omega)]
  simp only [hw]
  by_cases h : (er x2 i).toNat < 128
  · rw [if_pos h, Finset.sum_eq_single (⟨_, h⟩ : Fin 128) (fun b _ hb => if_neg fun e => hb (Fin.ext e.symm)) (fun h => absurd (Finset.mem_univ _) h), if_pos rfl]
  · rw [if_neg h]
    refine Finset.sum_eq_zero fun b _ => if_neg fun e => h ?_
    have := b.2; omega

/-- Which tokens are kept. -/
def kept (i : ℕ) : Prop := (er x2 i).toNat < 128 ∧ cnt (er x2) (er x2 i) i < 12
instance (i : ℕ) : Decidable (kept x2 i) := by unfold kept; infer_instance

theorem kept_at (i : Fin 2048) : val_main_v15 (F := Ideal) x2 (ix1 i) = if kept x2 i then 1#1 else 0#1 := by
  rw [val_main_v15_apply, val_main_v12_apply, val_main_v14_apply, rank_at]
  show IntOp.andi (IntOp.cmpi .sge (BitVec.ofNat 32 (rk x2 i)) 1#32) (IntOp.cmpi .sle (BitVec.ofNat 32 (rk x2 i)) 12#32) = _
  have hb : rk x2 i ≤ 2048 := by
    have := cnt_le (er x2) (er x2 i) (i + 1); have := i.2
    unfold rk; split <;> omega
  have hk : kept x2 i ↔ 1 ≤ rk x2 i ∧ rk x2 i ≤ 12 := by
    unfold kept rk
    rw [cnt_succ, if_pos rfl]
    by_cases h : (er x2 i).toNat < 128
    · rw [if_pos h]; constructor <;> intro h <;> constructor <;> omega
    · rw [if_neg h]; constructor <;> intro h' <;> omega
  have ht : (BitVec.ofNat 32 (rk x2 i)).toInt = rk x2 i := WordCmp.toInt_ofNat_of_lt (by omega)
  have h1 : (1#32 : BitVec 32).toInt = 1 := by decide
  have h12 : (12#32 : BitVec 32).toInt = 12 := by decide
  have e1 : IntOp.cmpi .sge (BitVec.ofNat 32 (rk x2 i)) 1#32 = if 1 ≤ rk x2 i then 1#1 else 0#1 := by
    simp only [IntOp.cmpi, BitVec.sle, ht, h1]
    by_cases h : 1 ≤ rk x2 i
    · rw [if_pos h, decide_eq_true (by omega)]; rfl
    · rw [if_neg h, decide_eq_false (by omega)]; rfl
  have e2 : IntOp.cmpi .sle (BitVec.ofNat 32 (rk x2 i)) 12#32 = if rk x2 i ≤ 12 then 1#1 else 0#1 := by
    simp only [IntOp.cmpi, BitVec.sle, ht, h12]
    by_cases h : rk x2 i ≤ 12
    · rw [if_pos h, decide_eq_true (by omega)]; rfl
    · rw [if_neg h, decide_eq_false (by omega)]; rfl
  rw [e1, e2]
  by_cases a : 1 ≤ rk x2 i <;> by_cases b : rk x2 i ≤ 12 <;> simp [hk, a, b, IntOp.andi]

theorem clip_word : ∀ b : Fin 128,
    Scalar.select (IntOp.cmpi .slt (IntOp.minsi 127#32 (IntOp.maxsi 0#32 (BitVec.ofNat 32 b))) 0#32)
      (IntOp.addi (IntOp.minsi 127#32 (IntOp.maxsi 0#32 (BitVec.ofNat 32 b))) 128#32) (IntOp.minsi 127#32 (IntOp.maxsi 0#32 (BitVec.ofNat 32 b)))
      = BitVec.ofNat 32 b := by decide +kernel

/-- The row looked up for a word that names an expert. -/
theorem look_at (i : Fin 2048) (b : Fin 128) (h : er x2 i = BitVec.ofNat 32 b) :
    val_main_v22 (F := Ideal) x2 (ix2 i 0) = BitVec.ofNat 32 b := by
  rw [val_main_v22_apply, val_main_v21_apply, val_main_v18_apply, val_main_v20_apply, val_main_v16_apply, val_main_call1_v2_apply]
  have h0 : val_main_v0 (F := Ideal) x2 (idx_main_v22 (ix2 i 0)) = BitVec.ofNat 32 b := by
    rw [← h, ← v0_at]
    exact congrArg (val_main_v0 (F := Ideal) x2) (funext fun b => by match b with | ⟨0, _⟩ => rfl)
  rw [h0]
  exact clip_word b

/-- The expert's matrix looked up. -/
theorem gather_at (i : Fin 2048) (k : Fin 512) (n : Fin 1024) (b : Fin 128) (h : er x2 i = BitVec.ofNat 32 b) :
    val_main_v23 (F := Ideal) x2 x3 (ix3 i k n) = x3 (ix3 b k n) := by
  have hb := look_at x2 i b h
  unfold val_main_v23
  generalize val_main_v22 (F := Ideal) x2 = idx at hb ⊢
  generalize hd : gather_S128x512x1024_S2048x1_S2048x512x1024_12_0_n_n_0_1_15121024 = d
  unfold Host.gather
  refine congrArg x3 (funext fun a => Fin.ext ?_)
  subst hd
  match a with
  | ⟨0, _⟩ =>
    show GatherDims.start _ (ix3 i k n) idx 0 + GatherDims.batchCoord _ (ix3 i k n) 0 + GatherDims.offCoord _ (ix3 i k n) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hsi : ∀ q, GatherDims.siIdx gather_S128x512x1024_S2048x1_S2048x512x1024_12_0_n_n_0_1_15121024 (ix3 i k n) q = ix2 i (0 : Fin 1) := fun q => by
      funext b'; refine Fin.ext ?_
      match b' with
      | ⟨0, _⟩ => rfl
      | ⟨1, _⟩ => exact Nat.lt_one_iff.1 (Fin.isLt _)
    have hbl := b.isLt
    unfold GatherDims.start
    refine (dif_pos (List.mem_singleton.mpr rfl)).trans ?_
    refine (congrArg (fun w : BitVec 32 => min w.toInt.toNat (128 - 1)) ((congrArg idx (hsi _)).trans hb)).trans ?_
    show min (BitVec.ofNat 32 b.val).toInt.toNat (128 - 1) = b.val
    rw [WordCmp.toInt_ofNat_of_lt (by omega)]
    omega
  | ⟨1, _⟩ =>
    show GatherDims.start _ (ix3 i k n) idx 1 + GatherDims.batchCoord _ (ix3 i k n) 1 + GatherDims.offCoord _ (ix3 i k n) 1 = k.val
    have hs : GatherDims.start gather_S128x512x1024_S2048x1_S2048x512x1024_12_0_n_n_0_1_15121024 (ix3 i k n) idx 1 = 0 := dif_neg (by decide +kernel)
    rw [GatherDims.batchCoord_eq_zero _ _ _ List.not_mem_nil, hs]
    unfold GatherDims.offCoord
    refine (congrArg (0 + 0 + ·) (dif_pos (by decide +kernel))).trans ?_
    rw [Nat.zero_add]
    have e : ∀ X : Fin 3, X = 1 → (ix3 i k n X).val = k.val := fun X h => by subst h; rfl
    exact e _ (by decide +kernel)
  | ⟨2, _⟩ =>
    show GatherDims.start _ (ix3 i k n) idx 2 + GatherDims.batchCoord _ (ix3 i k n) 2 + GatherDims.offCoord _ (ix3 i k n) 2 = n.val
    have hs : GatherDims.start gather_S128x512x1024_S2048x1_S2048x512x1024_12_0_n_n_0_1_15121024 (ix3 i k n) idx 2 = 0 := dif_neg (by decide +kernel)
    rw [GatherDims.batchCoord_eq_zero _ _ _ List.not_mem_nil, hs]
    unfold GatherDims.offCoord
    refine (congrArg (0 + 0 + ·) (dif_pos (by decide +kernel))).trans ?_
    rw [Nat.zero_add]
    have e : ∀ X : Fin 3, X = 2 → (ix3 i k n X).val = n.val := fun X h => by subst h; rfl
    exact e _ (by decide +kernel)

/-- A kept token's row. -/
theorem ref_kept (i : Fin 2048) (n : Fin 1024) (b : Fin 128) (h : er x2 i = BitVec.ofNat 32 b) (hk : kept x2 i) :
    val_main_v26 (F := Ideal) x0 x2 x3 (ix2 i n) = ∑ k : Fin 512, x0 (ix2 i k) * x3 (ix3 b k n) := by
  rw [val_main_v26_apply, val_main_call2_v1_apply, val_main_v25_apply]
  have h0 : val_main_v15 (F := Ideal) x2 (idx_main_v25 (idx_main_call2_v1 (ix2 i n))) = 1#1 := by
    refine Eq.trans (congrArg (val_main_v15 (F := Ideal) x2) (funext fun b => by match b with | ⟨0, _⟩ => rfl)) ((kept_at x2 i).trans (if_pos hk))
  rw [h0, val_main_v24_apply]
  show (∑ k : Fin 512, x0 (lidx_main_v24 (ix2 i n) k) * val_main_v23 (F := Ideal) x2 x3 (ridx_main_v24 (ix2 i n) k)) = _
  refine Finset.sum_congr rfl fun k _ => congrArg₂ (· * ·) (congrArg x0 (funext fun a => ?_)) (Eq.trans (congrArg (val_main_v23 (F := Ideal) x2 x3) (funext fun a => ?_)) (gather_at x2 x3 i k n b h))
  · match a with
    | ⟨0, _⟩ => rfl
    | ⟨1, _⟩ => rfl
  · match a with
    | ⟨0, _⟩ => rfl
    | ⟨1, _⟩ => rfl
    | ⟨2, _⟩ => rfl

/-- Any other token's row. -/
theorem ref_none (i : Fin 2048) (n : Fin 1024) (hk : ¬ kept x2 i) :
    val_main_v26 (F := Ideal) x0 x2 x3 (ix2 i n) = Ideal.ofBits .f32 0x00000000#32 := by
  rw [val_main_v26_apply, val_main_call2_v1_apply, val_main_v25_apply]
  have h0 : val_main_v15 (F := Ideal) x2 (idx_main_v25 (idx_main_call2_v1 (ix2 i n))) = 0#1 := by
    refine Eq.trans (congrArg (val_main_v15 (F := Ideal) x2) (funext fun b => by match b with | ⟨0, _⟩ => rfl)) ((kept_at x2 i).trans (if_neg hk))
  rw [h0, val_main_call2_v2_apply]
  rfl

end Cert.RefValue

end
-- ==== Proof.Algebraic.lean ====
/- What the kernel leaves, over exact floats, is the reference's value cut over the devices. -/
module

public import proofs.«01_k».proof.Proof.Region
public import proofs.«01_k».proof.Proof.RefValue
public import Idealize.ShloMosaic.Lib.MatmulPlain
public import Idealize.ShloMosaic.Lib.Layout

@[expose] public section

noncomputable section

namespace Cert.Route

open Cert.KernelIdeal Cert.KernelIdeal.Gen
open Idealize.ShloMosaic hiding ix0 ix1 ix2 ix3
open Idealize.ShloMosaic.TcCoe Idealize.ShloMosaic.ValueIdx
open Cert.RefValue (er er_at kept ref_kept ref_none)
open Cert.ReferenceIdeal.Read (val_main_v26)

/-- One expert's product at an entry: the sum over the contracted coordinate. -/
theorem product_at (v : Vec Ideal S12x512 .f32) (w : Vec Ideal S1x512x1024 .f32) (r : Fin 12) (n : Fin 1024) :
    k0_pay66 v w (ix2 r n) = ∑ k : Fin 512, v (ix2 r k) * w (ix3 (0 : Fin 1) k n) := by
  unfold k0_pay66
  rw [shapeCast_id]
  refine (Ideal.matmul_plain_apply (M := 12) (K := 512) (N := 1024) none v (shapeCast S512x1024 w shapeCasts_S1x512x1024_S512x1024) (constant S12x1024 .f32 0x00000000#32) r n).trans ?_
  have hz : (constant S12x1024 .f32 0x00000000#32 : FVec Ideal S12x1024 .f32) (ix2 r n) = 0 := Ideal.ofBits_zero_f32
  rw [hz, zero_add]
  refine Finset.sum_congr rfl fun k _ => congrArg (v (ix2 r k) * ·) ?_
  pointwise
  rfl

variable (P : Inp Ideal) (x0 : (⟨S2048x512, .f32⟩ : BufTy).Contents (Elt Ideal)) (x2 : (⟨S2048x1, .i32⟩ : BufTy).Contents (Elt Ideal))
  (x3 : (⟨Cert.ReferenceIdeal.S128x512x1024, .f32⟩ : BufTy).Contents (Elt Ideal))

/-- The kernel is given the whole tokens, its own experts, and every token's expert. -/
structure Given : Prop where
  X : ∀ c, P.X c = x0
  E : ∀ (c : Dev nD) (a : Fin 4) (k : Fin 512) (n : Fin 1024) (b : Fin 128), b.val = 4 * c.val + a.val → P.E c (ix3 a k n) = x3 (ix3 b k n)
  R : ev P.R = er x2

variable {P x0 x2 x3}

/-- The product a live place holds. -/
theorem Y_at (G : Given P x0 x2 x3) {c : Dev nD} {s : Fin 48} (h : live P c s) (n : Fin 1024) (t : Fin 2048) (ht : tk P c s = t)
    (b : Fin 128) (hb : b.val = 4 * c.val + s.val / 12) :
    Y P c (ix2 s n) = ∑ k : Fin 512, x0 (ix2 t k) * x3 (ix3 b k n) := by
  have hs := s.2
  unfold Y
  refine (product_at _ _ _ n).trans (Finset.sum_congr rfl fun k _ => congrArg₂ (· * ·) ?_ ?_)
  · show XG P c (ix2 ⟨12 * (s.val / 12) + s.val % 12, _⟩ k) = _
    have e : (⟨12 * (s.val / 12) + s.val % 12, by omega⟩ : Fin 48) = s := Fin.ext (Nat.div_add_mod s.val 12)
    refine (congrArg (fun q : Fin 48 => XG P c (ix2 q k)) e).trans ?_
    show P.X c (ix2 (src P c s) k) = _
    rw [G.X]
    exact congrArg (fun q : Fin 2048 => x0 (ix2 q k)) (Fin.ext ((src_live P h).trans ht))
  · exact G.E c ⟨s.val / 12, by omega⟩ k n b hb

theorem FIN_eq (G : Given P x0 x2 x3) (d : Dev nD) (i : Fin 64) (n : Fin 1024) (t : Fin 2048) (ht : t.val = 64 * d.val + i.val) :
    FIN P d (ix2 i n) = val_main_v26 (F := Ideal) x0 x2 x3 (ix2 t n) := by
  have hd : d.val < 32 := d.2
  have hi := i.2
  by_cases hk : kept x2 t
  · obtain ⟨hlt, hc⟩ := hk
    -- the expert, its device, the place there
    have hw : er x2 t = BitVec.ofNat 32 (er x2 t).toNat := BitVec.eq_of_toNat_eq (by rw [BitVec.toNat_ofNat, Nat.mod_eq_of_lt (BitVec.isLt _)])
    rw [ref_kept x0 x2 x3 t n ⟨(er x2 t).toNat, hlt⟩ hw ⟨hlt, hc⟩]
    obtain ⟨c, hcv⟩ : ∃ c : Dev nD, c.val = (er x2 t).toNat / 4 := ⟨⟨(er x2 t).toNat / 4, by show _ < 32; omega⟩, rfl⟩
    obtain ⟨s, hsv⟩ : ∃ s : Fin 48, s.val = 12 * ((er x2 t).toNat % 4) + cnt (er x2) (er x2 t) t :=
      ⟨⟨12 * ((er x2 t).toNat % 4) + cnt (er x2) (er x2 t) t, by omega⟩, rfl⟩
    have hsd : 4 * c.val + s.val / 12 = (er x2 t).toNat := by omega
    have hslot : slotX c s = er x2 t := by unfold slotX; rw [hsd]; exact hw.symm
    have hh : Holds (ev P.R) c s t := by
      rw [G.R]
      refine ⟨t.2, hslot.symm, ?_⟩
      rw [hslot]; omega
    obtain ⟨hl, htk⟩ := live_of_holds P hh
    have hrow := tgt_row P hl
    have hr := (row P c s).2
    have htg : tgt P c s = d := Fin.ext (by omega)
    have hro : i = row P c s := Fin.ext (by omega)
    rw [← htg]
    exact (FIN_live P hl (ix2 i n) hro).trans (Y_at G hl n t htk _ hsd.symm)
  · rw [ref_none x0 x2 x3 t n hk]
    refine (FIN_none P (ix2 i n) fun c s hl htg hro => hk ?_).trans rfl
    have hrow := tgt_row P hl
    have hro' : row P c s = i := hro
    have hcv : c.val < 32 := c.2
    have hsv := s.2
    have htk : tk P c s = t := by rw [← hrow, htg, hro', ht]
    obtain ⟨⟨-, h2, h3⟩, -⟩ := live_holds P hl
    rw [htk, G.R] at h2 h3
    refine ⟨?_, ?_⟩
    · rw [h2]; unfold slotX; rw [BitVec.toNat_ofNat, Nat.mod_eq_of_lt (by omega)]; omega
    · rw [h2, h3]; exact Nat.mod_lt _ (by decide)

/-! ## What the launch is given -/

variable (m : (ℓ : Loc nD τ sig) → Buf (Elt Ideal) ℓ)

theorem routeTiles : Layout.Tiles ⟨2, ![64, 1]⟩ ⟨2, ![2048, 1]⟩ 0 32 := by decide

/-- Gathered, the blocks of the expert words are the whole array. -/
theorem gathered_whole (h : ∀ c : Dev nD, m ((c : Thread nD τ).loc main_arg2) = Layout.block ⟨2, ![64, 1]⟩ ⟨2, ![2048, 1]⟩ 0 32 c x2) :
    (V₁ m 0 main_v1 : S2048x1.Idx → BitVec 32) = x2 := by
  show ag0.after₀ ag0_cores (V₀ m) 0 ag0.result = x2
  rw [ag0.after₀_result]
  funext j
  rw [ag0.gatheredOf_entry]
  refine (congrFun (h _) _).trans ?_
  show x2 (Layout.Tiles.idx routeTiles _ _) = x2 j
  refine congrArg x2 (funext fun b => Fin.ext ?_)
  rw [Layout.Tiles.idx_val, peer_part, ag0.srcIdx_val, ag0.partAt_val]
  match b with
  | ⟨0, _⟩ => exact Nat.div_add_mod' (j ⟨0, _⟩).val 64
  | ⟨1, _⟩ => rfl

theorem route_words (h : ∀ c : Dev nD, m ((c : Thread nD τ).loc main_arg2) = Layout.block ⟨2, ![64, 1]⟩ ⟨2, ![2048, 1]⟩ 0 32 c x2) :
    ev (inp m).R = er x2 := by
  funext l
  unfold ev er
  by_cases hl : l < 2048
  · rw [dif_pos hl, dif_pos hl]
    show (V₂ m 0 main_v2 : S1x2048.Idx → BitVec 32) _ = _
    rw [V₂_v2, gathered_whole m h]
    pointwise
    rfl
  · rw [dif_neg hl, dif_neg hl]

theorem given (h0 : ∀ c : Dev nD, m ((c : Thread nD τ).loc main_arg0) = x0)
    (h2 : ∀ c : Dev nD, m ((c : Thread nD τ).loc main_arg2) = Layout.block ⟨2, ![64, 1]⟩ ⟨2, ![2048, 1]⟩ 0 32 c x2)
    (h3 : ∀ c : Dev nD, m ((c : Thread nD τ).loc main_arg3) = Layout.block ⟨3, ![4, 512, 1024]⟩ ⟨3, ![128, 512, 1024]⟩ 0 32 c x3) :
    Given (inp m) x0 x2 x3 where
  X := h0
  E c a k n b hb := by
    refine (congrFun (h3 c) (ix3 a k n)).trans ?_
    rw [Layout.block_apply]
    refine congrArg x3 (funext fun q => Fin.ext ?_)
    rw [Layout.Tiles.idx_val]
    match q with
    | ⟨0, _⟩ => show c.val * 4 + a.val = b.val; omega
    | ⟨1, _⟩ => rfl
    | ⟨2, _⟩ => rfl
  R := route_words m h2

/-- A device's finished block is its block of the reference's value. -/
theorem FIN_block (G : Given P x0 x2 x3) (d : Dev nD) :
    FIN P d = Layout.block ⟨2, ![64, 1024]⟩ ⟨2, ![2048, 1024]⟩ 0 32 d (val_main_v26 (F := Ideal) x0 x2 x3) := by
  funext j
  have hd : d.val < 32 := d.2
  have hj : (j 0).val < 64 := (j 0).2
  have ej : j = ix2 (j 0) (j 1) := funext fun b => by
    match b with
    | ⟨0, _⟩ => rfl
    | ⟨1, _⟩ => rfl
  refine (congrArg (FIN P d) ej).trans ((FIN_eq G d (j 0) (j 1) ⟨64 * d.val + (j 0).val, by omega⟩ rfl).trans ?_)
  rw [Layout.block_apply]
  refine congrArg (val_main_v26 (F := Ideal) x0 x2 x3) (funext fun q => Fin.ext ?_)
  rw [Layout.Tiles.idx_val]
  match q with
  | ⟨0, _⟩ => exact congrArg (· + (j 0).val) (Nat.mul_comm 64 d.val)
  | ⟨1, _⟩ => rfl

end Cert.Route

end
-- ==== Proof.lean ====
/- The certificate's claims, proved: the three programs run, leave their arguments and every
   semaphore as they were, the idealization is the program's own text, and over exact floats each
   device ends with its block of the reference's value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Algebraic

@[expose] public section

noncomputable section

namespace Cert.Proof

open Idealize.ShloMosaic Idealize.SL.Sem

/-- The kernel as printed, over machine floats: its program is the idealization's, read at other float values. -/
theorem frame_kernel : Cert.quiescent_Kernel (hKernel := Cert.Kernel.Gen.facts) := by
  intro m ρ _
  rw [Cert.Same.main_eq, Cert.Same.defs_eq]
  exact (θ_run (Cert.KernelIdeal.defs (F := Bits)) _ _).mono (fun _ h => ⟨fun c => (h.1 c).2, h.2⟩) (Cert.Route.run_main (F := Bits) m ρ)

theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.Route.run_main (F := Ideal) m ρ)

/-- The reference declares no semaphore, so every counter stays at zero. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Over exact floats each device's result is its block of the reference's. -/
theorem algebraic : Cert.algebraic_KernelIdeal_ReferenceIdeal (hKernelIdeal := Cert.KernelIdeal.Gen.facts) (hReferenceIdeal := Cert.ReferenceIdeal.Gen.facts) := by
  intro m g m' g' _ h
  have G := Cert.Route.given m (fun c => (h c).1) (fun c => (h c).2.2.1) (fun c => (h c).2.2.2)
  refine ⟨_, (θ_run (Cert.KernelIdeal.defs (F := Ideal)) _ _).mono (fun r hr c => ⟨(hr.1 c).1.trans (Cert.Route.FIN_block G c), (hr.1 c).2⟩)
      (Cert.Route.run_main (F := Ideal) m g),
    (θ_run (Cert.ReferenceIdeal.defs (F := Ideal)) _ _).mono (fun r hr => ⟨(hr 0).1.trans (Cert.ReferenceIdeal.Read.val_main_v26_eq _ _ _), (hr 0).2⟩)
      (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
